-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Expert [hPre_tiles_planned : Cert.Pre_tiles_planned.Facts] (m : (ℓ : Loc Cert.Expert.nD Cert.Expert.τ Cert.Expert.sig) → Buf (Elt Bits) ℓ) : Prop :=
  ∀ c : Dev Cert.Expert.nD,
    (Cert.Pre_tiles_planned.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3))) = (fun _ => 1#1)

def Pre_ExpertIdeal [hPre_tiles_planned : Cert.Pre_tiles_planned.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_tiles_planned.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3))) = (fun _ => 1#1)

def Pre_ExpertReferenceIdeal [hPre_tiles_planned : Cert.Pre_tiles_planned.Facts] (m : (ℓ : Loc Cert.ExpertReferenceIdeal.nD Cert.ExpertReferenceIdeal.τ Cert.ExpertReferenceIdeal.sig) → Buf (Elt Ideal) ℓ) : Prop :=
  ∀ c : Dev Cert.ExpertReferenceIdeal.nD,
    (Cert.Pre_tiles_planned.fn (F := Ideal) (m ((c.tc : Thread Cert.ExpertReferenceIdeal.nD Cert.ExpertReferenceIdeal.τ).loc Cert.ExpertReferenceIdeal.main_arg0)) (m ((c.tc : Thread Cert.ExpertReferenceIdeal.nD Cert.ExpertReferenceIdeal.τ).loc Cert.ExpertReferenceIdeal.main_arg1)) (m ((c.tc : Thread Cert.ExpertReferenceIdeal.nD Cert.ExpertReferenceIdeal.τ).loc Cert.ExpertReferenceIdeal.main_arg2)) (m ((c.tc : Thread Cert.ExpertReferenceIdeal.nD Cert.ExpertReferenceIdeal.τ).loc Cert.ExpertReferenceIdeal.main_arg3))) = (fun _ => 1#1)

def Pre_ExpertNext [hPre_tiles_planned : Cert.Pre_tiles_planned.Facts] (m : (ℓ : Loc Cert.ExpertNext.nD Cert.ExpertNext.τ Cert.ExpertNext.sig) → Buf (Elt Bits) ℓ) : Prop :=
  ∀ c : Dev Cert.ExpertNext.nD,
    (Cert.Pre_tiles_planned.fn (F := Bits) (m ((c.tc : Thread Cert.ExpertNext.nD Cert.ExpertNext.τ).loc Cert.ExpertNext.main_arg0)) (m ((c.tc : Thread Cert.ExpertNext.nD Cert.ExpertNext.τ).loc Cert.ExpertNext.main_arg1)) (m ((c.tc : Thread Cert.ExpertNext.nD Cert.ExpertNext.τ).loc Cert.ExpertNext.main_arg2)) (m ((c.tc : Thread Cert.ExpertNext.nD Cert.ExpertNext.τ).loc Cert.ExpertNext.main_arg3))) = (fun _ => 1#1)

def Pre_ExpertNextIdeal [hPre_tiles_planned : Cert.Pre_tiles_planned.Facts] (m : (ℓ : Loc Cert.ExpertNextIdeal.nD Cert.ExpertNextIdeal.τ Cert.ExpertNextIdeal.sig) → Buf (Elt Ideal) ℓ) : Prop :=
  ∀ c : Dev Cert.ExpertNextIdeal.nD,
    (Cert.Pre_tiles_planned.fn (F := Ideal) (m ((c.tc : Thread Cert.ExpertNextIdeal.nD Cert.ExpertNextIdeal.τ).loc Cert.ExpertNextIdeal.main_arg0)) (m ((c.tc : Thread Cert.ExpertNextIdeal.nD Cert.ExpertNextIdeal.τ).loc Cert.ExpertNextIdeal.main_arg1)) (m ((c.tc : Thread Cert.ExpertNextIdeal.nD Cert.ExpertNextIdeal.τ).loc Cert.ExpertNextIdeal.main_arg2)) (m ((c.tc : Thread Cert.ExpertNextIdeal.nD Cert.ExpertNextIdeal.τ).loc Cert.ExpertNextIdeal.main_arg3))) = (fun _ => 1#1)

def Pre_ExpertNextReferenceIdeal [hPre_tiles_planned : Cert.Pre_tiles_planned.Facts] (m : (ℓ : Loc Cert.ExpertNextReferenceIdeal.nD Cert.ExpertNextReferenceIdeal.τ Cert.ExpertNextReferenceIdeal.sig) → Buf (Elt Ideal) ℓ) : Prop :=
  ∀ c : Dev Cert.ExpertNextReferenceIdeal.nD,
    (Cert.Pre_tiles_planned.fn (F := Ideal) (m ((c.tc : Thread Cert.ExpertNextReferenceIdeal.nD Cert.ExpertNextReferenceIdeal.τ).loc Cert.ExpertNextReferenceIdeal.main_arg0)) (m ((c.tc : Thread Cert.ExpertNextReferenceIdeal.nD Cert.ExpertNextReferenceIdeal.τ).loc Cert.ExpertNextReferenceIdeal.main_arg1)) (m ((c.tc : Thread Cert.ExpertNextReferenceIdeal.nD Cert.ExpertNextReferenceIdeal.τ).loc Cert.ExpertNextReferenceIdeal.main_arg2)) (m ((c.tc : Thread Cert.ExpertNextReferenceIdeal.nD Cert.ExpertNextReferenceIdeal.τ).loc Cert.ExpertNextReferenceIdeal.main_arg3))) = (fun _ => 1#1)

def Pre_Down [hPre_tiles_planned_down : Cert.Pre_tiles_planned_down.Facts] (m : (ℓ : Loc Cert.Down.nD Cert.Down.τ Cert.Down.sig) → Buf (Elt Bits) ℓ) : Prop :=
  ∀ c : Dev Cert.Down.nD,
    (Cert.Pre_tiles_planned_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2))) = (fun _ => 1#1)

def Pre_DownIdeal [hPre_tiles_planned_down : Cert.Pre_tiles_planned_down.Facts] (m : (ℓ : Loc Cert.DownIdeal.nD Cert.DownIdeal.τ Cert.DownIdeal.sig) → Buf (Elt Ideal) ℓ) : Prop :=
  ∀ c : Dev Cert.DownIdeal.nD,
    (Cert.Pre_tiles_planned_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))) = (fun _ => 1#1)

def Pre_DownReferenceIdeal [hPre_tiles_planned_down : Cert.Pre_tiles_planned_down.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_tiles_planned_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2))) = (fun _ => 1#1)

def Pre_DownNext [hPre_tiles_planned_down : Cert.Pre_tiles_planned_down.Facts] (m : (ℓ : Loc Cert.DownNext.nD Cert.DownNext.τ Cert.DownNext.sig) → Buf (Elt Bits) ℓ) : Prop :=
  ∀ c : Dev Cert.DownNext.nD,
    (Cert.Pre_tiles_planned_down.fn (F := Bits) (m ((c.tc : Thread Cert.DownNext.nD Cert.DownNext.τ).loc Cert.DownNext.main_arg0)) (m ((c.tc : Thread Cert.DownNext.nD Cert.DownNext.τ).loc Cert.DownNext.main_arg1)) (m ((c.tc : Thread Cert.DownNext.nD Cert.DownNext.τ).loc Cert.DownNext.main_arg2))) = (fun _ => 1#1)

def Pre_DownNextIdeal [hPre_tiles_planned_down : Cert.Pre_tiles_planned_down.Facts] (m : (ℓ : Loc Cert.DownNextIdeal.nD Cert.DownNextIdeal.τ Cert.DownNextIdeal.sig) → Buf (Elt Ideal) ℓ) : Prop :=
  ∀ c : Dev Cert.DownNextIdeal.nD,
    (Cert.Pre_tiles_planned_down.fn (F := Ideal) (m ((c.tc : Thread Cert.DownNextIdeal.nD Cert.DownNextIdeal.τ).loc Cert.DownNextIdeal.main_arg0)) (m ((c.tc : Thread Cert.DownNextIdeal.nD Cert.DownNextIdeal.τ).loc Cert.DownNextIdeal.main_arg1)) (m ((c.tc : Thread Cert.DownNextIdeal.nD Cert.DownNextIdeal.τ).loc Cert.DownNextIdeal.main_arg2))) = (fun _ => 1#1)

def Pre_DownNextReferenceIdeal [hPre_tiles_planned_down : Cert.Pre_tiles_planned_down.Facts] (m : (ℓ : Loc Cert.DownNextReferenceIdeal.nD Cert.DownNextReferenceIdeal.τ Cert.DownNextReferenceIdeal.sig) → Buf (Elt Ideal) ℓ) : Prop :=
  ∀ c : Dev Cert.DownNextReferenceIdeal.nD,
    (Cert.Pre_tiles_planned_down.fn (F := Ideal) (m ((c.tc : Thread Cert.DownNextReferenceIdeal.nD Cert.DownNextReferenceIdeal.τ).loc Cert.DownNextReferenceIdeal.main_arg0)) (m ((c.tc : Thread Cert.DownNextReferenceIdeal.nD Cert.DownNextReferenceIdeal.τ).loc Cert.DownNextReferenceIdeal.main_arg1)) (m ((c.tc : Thread Cert.DownNextReferenceIdeal.nD Cert.DownNextReferenceIdeal.τ).loc Cert.DownNextReferenceIdeal.main_arg2))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_DenseNext (m : (ℓ : Loc Cert.DenseNext.nD Cert.DenseNext.τ Cert.DenseNext.sig) → Buf (Elt Bits) ℓ) : Prop :=
  True

def Pre_DenseNextIdeal (m : (ℓ : Loc Cert.DenseNextIdeal.nD Cert.DenseNextIdeal.τ Cert.DenseNextIdeal.sig) → Buf (Elt Ideal) ℓ) : Prop :=
  True

def Pre_DenseNextReferenceIdeal (m : (ℓ : Loc Cert.DenseNextReferenceIdeal.nD Cert.DenseNextReferenceIdeal.τ Cert.DenseNextReferenceIdeal.sig) → Buf (Elt Ideal) ℓ) : Prop :=
  True

def Pre_DenseOut (m : (ℓ : Loc Cert.DenseOut.nD Cert.DenseOut.τ Cert.DenseOut.sig) → Buf (Elt Bits) ℓ) : Prop :=
  True

def Pre_DenseOutIdeal (m : (ℓ : Loc Cert.DenseOutIdeal.nD Cert.DenseOutIdeal.τ Cert.DenseOutIdeal.sig) → Buf (Elt Ideal) ℓ) : Prop :=
  True

def Pre_DenseOutReferenceIdeal (m : (ℓ : Loc Cert.DenseOutReferenceIdeal.nD Cert.DenseOutReferenceIdeal.τ Cert.DenseOutReferenceIdeal.sig) → Buf (Elt Ideal) ℓ) : Prop :=
  True

def Pre_DenseOutNext (m : (ℓ : Loc Cert.DenseOutNext.nD Cert.DenseOutNext.τ Cert.DenseOutNext.sig) → Buf (Elt Bits) ℓ) : Prop :=
  True

def Pre_DenseOutNextIdeal (m : (ℓ : Loc Cert.DenseOutNextIdeal.nD Cert.DenseOutNextIdeal.τ Cert.DenseOutNextIdeal.sig) → Buf (Elt Ideal) ℓ) : Prop :=
  True

def Pre_DenseOutNextReferenceIdeal (m : (ℓ : Loc Cert.DenseOutNextReferenceIdeal.nD Cert.DenseOutNextReferenceIdeal.τ Cert.DenseOutNextReferenceIdeal.sig) → Buf (Elt Ideal) ℓ) : Prop :=
  True

def Pre_InQkv (m : (ℓ : Loc Cert.InQkv.nD Cert.InQkv.τ Cert.InQkv.sig) → Buf (Elt Bits) ℓ) : Prop :=
  True

def Pre_InQkvIdeal (m : (ℓ : Loc Cert.InQkvIdeal.nD Cert.InQkvIdeal.τ Cert.InQkvIdeal.sig) → Buf (Elt Ideal) ℓ) : Prop :=
  True

def Pre_InQkvReferenceIdeal (m : (ℓ : Loc Cert.InQkvReferenceIdeal.nD Cert.InQkvReferenceIdeal.τ Cert.InQkvReferenceIdeal.sig) → Buf (Elt Ideal) ℓ) : Prop :=
  True

def Pre_InQkvNext (m : (ℓ : Loc Cert.InQkvNext.nD Cert.InQkvNext.τ Cert.InQkvNext.sig) → Buf (Elt Bits) ℓ) : Prop :=
  True

def Pre_InQkvNextIdeal (m : (ℓ : Loc Cert.InQkvNextIdeal.nD Cert.InQkvNextIdeal.τ Cert.InQkvNextIdeal.sig) → Buf (Elt Ideal) ℓ) : Prop :=
  True

def Pre_InQkvNextReferenceIdeal (m : (ℓ : Loc Cert.InQkvNextReferenceIdeal.nD Cert.InQkvNextReferenceIdeal.τ Cert.InQkvNextReferenceIdeal.sig) → Buf (Elt Ideal) ℓ) : Prop :=
  True

def Pre_InQkvThird (m : (ℓ : Loc Cert.InQkvThird.nD Cert.InQkvThird.τ Cert.InQkvThird.sig) → Buf (Elt Bits) ℓ) : Prop :=
  True

def Pre_InQkvThirdIdeal (m : (ℓ : Loc Cert.InQkvThirdIdeal.nD Cert.InQkvThirdIdeal.τ Cert.InQkvThirdIdeal.sig) → Buf (Elt Ideal) ℓ) : Prop :=
  True

def Pre_InQkvThirdReferenceIdeal (m : (ℓ : Loc Cert.InQkvThirdReferenceIdeal.nD Cert.InQkvThirdReferenceIdeal.τ Cert.InQkvThirdReferenceIdeal.sig) → Buf (Elt Ideal) ℓ) : Prop :=
  True

def Pre_InQkvLast (m : (ℓ : Loc Cert.InQkvLast.nD Cert.InQkvLast.τ Cert.InQkvLast.sig) → Buf (Elt Bits) ℓ) : Prop :=
  True

def Pre_InQkvLastIdeal (m : (ℓ : Loc Cert.InQkvLastIdeal.nD Cert.InQkvLastIdeal.τ Cert.InQkvLastIdeal.sig) → Buf (Elt Ideal) ℓ) : Prop :=
  True

def Pre_InQkvLastReferenceIdeal (m : (ℓ : Loc Cert.InQkvLastReferenceIdeal.nD Cert.InQkvLastReferenceIdeal.τ Cert.InQkvLastReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Expert [hExpert : Cert.Expert.Facts] [hPre_tiles_planned : Cert.Pre_tiles_planned.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3))
      ∧ r.2.sem = fun _ => 0)

def quiescent_ExpertIdeal [hExpertIdeal : Cert.ExpertIdeal.Facts] [hPre_tiles_planned : Cert.Pre_tiles_planned.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3))
      ∧ r.2.sem = fun _ => 0)

def quiescent_ExpertReferenceIdeal [hExpertReferenceIdeal : Cert.ExpertReferenceIdeal.Facts] [hPre_tiles_planned : Cert.Pre_tiles_planned.Facts] : Prop :=
  ∀ (m : (ℓ : Loc Cert.ExpertReferenceIdeal.nD Cert.ExpertReferenceIdeal.τ Cert.ExpertReferenceIdeal.sig) → Buf (Elt Ideal) ℓ) (g : Dev Cert.ExpertReferenceIdeal.nD → PrngReg), Pre_ExpertReferenceIdeal m →
    θ_run (Cert.ExpertReferenceIdeal.defs (F := Ideal)) (onTc (τ := Cert.ExpertReferenceIdeal.τ) (Cert.ExpertReferenceIdeal.main (F := Ideal))) ⟨m, fun _ => 0, g⟩ (fun r => (∀ c : Dev Cert.ExpertReferenceIdeal.nD,
      r.2.mem ((c.tc : Thread Cert.ExpertReferenceIdeal.nD Cert.ExpertReferenceIdeal.τ).loc Cert.ExpertReferenceIdeal.main_arg0) = m ((c.tc : Thread Cert.ExpertReferenceIdeal.nD Cert.ExpertReferenceIdeal.τ).loc Cert.ExpertReferenceIdeal.main_arg0)
      ∧ r.2.mem ((c.tc : Thread Cert.ExpertReferenceIdeal.nD Cert.ExpertReferenceIdeal.τ).loc Cert.ExpertReferenceIdeal.main_arg1) = m ((c.tc : Thread Cert.ExpertReferenceIdeal.nD Cert.ExpertReferenceIdeal.τ).loc Cert.ExpertReferenceIdeal.main_arg1)
      ∧ r.2.mem ((c.tc : Thread Cert.ExpertReferenceIdeal.nD Cert.ExpertReferenceIdeal.τ).loc Cert.ExpertReferenceIdeal.main_arg2) = m ((c.tc : Thread Cert.ExpertReferenceIdeal.nD Cert.ExpertReferenceIdeal.τ).loc Cert.ExpertReferenceIdeal.main_arg2)
      ∧ r.2.mem ((c.tc : Thread Cert.ExpertReferenceIdeal.nD Cert.ExpertReferenceIdeal.τ).loc Cert.ExpertReferenceIdeal.main_arg3) = m ((c.tc : Thread Cert.ExpertReferenceIdeal.nD Cert.ExpertReferenceIdeal.τ).loc Cert.ExpertReferenceIdeal.main_arg3))
      ∧ r.2.sem = fun _ => 0)

def quiescent_ExpertNext [hExpertNext : Cert.ExpertNext.Facts] [hPre_tiles_planned : Cert.Pre_tiles_planned.Facts] : Prop :=
  ∀ (m : (ℓ : Loc Cert.ExpertNext.nD Cert.ExpertNext.τ Cert.ExpertNext.sig) → Buf (Elt Bits) ℓ) (g : Dev Cert.ExpertNext.nD → PrngReg), Pre_ExpertNext m →
    θ_run (Cert.ExpertNext.defs (F := Bits)) (onTc (τ := Cert.ExpertNext.τ) (Cert.ExpertNext.main (F := Bits))) ⟨m, fun _ => 0, g⟩ (fun r => (∀ c : Dev Cert.ExpertNext.nD,
      r.2.mem ((c.tc : Thread Cert.ExpertNext.nD Cert.ExpertNext.τ).loc Cert.ExpertNext.main_arg0) = m ((c.tc : Thread Cert.ExpertNext.nD Cert.ExpertNext.τ).loc Cert.ExpertNext.main_arg0)
      ∧ r.2.mem ((c.tc : Thread Cert.ExpertNext.nD Cert.ExpertNext.τ).loc Cert.ExpertNext.main_arg1) = m ((c.tc : Thread Cert.ExpertNext.nD Cert.ExpertNext.τ).loc Cert.ExpertNext.main_arg1)
      ∧ r.2.mem ((c.tc : Thread Cert.ExpertNext.nD Cert.ExpertNext.τ).loc Cert.ExpertNext.main_arg2) = m ((c.tc : Thread Cert.ExpertNext.nD Cert.ExpertNext.τ).loc Cert.ExpertNext.main_arg2)
      ∧ r.2.mem ((c.tc : Thread Cert.ExpertNext.nD Cert.ExpertNext.τ).loc Cert.ExpertNext.main_arg3) = m ((c.tc : Thread Cert.ExpertNext.nD Cert.ExpertNext.τ).loc Cert.ExpertNext.main_arg3))
      ∧ r.2.sem = fun _ => 0)

def quiescent_ExpertNextIdeal [hExpertNextIdeal : Cert.ExpertNextIdeal.Facts] [hPre_tiles_planned : Cert.Pre_tiles_planned.Facts] : Prop :=
  ∀ (m : (ℓ : Loc Cert.ExpertNextIdeal.nD Cert.ExpertNextIdeal.τ Cert.ExpertNextIdeal.sig) → Buf (Elt Ideal) ℓ) (g : Dev Cert.ExpertNextIdeal.nD → PrngReg), Pre_ExpertNextIdeal m →
    θ_run (Cert.ExpertNextIdeal.defs (F := Ideal)) (onTc (τ := Cert.ExpertNextIdeal.τ) (Cert.ExpertNextIdeal.main (F := Ideal))) ⟨m, fun _ => 0, g⟩ (fun r => (∀ c : Dev Cert.ExpertNextIdeal.nD,
      r.2.mem ((c.tc : Thread Cert.ExpertNextIdeal.nD Cert.ExpertNextIdeal.τ).loc Cert.ExpertNextIdeal.main_arg0) = m ((c.tc : Thread Cert.ExpertNextIdeal.nD Cert.ExpertNextIdeal.τ).loc Cert.ExpertNextIdeal.main_arg0)
      ∧ r.2.mem ((c.tc : Thread Cert.ExpertNextIdeal.nD Cert.ExpertNextIdeal.τ).loc Cert.ExpertNextIdeal.main_arg1) = m ((c.tc : Thread Cert.ExpertNextIdeal.nD Cert.ExpertNextIdeal.τ).loc Cert.ExpertNextIdeal.main_arg1)
      ∧ r.2.mem ((c.tc : Thread Cert.ExpertNextIdeal.nD Cert.ExpertNextIdeal.τ).loc Cert.ExpertNextIdeal.main_arg2) = m ((c.tc : Thread Cert.ExpertNextIdeal.nD Cert.ExpertNextIdeal.τ).loc Cert.ExpertNextIdeal.main_arg2)
      ∧ r.2.mem ((c.tc : Thread Cert.ExpertNextIdeal.nD Cert.ExpertNextIdeal.τ).loc Cert.ExpertNextIdeal.main_arg3) = m ((c.tc : Thread Cert.ExpertNextIdeal.nD Cert.ExpertNextIdeal.τ).loc Cert.ExpertNextIdeal.main_arg3))
      ∧ r.2.sem = fun _ => 0)

def quiescent_ExpertNextReferenceIdeal [hExpertNextReferenceIdeal : Cert.ExpertNextReferenceIdeal.Facts] [hPre_tiles_planned : Cert.Pre_tiles_planned.Facts] : Prop :=
  ∀ (m : (ℓ : Loc Cert.ExpertNextReferenceIdeal.nD Cert.ExpertNextReferenceIdeal.τ Cert.ExpertNextReferenceIdeal.sig) → Buf (Elt Ideal) ℓ) (g : Dev Cert.ExpertNextReferenceIdeal.nD → PrngReg), Pre_ExpertNextReferenceIdeal m →
    θ_run (Cert.ExpertNextReferenceIdeal.defs (F := Ideal)) (onTc (τ := Cert.ExpertNextReferenceIdeal.τ) (Cert.ExpertNextReferenceIdeal.main (F := Ideal))) ⟨m, fun _ => 0, g⟩ (fun r => (∀ c : Dev Cert.ExpertNextReferenceIdeal.nD,
      r.2.mem ((c.tc : Thread Cert.ExpertNextReferenceIdeal.nD Cert.ExpertNextReferenceIdeal.τ).loc Cert.ExpertNextReferenceIdeal.main_arg0) = m ((c.tc : Thread Cert.ExpertNextReferenceIdeal.nD Cert.ExpertNextReferenceIdeal.τ).loc Cert.ExpertNextReferenceIdeal.main_arg0)
      ∧ r.2.mem ((c.tc : Thread Cert.ExpertNextReferenceIdeal.nD Cert.ExpertNextReferenceIdeal.τ).loc Cert.ExpertNextReferenceIdeal.main_arg1) = m ((c.tc : Thread Cert.ExpertNextReferenceIdeal.nD Cert.ExpertNextReferenceIdeal.τ).loc Cert.ExpertNextReferenceIdeal.main_arg1)
      ∧ r.2.mem ((c.tc : Thread Cert.ExpertNextReferenceIdeal.nD Cert.ExpertNextReferenceIdeal.τ).loc Cert.ExpertNextReferenceIdeal.main_arg2) = m ((c.tc : Thread Cert.ExpertNextReferenceIdeal.nD Cert.ExpertNextReferenceIdeal.τ).loc Cert.ExpertNextReferenceIdeal.main_arg2)
      ∧ r.2.mem ((c.tc : Thread Cert.ExpertNextReferenceIdeal.nD Cert.ExpertNextReferenceIdeal.τ).loc Cert.ExpertNextReferenceIdeal.main_arg3) = m ((c.tc : Thread Cert.ExpertNextReferenceIdeal.nD Cert.ExpertNextReferenceIdeal.τ).loc Cert.ExpertNextReferenceIdeal.main_arg3))
      ∧ r.2.sem = fun _ => 0)

def quiescent_Down [hDown : Cert.Down.Facts] [hPre_tiles_planned_down : Cert.Pre_tiles_planned_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] [hPre_tiles_planned_down : Cert.Pre_tiles_planned_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] [hPre_tiles_planned_down : Cert.Pre_tiles_planned_down.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_DownNext [hDownNext : Cert.DownNext.Facts] [hPre_tiles_planned_down : Cert.Pre_tiles_planned_down.Facts] : Prop :=
  ∀ (m : (ℓ : Loc Cert.DownNext.nD Cert.DownNext.τ Cert.DownNext.sig) → Buf (Elt Bits) ℓ) (g : Dev Cert.DownNext.nD → PrngReg), Pre_DownNext m →
    θ_run (Cert.DownNext.defs (F := Bits)) (onTc (τ := Cert.DownNext.τ) (Cert.DownNext.main (F := Bits))) ⟨m, fun _ => 0, g⟩ (fun r => (∀ c : Dev Cert.DownNext.nD,
      r.2.mem ((c.tc : Thread Cert.DownNext.nD Cert.DownNext.τ).loc Cert.DownNext.main_arg0) = m ((c.tc : Thread Cert.DownNext.nD Cert.DownNext.τ).loc Cert.DownNext.main_arg0)
      ∧ r.2.mem ((c.tc : Thread Cert.DownNext.nD Cert.DownNext.τ).loc Cert.DownNext.main_arg1) = m ((c.tc : Thread Cert.DownNext.nD Cert.DownNext.τ).loc Cert.DownNext.main_arg1)
      ∧ r.2.mem ((c.tc : Thread Cert.DownNext.nD Cert.DownNext.τ).loc Cert.DownNext.main_arg2) = m ((c.tc : Thread Cert.DownNext.nD Cert.DownNext.τ).loc Cert.DownNext.main_arg2))
      ∧ r.2.sem = fun _ => 0)

def quiescent_DownNextIdeal [hDownNextIdeal : Cert.DownNextIdeal.Facts] [hPre_tiles_planned_down : Cert.Pre_tiles_planned_down.Facts] : Prop :=
  ∀ (m : (ℓ : Loc Cert.DownNextIdeal.nD Cert.DownNextIdeal.τ Cert.DownNextIdeal.sig) → Buf (Elt Ideal) ℓ) (g : Dev Cert.DownNextIdeal.nD → PrngReg), Pre_DownNextIdeal m →
    θ_run (Cert.DownNextIdeal.defs (F := Ideal)) (onTc (τ := Cert.DownNextIdeal.τ) (Cert.DownNextIdeal.main (F := Ideal))) ⟨m, fun _ => 0, g⟩ (fun r => (∀ c : Dev Cert.DownNextIdeal.nD,
      r.2.mem ((c.tc : Thread Cert.DownNextIdeal.nD Cert.DownNextIdeal.τ).loc Cert.DownNextIdeal.main_arg0) = m ((c.tc : Thread Cert.DownNextIdeal.nD Cert.DownNextIdeal.τ).loc Cert.DownNextIdeal.main_arg0)
      ∧ r.2.mem ((c.tc : Thread Cert.DownNextIdeal.nD Cert.DownNextIdeal.τ).loc Cert.DownNextIdeal.main_arg1) = m ((c.tc : Thread Cert.DownNextIdeal.nD Cert.DownNextIdeal.τ).loc Cert.DownNextIdeal.main_arg1)
      ∧ r.2.mem ((c.tc : Thread Cert.DownNextIdeal.nD Cert.DownNextIdeal.τ).loc Cert.DownNextIdeal.main_arg2) = m ((c.tc : Thread Cert.DownNextIdeal.nD Cert.DownNextIdeal.τ).loc Cert.DownNextIdeal.main_arg2))
      ∧ r.2.sem = fun _ => 0)

def quiescent_DownNextReferenceIdeal [hDownNextReferenceIdeal : Cert.DownNextReferenceIdeal.Facts] [hPre_tiles_planned_down : Cert.Pre_tiles_planned_down.Facts] : Prop :=
  ∀ (m : (ℓ : Loc Cert.DownNextReferenceIdeal.nD Cert.DownNextReferenceIdeal.τ Cert.DownNextReferenceIdeal.sig) → Buf (Elt Ideal) ℓ) (g : Dev Cert.DownNextReferenceIdeal.nD → PrngReg), Pre_DownNextReferenceIdeal m →
    θ_run (Cert.DownNextReferenceIdeal.defs (F := Ideal)) (onTc (τ := Cert.DownNextReferenceIdeal.τ) (Cert.DownNextReferenceIdeal.main (F := Ideal))) ⟨m, fun _ => 0, g⟩ (fun r => (∀ c : Dev Cert.DownNextReferenceIdeal.nD,
      r.2.mem ((c.tc : Thread Cert.DownNextReferenceIdeal.nD Cert.DownNextReferenceIdeal.τ).loc Cert.DownNextReferenceIdeal.main_arg0) = m ((c.tc : Thread Cert.DownNextReferenceIdeal.nD Cert.DownNextReferenceIdeal.τ).loc Cert.DownNextReferenceIdeal.main_arg0)
      ∧ r.2.mem ((c.tc : Thread Cert.DownNextReferenceIdeal.nD Cert.DownNextReferenceIdeal.τ).loc Cert.DownNextReferenceIdeal.main_arg1) = m ((c.tc : Thread Cert.DownNextReferenceIdeal.nD Cert.DownNextReferenceIdeal.τ).loc Cert.DownNextReferenceIdeal.main_arg1)
      ∧ r.2.mem ((c.tc : Thread Cert.DownNextReferenceIdeal.nD Cert.DownNextReferenceIdeal.τ).loc Cert.DownNextReferenceIdeal.main_arg2) = m ((c.tc : Thread Cert.DownNextReferenceIdeal.nD Cert.DownNextReferenceIdeal.τ).loc Cert.DownNextReferenceIdeal.main_arg2))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2))
      ∧ r.2.sem = fun _ => 0)

def quiescent_DenseNext [hDenseNext : Cert.DenseNext.Facts] : Prop :=
  ∀ (m : (ℓ : Loc Cert.DenseNext.nD Cert.DenseNext.τ Cert.DenseNext.sig) → Buf (Elt Bits) ℓ) (g : Dev Cert.DenseNext.nD → PrngReg), Pre_DenseNext m →
    θ_run (Cert.DenseNext.defs (F := Bits)) (onTc (τ := Cert.DenseNext.τ) (Cert.DenseNext.main (F := Bits))) ⟨m, fun _ => 0, g⟩ (fun r => (∀ c : Dev Cert.DenseNext.nD,
      r.2.mem ((c.tc : Thread Cert.DenseNext.nD Cert.DenseNext.τ).loc Cert.DenseNext.main_arg0) = m ((c.tc : Thread Cert.DenseNext.nD Cert.DenseNext.τ).loc Cert.DenseNext.main_arg0)
      ∧ r.2.mem ((c.tc : Thread Cert.DenseNext.nD Cert.DenseNext.τ).loc Cert.DenseNext.main_arg1) = m ((c.tc : Thread Cert.DenseNext.nD Cert.DenseNext.τ).loc Cert.DenseNext.main_arg1)
      ∧ r.2.mem ((c.tc : Thread Cert.DenseNext.nD Cert.DenseNext.τ).loc Cert.DenseNext.main_arg2) = m ((c.tc : Thread Cert.DenseNext.nD Cert.DenseNext.τ).loc Cert.DenseNext.main_arg2))
      ∧ r.2.sem = fun _ => 0)

def quiescent_DenseNextIdeal [hDenseNextIdeal : Cert.DenseNextIdeal.Facts] : Prop :=
  ∀ (m : (ℓ : Loc Cert.DenseNextIdeal.nD Cert.DenseNextIdeal.τ Cert.DenseNextIdeal.sig) → Buf (Elt Ideal) ℓ) (g : Dev Cert.DenseNextIdeal.nD → PrngReg), Pre_DenseNextIdeal m →
    θ_run (Cert.DenseNextIdeal.defs (F := Ideal)) (onTc (τ := Cert.DenseNextIdeal.τ) (Cert.DenseNextIdeal.main (F := Ideal))) ⟨m, fun _ => 0, g⟩ (fun r => (∀ c : Dev Cert.DenseNextIdeal.nD,
      r.2.mem ((c.tc : Thread Cert.DenseNextIdeal.nD Cert.DenseNextIdeal.τ).loc Cert.DenseNextIdeal.main_arg0) = m ((c.tc : Thread Cert.DenseNextIdeal.nD Cert.DenseNextIdeal.τ).loc Cert.DenseNextIdeal.main_arg0)
      ∧ r.2.mem ((c.tc : Thread Cert.DenseNextIdeal.nD Cert.DenseNextIdeal.τ).loc Cert.DenseNextIdeal.main_arg1) = m ((c.tc : Thread Cert.DenseNextIdeal.nD Cert.DenseNextIdeal.τ).loc Cert.DenseNextIdeal.main_arg1)
      ∧ r.2.mem ((c.tc : Thread Cert.DenseNextIdeal.nD Cert.DenseNextIdeal.τ).loc Cert.DenseNextIdeal.main_arg2) = m ((c.tc : Thread Cert.DenseNextIdeal.nD Cert.DenseNextIdeal.τ).loc Cert.DenseNextIdeal.main_arg2))
      ∧ r.2.sem = fun _ => 0)

def quiescent_DenseNextReferenceIdeal [hDenseNextReferenceIdeal : Cert.DenseNextReferenceIdeal.Facts] : Prop :=
  ∀ (m : (ℓ : Loc Cert.DenseNextReferenceIdeal.nD Cert.DenseNextReferenceIdeal.τ Cert.DenseNextReferenceIdeal.sig) → Buf (Elt Ideal) ℓ) (g : Dev Cert.DenseNextReferenceIdeal.nD → PrngReg), Pre_DenseNextReferenceIdeal m →
    θ_run (Cert.DenseNextReferenceIdeal.defs (F := Ideal)) (onTc (τ := Cert.DenseNextReferenceIdeal.τ) (Cert.DenseNextReferenceIdeal.main (F := Ideal))) ⟨m, fun _ => 0, g⟩ (fun r => (∀ c : Dev Cert.DenseNextReferenceIdeal.nD,
      r.2.mem ((c.tc : Thread Cert.DenseNextReferenceIdeal.nD Cert.DenseNextReferenceIdeal.τ).loc Cert.DenseNextReferenceIdeal.main_arg0) = m ((c.tc : Thread Cert.DenseNextReferenceIdeal.nD Cert.DenseNextReferenceIdeal.τ).loc Cert.DenseNextReferenceIdeal.main_arg0)
      ∧ r.2.mem ((c.tc : Thread Cert.DenseNextReferenceIdeal.nD Cert.DenseNextReferenceIdeal.τ).loc Cert.DenseNextReferenceIdeal.main_arg1) = m ((c.tc : Thread Cert.DenseNextReferenceIdeal.nD Cert.DenseNextReferenceIdeal.τ).loc Cert.DenseNextReferenceIdeal.main_arg1)
      ∧ r.2.mem ((c.tc : Thread Cert.DenseNextReferenceIdeal.nD Cert.DenseNextReferenceIdeal.τ).loc Cert.DenseNextReferenceIdeal.main_arg2) = m ((c.tc : Thread Cert.DenseNextReferenceIdeal.nD Cert.DenseNextReferenceIdeal.τ).loc Cert.DenseNextReferenceIdeal.main_arg2))
      ∧ r.2.sem = fun _ => 0)

def quiescent_DenseOut [hDenseOut : Cert.DenseOut.Facts] : Prop :=
  ∀ (m : (ℓ : Loc Cert.DenseOut.nD Cert.DenseOut.τ Cert.DenseOut.sig) → Buf (Elt Bits) ℓ) (g : Dev Cert.DenseOut.nD → PrngReg), Pre_DenseOut m →
    θ_run (Cert.DenseOut.defs (F := Bits)) (onTc (τ := Cert.DenseOut.τ) (Cert.DenseOut.main (F := Bits))) ⟨m, fun _ => 0, g⟩ (fun r => (∀ c : Dev Cert.DenseOut.nD,
      r.2.mem ((c.tc : Thread Cert.DenseOut.nD Cert.DenseOut.τ).loc Cert.DenseOut.main_arg0) = m ((c.tc : Thread Cert.DenseOut.nD Cert.DenseOut.τ).loc Cert.DenseOut.main_arg0)
      ∧ r.2.mem ((c.tc : Thread Cert.DenseOut.nD Cert.DenseOut.τ).loc Cert.DenseOut.main_arg1) = m ((c.tc : Thread Cert.DenseOut.nD Cert.DenseOut.τ).loc Cert.DenseOut.main_arg1))
      ∧ r.2.sem = fun _ => 0)

def quiescent_DenseOutIdeal [hDenseOutIdeal : Cert.DenseOutIdeal.Facts] : Prop :=
  ∀ (m : (ℓ : Loc Cert.DenseOutIdeal.nD Cert.DenseOutIdeal.τ Cert.DenseOutIdeal.sig) → Buf (Elt Ideal) ℓ) (g : Dev Cert.DenseOutIdeal.nD → PrngReg), Pre_DenseOutIdeal m →
    θ_run (Cert.DenseOutIdeal.defs (F := Ideal)) (onTc (τ := Cert.DenseOutIdeal.τ) (Cert.DenseOutIdeal.main (F := Ideal))) ⟨m, fun _ => 0, g⟩ (fun r => (∀ c : Dev Cert.DenseOutIdeal.nD,
      r.2.mem ((c.tc : Thread Cert.DenseOutIdeal.nD Cert.DenseOutIdeal.τ).loc Cert.DenseOutIdeal.main_arg0) = m ((c.tc : Thread Cert.DenseOutIdeal.nD Cert.DenseOutIdeal.τ).loc Cert.DenseOutIdeal.main_arg0)
      ∧ r.2.mem ((c.tc : Thread Cert.DenseOutIdeal.nD Cert.DenseOutIdeal.τ).loc Cert.DenseOutIdeal.main_arg1) = m ((c.tc : Thread Cert.DenseOutIdeal.nD Cert.DenseOutIdeal.τ).loc Cert.DenseOutIdeal.main_arg1))
      ∧ r.2.sem = fun _ => 0)

def quiescent_DenseOutReferenceIdeal [hDenseOutReferenceIdeal : Cert.DenseOutReferenceIdeal.Facts] : Prop :=
  ∀ (m : (ℓ : Loc Cert.DenseOutReferenceIdeal.nD Cert.DenseOutReferenceIdeal.τ Cert.DenseOutReferenceIdeal.sig) → Buf (Elt Ideal) ℓ) (g : Dev Cert.DenseOutReferenceIdeal.nD → PrngReg), Pre_DenseOutReferenceIdeal m →
    θ_run (Cert.DenseOutReferenceIdeal.defs (F := Ideal)) (onTc (τ := Cert.DenseOutReferenceIdeal.τ) (Cert.DenseOutReferenceIdeal.main (F := Ideal))) ⟨m, fun _ => 0, g⟩ (fun r => (∀ c : Dev Cert.DenseOutReferenceIdeal.nD,
      r.2.mem ((c.tc : Thread Cert.DenseOutReferenceIdeal.nD Cert.DenseOutReferenceIdeal.τ).loc Cert.DenseOutReferenceIdeal.main_arg0) = m ((c.tc : Thread Cert.DenseOutReferenceIdeal.nD Cert.DenseOutReferenceIdeal.τ).loc Cert.DenseOutReferenceIdeal.main_arg0)
      ∧ r.2.mem ((c.tc : Thread Cert.DenseOutReferenceIdeal.nD Cert.DenseOutReferenceIdeal.τ).loc Cert.DenseOutReferenceIdeal.main_arg1) = m ((c.tc : Thread Cert.DenseOutReferenceIdeal.nD Cert.DenseOutReferenceIdeal.τ).loc Cert.DenseOutReferenceIdeal.main_arg1))
      ∧ r.2.sem = fun _ => 0)

def quiescent_DenseOutNext [hDenseOutNext : Cert.DenseOutNext.Facts] : Prop :=
  ∀ (m : (ℓ : Loc Cert.DenseOutNext.nD Cert.DenseOutNext.τ Cert.DenseOutNext.sig) → Buf (Elt Bits) ℓ) (g : Dev Cert.DenseOutNext.nD → PrngReg), Pre_DenseOutNext m →
    θ_run (Cert.DenseOutNext.defs (F := Bits)) (onTc (τ := Cert.DenseOutNext.τ) (Cert.DenseOutNext.main (F := Bits))) ⟨m, fun _ => 0, g⟩ (fun r => (∀ c : Dev Cert.DenseOutNext.nD,
      r.2.mem ((c.tc : Thread Cert.DenseOutNext.nD Cert.DenseOutNext.τ).loc Cert.DenseOutNext.main_arg0) = m ((c.tc : Thread Cert.DenseOutNext.nD Cert.DenseOutNext.τ).loc Cert.DenseOutNext.main_arg0)
      ∧ r.2.mem ((c.tc : Thread Cert.DenseOutNext.nD Cert.DenseOutNext.τ).loc Cert.DenseOutNext.main_arg1) = m ((c.tc : Thread Cert.DenseOutNext.nD Cert.DenseOutNext.τ).loc Cert.DenseOutNext.main_arg1))
      ∧ r.2.sem = fun _ => 0)

def quiescent_DenseOutNextIdeal [hDenseOutNextIdeal : Cert.DenseOutNextIdeal.Facts] : Prop :=
  ∀ (m : (ℓ : Loc Cert.DenseOutNextIdeal.nD Cert.DenseOutNextIdeal.τ Cert.DenseOutNextIdeal.sig) → Buf (Elt Ideal) ℓ) (g : Dev Cert.DenseOutNextIdeal.nD → PrngReg), Pre_DenseOutNextIdeal m →
    θ_run (Cert.DenseOutNextIdeal.defs (F := Ideal)) (onTc (τ := Cert.DenseOutNextIdeal.τ) (Cert.DenseOutNextIdeal.main (F := Ideal))) ⟨m, fun _ => 0, g⟩ (fun r => (∀ c : Dev Cert.DenseOutNextIdeal.nD,
      r.2.mem ((c.tc : Thread Cert.DenseOutNextIdeal.nD Cert.DenseOutNextIdeal.τ).loc Cert.DenseOutNextIdeal.main_arg0) = m ((c.tc : Thread Cert.DenseOutNextIdeal.nD Cert.DenseOutNextIdeal.τ).loc Cert.DenseOutNextIdeal.main_arg0)
      ∧ r.2.mem ((c.tc : Thread Cert.DenseOutNextIdeal.nD Cert.DenseOutNextIdeal.τ).loc Cert.DenseOutNextIdeal.main_arg1) = m ((c.tc : Thread Cert.DenseOutNextIdeal.nD Cert.DenseOutNextIdeal.τ).loc Cert.DenseOutNextIdeal.main_arg1))
      ∧ r.2.sem = fun _ => 0)

def quiescent_DenseOutNextReferenceIdeal [hDenseOutNextReferenceIdeal : Cert.DenseOutNextReferenceIdeal.Facts] : Prop :=
  ∀ (m : (ℓ : Loc Cert.DenseOutNextReferenceIdeal.nD Cert.DenseOutNextReferenceIdeal.τ Cert.DenseOutNextReferenceIdeal.sig) → Buf (Elt Ideal) ℓ) (g : Dev Cert.DenseOutNextReferenceIdeal.nD → PrngReg), Pre_DenseOutNextReferenceIdeal m →
    θ_run (Cert.DenseOutNextReferenceIdeal.defs (F := Ideal)) (onTc (τ := Cert.DenseOutNextReferenceIdeal.τ) (Cert.DenseOutNextReferenceIdeal.main (F := Ideal))) ⟨m, fun _ => 0, g⟩ (fun r => (∀ c : Dev Cert.DenseOutNextReferenceIdeal.nD,
      r.2.mem ((c.tc : Thread Cert.DenseOutNextReferenceIdeal.nD Cert.DenseOutNextReferenceIdeal.τ).loc Cert.DenseOutNextReferenceIdeal.main_arg0) = m ((c.tc : Thread Cert.DenseOutNextReferenceIdeal.nD Cert.DenseOutNextReferenceIdeal.τ).loc Cert.DenseOutNextReferenceIdeal.main_arg0)
      ∧ r.2.mem ((c.tc : Thread Cert.DenseOutNextReferenceIdeal.nD Cert.DenseOutNextReferenceIdeal.τ).loc Cert.DenseOutNextReferenceIdeal.main_arg1) = m ((c.tc : Thread Cert.DenseOutNextReferenceIdeal.nD Cert.DenseOutNextReferenceIdeal.τ).loc Cert.DenseOutNextReferenceIdeal.main_arg1))
      ∧ r.2.sem = fun _ => 0)

def quiescent_InQkv [hInQkv : Cert.InQkv.Facts] : Prop :=
  ∀ (m : (ℓ : Loc Cert.InQkv.nD Cert.InQkv.τ Cert.InQkv.sig) → Buf (Elt Bits) ℓ) (g : Dev Cert.InQkv.nD → PrngReg), Pre_InQkv m →
    θ_run (Cert.InQkv.defs (F := Bits)) (onTc (τ := Cert.InQkv.τ) (Cert.InQkv.main (F := Bits))) ⟨m, fun _ => 0, g⟩ (fun r => (∀ c : Dev Cert.InQkv.nD,
      r.2.mem ((c.tc : Thread Cert.InQkv.nD Cert.InQkv.τ).loc Cert.InQkv.main_arg0) = m ((c.tc : Thread Cert.InQkv.nD Cert.InQkv.τ).loc Cert.InQkv.main_arg0)
      ∧ r.2.mem ((c.tc : Thread Cert.InQkv.nD Cert.InQkv.τ).loc Cert.InQkv.main_arg1) = m ((c.tc : Thread Cert.InQkv.nD Cert.InQkv.τ).loc Cert.InQkv.main_arg1))
      ∧ r.2.sem = fun _ => 0)

def quiescent_InQkvIdeal [hInQkvIdeal : Cert.InQkvIdeal.Facts] : Prop :=
  ∀ (m : (ℓ : Loc Cert.InQkvIdeal.nD Cert.InQkvIdeal.τ Cert.InQkvIdeal.sig) → Buf (Elt Ideal) ℓ) (g : Dev Cert.InQkvIdeal.nD → PrngReg), Pre_InQkvIdeal m →
    θ_run (Cert.InQkvIdeal.defs (F := Ideal)) (onTc (τ := Cert.InQkvIdeal.τ) (Cert.InQkvIdeal.main (F := Ideal))) ⟨m, fun _ => 0, g⟩ (fun r => (∀ c : Dev Cert.InQkvIdeal.nD,
      r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
      ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ r.2.sem = fun _ => 0)

def quiescent_InQkvReferenceIdeal [hInQkvReferenceIdeal : Cert.InQkvReferenceIdeal.Facts] : Prop :=
  ∀ (m : (ℓ : Loc Cert.InQkvReferenceIdeal.nD Cert.InQkvReferenceIdeal.τ Cert.InQkvReferenceIdeal.sig) → Buf (Elt Ideal) ℓ) (g : Dev Cert.InQkvReferenceIdeal.nD → PrngReg), Pre_InQkvReferenceIdeal m →
    θ_run (Cert.InQkvReferenceIdeal.defs (F := Ideal)) (onTc (τ := Cert.InQkvReferenceIdeal.τ) (Cert.InQkvReferenceIdeal.main (F := Ideal))) ⟨m, fun _ => 0, g⟩ (fun r => (∀ c : Dev Cert.InQkvReferenceIdeal.nD,
      r.2.mem ((c.tc : Thread Cert.InQkvReferenceIdeal.nD Cert.InQkvReferenceIdeal.τ).loc Cert.InQkvReferenceIdeal.main_arg0) = m ((c.tc : Thread Cert.InQkvReferenceIdeal.nD Cert.InQkvReferenceIdeal.τ).loc Cert.InQkvReferenceIdeal.main_arg0)
      ∧ r.2.mem ((c.tc : Thread Cert.InQkvReferenceIdeal.nD Cert.InQkvReferenceIdeal.τ).loc Cert.InQkvReferenceIdeal.main_arg1) = m ((c.tc : Thread Cert.InQkvReferenceIdeal.nD Cert.InQkvReferenceIdeal.τ).loc Cert.InQkvReferenceIdeal.main_arg1))
      ∧ r.2.sem = fun _ => 0)

def quiescent_InQkvNext [hInQkvNext : Cert.InQkvNext.Facts] : Prop :=
  ∀ (m : (ℓ : Loc Cert.InQkvNext.nD Cert.InQkvNext.τ Cert.InQkvNext.sig) → Buf (Elt Bits) ℓ) (g : Dev Cert.InQkvNext.nD → PrngReg), Pre_InQkvNext m →
    θ_run (Cert.InQkvNext.defs (F := Bits)) (onTc (τ := Cert.InQkvNext.τ) (Cert.InQkvNext.main (F := Bits))) ⟨m, fun _ => 0, g⟩ (fun r => (∀ c : Dev Cert.InQkvNext.nD,
      r.2.mem ((c.tc : Thread Cert.InQkvNext.nD Cert.InQkvNext.τ).loc Cert.InQkvNext.main_arg0) = m ((c.tc : Thread Cert.InQkvNext.nD Cert.InQkvNext.τ).loc Cert.InQkvNext.main_arg0)
      ∧ r.2.mem ((c.tc : Thread Cert.InQkvNext.nD Cert.InQkvNext.τ).loc Cert.InQkvNext.main_arg1) = m ((c.tc : Thread Cert.InQkvNext.nD Cert.InQkvNext.τ).loc Cert.InQkvNext.main_arg1))
      ∧ r.2.sem = fun _ => 0)

def quiescent_InQkvNextIdeal [hInQkvNextIdeal : Cert.InQkvNextIdeal.Facts] : Prop :=
  ∀ (m : (ℓ : Loc Cert.InQkvNextIdeal.nD Cert.InQkvNextIdeal.τ Cert.InQkvNextIdeal.sig) → Buf (Elt Ideal) ℓ) (g : Dev Cert.InQkvNextIdeal.nD → PrngReg), Pre_InQkvNextIdeal m →
    θ_run (Cert.InQkvNextIdeal.defs (F := Ideal)) (onTc (τ := Cert.InQkvNextIdeal.τ) (Cert.InQkvNextIdeal.main (F := Ideal))) ⟨m, fun _ => 0, g⟩ (fun r => (∀ c : Dev Cert.InQkvNextIdeal.nD,
      r.2.mem ((c.tc : Thread Cert.InQkvNextIdeal.nD Cert.InQkvNextIdeal.τ).loc Cert.InQkvNextIdeal.main_arg0) = m ((c.tc : Thread Cert.InQkvNextIdeal.nD Cert.InQkvNextIdeal.τ).loc Cert.InQkvNextIdeal.main_arg0)
      ∧ r.2.mem ((c.tc : Thread Cert.InQkvNextIdeal.nD Cert.InQkvNextIdeal.τ).loc Cert.InQkvNextIdeal.main_arg1) = m ((c.tc : Thread Cert.InQkvNextIdeal.nD Cert.InQkvNextIdeal.τ).loc Cert.InQkvNextIdeal.main_arg1))
      ∧ r.2.sem = fun _ => 0)

def quiescent_InQkvNextReferenceIdeal [hInQkvNextReferenceIdeal : Cert.InQkvNextReferenceIdeal.Facts] : Prop :=
  ∀ (m : (ℓ : Loc Cert.InQkvNextReferenceIdeal.nD Cert.InQkvNextReferenceIdeal.τ Cert.InQkvNextReferenceIdeal.sig) → Buf (Elt Ideal) ℓ) (g : Dev Cert.InQkvNextReferenceIdeal.nD → PrngReg), Pre_InQkvNextReferenceIdeal m →
    θ_run (Cert.InQkvNextReferenceIdeal.defs (F := Ideal)) (onTc (τ := Cert.InQkvNextReferenceIdeal.τ) (Cert.InQkvNextReferenceIdeal.main (F := Ideal))) ⟨m, fun _ => 0, g⟩ (fun r => (∀ c : Dev Cert.InQkvNextReferenceIdeal.nD,
      r.2.mem ((c.tc : Thread Cert.InQkvNextReferenceIdeal.nD Cert.InQkvNextReferenceIdeal.τ).loc Cert.InQkvNextReferenceIdeal.main_arg0) = m ((c.tc : Thread Cert.InQkvNextReferenceIdeal.nD Cert.InQkvNextReferenceIdeal.τ).loc Cert.InQkvNextReferenceIdeal.main_arg0)
      ∧ r.2.mem ((c.tc : Thread Cert.InQkvNextReferenceIdeal.nD Cert.InQkvNextReferenceIdeal.τ).loc Cert.InQkvNextReferenceIdeal.main_arg1) = m ((c.tc : Thread Cert.InQkvNextReferenceIdeal.nD Cert.InQkvNextReferenceIdeal.τ).loc Cert.InQkvNextReferenceIdeal.main_arg1))
      ∧ r.2.sem = fun _ => 0)

def quiescent_InQkvThird [hInQkvThird : Cert.InQkvThird.Facts] : Prop :=
  ∀ (m : (ℓ : Loc Cert.InQkvThird.nD Cert.InQkvThird.τ Cert.InQkvThird.sig) → Buf (Elt Bits) ℓ) (g : Dev Cert.InQkvThird.nD → PrngReg), Pre_InQkvThird m →
    θ_run (Cert.InQkvThird.defs (F := Bits)) (onTc (τ := Cert.InQkvThird.τ) (Cert.InQkvThird.main (F := Bits))) ⟨m, fun _ => 0, g⟩ (fun r => (∀ c : Dev Cert.InQkvThird.nD,
      r.2.mem ((c.tc : Thread Cert.InQkvThird.nD Cert.InQkvThird.τ).loc Cert.InQkvThird.main_arg0) = m ((c.tc : Thread Cert.InQkvThird.nD Cert.InQkvThird.τ).loc Cert.InQkvThird.main_arg0)
      ∧ r.2.mem ((c.tc : Thread Cert.InQkvThird.nD Cert.InQkvThird.τ).loc Cert.InQkvThird.main_arg1) = m ((c.tc : Thread Cert.InQkvThird.nD Cert.InQkvThird.τ).loc Cert.InQkvThird.main_arg1))
      ∧ r.2.sem = fun _ => 0)

def quiescent_InQkvThirdIdeal [hInQkvThirdIdeal : Cert.InQkvThirdIdeal.Facts] : Prop :=
  ∀ (m : (ℓ : Loc Cert.InQkvThirdIdeal.nD Cert.InQkvThirdIdeal.τ Cert.InQkvThirdIdeal.sig) → Buf (Elt Ideal) ℓ) (g : Dev Cert.InQkvThirdIdeal.nD → PrngReg), Pre_InQkvThirdIdeal m →
    θ_run (Cert.InQkvThirdIdeal.defs (F := Ideal)) (onTc (τ := Cert.InQkvThirdIdeal.τ) (Cert.InQkvThirdIdeal.main (F := Ideal))) ⟨m, fun _ => 0, g⟩ (fun r => (∀ c : Dev Cert.InQkvThirdIdeal.nD,
      r.2.mem ((c.tc : Thread Cert.InQkvThirdIdeal.nD Cert.InQkvThirdIdeal.τ).loc Cert.InQkvThirdIdeal.main_arg0) = m ((c.tc : Thread Cert.InQkvThirdIdeal.nD Cert.InQkvThirdIdeal.τ).loc Cert.InQkvThirdIdeal.main_arg0)
      ∧ r.2.mem ((c.tc : Thread Cert.InQkvThirdIdeal.nD Cert.InQkvThirdIdeal.τ).loc Cert.InQkvThirdIdeal.main_arg1) = m ((c.tc : Thread Cert.InQkvThirdIdeal.nD Cert.InQkvThirdIdeal.τ).loc Cert.InQkvThirdIdeal.main_arg1))
      ∧ r.2.sem = fun _ => 0)

def quiescent_InQkvThirdReferenceIdeal [hInQkvThirdReferenceIdeal : Cert.InQkvThirdReferenceIdeal.Facts] : Prop :=
  ∀ (m : (ℓ : Loc Cert.InQkvThirdReferenceIdeal.nD Cert.InQkvThirdReferenceIdeal.τ Cert.InQkvThirdReferenceIdeal.sig) → Buf (Elt Ideal) ℓ) (g : Dev Cert.InQkvThirdReferenceIdeal.nD → PrngReg), Pre_InQkvThirdReferenceIdeal m →
    θ_run (Cert.InQkvThirdReferenceIdeal.defs (F := Ideal)) (onTc (τ := Cert.InQkvThirdReferenceIdeal.τ) (Cert.InQkvThirdReferenceIdeal.main (F := Ideal))) ⟨m, fun _ => 0, g⟩ (fun r => (∀ c : Dev Cert.InQkvThirdReferenceIdeal.nD,
      r.2.mem ((c.tc : Thread Cert.InQkvThirdReferenceIdeal.nD Cert.InQkvThirdReferenceIdeal.τ).loc Cert.InQkvThirdReferenceIdeal.main_arg0) = m ((c.tc : Thread Cert.InQkvThirdReferenceIdeal.nD Cert.InQkvThirdReferenceIdeal.τ).loc Cert.InQkvThirdReferenceIdeal.main_arg0)
      ∧ r.2.mem ((c.tc : Thread Cert.InQkvThirdReferenceIdeal.nD Cert.InQkvThirdReferenceIdeal.τ).loc Cert.InQkvThirdReferenceIdeal.main_arg1) = m ((c.tc : Thread Cert.InQkvThirdReferenceIdeal.nD Cert.InQkvThirdReferenceIdeal.τ).loc Cert.InQkvThirdReferenceIdeal.main_arg1))
      ∧ r.2.sem = fun _ => 0)

def quiescent_InQkvLast [hInQkvLast : Cert.InQkvLast.Facts] : Prop :=
  ∀ (m : (ℓ : Loc Cert.InQkvLast.nD Cert.InQkvLast.τ Cert.InQkvLast.sig) → Buf (Elt Bits) ℓ) (g : Dev Cert.InQkvLast.nD → PrngReg), Pre_InQkvLast m →
    θ_run (Cert.InQkvLast.defs (F := Bits)) (onTc (τ := Cert.InQkvLast.τ) (Cert.InQkvLast.main (F := Bits))) ⟨m, fun _ => 0, g⟩ (fun r => (∀ c : Dev Cert.InQkvLast.nD,
      r.2.mem ((c.tc : Thread Cert.InQkvLast.nD Cert.InQkvLast.τ).loc Cert.InQkvLast.main_arg0) = m ((c.tc : Thread Cert.InQkvLast.nD Cert.InQkvLast.τ).loc Cert.InQkvLast.main_arg0)
      ∧ r.2.mem ((c.tc : Thread Cert.InQkvLast.nD Cert.InQkvLast.τ).loc Cert.InQkvLast.main_arg1) = m ((c.tc : Thread Cert.InQkvLast.nD Cert.InQkvLast.τ).loc Cert.InQkvLast.main_arg1))
      ∧ r.2.sem = fun _ => 0)

def quiescent_InQkvLastIdeal [hInQkvLastIdeal : Cert.InQkvLastIdeal.Facts] : Prop :=
  ∀ (m : (ℓ : Loc Cert.InQkvLastIdeal.nD Cert.InQkvLastIdeal.τ Cert.InQkvLastIdeal.sig) → Buf (Elt Ideal) ℓ) (g : Dev Cert.InQkvLastIdeal.nD → PrngReg), Pre_InQkvLastIdeal m →
    θ_run (Cert.InQkvLastIdeal.defs (F := Ideal)) (onTc (τ := Cert.InQkvLastIdeal.τ) (Cert.InQkvLastIdeal.main (F := Ideal))) ⟨m, fun _ => 0, g⟩ (fun r => (∀ c : Dev Cert.InQkvLastIdeal.nD,
      r.2.mem ((c.tc : Thread Cert.InQkvLastIdeal.nD Cert.InQkvLastIdeal.τ).loc Cert.InQkvLastIdeal.main_arg0) = m ((c.tc : Thread Cert.InQkvLastIdeal.nD Cert.InQkvLastIdeal.τ).loc Cert.InQkvLastIdeal.main_arg0)
      ∧ r.2.mem ((c.tc : Thread Cert.InQkvLastIdeal.nD Cert.InQkvLastIdeal.τ).loc Cert.InQkvLastIdeal.main_arg1) = m ((c.tc : Thread Cert.InQkvLastIdeal.nD Cert.InQkvLastIdeal.τ).loc Cert.InQkvLastIdeal.main_arg1))
      ∧ r.2.sem = fun _ => 0)

def quiescent_InQkvLastReferenceIdeal [hInQkvLastReferenceIdeal : Cert.InQkvLastReferenceIdeal.Facts] : Prop :=
  ∀ (m : (ℓ : Loc Cert.InQkvLastReferenceIdeal.nD Cert.InQkvLastReferenceIdeal.τ Cert.InQkvLastReferenceIdeal.sig) → Buf (Elt Ideal) ℓ) (g : Dev Cert.InQkvLastReferenceIdeal.nD → PrngReg), Pre_InQkvLastReferenceIdeal m →
    θ_run (Cert.InQkvLastReferenceIdeal.defs (F := Ideal)) (onTc (τ := Cert.InQkvLastReferenceIdeal.τ) (Cert.InQkvLastReferenceIdeal.main (F := Ideal))) ⟨m, fun _ => 0, g⟩ (fun r => (∀ c : Dev Cert.InQkvLastReferenceIdeal.nD,
      r.2.mem ((c.tc : Thread Cert.InQkvLastReferenceIdeal.nD Cert.InQkvLastReferenceIdeal.τ).loc Cert.InQkvLastReferenceIdeal.main_arg0) = m ((c.tc : Thread Cert.InQkvLastReferenceIdeal.nD Cert.InQkvLastReferenceIdeal.τ).loc Cert.InQkvLastReferenceIdeal.main_arg0)
      ∧ r.2.mem ((c.tc : Thread Cert.InQkvLastReferenceIdeal.nD Cert.InQkvLastReferenceIdeal.τ).loc Cert.InQkvLastReferenceIdeal.main_arg1) = m ((c.tc : Thread Cert.InQkvLastReferenceIdeal.nD Cert.InQkvLastReferenceIdeal.τ).loc Cert.InQkvLastReferenceIdeal.main_arg1))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Expert_ExpertIdeal : Prop :=
  True

def algebraic_ExpertIdeal_ExpertReferenceIdeal [hExpertIdeal : Cert.ExpertIdeal.Facts] [hExpertReferenceIdeal : Cert.ExpertReferenceIdeal.Facts] [hPre_tiles_planned : Cert.Pre_tiles_planned.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertReferenceIdeal.nD Cert.ExpertReferenceIdeal.τ Cert.ExpertReferenceIdeal.sig) → Buf (Elt Ideal) ℓ) (g' : Dev Cert.ExpertReferenceIdeal.nD → PrngReg), Pre_ExpertIdeal m →
    (∀ c : Dev Cert.ExpertIdeal.nD,
      m' ((c.tc : Thread Cert.ExpertReferenceIdeal.nD Cert.ExpertReferenceIdeal.τ).loc Cert.ExpertReferenceIdeal.main_arg0) = m ((c.tc : Thread Cert.ExpertIdeal.nD Cert.ExpertIdeal.τ).loc Cert.ExpertIdeal.main_arg0)
      ∧ m' ((c.tc : Thread Cert.ExpertReferenceIdeal.nD Cert.ExpertReferenceIdeal.τ).loc Cert.ExpertReferenceIdeal.main_arg1) = m ((c.tc : Thread Cert.ExpertIdeal.nD Cert.ExpertIdeal.τ).loc Cert.ExpertIdeal.main_arg1)
      ∧ m' ((c.tc : Thread Cert.ExpertReferenceIdeal.nD Cert.ExpertReferenceIdeal.τ).loc Cert.ExpertReferenceIdeal.main_arg2) = m ((c.tc : Thread Cert.ExpertIdeal.nD Cert.ExpertIdeal.τ).loc Cert.ExpertIdeal.main_arg2)
      ∧ m' ((c.tc : Thread Cert.ExpertReferenceIdeal.nD Cert.ExpertReferenceIdeal.τ).loc Cert.ExpertReferenceIdeal.main_arg3) = m ((c.tc : Thread Cert.ExpertIdeal.nD Cert.ExpertIdeal.τ).loc Cert.ExpertIdeal.main_arg3)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v0) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3))
      ∧ θ_run (Cert.ExpertReferenceIdeal.defs (F := Ideal)) (onTc (τ := Cert.ExpertReferenceIdeal.τ) (Cert.ExpertReferenceIdeal.main (F := Ideal))) ⟨m', fun _ => 0, g'⟩ (fun r => ∀ c : Dev Cert.ExpertReferenceIdeal.nD,
          r.2.mem ((c.tc : Thread Cert.ExpertReferenceIdeal.nD Cert.ExpertReferenceIdeal.τ).loc Cert.ExpertReferenceIdeal.main_v36) = v0 c
          ∧ r.2.mem ((c.tc : Thread Cert.ExpertReferenceIdeal.nD Cert.ExpertReferenceIdeal.τ).loc Cert.ExpertReferenceIdeal.main_arg0) = m' ((c.tc : Thread Cert.ExpertReferenceIdeal.nD Cert.ExpertReferenceIdeal.τ).loc Cert.ExpertReferenceIdeal.main_arg0)
          ∧ r.2.mem ((c.tc : Thread Cert.ExpertReferenceIdeal.nD Cert.ExpertReferenceIdeal.τ).loc Cert.ExpertReferenceIdeal.main_arg1) = m' ((c.tc : Thread Cert.ExpertReferenceIdeal.nD Cert.ExpertReferenceIdeal.τ).loc Cert.ExpertReferenceIdeal.main_arg1)
          ∧ r.2.mem ((c.tc : Thread Cert.ExpertReferenceIdeal.nD Cert.ExpertReferenceIdeal.τ).loc Cert.ExpertReferenceIdeal.main_arg2) = m' ((c.tc : Thread Cert.ExpertReferenceIdeal.nD Cert.ExpertReferenceIdeal.τ).loc Cert.ExpertReferenceIdeal.main_arg2)
          ∧ r.2.mem ((c.tc : Thread Cert.ExpertReferenceIdeal.nD Cert.ExpertReferenceIdeal.τ).loc Cert.ExpertReferenceIdeal.main_arg3) = m' ((c.tc : Thread Cert.ExpertReferenceIdeal.nD Cert.ExpertReferenceIdeal.τ).loc Cert.ExpertReferenceIdeal.main_arg3))

def preserves_ExpertNext_ExpertNextIdeal : Prop :=
  True

def algebraic_ExpertNextIdeal_ExpertNextReferenceIdeal [hExpertNextIdeal : Cert.ExpertNextIdeal.Facts] [hExpertNextReferenceIdeal : Cert.ExpertNextReferenceIdeal.Facts] [hPre_tiles_planned : Cert.Pre_tiles_planned.Facts] : Prop :=
  ∀ (m : (ℓ : Loc Cert.ExpertNextIdeal.nD Cert.ExpertNextIdeal.τ Cert.ExpertNextIdeal.sig) → Buf (Elt Ideal) ℓ) (g : Dev Cert.ExpertNextIdeal.nD → PrngReg)
    (m' : (ℓ : Loc Cert.ExpertNextReferenceIdeal.nD Cert.ExpertNextReferenceIdeal.τ Cert.ExpertNextReferenceIdeal.sig) → Buf (Elt Ideal) ℓ) (g' : Dev Cert.ExpertNextReferenceIdeal.nD → PrngReg), Pre_ExpertNextIdeal m →
    (∀ c : Dev Cert.ExpertNextIdeal.nD,
      m' ((c.tc : Thread Cert.ExpertNextReferenceIdeal.nD Cert.ExpertNextReferenceIdeal.τ).loc Cert.ExpertNextReferenceIdeal.main_arg0) = m ((c.tc : Thread Cert.ExpertNextIdeal.nD Cert.ExpertNextIdeal.τ).loc Cert.ExpertNextIdeal.main_arg0)
      ∧ m' ((c.tc : Thread Cert.ExpertNextReferenceIdeal.nD Cert.ExpertNextReferenceIdeal.τ).loc Cert.ExpertNextReferenceIdeal.main_arg1) = m ((c.tc : Thread Cert.ExpertNextIdeal.nD Cert.ExpertNextIdeal.τ).loc Cert.ExpertNextIdeal.main_arg1)
      ∧ m' ((c.tc : Thread Cert.ExpertNextReferenceIdeal.nD Cert.ExpertNextReferenceIdeal.τ).loc Cert.ExpertNextReferenceIdeal.main_arg2) = m ((c.tc : Thread Cert.ExpertNextIdeal.nD Cert.ExpertNextIdeal.τ).loc Cert.ExpertNextIdeal.main_arg2)
      ∧ m' ((c.tc : Thread Cert.ExpertNextReferenceIdeal.nD Cert.ExpertNextReferenceIdeal.τ).loc Cert.ExpertNextReferenceIdeal.main_arg3) = m ((c.tc : Thread Cert.ExpertNextIdeal.nD Cert.ExpertNextIdeal.τ).loc Cert.ExpertNextIdeal.main_arg3)) →
    ∃ (v0 : (c : Dev Cert.ExpertNextIdeal.nD) → Buf (Elt Ideal) ((c.tc : Thread Cert.ExpertNextIdeal.nD Cert.ExpertNextIdeal.τ).loc Cert.ExpertNextIdeal.main_v0)),
      θ_run (Cert.ExpertNextIdeal.defs (F := Ideal)) (onTc (τ := Cert.ExpertNextIdeal.τ) (Cert.ExpertNextIdeal.main (F := Ideal))) ⟨m, fun _ => 0, g⟩ (fun r => ∀ c : Dev Cert.ExpertNextIdeal.nD,
          r.2.mem ((c.tc : Thread Cert.ExpertNextIdeal.nD Cert.ExpertNextIdeal.τ).loc Cert.ExpertNextIdeal.main_v0) = v0 c
          ∧ r.2.mem ((c.tc : Thread Cert.ExpertNextIdeal.nD Cert.ExpertNextIdeal.τ).loc Cert.ExpertNextIdeal.main_arg0) = m ((c.tc : Thread Cert.ExpertNextIdeal.nD Cert.ExpertNextIdeal.τ).loc Cert.ExpertNextIdeal.main_arg0)
          ∧ r.2.mem ((c.tc : Thread Cert.ExpertNextIdeal.nD Cert.ExpertNextIdeal.τ).loc Cert.ExpertNextIdeal.main_arg1) = m ((c.tc : Thread Cert.ExpertNextIdeal.nD Cert.ExpertNextIdeal.τ).loc Cert.ExpertNextIdeal.main_arg1)
          ∧ r.2.mem ((c.tc : Thread Cert.ExpertNextIdeal.nD Cert.ExpertNextIdeal.τ).loc Cert.ExpertNextIdeal.main_arg2) = m ((c.tc : Thread Cert.ExpertNextIdeal.nD Cert.ExpertNextIdeal.τ).loc Cert.ExpertNextIdeal.main_arg2)
          ∧ r.2.mem ((c.tc : Thread Cert.ExpertNextIdeal.nD Cert.ExpertNextIdeal.τ).loc Cert.ExpertNextIdeal.main_arg3) = m ((c.tc : Thread Cert.ExpertNextIdeal.nD Cert.ExpertNextIdeal.τ).loc Cert.ExpertNextIdeal.main_arg3))
      ∧ θ_run (Cert.ExpertNextReferenceIdeal.defs (F := Ideal)) (onTc (τ := Cert.ExpertNextReferenceIdeal.τ) (Cert.ExpertNextReferenceIdeal.main (F := Ideal))) ⟨m', fun _ => 0, g'⟩ (fun r => ∀ c : Dev Cert.ExpertNextReferenceIdeal.nD,
          r.2.mem ((c.tc : Thread Cert.ExpertNextReferenceIdeal.nD Cert.ExpertNextReferenceIdeal.τ).loc Cert.ExpertNextReferenceIdeal.main_v36) = v0 c
          ∧ r.2.mem ((c.tc : Thread Cert.ExpertNextReferenceIdeal.nD Cert.ExpertNextReferenceIdeal.τ).loc Cert.ExpertNextReferenceIdeal.main_arg0) = m' ((c.tc : Thread Cert.ExpertNextReferenceIdeal.nD Cert.ExpertNextReferenceIdeal.τ).loc Cert.ExpertNextReferenceIdeal.main_arg0)
          ∧ r.2.mem ((c.tc : Thread Cert.ExpertNextReferenceIdeal.nD Cert.ExpertNextReferenceIdeal.τ).loc Cert.ExpertNextReferenceIdeal.main_arg1) = m' ((c.tc : Thread Cert.ExpertNextReferenceIdeal.nD Cert.ExpertNextReferenceIdeal.τ).loc Cert.ExpertNextReferenceIdeal.main_arg1)
          ∧ r.2.mem ((c.tc : Thread Cert.ExpertNextReferenceIdeal.nD Cert.ExpertNextReferenceIdeal.τ).loc Cert.ExpertNextReferenceIdeal.main_arg2) = m' ((c.tc : Thread Cert.ExpertNextReferenceIdeal.nD Cert.ExpertNextReferenceIdeal.τ).loc Cert.ExpertNextReferenceIdeal.main_arg2)
          ∧ r.2.mem ((c.tc : Thread Cert.ExpertNextReferenceIdeal.nD Cert.ExpertNextReferenceIdeal.τ).loc Cert.ExpertNextReferenceIdeal.main_arg3) = m' ((c.tc : Thread Cert.ExpertNextReferenceIdeal.nD Cert.ExpertNextReferenceIdeal.τ).loc Cert.ExpertNextReferenceIdeal.main_arg3))

def preserves_Down_DownIdeal : Prop :=
  True

def algebraic_DownIdeal_DownReferenceIdeal [hDownIdeal : Cert.DownIdeal.Facts] [hDownReferenceIdeal : Cert.DownReferenceIdeal.Facts] [hPre_tiles_planned_down : Cert.Pre_tiles_planned_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v30) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_DownNext_DownNextIdeal : Prop :=
  True

def algebraic_DownNextIdeal_DownNextReferenceIdeal [hDownNextIdeal : Cert.DownNextIdeal.Facts] [hDownNextReferenceIdeal : Cert.DownNextReferenceIdeal.Facts] [hPre_tiles_planned_down : Cert.Pre_tiles_planned_down.Facts] : Prop :=
  ∀ (m : (ℓ : Loc Cert.DownNextIdeal.nD Cert.DownNextIdeal.τ Cert.DownNextIdeal.sig) → Buf (Elt Ideal) ℓ) (g : Dev Cert.DownNextIdeal.nD → PrngReg)
    (m' : (ℓ : Loc Cert.DownNextReferenceIdeal.nD Cert.DownNextReferenceIdeal.τ Cert.DownNextReferenceIdeal.sig) → Buf (Elt Ideal) ℓ) (g' : Dev Cert.DownNextReferenceIdeal.nD → PrngReg), Pre_DownNextIdeal m →
    (∀ c : Dev Cert.DownNextIdeal.nD,
      m' ((c.tc : Thread Cert.DownNextReferenceIdeal.nD Cert.DownNextReferenceIdeal.τ).loc Cert.DownNextReferenceIdeal.main_arg0) = m ((c.tc : Thread Cert.DownNextIdeal.nD Cert.DownNextIdeal.τ).loc Cert.DownNextIdeal.main_arg0)
      ∧ m' ((c.tc : Thread Cert.DownNextReferenceIdeal.nD Cert.DownNextReferenceIdeal.τ).loc Cert.DownNextReferenceIdeal.main_arg1) = m ((c.tc : Thread Cert.DownNextIdeal.nD Cert.DownNextIdeal.τ).loc Cert.DownNextIdeal.main_arg1)
      ∧ m' ((c.tc : Thread Cert.DownNextReferenceIdeal.nD Cert.DownNextReferenceIdeal.τ).loc Cert.DownNextReferenceIdeal.main_arg2) = m ((c.tc : Thread Cert.DownNextIdeal.nD Cert.DownNextIdeal.τ).loc Cert.DownNextIdeal.main_arg2)) →
    ∃ (v0 : (c : Dev Cert.DownNextIdeal.nD) → Buf (Elt Ideal) ((c.tc : Thread Cert.DownNextIdeal.nD Cert.DownNextIdeal.τ).loc Cert.DownNextIdeal.main_v0)),
      θ_run (Cert.DownNextIdeal.defs (F := Ideal)) (onTc (τ := Cert.DownNextIdeal.τ) (Cert.DownNextIdeal.main (F := Ideal))) ⟨m, fun _ => 0, g⟩ (fun r => ∀ c : Dev Cert.DownNextIdeal.nD,
          r.2.mem ((c.tc : Thread Cert.DownNextIdeal.nD Cert.DownNextIdeal.τ).loc Cert.DownNextIdeal.main_v0) = v0 c
          ∧ r.2.mem ((c.tc : Thread Cert.DownNextIdeal.nD Cert.DownNextIdeal.τ).loc Cert.DownNextIdeal.main_arg0) = m ((c.tc : Thread Cert.DownNextIdeal.nD Cert.DownNextIdeal.τ).loc Cert.DownNextIdeal.main_arg0)
          ∧ r.2.mem ((c.tc : Thread Cert.DownNextIdeal.nD Cert.DownNextIdeal.τ).loc Cert.DownNextIdeal.main_arg1) = m ((c.tc : Thread Cert.DownNextIdeal.nD Cert.DownNextIdeal.τ).loc Cert.DownNextIdeal.main_arg1)
          ∧ r.2.mem ((c.tc : Thread Cert.DownNextIdeal.nD Cert.DownNextIdeal.τ).loc Cert.DownNextIdeal.main_arg2) = m ((c.tc : Thread Cert.DownNextIdeal.nD Cert.DownNextIdeal.τ).loc Cert.DownNextIdeal.main_arg2))
      ∧ θ_run (Cert.DownNextReferenceIdeal.defs (F := Ideal)) (onTc (τ := Cert.DownNextReferenceIdeal.τ) (Cert.DownNextReferenceIdeal.main (F := Ideal))) ⟨m', fun _ => 0, g'⟩ (fun r => ∀ c : Dev Cert.DownNextReferenceIdeal.nD,
          r.2.mem ((c.tc : Thread Cert.DownNextReferenceIdeal.nD Cert.DownNextReferenceIdeal.τ).loc Cert.DownNextReferenceIdeal.main_v30) = v0 c
          ∧ r.2.mem ((c.tc : Thread Cert.DownNextReferenceIdeal.nD Cert.DownNextReferenceIdeal.τ).loc Cert.DownNextReferenceIdeal.main_arg0) = m' ((c.tc : Thread Cert.DownNextReferenceIdeal.nD Cert.DownNextReferenceIdeal.τ).loc Cert.DownNextReferenceIdeal.main_arg0)
          ∧ r.2.mem ((c.tc : Thread Cert.DownNextReferenceIdeal.nD Cert.DownNextReferenceIdeal.τ).loc Cert.DownNextReferenceIdeal.main_arg1) = m' ((c.tc : Thread Cert.DownNextReferenceIdeal.nD Cert.DownNextReferenceIdeal.τ).loc Cert.DownNextReferenceIdeal.main_arg1)
          ∧ r.2.mem ((c.tc : Thread Cert.DownNextReferenceIdeal.nD Cert.DownNextReferenceIdeal.τ).loc Cert.DownNextReferenceIdeal.main_arg2) = m' ((c.tc : Thread Cert.DownNextReferenceIdeal.nD Cert.DownNextReferenceIdeal.τ).loc Cert.DownNextReferenceIdeal.main_arg2))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v9) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2))

def preserves_DenseNext_DenseNextIdeal : Prop :=
  True

def algebraic_DenseNextIdeal_DenseNextReferenceIdeal [hDenseNextIdeal : Cert.DenseNextIdeal.Facts] [hDenseNextReferenceIdeal : Cert.DenseNextReferenceIdeal.Facts] : Prop :=
  ∀ (m : (ℓ : Loc Cert.DenseNextIdeal.nD Cert.DenseNextIdeal.τ Cert.DenseNextIdeal.sig) → Buf (Elt Ideal) ℓ) (g : Dev Cert.DenseNextIdeal.nD → PrngReg)
    (m' : (ℓ : Loc Cert.DenseNextReferenceIdeal.nD Cert.DenseNextReferenceIdeal.τ Cert.DenseNextReferenceIdeal.sig) → Buf (Elt Ideal) ℓ) (g' : Dev Cert.DenseNextReferenceIdeal.nD → PrngReg), Pre_DenseNextIdeal m →
    (∀ c : Dev Cert.DenseNextIdeal.nD,
      m' ((c.tc : Thread Cert.DenseNextReferenceIdeal.nD Cert.DenseNextReferenceIdeal.τ).loc Cert.DenseNextReferenceIdeal.main_arg0) = m ((c.tc : Thread Cert.DenseNextIdeal.nD Cert.DenseNextIdeal.τ).loc Cert.DenseNextIdeal.main_arg0)
      ∧ m' ((c.tc : Thread Cert.DenseNextReferenceIdeal.nD Cert.DenseNextReferenceIdeal.τ).loc Cert.DenseNextReferenceIdeal.main_arg1) = m ((c.tc : Thread Cert.DenseNextIdeal.nD Cert.DenseNextIdeal.τ).loc Cert.DenseNextIdeal.main_arg1)
      ∧ m' ((c.tc : Thread Cert.DenseNextReferenceIdeal.nD Cert.DenseNextReferenceIdeal.τ).loc Cert.DenseNextReferenceIdeal.main_arg2) = m ((c.tc : Thread Cert.DenseNextIdeal.nD Cert.DenseNextIdeal.τ).loc Cert.DenseNextIdeal.main_arg2)) →
    ∃ (v0 : (c : Dev Cert.DenseNextIdeal.nD) → Buf (Elt Ideal) ((c.tc : Thread Cert.DenseNextIdeal.nD Cert.DenseNextIdeal.τ).loc Cert.DenseNextIdeal.main_v0)),
      θ_run (Cert.DenseNextIdeal.defs (F := Ideal)) (onTc (τ := Cert.DenseNextIdeal.τ) (Cert.DenseNextIdeal.main (F := Ideal))) ⟨m, fun _ => 0, g⟩ (fun r => ∀ c : Dev Cert.DenseNextIdeal.nD,
          r.2.mem ((c.tc : Thread Cert.DenseNextIdeal.nD Cert.DenseNextIdeal.τ).loc Cert.DenseNextIdeal.main_v0) = v0 c
          ∧ r.2.mem ((c.tc : Thread Cert.DenseNextIdeal.nD Cert.DenseNextIdeal.τ).loc Cert.DenseNextIdeal.main_arg0) = m ((c.tc : Thread Cert.DenseNextIdeal.nD Cert.DenseNextIdeal.τ).loc Cert.DenseNextIdeal.main_arg0)
          ∧ r.2.mem ((c.tc : Thread Cert.DenseNextIdeal.nD Cert.DenseNextIdeal.τ).loc Cert.DenseNextIdeal.main_arg1) = m ((c.tc : Thread Cert.DenseNextIdeal.nD Cert.DenseNextIdeal.τ).loc Cert.DenseNextIdeal.main_arg1)
          ∧ r.2.mem ((c.tc : Thread Cert.DenseNextIdeal.nD Cert.DenseNextIdeal.τ).loc Cert.DenseNextIdeal.main_arg2) = m ((c.tc : Thread Cert.DenseNextIdeal.nD Cert.DenseNextIdeal.τ).loc Cert.DenseNextIdeal.main_arg2))
      ∧ θ_run (Cert.DenseNextReferenceIdeal.defs (F := Ideal)) (onTc (τ := Cert.DenseNextReferenceIdeal.τ) (Cert.DenseNextReferenceIdeal.main (F := Ideal))) ⟨m', fun _ => 0, g'⟩ (fun r => ∀ c : Dev Cert.DenseNextReferenceIdeal.nD,
          r.2.mem ((c.tc : Thread Cert.DenseNextReferenceIdeal.nD Cert.DenseNextReferenceIdeal.τ).loc Cert.DenseNextReferenceIdeal.main_v9) = v0 c
          ∧ r.2.mem ((c.tc : Thread Cert.DenseNextReferenceIdeal.nD Cert.DenseNextReferenceIdeal.τ).loc Cert.DenseNextReferenceIdeal.main_arg0) = m' ((c.tc : Thread Cert.DenseNextReferenceIdeal.nD Cert.DenseNextReferenceIdeal.τ).loc Cert.DenseNextReferenceIdeal.main_arg0)
          ∧ r.2.mem ((c.tc : Thread Cert.DenseNextReferenceIdeal.nD Cert.DenseNextReferenceIdeal.τ).loc Cert.DenseNextReferenceIdeal.main_arg1) = m' ((c.tc : Thread Cert.DenseNextReferenceIdeal.nD Cert.DenseNextReferenceIdeal.τ).loc Cert.DenseNextReferenceIdeal.main_arg1)
          ∧ r.2.mem ((c.tc : Thread Cert.DenseNextReferenceIdeal.nD Cert.DenseNextReferenceIdeal.τ).loc Cert.DenseNextReferenceIdeal.main_arg2) = m' ((c.tc : Thread Cert.DenseNextReferenceIdeal.nD Cert.DenseNextReferenceIdeal.τ).loc Cert.DenseNextReferenceIdeal.main_arg2))

def preserves_DenseOut_DenseOutIdeal : Prop :=
  True

def algebraic_DenseOutIdeal_DenseOutReferenceIdeal [hDenseOutIdeal : Cert.DenseOutIdeal.Facts] [hDenseOutReferenceIdeal : Cert.DenseOutReferenceIdeal.Facts] : Prop :=
  ∀ (m : (ℓ : Loc Cert.DenseOutIdeal.nD Cert.DenseOutIdeal.τ Cert.DenseOutIdeal.sig) → Buf (Elt Ideal) ℓ) (g : Dev Cert.DenseOutIdeal.nD → PrngReg)
    (m' : (ℓ : Loc Cert.DenseOutReferenceIdeal.nD Cert.DenseOutReferenceIdeal.τ Cert.DenseOutReferenceIdeal.sig) → Buf (Elt Ideal) ℓ) (g' : Dev Cert.DenseOutReferenceIdeal.nD → PrngReg), Pre_DenseOutIdeal m →
    (∀ c : Dev Cert.DenseOutIdeal.nD,
      m' ((c.tc : Thread Cert.DenseOutReferenceIdeal.nD Cert.DenseOutReferenceIdeal.τ).loc Cert.DenseOutReferenceIdeal.main_arg0) = m ((c.tc : Thread Cert.DenseOutIdeal.nD Cert.DenseOutIdeal.τ).loc Cert.DenseOutIdeal.main_arg0)
      ∧ m' ((c.tc : Thread Cert.DenseOutReferenceIdeal.nD Cert.DenseOutReferenceIdeal.τ).loc Cert.DenseOutReferenceIdeal.main_arg1) = m ((c.tc : Thread Cert.DenseOutIdeal.nD Cert.DenseOutIdeal.τ).loc Cert.DenseOutIdeal.main_arg1)) →
    ∃ (v0 : (c : Dev Cert.DenseOutIdeal.nD) → Buf (Elt Ideal) ((c.tc : Thread Cert.DenseOutIdeal.nD Cert.DenseOutIdeal.τ).loc Cert.DenseOutIdeal.main_v0)),
      θ_run (Cert.DenseOutIdeal.defs (F := Ideal)) (onTc (τ := Cert.DenseOutIdeal.τ) (Cert.DenseOutIdeal.main (F := Ideal))) ⟨m, fun _ => 0, g⟩ (fun r => ∀ c : Dev Cert.DenseOutIdeal.nD,
          r.2.mem ((c.tc : Thread Cert.DenseOutIdeal.nD Cert.DenseOutIdeal.τ).loc Cert.DenseOutIdeal.main_v0) = v0 c
          ∧ r.2.mem ((c.tc : Thread Cert.DenseOutIdeal.nD Cert.DenseOutIdeal.τ).loc Cert.DenseOutIdeal.main_arg0) = m ((c.tc : Thread Cert.DenseOutIdeal.nD Cert.DenseOutIdeal.τ).loc Cert.DenseOutIdeal.main_arg0)
          ∧ r.2.mem ((c.tc : Thread Cert.DenseOutIdeal.nD Cert.DenseOutIdeal.τ).loc Cert.DenseOutIdeal.main_arg1) = m ((c.tc : Thread Cert.DenseOutIdeal.nD Cert.DenseOutIdeal.τ).loc Cert.DenseOutIdeal.main_arg1))
      ∧ θ_run (Cert.DenseOutReferenceIdeal.defs (F := Ideal)) (onTc (τ := Cert.DenseOutReferenceIdeal.τ) (Cert.DenseOutReferenceIdeal.main (F := Ideal))) ⟨m', fun _ => 0, g'⟩ (fun r => ∀ c : Dev Cert.DenseOutReferenceIdeal.nD,
          r.2.mem ((c.tc : Thread Cert.DenseOutReferenceIdeal.nD Cert.DenseOutReferenceIdeal.τ).loc Cert.DenseOutReferenceIdeal.main_v3) = v0 c
          ∧ r.2.mem ((c.tc : Thread Cert.DenseOutReferenceIdeal.nD Cert.DenseOutReferenceIdeal.τ).loc Cert.DenseOutReferenceIdeal.main_arg0) = m' ((c.tc : Thread Cert.DenseOutReferenceIdeal.nD Cert.DenseOutReferenceIdeal.τ).loc Cert.DenseOutReferenceIdeal.main_arg0)
          ∧ r.2.mem ((c.tc : Thread Cert.DenseOutReferenceIdeal.nD Cert.DenseOutReferenceIdeal.τ).loc Cert.DenseOutReferenceIdeal.main_arg1) = m' ((c.tc : Thread Cert.DenseOutReferenceIdeal.nD Cert.DenseOutReferenceIdeal.τ).loc Cert.DenseOutReferenceIdeal.main_arg1))

def preserves_DenseOutNext_DenseOutNextIdeal : Prop :=
  True

def algebraic_DenseOutNextIdeal_DenseOutNextReferenceIdeal [hDenseOutNextIdeal : Cert.DenseOutNextIdeal.Facts] [hDenseOutNextReferenceIdeal : Cert.DenseOutNextReferenceIdeal.Facts] : Prop :=
  ∀ (m : (ℓ : Loc Cert.DenseOutNextIdeal.nD Cert.DenseOutNextIdeal.τ Cert.DenseOutNextIdeal.sig) → Buf (Elt Ideal) ℓ) (g : Dev Cert.DenseOutNextIdeal.nD → PrngReg)
    (m' : (ℓ : Loc Cert.DenseOutNextReferenceIdeal.nD Cert.DenseOutNextReferenceIdeal.τ Cert.DenseOutNextReferenceIdeal.sig) → Buf (Elt Ideal) ℓ) (g' : Dev Cert.DenseOutNextReferenceIdeal.nD → PrngReg), Pre_DenseOutNextIdeal m →
    (∀ c : Dev Cert.DenseOutNextIdeal.nD,
      m' ((c.tc : Thread Cert.DenseOutNextReferenceIdeal.nD Cert.DenseOutNextReferenceIdeal.τ).loc Cert.DenseOutNextReferenceIdeal.main_arg0) = m ((c.tc : Thread Cert.DenseOutNextIdeal.nD Cert.DenseOutNextIdeal.τ).loc Cert.DenseOutNextIdeal.main_arg0)
      ∧ m' ((c.tc : Thread Cert.DenseOutNextReferenceIdeal.nD Cert.DenseOutNextReferenceIdeal.τ).loc Cert.DenseOutNextReferenceIdeal.main_arg1) = m ((c.tc : Thread Cert.DenseOutNextIdeal.nD Cert.DenseOutNextIdeal.τ).loc Cert.DenseOutNextIdeal.main_arg1)) →
    ∃ (v0 : (c : Dev Cert.DenseOutNextIdeal.nD) → Buf (Elt Ideal) ((c.tc : Thread Cert.DenseOutNextIdeal.nD Cert.DenseOutNextIdeal.τ).loc Cert.DenseOutNextIdeal.main_v0)),
      θ_run (Cert.DenseOutNextIdeal.defs (F := Ideal)) (onTc (τ := Cert.DenseOutNextIdeal.τ) (Cert.DenseOutNextIdeal.main (F := Ideal))) ⟨m, fun _ => 0, g⟩ (fun r => ∀ c : Dev Cert.DenseOutNextIdeal.nD,
          r.2.mem ((c.tc : Thread Cert.DenseOutNextIdeal.nD Cert.DenseOutNextIdeal.τ).loc Cert.DenseOutNextIdeal.main_v0) = v0 c
          ∧ r.2.mem ((c.tc : Thread Cert.DenseOutNextIdeal.nD Cert.DenseOutNextIdeal.τ).loc Cert.DenseOutNextIdeal.main_arg0) = m ((c.tc : Thread Cert.DenseOutNextIdeal.nD Cert.DenseOutNextIdeal.τ).loc Cert.DenseOutNextIdeal.main_arg0)
          ∧ r.2.mem ((c.tc : Thread Cert.DenseOutNextIdeal.nD Cert.DenseOutNextIdeal.τ).loc Cert.DenseOutNextIdeal.main_arg1) = m ((c.tc : Thread Cert.DenseOutNextIdeal.nD Cert.DenseOutNextIdeal.τ).loc Cert.DenseOutNextIdeal.main_arg1))
      ∧ θ_run (Cert.DenseOutNextReferenceIdeal.defs (F := Ideal)) (onTc (τ := Cert.DenseOutNextReferenceIdeal.τ) (Cert.DenseOutNextReferenceIdeal.main (F := Ideal))) ⟨m', fun _ => 0, g'⟩ (fun r => ∀ c : Dev Cert.DenseOutNextReferenceIdeal.nD,
          r.2.mem ((c.tc : Thread Cert.DenseOutNextReferenceIdeal.nD Cert.DenseOutNextReferenceIdeal.τ).loc Cert.DenseOutNextReferenceIdeal.main_v3) = v0 c
          ∧ r.2.mem ((c.tc : Thread Cert.DenseOutNextReferenceIdeal.nD Cert.DenseOutNextReferenceIdeal.τ).loc Cert.DenseOutNextReferenceIdeal.main_arg0) = m' ((c.tc : Thread Cert.DenseOutNextReferenceIdeal.nD Cert.DenseOutNextReferenceIdeal.τ).loc Cert.DenseOutNextReferenceIdeal.main_arg0)
          ∧ r.2.mem ((c.tc : Thread Cert.DenseOutNextReferenceIdeal.nD Cert.DenseOutNextReferenceIdeal.τ).loc Cert.DenseOutNextReferenceIdeal.main_arg1) = m' ((c.tc : Thread Cert.DenseOutNextReferenceIdeal.nD Cert.DenseOutNextReferenceIdeal.τ).loc Cert.DenseOutNextReferenceIdeal.main_arg1))

def preserves_InQkv_InQkvIdeal : Prop :=
  True

def algebraic_InQkvIdeal_InQkvReferenceIdeal [hInQkvIdeal : Cert.InQkvIdeal.Facts] [hInQkvReferenceIdeal : Cert.InQkvReferenceIdeal.Facts] : Prop :=
  ∀ (m : (ℓ : Loc Cert.InQkvIdeal.nD Cert.InQkvIdeal.τ Cert.InQkvIdeal.sig) → Buf (Elt Ideal) ℓ) (g : Dev Cert.InQkvIdeal.nD → PrngReg)
    (m' : (ℓ : Loc Cert.InQkvReferenceIdeal.nD Cert.InQkvReferenceIdeal.τ Cert.InQkvReferenceIdeal.sig) → Buf (Elt Ideal) ℓ) (g' : Dev Cert.InQkvReferenceIdeal.nD → PrngReg), Pre_InQkvIdeal m →
    (∀ c : Dev Cert.InQkvIdeal.nD,
      m' ((c.tc : Thread Cert.InQkvReferenceIdeal.nD Cert.InQkvReferenceIdeal.τ).loc Cert.InQkvReferenceIdeal.main_arg0) = m ((c.tc : Thread Cert.InQkvIdeal.nD Cert.InQkvIdeal.τ).loc Cert.InQkvIdeal.main_arg0)
      ∧ m' ((c.tc : Thread Cert.InQkvReferenceIdeal.nD Cert.InQkvReferenceIdeal.τ).loc Cert.InQkvReferenceIdeal.main_arg1) = m ((c.tc : Thread Cert.InQkvIdeal.nD Cert.InQkvIdeal.τ).loc Cert.InQkvIdeal.main_arg1)) →
    ∃ (v0 : (c : Dev Cert.InQkvIdeal.nD) → Buf (Elt Ideal) ((c.tc : Thread Cert.InQkvIdeal.nD Cert.InQkvIdeal.τ).loc Cert.InQkvIdeal.main_v0)),
      θ_run (Cert.InQkvIdeal.defs (F := Ideal)) (onTc (τ := Cert.InQkvIdeal.τ) (Cert.InQkvIdeal.main (F := Ideal))) ⟨m, fun _ => 0, g⟩ (fun r => ∀ c : Dev Cert.InQkvIdeal.nD,
          r.2.mem ((c.tc : Thread Cert.InQkvIdeal.nD Cert.InQkvIdeal.τ).loc Cert.InQkvIdeal.main_v0) = v0 c
          ∧ r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
          ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ θ_run (Cert.InQkvReferenceIdeal.defs (F := Ideal)) (onTc (τ := Cert.InQkvReferenceIdeal.τ) (Cert.InQkvReferenceIdeal.main (F := Ideal))) ⟨m', fun _ => 0, g'⟩ (fun r => ∀ c : Dev Cert.InQkvReferenceIdeal.nD,
          r.2.mem ((c.tc : Thread Cert.InQkvReferenceIdeal.nD Cert.InQkvReferenceIdeal.τ).loc Cert.InQkvReferenceIdeal.main_v13) = v0 c
          ∧ r.2.mem ((c.tc : Thread Cert.InQkvReferenceIdeal.nD Cert.InQkvReferenceIdeal.τ).loc Cert.InQkvReferenceIdeal.main_arg0) = m' ((c.tc : Thread Cert.InQkvReferenceIdeal.nD Cert.InQkvReferenceIdeal.τ).loc Cert.InQkvReferenceIdeal.main_arg0)
          ∧ r.2.mem ((c.tc : Thread Cert.InQkvReferenceIdeal.nD Cert.InQkvReferenceIdeal.τ).loc Cert.InQkvReferenceIdeal.main_arg1) = m' ((c.tc : Thread Cert.InQkvReferenceIdeal.nD Cert.InQkvReferenceIdeal.τ).loc Cert.InQkvReferenceIdeal.main_arg1))

def preserves_InQkvNext_InQkvNextIdeal : Prop :=
  True

def algebraic_InQkvNextIdeal_InQkvNextReferenceIdeal [hInQkvNextIdeal : Cert.InQkvNextIdeal.Facts] [hInQkvNextReferenceIdeal : Cert.InQkvNextReferenceIdeal.Facts] : Prop :=
  ∀ (m : (ℓ : Loc Cert.InQkvNextIdeal.nD Cert.InQkvNextIdeal.τ Cert.InQkvNextIdeal.sig) → Buf (Elt Ideal) ℓ) (g : Dev Cert.InQkvNextIdeal.nD → PrngReg)
    (m' : (ℓ : Loc Cert.InQkvNextReferenceIdeal.nD Cert.InQkvNextReferenceIdeal.τ Cert.InQkvNextReferenceIdeal.sig) → Buf (Elt Ideal) ℓ) (g' : Dev Cert.InQkvNextReferenceIdeal.nD → PrngReg), Pre_InQkvNextIdeal m →
    (∀ c : Dev Cert.InQkvNextIdeal.nD,
      m' ((c.tc : Thread Cert.InQkvNextReferenceIdeal.nD Cert.InQkvNextReferenceIdeal.τ).loc Cert.InQkvNextReferenceIdeal.main_arg0) = m ((c.tc : Thread Cert.InQkvNextIdeal.nD Cert.InQkvNextIdeal.τ).loc Cert.InQkvNextIdeal.main_arg0)
      ∧ m' ((c.tc : Thread Cert.InQkvNextReferenceIdeal.nD Cert.InQkvNextReferenceIdeal.τ).loc Cert.InQkvNextReferenceIdeal.main_arg1) = m ((c.tc : Thread Cert.InQkvNextIdeal.nD Cert.InQkvNextIdeal.τ).loc Cert.InQkvNextIdeal.main_arg1)) →
    ∃ (v0 : (c : Dev Cert.InQkvNextIdeal.nD) → Buf (Elt Ideal) ((c.tc : Thread Cert.InQkvNextIdeal.nD Cert.InQkvNextIdeal.τ).loc Cert.InQkvNextIdeal.main_v0)),
      θ_run (Cert.InQkvNextIdeal.defs (F := Ideal)) (onTc (τ := Cert.InQkvNextIdeal.τ) (Cert.InQkvNextIdeal.main (F := Ideal))) ⟨m, fun _ => 0, g⟩ (fun r => ∀ c : Dev Cert.InQkvNextIdeal.nD,
          r.2.mem ((c.tc : Thread Cert.InQkvNextIdeal.nD Cert.InQkvNextIdeal.τ).loc Cert.InQkvNextIdeal.main_v0) = v0 c
          ∧ r.2.mem ((c.tc : Thread Cert.InQkvNextIdeal.nD Cert.InQkvNextIdeal.τ).loc Cert.InQkvNextIdeal.main_arg0) = m ((c.tc : Thread Cert.InQkvNextIdeal.nD Cert.InQkvNextIdeal.τ).loc Cert.InQkvNextIdeal.main_arg0)
          ∧ r.2.mem ((c.tc : Thread Cert.InQkvNextIdeal.nD Cert.InQkvNextIdeal.τ).loc Cert.InQkvNextIdeal.main_arg1) = m ((c.tc : Thread Cert.InQkvNextIdeal.nD Cert.InQkvNextIdeal.τ).loc Cert.InQkvNextIdeal.main_arg1))
      ∧ θ_run (Cert.InQkvNextReferenceIdeal.defs (F := Ideal)) (onTc (τ := Cert.InQkvNextReferenceIdeal.τ) (Cert.InQkvNextReferenceIdeal.main (F := Ideal))) ⟨m', fun _ => 0, g'⟩ (fun r => ∀ c : Dev Cert.InQkvNextReferenceIdeal.nD,
          r.2.mem ((c.tc : Thread Cert.InQkvNextReferenceIdeal.nD Cert.InQkvNextReferenceIdeal.τ).loc Cert.InQkvNextReferenceIdeal.main_v13) = v0 c
          ∧ r.2.mem ((c.tc : Thread Cert.InQkvNextReferenceIdeal.nD Cert.InQkvNextReferenceIdeal.τ).loc Cert.InQkvNextReferenceIdeal.main_arg0) = m' ((c.tc : Thread Cert.InQkvNextReferenceIdeal.nD Cert.InQkvNextReferenceIdeal.τ).loc Cert.InQkvNextReferenceIdeal.main_arg0)
          ∧ r.2.mem ((c.tc : Thread Cert.InQkvNextReferenceIdeal.nD Cert.InQkvNextReferenceIdeal.τ).loc Cert.InQkvNextReferenceIdeal.main_arg1) = m' ((c.tc : Thread Cert.InQkvNextReferenceIdeal.nD Cert.InQkvNextReferenceIdeal.τ).loc Cert.InQkvNextReferenceIdeal.main_arg1))

def preserves_InQkvThird_InQkvThirdIdeal : Prop :=
  True

def algebraic_InQkvThirdIdeal_InQkvThirdReferenceIdeal [hInQkvThirdIdeal : Cert.InQkvThirdIdeal.Facts] [hInQkvThirdReferenceIdeal : Cert.InQkvThirdReferenceIdeal.Facts] : Prop :=
  ∀ (m : (ℓ : Loc Cert.InQkvThirdIdeal.nD Cert.InQkvThirdIdeal.τ Cert.InQkvThirdIdeal.sig) → Buf (Elt Ideal) ℓ) (g : Dev Cert.InQkvThirdIdeal.nD → PrngReg)
    (m' : (ℓ : Loc Cert.InQkvThirdReferenceIdeal.nD Cert.InQkvThirdReferenceIdeal.τ Cert.InQkvThirdReferenceIdeal.sig) → Buf (Elt Ideal) ℓ) (g' : Dev Cert.InQkvThirdReferenceIdeal.nD → PrngReg), Pre_InQkvThirdIdeal m →
    (∀ c : Dev Cert.InQkvThirdIdeal.nD,
      m' ((c.tc : Thread Cert.InQkvThirdReferenceIdeal.nD Cert.InQkvThirdReferenceIdeal.τ).loc Cert.InQkvThirdReferenceIdeal.main_arg0) = m ((c.tc : Thread Cert.InQkvThirdIdeal.nD Cert.InQkvThirdIdeal.τ).loc Cert.InQkvThirdIdeal.main_arg0)
      ∧ m' ((c.tc : Thread Cert.InQkvThirdReferenceIdeal.nD Cert.InQkvThirdReferenceIdeal.τ).loc Cert.InQkvThirdReferenceIdeal.main_arg1) = m ((c.tc : Thread Cert.InQkvThirdIdeal.nD Cert.InQkvThirdIdeal.τ).loc Cert.InQkvThirdIdeal.main_arg1)) →
    ∃ (v0 : (c : Dev Cert.InQkvThirdIdeal.nD) → Buf (Elt Ideal) ((c.tc : Thread Cert.InQkvThirdIdeal.nD Cert.InQkvThirdIdeal.τ).loc Cert.InQkvThirdIdeal.main_v0)),
      θ_run (Cert.InQkvThirdIdeal.defs (F := Ideal)) (onTc (τ := Cert.InQkvThirdIdeal.τ) (Cert.InQkvThirdIdeal.main (F := Ideal))) ⟨m, fun _ => 0, g⟩ (fun r => ∀ c : Dev Cert.InQkvThirdIdeal.nD,
          r.2.mem ((c.tc : Thread Cert.InQkvThirdIdeal.nD Cert.InQkvThirdIdeal.τ).loc Cert.InQkvThirdIdeal.main_v0) = v0 c
          ∧ r.2.mem ((c.tc : Thread Cert.InQkvThirdIdeal.nD Cert.InQkvThirdIdeal.τ).loc Cert.InQkvThirdIdeal.main_arg0) = m ((c.tc : Thread Cert.InQkvThirdIdeal.nD Cert.InQkvThirdIdeal.τ).loc Cert.InQkvThirdIdeal.main_arg0)
          ∧ r.2.mem ((c.tc : Thread Cert.InQkvThirdIdeal.nD Cert.InQkvThirdIdeal.τ).loc Cert.InQkvThirdIdeal.main_arg1) = m ((c.tc : Thread Cert.InQkvThirdIdeal.nD Cert.InQkvThirdIdeal.τ).loc Cert.InQkvThirdIdeal.main_arg1))
      ∧ θ_run (Cert.InQkvThirdReferenceIdeal.defs (F := Ideal)) (onTc (τ := Cert.InQkvThirdReferenceIdeal.τ) (Cert.InQkvThirdReferenceIdeal.main (F := Ideal))) ⟨m', fun _ => 0, g'⟩ (fun r => ∀ c : Dev Cert.InQkvThirdReferenceIdeal.nD,
          r.2.mem ((c.tc : Thread Cert.InQkvThirdReferenceIdeal.nD Cert.InQkvThirdReferenceIdeal.τ).loc Cert.InQkvThirdReferenceIdeal.main_v13) = v0 c
          ∧ r.2.mem ((c.tc : Thread Cert.InQkvThirdReferenceIdeal.nD Cert.InQkvThirdReferenceIdeal.τ).loc Cert.InQkvThirdReferenceIdeal.main_arg0) = m' ((c.tc : Thread Cert.InQkvThirdReferenceIdeal.nD Cert.InQkvThirdReferenceIdeal.τ).loc Cert.InQkvThirdReferenceIdeal.main_arg0)
          ∧ r.2.mem ((c.tc : Thread Cert.InQkvThirdReferenceIdeal.nD Cert.InQkvThirdReferenceIdeal.τ).loc Cert.InQkvThirdReferenceIdeal.main_arg1) = m' ((c.tc : Thread Cert.InQkvThirdReferenceIdeal.nD Cert.InQkvThirdReferenceIdeal.τ).loc Cert.InQkvThirdReferenceIdeal.main_arg1))

def preserves_InQkvLast_InQkvLastIdeal : Prop :=
  True

def algebraic_InQkvLastIdeal_InQkvLastReferenceIdeal [hInQkvLastIdeal : Cert.InQkvLastIdeal.Facts] [hInQkvLastReferenceIdeal : Cert.InQkvLastReferenceIdeal.Facts] : Prop :=
  ∀ (m : (ℓ : Loc Cert.InQkvLastIdeal.nD Cert.InQkvLastIdeal.τ Cert.InQkvLastIdeal.sig) → Buf (Elt Ideal) ℓ) (g : Dev Cert.InQkvLastIdeal.nD → PrngReg)
    (m' : (ℓ : Loc Cert.InQkvLastReferenceIdeal.nD Cert.InQkvLastReferenceIdeal.τ Cert.InQkvLastReferenceIdeal.sig) → Buf (Elt Ideal) ℓ) (g' : Dev Cert.InQkvLastReferenceIdeal.nD → PrngReg), Pre_InQkvLastIdeal m →
    (∀ c : Dev Cert.InQkvLastIdeal.nD,
      m' ((c.tc : Thread Cert.InQkvLastReferenceIdeal.nD Cert.InQkvLastReferenceIdeal.τ).loc Cert.InQkvLastReferenceIdeal.main_arg0) = m ((c.tc : Thread Cert.InQkvLastIdeal.nD Cert.InQkvLastIdeal.τ).loc Cert.InQkvLastIdeal.main_arg0)
      ∧ m' ((c.tc : Thread Cert.InQkvLastReferenceIdeal.nD Cert.InQkvLastReferenceIdeal.τ).loc Cert.InQkvLastReferenceIdeal.main_arg1) = m ((c.tc : Thread Cert.InQkvLastIdeal.nD Cert.InQkvLastIdeal.τ).loc Cert.InQkvLastIdeal.main_arg1)) →
    ∃ (v0 : (c : Dev Cert.InQkvLastIdeal.nD) → Buf (Elt Ideal) ((c.tc : Thread Cert.InQkvLastIdeal.nD Cert.InQkvLastIdeal.τ).loc Cert.InQkvLastIdeal.main_v0)),
      θ_run (Cert.InQkvLastIdeal.defs (F := Ideal)) (onTc (τ := Cert.InQkvLastIdeal.τ) (Cert.InQkvLastIdeal.main (F := Ideal))) ⟨m, fun _ => 0, g⟩ (fun r => ∀ c : Dev Cert.InQkvLastIdeal.nD,
          r.2.mem ((c.tc : Thread Cert.InQkvLastIdeal.nD Cert.InQkvLastIdeal.τ).loc Cert.InQkvLastIdeal.main_v0) = v0 c
          ∧ r.2.mem ((c.tc : Thread Cert.InQkvLastIdeal.nD Cert.InQkvLastIdeal.τ).loc Cert.InQkvLastIdeal.main_arg0) = m ((c.tc : Thread Cert.InQkvLastIdeal.nD Cert.InQkvLastIdeal.τ).loc Cert.InQkvLastIdeal.main_arg0)
          ∧ r.2.mem ((c.tc : Thread Cert.InQkvLastIdeal.nD Cert.InQkvLastIdeal.τ).loc Cert.InQkvLastIdeal.main_arg1) = m ((c.tc : Thread Cert.InQkvLastIdeal.nD Cert.InQkvLastIdeal.τ).loc Cert.InQkvLastIdeal.main_arg1))
      ∧ θ_run (Cert.InQkvLastReferenceIdeal.defs (F := Ideal)) (onTc (τ := Cert.InQkvLastReferenceIdeal.τ) (Cert.InQkvLastReferenceIdeal.main (F := Ideal))) ⟨m', fun _ => 0, g'⟩ (fun r => ∀ c : Dev Cert.InQkvLastReferenceIdeal.nD,
          r.2.mem ((c.tc : Thread Cert.InQkvLastReferenceIdeal.nD Cert.InQkvLastReferenceIdeal.τ).loc Cert.InQkvLastReferenceIdeal.main_v13) = v0 c
          ∧ r.2.mem ((c.tc : Thread Cert.InQkvLastReferenceIdeal.nD Cert.InQkvLastReferenceIdeal.τ).loc Cert.InQkvLastReferenceIdeal.main_arg0) = m' ((c.tc : Thread Cert.InQkvLastReferenceIdeal.nD Cert.InQkvLastReferenceIdeal.τ).loc Cert.InQkvLastReferenceIdeal.main_arg0)
          ∧ r.2.mem ((c.tc : Thread Cert.InQkvLastReferenceIdeal.nD Cert.InQkvLastReferenceIdeal.τ).loc Cert.InQkvLastReferenceIdeal.main_arg1) = m' ((c.tc : Thread Cert.InQkvLastReferenceIdeal.nD Cert.InQkvLastReferenceIdeal.τ).loc Cert.InQkvLastReferenceIdeal.main_arg1))

def Claim : Prop :=
  ∃ (hKernel : Cert.Kernel.Facts) (hKernelIdeal : Cert.KernelIdeal.Facts) (hReferenceIdeal : Cert.ReferenceIdeal.Facts) (hExpert : Cert.Expert.Facts) (hExpertIdeal : Cert.ExpertIdeal.Facts) (hExpertReferenceIdeal : Cert.ExpertReferenceIdeal.Facts) (hExpertNext : Cert.ExpertNext.Facts) (hExpertNextIdeal : Cert.ExpertNextIdeal.Facts) (hExpertNextReferenceIdeal : Cert.ExpertNextReferenceIdeal.Facts) (hDown : Cert.Down.Facts) (hDownIdeal : Cert.DownIdeal.Facts) (hDownReferenceIdeal : Cert.DownReferenceIdeal.Facts) (hDownNext : Cert.DownNext.Facts) (hDownNextIdeal : Cert.DownNextIdeal.Facts) (hDownNextReferenceIdeal : Cert.DownNextReferenceIdeal.Facts) (hDense : Cert.Dense.Facts) (hDenseIdeal : Cert.DenseIdeal.Facts) (hDenseReferenceIdeal : Cert.DenseReferenceIdeal.Facts) (hDenseNext : Cert.DenseNext.Facts) (hDenseNextIdeal : Cert.DenseNextIdeal.Facts) (hDenseNextReferenceIdeal : Cert.DenseNextReferenceIdeal.Facts) (hDenseOut : Cert.DenseOut.Facts) (hDenseOutIdeal : Cert.DenseOutIdeal.Facts) (hDenseOutReferenceIdeal : Cert.DenseOutReferenceIdeal.Facts) (hDenseOutNext : Cert.DenseOutNext.Facts) (hDenseOutNextIdeal : Cert.DenseOutNextIdeal.Facts) (hDenseOutNextReferenceIdeal : Cert.DenseOutNextReferenceIdeal.Facts) (hInQkv : Cert.InQkv.Facts) (hInQkvIdeal : Cert.InQkvIdeal.Facts) (hInQkvReferenceIdeal : Cert.InQkvReferenceIdeal.Facts) (hInQkvNext : Cert.InQkvNext.Facts) (hInQkvNextIdeal : Cert.InQkvNextIdeal.Facts) (hInQkvNextReferenceIdeal : Cert.InQkvNextReferenceIdeal.Facts) (hInQkvThird : Cert.InQkvThird.Facts) (hInQkvThirdIdeal : Cert.InQkvThirdIdeal.Facts) (hInQkvThirdReferenceIdeal : Cert.InQkvThirdReferenceIdeal.Facts) (hInQkvLast : Cert.InQkvLast.Facts) (hInQkvLastIdeal : Cert.InQkvLastIdeal.Facts) (hInQkvLastReferenceIdeal : Cert.InQkvLastReferenceIdeal.Facts) (hPre_tiles_planned : Cert.Pre_tiles_planned.Facts) (hPre_tiles_planned_down : Cert.Pre_tiles_planned_down.Facts),
    quiescent_Kernel (hKernel := hKernel)
    ∧ quiescent_KernelIdeal (hKernelIdeal := hKernelIdeal)
    ∧ quiescent_ReferenceIdeal (hReferenceIdeal := hReferenceIdeal)
    ∧ quiescent_Expert (hExpert := hExpert) (hPre_tiles_planned := hPre_tiles_planned)
    ∧ quiescent_ExpertIdeal (hExpertIdeal := hExpertIdeal) (hPre_tiles_planned := hPre_tiles_planned)
    ∧ quiescent_ExpertReferenceIdeal (hExpertReferenceIdeal := hExpertReferenceIdeal) (hPre_tiles_planned := hPre_tiles_planned)
    ∧ quiescent_ExpertNext (hExpertNext := hExpertNext) (hPre_tiles_planned := hPre_tiles_planned)
    ∧ quiescent_ExpertNextIdeal (hExpertNextIdeal := hExpertNextIdeal) (hPre_tiles_planned := hPre_tiles_planned)
    ∧ quiescent_ExpertNextReferenceIdeal (hExpertNextReferenceIdeal := hExpertNextReferenceIdeal) (hPre_tiles_planned := hPre_tiles_planned)
    ∧ quiescent_Down (hDown := hDown) (hPre_tiles_planned_down := hPre_tiles_planned_down)
    ∧ quiescent_DownIdeal (hDownIdeal := hDownIdeal) (hPre_tiles_planned_down := hPre_tiles_planned_down)
    ∧ quiescent_DownReferenceIdeal (hDownReferenceIdeal := hDownReferenceIdeal) (hPre_tiles_planned_down := hPre_tiles_planned_down)
    ∧ quiescent_DownNext (hDownNext := hDownNext) (hPre_tiles_planned_down := hPre_tiles_planned_down)
    ∧ quiescent_DownNextIdeal (hDownNextIdeal := hDownNextIdeal) (hPre_tiles_planned_down := hPre_tiles_planned_down)
    ∧ quiescent_DownNextReferenceIdeal (hDownNextReferenceIdeal := hDownNextReferenceIdeal) (hPre_tiles_planned_down := hPre_tiles_planned_down)
    ∧ quiescent_Dense (hDense := hDense)
    ∧ quiescent_DenseIdeal (hDenseIdeal := hDenseIdeal)
    ∧ quiescent_DenseReferenceIdeal (hDenseReferenceIdeal := hDenseReferenceIdeal)
    ∧ quiescent_DenseNext (hDenseNext := hDenseNext)
    ∧ quiescent_DenseNextIdeal (hDenseNextIdeal := hDenseNextIdeal)
    ∧ quiescent_DenseNextReferenceIdeal (hDenseNextReferenceIdeal := hDenseNextReferenceIdeal)
    ∧ quiescent_DenseOut (hDenseOut := hDenseOut)
    ∧ quiescent_DenseOutIdeal (hDenseOutIdeal := hDenseOutIdeal)
    ∧ quiescent_DenseOutReferenceIdeal (hDenseOutReferenceIdeal := hDenseOutReferenceIdeal)
    ∧ quiescent_DenseOutNext (hDenseOutNext := hDenseOutNext)
    ∧ quiescent_DenseOutNextIdeal (hDenseOutNextIdeal := hDenseOutNextIdeal)
    ∧ quiescent_DenseOutNextReferenceIdeal (hDenseOutNextReferenceIdeal := hDenseOutNextReferenceIdeal)
    ∧ quiescent_InQkv (hInQkv := hInQkv)
    ∧ quiescent_InQkvIdeal (hInQkvIdeal := hInQkvIdeal)
    ∧ quiescent_InQkvReferenceIdeal (hInQkvReferenceIdeal := hInQkvReferenceIdeal)
    ∧ quiescent_InQkvNext (hInQkvNext := hInQkvNext)
    ∧ quiescent_InQkvNextIdeal (hInQkvNextIdeal := hInQkvNextIdeal)
    ∧ quiescent_InQkvNextReferenceIdeal (hInQkvNextReferenceIdeal := hInQkvNextReferenceIdeal)
    ∧ quiescent_InQkvThird (hInQkvThird := hInQkvThird)
    ∧ quiescent_InQkvThirdIdeal (hInQkvThirdIdeal := hInQkvThirdIdeal)
    ∧ quiescent_InQkvThirdReferenceIdeal (hInQkvThirdReferenceIdeal := hInQkvThirdReferenceIdeal)
    ∧ quiescent_InQkvLast (hInQkvLast := hInQkvLast)
    ∧ quiescent_InQkvLastIdeal (hInQkvLastIdeal := hInQkvLastIdeal)
    ∧ quiescent_InQkvLastReferenceIdeal (hInQkvLastReferenceIdeal := hInQkvLastReferenceIdeal)
    ∧ preserves_Kernel_KernelIdeal
    ∧ algebraic_KernelIdeal_ReferenceIdeal (hKernelIdeal := hKernelIdeal) (hReferenceIdeal := hReferenceIdeal)
    ∧ preserves_Expert_ExpertIdeal
    ∧ algebraic_ExpertIdeal_ExpertReferenceIdeal (hExpertIdeal := hExpertIdeal) (hExpertReferenceIdeal := hExpertReferenceIdeal) (hPre_tiles_planned := hPre_tiles_planned)
    ∧ preserves_ExpertNext_ExpertNextIdeal
    ∧ algebraic_ExpertNextIdeal_ExpertNextReferenceIdeal (hExpertNextIdeal := hExpertNextIdeal) (hExpertNextReferenceIdeal := hExpertNextReferenceIdeal) (hPre_tiles_planned := hPre_tiles_planned)
    ∧ preserves_Down_DownIdeal
    ∧ algebraic_DownIdeal_DownReferenceIdeal (hDownIdeal := hDownIdeal) (hDownReferenceIdeal := hDownReferenceIdeal) (hPre_tiles_planned_down := hPre_tiles_planned_down)
    ∧ preserves_DownNext_DownNextIdeal
    ∧ algebraic_DownNextIdeal_DownNextReferenceIdeal (hDownNextIdeal := hDownNextIdeal) (hDownNextReferenceIdeal := hDownNextReferenceIdeal) (hPre_tiles_planned_down := hPre_tiles_planned_down)
    ∧ preserves_Dense_DenseIdeal
    ∧ algebraic_DenseIdeal_DenseReferenceIdeal (hDenseIdeal := hDenseIdeal) (hDenseReferenceIdeal := hDenseReferenceIdeal)
    ∧ preserves_DenseNext_DenseNextIdeal
    ∧ algebraic_DenseNextIdeal_DenseNextReferenceIdeal (hDenseNextIdeal := hDenseNextIdeal) (hDenseNextReferenceIdeal := hDenseNextReferenceIdeal)
    ∧ preserves_DenseOut_DenseOutIdeal
    ∧ algebraic_DenseOutIdeal_DenseOutReferenceIdeal (hDenseOutIdeal := hDenseOutIdeal) (hDenseOutReferenceIdeal := hDenseOutReferenceIdeal)
    ∧ preserves_DenseOutNext_DenseOutNextIdeal
    ∧ algebraic_DenseOutNextIdeal_DenseOutNextReferenceIdeal (hDenseOutNextIdeal := hDenseOutNextIdeal) (hDenseOutNextReferenceIdeal := hDenseOutNextReferenceIdeal)
    ∧ preserves_InQkv_InQkvIdeal
    ∧ algebraic_InQkvIdeal_InQkvReferenceIdeal (hInQkvIdeal := hInQkvIdeal) (hInQkvReferenceIdeal := hInQkvReferenceIdeal)
    ∧ preserves_InQkvNext_InQkvNextIdeal
    ∧ algebraic_InQkvNextIdeal_InQkvNextReferenceIdeal (hInQkvNextIdeal := hInQkvNextIdeal) (hInQkvNextReferenceIdeal := hInQkvNextReferenceIdeal)
    ∧ preserves_InQkvThird_InQkvThirdIdeal
    ∧ algebraic_InQkvThirdIdeal_InQkvThirdReferenceIdeal (hInQkvThirdIdeal := hInQkvThirdIdeal) (hInQkvThirdReferenceIdeal := hInQkvThirdReferenceIdeal)
    ∧ preserves_InQkvLast_InQkvLastIdeal
    ∧ algebraic_InQkvLastIdeal_InQkvLastReferenceIdeal (hInQkvLastIdeal := hInQkvLastIdeal) (hInQkvLastReferenceIdeal := hInQkvLastReferenceIdeal)
-- ==== Pre_tiles_planned.lean ====
abbrev S120 : Shape := ⟨1, ![120]⟩
abbrev S20480x2048 : Shape := ⟨2, ![20480, 2048]⟩
abbrev S2x8x2048x5632 : Shape := ⟨4, ![2, 8, 2048, 5632]⟩
abbrev S40 : Shape := ⟨1, ![40]⟩
abbrev S_ : Shape := ⟨0, ![]⟩
abbrev S39 : Shape := ⟨1, ![39]⟩
abbrev S1 : Shape := ⟨1, ![1]⟩
abbrev S80 : Shape := ⟨1, ![80]⟩

class Facts : Prop where
  slices_S120_S40_0 : S120.Slices ![0] S40
  slices_S120_S40_80 : S120.Slices ![80] S40
  bcast_S_S40 : S_.BroadcastsInDim S40 (![] : Fin 0 → Fin S40.rank)
  slices_S40_S39_1 : S40.Slices ![1] S39
  slices_S40_S39_0 : S40.Slices ![0] S39
  slices_S40_S1_39 : S40.Slices ![39] S1
  bcast_S_S1 : S_.BroadcastsInDim S1 (![] : Fin 0 → Fin S1.rank)
  concatenates_S40_S39_S1_S80_d0 : Shape.Concatenates [S40, S39, S1] S80 0

variable [Facts]

def fn_where {F : FTy → Type} [FloatOps F] (arg0 : IVec S39 1) (arg1 : IVec S39 1) (arg2 : IVec S39 1) : IVec S39 1 :=
  let v0 : IVec S39 1 := select arg0 arg1 arg2
  v0

def fn {F : FTy → Type} [FloatOps F] (main_arg0 : IVec S120 32) (main_arg1 : FVec F S20480x2048 .bf16) (main_arg2 : FVec F S2x8x2048x5632 .f32) (main_arg3 : FVec F S2x8x2048x5632 .f32) : IVec S80 1 :=
  let main_v0 : IVec S40 32 := (extractStridedSlice S40 ![0] · slices_S120_S40_0) main_arg0
  let main_v1 : IVec S40 32 := (extractStridedSlice S40 ![80] · slices_S120_S40_80) main_arg0
  let main_c : IVec S_ 32 := constantI S_ 32 0#32
  let main_v2 : IVec S40 32 := broadcastInDim S40 ![] bcast_S_S40 main_c
  let main_v3 : IVec S40 1 := cmpi .sge main_v0 main_v2
  let main_c_0 : IVec S_ 32 := constantI S_ 32 8#32
  let main_v4 : IVec S40 32 := broadcastInDim S40 ![] bcast_S_S40 main_c_0
  let main_v5 : IVec S40 1 := cmpi .slt main_v0 main_v4
  let main_v6 : IVec S40 1 := andi main_v3 main_v5
  let main_v7 : IVec S39 32 := (extractStridedSlice S39 ![1] · slices_S40_S39_1) main_v0
  let main_v8 : IVec S39 32 := (extractStridedSlice S39 ![0] · slices_S40_S39_0) main_v0
  let main_v9 : IVec S39 1 := cmpi .ne main_v7 main_v8
  let main_v10 : IVec S39 32 := (extractStridedSlice S39 ![0] · slices_S40_S39_0) main_v1
  let main_v11 : IVec S39 32 := (extractStridedSlice S39 ![1] · slices_S40_S39_1) main_v0
  let main_v12 : IVec S39 1 := cmpi .eq main_v10 main_v11
  let main_v13 : IVec S39 32 := (extractStridedSlice S39 ![0] · slices_S40_S39_0) main_v1
  let main_v14 : IVec S39 32 := (extractStridedSlice S39 ![1] · slices_S40_S39_1) main_v1
  let main_v15 : IVec S39 1 := cmpi .eq main_v13 main_v14
  let main_v16 : IVec S39 1 := fn_where (F := F) main_v9 main_v12 main_v15
  let main_v17 : IVec S1 32 := (extractStridedSlice S1 ![39] · slices_S40_S1_39) main_v1
  let main_c_1 : IVec S_ 32 := constantI S_ 32 4294967295#32
  let main_v18 : IVec S1 32 := broadcastInDim S1 ![] bcast_S_S1 main_c_1
  let main_v19 : IVec S1 1 := cmpi .eq main_v17 main_v18
  let main_v20 : IVec S80 1 := concatenate S80 0 [⟨S40, main_v6⟩, ⟨S39, main_v16⟩, ⟨S1, main_v19⟩] concatenates_S40_S39_S1_S80_d0
  main_v20
-- ==== Pre_tiles_planned_down.lean ====
abbrev S120 : Shape := ⟨1, ![120]⟩
abbrev S20480x5632 : Shape := ⟨2, ![20480, 5632]⟩
abbrev S2x8x5632x2048 : Shape := ⟨4, ![2, 8, 5632, 2048]⟩
abbrev S40 : Shape := ⟨1, ![40]⟩
abbrev S_ : Shape := ⟨0, ![]⟩
abbrev S39 : Shape := ⟨1, ![39]⟩
abbrev S1 : Shape := ⟨1, ![1]⟩
abbrev S80 : Shape := ⟨1, ![80]⟩

class Facts : Prop where
  slices_S120_S40_0 : S120.Slices ![0] S40
  slices_S120_S40_80 : S120.Slices ![80] S40
  bcast_S_S40 : S_.BroadcastsInDim S40 (![] : Fin 0 → Fin S40.rank)
  slices_S40_S39_1 : S40.Slices ![1] S39
  slices_S40_S39_0 : S40.Slices ![0] S39
  slices_S40_S1_39 : S40.Slices ![39] S1
  bcast_S_S1 : S_.BroadcastsInDim S1 (![] : Fin 0 → Fin S1.rank)
  concatenates_S40_S39_S1_S80_d0 : Shape.Concatenates [S40, S39, S1] S80 0

variable [Facts]

def fn_where {F : FTy → Type} [FloatOps F] (arg0 : IVec S39 1) (arg1 : IVec S39 1) (arg2 : IVec S39 1) : IVec S39 1 :=
  let v0 : IVec S39 1 := select arg0 arg1 arg2
  v0

def fn {F : FTy → Type} [FloatOps F] (main_arg0 : IVec S120 32) (main_arg1 : FVec F S20480x5632 .bf16) (main_arg2 : FVec F S2x8x5632x2048 .f32) : IVec S80 1 :=
  let main_v0 : IVec S40 32 := (extractStridedSlice S40 ![0] · slices_S120_S40_0) main_arg0
  let main_v1 : IVec S40 32 := (extractStridedSlice S40 ![80] · slices_S120_S40_80) main_arg0
  let main_c : IVec S_ 32 := constantI S_ 32 0#32
  let main_v2 : IVec S40 32 := broadcastInDim S40 ![] bcast_S_S40 main_c
  let main_v3 : IVec S40 1 := cmpi .sge main_v0 main_v2
  let main_c_0 : IVec S_ 32 := constantI S_ 32 8#32
  let main_v4 : IVec S40 32 := broadcastInDim S40 ![] bcast_S_S40 main_c_0
  let main_v5 : IVec S40 1 := cmpi .slt main_v0 main_v4
  let main_v6 : IVec S40 1 := andi main_v3 main_v5
  let main_v7 : IVec S39 32 := (extractStridedSlice S39 ![1] · slices_S40_S39_1) main_v0
  let main_v8 : IVec S39 32 := (extractStridedSlice S39 ![0] · slices_S40_S39_0) main_v0
  let main_v9 : IVec S39 1 := cmpi .ne main_v7 main_v8
  let main_v10 : IVec S39 32 := (extractStridedSlice S39 ![0] · slices_S40_S39_0) main_v1
  let main_v11 : IVec S39 32 := (extractStridedSlice S39 ![1] · slices_S40_S39_1) main_v0
  let main_v12 : IVec S39 1 := cmpi .eq main_v10 main_v11
  let main_v13 : IVec S39 32 := (extractStridedSlice S39 ![0] · slices_S40_S39_0) main_v1
  let main_v14 : IVec S39 32 := (extractStridedSlice S39 ![1] · slices_S40_S39_1) main_v1
  let main_v15 : IVec S39 1 := cmpi .eq main_v13 main_v14
  let main_v16 : IVec S39 1 := fn_where (F := F) main_v9 main_v12 main_v15
  let main_v17 : IVec S1 32 := (extractStridedSlice S1 ![39] · slices_S40_S1_39) main_v1
  let main_c_1 : IVec S_ 32 := constantI S_ 32 4294967295#32
  let main_v18 : IVec S1 32 := broadcastInDim S1 ![] bcast_S_S1 main_c_1
  let main_v19 : IVec S1 1 := cmpi .eq main_v17 main_v18
  let main_v20 : IVec S80 1 := concatenate S80 0 [⟨S40, main_v6⟩, ⟨S39, main_v16⟩, ⟨S1, main_v19⟩] concatenates_S40_S39_S1_S80_d0
  main_v20
-- ==== Kernel.lean ====
abbrev S8192x3072 : Shape := ⟨2, ![8192, 3072]⟩
abbrev S8192x1024 : Shape := ⟨2, ![8192, 1024]⟩
abbrev S512x256 : Shape := ⟨2, ![512, 256]⟩
abbrev S4096x256 : Shape := ⟨2, ![4096, 256]⟩
abbrev S256x256 : Shape := ⟨2, ![256, 256]⟩
abbrev S256x128 : Shape := ⟨2, ![256, 128]⟩
abbrev S256x1 : Shape := ⟨2, ![256, 1]⟩
abbrev S256x512 : Shape := ⟨2, ![256, 512]⟩
abbrev S512x128 : Shape := ⟨2, ![512, 128]⟩

abbrev nBuf : Space → Nat
  | .hbm => 2
  | .vmem => 8
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .bf16⟩
  | .local _ .vmem, ⟨7, _⟩ => ⟨S512x256, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c512_i32 : BitVec 32 := 512#32
  let v7 : BitVec 32 := Scalar.muli arg2 c512_i32
  v7
def k0_off1 (i : grid0.Coords) : Fin 2 → Nat :=
  let arg2 : BitVec 32 := BitVec.ofNat 32 (i 2).val
  let c512_i32 : BitVec 32 := 512#32
  let v7 : BitVec 32 := Scalar.muli arg2 c512_i32
  let v8 : BitVec 32 := v7
  let v12 : Index := Scalar.indexCast v8
  let c0_2 : Index := 0#32
  ![v12.toNat, 0]
def k0_off2 (i : grid0.Coords) : Fin 2 → Nat :=
  let arg2 : BitVec 32 := BitVec.ofNat 32 (i 2).val
  let c512_i32 : BitVec 32 := 512#32
  let v7 : BitVec 32 := Scalar.muli arg2 c512_i32
  let v8 : BitVec 32 := v7
  let v24 : Index := Scalar.indexCast v8
  let c0_7 : Index := 0#32
  ![v24.toNat, 0]
def k0_off3 (i : grid0.Coords) : Fin 2 → Nat :=
  let arg2 : BitVec 32 := BitVec.ofNat 32 (i 2).val
  let c512_i32 : BitVec 32 := 512#32
  let v7 : BitVec 32 := Scalar.muli arg2 c512_i32
  let v8 : BitVec 32 := v7
  let v36 : Index := Scalar.indexCast v8
  let c128_12 : Index := 128#32
  ![v36.toNat, 128]
def k0_off4 (i : grid0.Coords) : Fin 2 → Nat :=
  let arg2 : BitVec 32 := BitVec.ofNat 32 (i 2).val
  let c512_i32 : BitVec 32 := 512#32
  let v7 : BitVec 32 := Scalar.muli arg2 c512_i32
  let v8 : BitVec 32 := v7
  let v48 : Index := Scalar.indexCast v8
  let c128_19 : Index := 128#32
  ![v48.toNat, 128]
@[reducible] def k0_t1_loop (i : grid0.Coords) : Scf.Loop 32 :=
  let c0_i32_62 : BitVec 32 := 0#32
  let arg2 : BitVec 32 := BitVec.ofNat 32 (i 2).val
  let v185 : BitVec 32 := Scalar.subi arg2 c0_i32_62
  let c1_i32 : BitVec 32 := 1#32
  let v187 : BitVec 32 := Scalar.divsi v185 c1_i32
  let v188 : BitVec 32 := Scalar.muli v187 c1_i32
  let v189 : BitVec 32 := Scalar.addi c0_i32_62 v188
  let c1_i32_63 : BitVec 32 := 1#32
  ⟨c0_i32_62, v189, c1_i32_63⟩
def k0_mult2 (i : grid0.Coords) (k0_t1 : Fin (k0_t1_loop i).trips) : BitVec 32 :=
  let arg2 : BitVec 32 := BitVec.ofNat 32 (i 2).val
  let c1_i32_73 : BitVec 32 := 1#32
  let v200 : BitVec 32 := Scalar.subi arg2 c1_i32_73
  let c0_i32_62 : BitVec 32 := 0#32
  let c1_i32_63 : BitVec 32 := 1#32
  let arg7 : BitVec 32 := Scf.iv c0_i32_62 c1_i32_63 k0_t1
  let v201 : BitVec 32 := Scalar.subi v200 arg7
  let c512_i32_74 : BitVec 32 := 512#32
  let v202 : BitVec 32 := Scalar.muli v201 c512_i32_74
  v202
def k0_off5 (i : grid0.Coords) (k0_t1 : Fin (k0_t1_loop i).trips) : Fin 2 → Nat :=
  let arg2 : BitVec 32 := BitVec.ofNat 32 (i 2).val
  let c1_i32_73 : BitVec 32 := 1#32
  let v200 : BitVec 32 := Scalar.subi arg2 c1_i32_73
  let c0_i32_62 : BitVec 32 := 0#32
  let c1_i32_63 : BitVec 32 := 1#32
  let arg7 : BitVec 32 := Scf.iv c0_i32_62 c1_i32_63 k0_t1
  let v201 : BitVec 32 := Scalar.subi v200 arg7
  let c512_i32_74 : BitVec 32 := 512#32
  let v202 : BitVec 32 := Scalar.muli v201 c512_i32_74
  let v203 : BitVec 32 := v202
  let v205 : Index := Scalar.indexCast v203
  let c0_77 : Index := 0#32
  ![v205.toNat, 0]
def k0_off6 (i : grid0.Coords) (k0_t1 : Fin (k0_t1_loop i).trips) : Fin 2 → Nat :=
  let arg2 : BitVec 32 := BitVec.ofNat 32 (i 2).val
  let c1_i32_73 : BitVec 32 := 1#32
  let v200 : BitVec 32 := Scalar.subi arg2 c1_i32_73
  let c0_i32_62 : BitVec 32 := 0#32
  let c1_i32_63 : BitVec 32 := 1#32
  let arg7 : BitVec 32 := Scf.iv c0_i32_62 c1_i32_63 k0_t1
  let v201 : BitVec 32 := Scalar.subi v200 arg7
  let c512_i32_74 : BitVec 32 := 512#32
  let v202 : BitVec 32 := Scalar.muli v201 c512_i32_74
  let v203 : BitVec 32 := v202
  let v215 : Index := Scalar.indexCast v203
  let c128_85 : Index := 128#32
  ![v215.toNat, 128]
@[reducible] def k0_t2_loop (i : grid0.Coords) : Scf.Loop 32 :=
  let c0_i32_62 : BitVec 32 := 0#32
  let arg2 : BitVec 32 := BitVec.ofNat 32 (i 2).val
  let v185 : BitVec 32 := Scalar.subi arg2 c0_i32_62
  let c1_i32 : BitVec 32 := 1#32
  let v187 : BitVec 32 := Scalar.divsi v185 c1_i32
  let v188 : BitVec 32 := Scalar.muli v187 c1_i32
  let v189 : BitVec 32 := Scalar.addi c0_i32_62 v188
  let v186 : BitVec 32 := Scalar.addi c0_i32_62 v185
  let c1_i32_64 : BitVec 32 := 1#32
  ⟨v189, v186, c1_i32_64⟩
def k0_mult3 (i : grid0.Coords) (k0_t2 : Fin (k0_t2_loop i).trips) : BitVec 32 :=
  let arg2 : BitVec 32 := BitVec.ofNat 32 (i 2).val
  let c1_i32_73 : BitVec 32 := 1#32
  let v200 : BitVec 32 := Scalar.subi arg2 c1_i32_73
  let c0_i32_62 : BitVec 32 := 0#32
  let v185 : BitVec 32 := Scalar.subi arg2 c0_i32_62
  let c1_i32 : BitVec 32 := 1#32
  let v187 : BitVec 32 := Scalar.divsi v185 c1_i32
  let v188 : BitVec 32 := Scalar.muli v187 c1_i32
  let v189 : BitVec 32 := Scalar.addi c0_i32_62 v188
  let c1_i32_64 : BitVec 32 := 1#32
  let arg7 : BitVec 32 := Scf.iv v189 c1_i32_64 k0_t2
  let v201 : BitVec 32 := Scalar.subi v200 arg7
  let c512_i32_74 : BitVec 32 := 512#32
  let v202 : BitVec 32 := Scalar.muli v201 c512_i32_74
  v202
def k0_off7 (i : grid0.Coords) (k0_t2 : Fin (k0_t2_loop i).trips) : Fin 2 → Nat :=
  let arg2 : BitVec 32 := BitVec.ofNat 32 (i 2).val
  let c1_i32_73 : BitVec 32 := 1#32
  let v200 : BitVec 32 := Scalar.subi arg2 c1_i32_73
  let c0_i32_62 : BitVec 32 := 0#32
  let v185 : BitVec 32 := Scalar.subi arg2 c0_i32_62
  let c1_i32 : BitVec 32 := 1#32
  let v187 : BitVec 32 := Scalar.divsi v185 c1_i32
  let v188 : BitVec 32 := Scalar.muli v187 c1_i32
  let v189 : BitVec 32 := Scalar.addi c0_i32_62 v188
  let c1_i32_64 : BitVec 32 := 1#32
  let arg7 : BitVec 32 := Scf.iv v189 c1_i32_64 k0_t2
  let v201 : BitVec 32 := Scalar.subi v200 arg7
  let c512_i32_74 : BitVec 32 := 512#32
  let v202 : BitVec 32 := Scalar.muli v201 c512_i32_74
  let v203 : BitVec 32 := v202
  let v205 : Index := Scalar.indexCast v203
  let c0_77 : Index := 0#32
  ![v205.toNat, 0]
def k0_off8 (i : grid0.Coords) (k0_t2 : Fin (k0_t2_loop i).trips) : Fin 2 → Nat :=
  let arg2 : BitVec 32 := BitVec.ofNat 32 (i 2).val
  let c1_i32_73 : BitVec 32 := 1#32
  let v200 : BitVec 32 := Scalar.subi arg2 c1_i32_73
  let c0_i32_62 : BitVec 32 := 0#32
  let v185 : BitVec 32 := Scalar.subi arg2 c0_i32_62
  let c1_i32 : BitVec 32 := 1#32
  let v187 : BitVec 32 := Scalar.divsi v185 c1_i32
  let v188 : BitVec 32 := Scalar.muli v187 c1_i32
  let v189 : BitVec 32 := Scalar.addi c0_i32_62 v188
  let c1_i32_64 : BitVec 32 := 1#32
  let arg7 : BitVec 32 := Scf.iv v189 c1_i32_64 k0_t2
  let v201 : BitVec 32 := Scalar.subi v200 arg7
  let c512_i32_74 : BitVec 32 := 512#32
  let v202 : BitVec 32 := Scalar.muli v201 c512_i32_74
  let v203 : BitVec 32 := v202
  let v215 : Index := Scalar.indexCast v203
  let c128_85 : Index := 128#32
  ![v215.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S8192x3072 : Shape := ⟨2, ![8192, 3072]⟩
abbrev S8192x1024 : Shape := ⟨2, ![8192, 1024]⟩
abbrev S2x4096x8x128 : Shape := ⟨4, ![2, 4096, 8, 128]⟩
abbrev S2x8x4096x128 : Shape := ⟨4, ![2, 8, 4096, 128]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 57
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .f32⟩
  | .hbm, ⟨2, _⟩ => ⟨S8192x1024, .f32⟩
  | .hbm, ⟨3, _⟩ => ⟨S2x4096x8x128, .f32⟩
  | .hbm, ⟨4, _⟩ => ⟨S2x8x4096x128, .f32⟩
  | .hbm, ⟨5, _⟩ => ⟨S8192x1024, .f32⟩
  | .hbm, ⟨6, _⟩ => ⟨S2x4096x8x128, .f32⟩
  | .hbm, ⟨7, _⟩ => ⟨S2x8x4096x128, .f32⟩
  | .hbm, ⟨8, _⟩ => ⟨S8192x1024, .f32⟩
  | .hbm, ⟨9, _⟩ => ⟨S2x4096x8x128, .f32⟩
  | .hbm, ⟨10, _⟩ => ⟨S2x8x4096x128, .f32⟩
  | .hbm, ⟨11, _⟩ => ⟨S2x8x4096x4096, .f32⟩
  | .hbm, ⟨12, _⟩ => ⟨S_, .f32⟩
  | .hbm, ⟨13, _⟩ => ⟨S_, .f32⟩
  | .hbm, ⟨14, _⟩ => ⟨S2x8x4096x4096, .f32⟩
  | .hbm, ⟨15, _⟩ => ⟨S2x8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S2x8x4096x4096, .f32⟩
  | .hbm, ⟨24, _⟩ => ⟨S2x8x4096x4096, .f32⟩
  | .hbm, ⟨25, _⟩ => ⟨S2x8x4096x4096, .f32⟩
  | .hbm, ⟨26, _⟩ => ⟨S2x8x4096x4096, .f32⟩
  | .hbm, ⟨27, _⟩ => ⟨S2x8x4096x4096, .i1⟩
  | .hbm, ⟨28, _⟩ => ⟨S2x8x4096x4096, .f32⟩
  | .hbm, ⟨29, _⟩ => ⟨S2x8x4096x4096, .f32⟩
  | .hbm, ⟨30, _⟩ => ⟨S2x8x4096x4096, .f32⟩
  | .hbm, ⟨31, _⟩ => ⟨S2x8x4096x4096, .f32⟩
  | .hbm, ⟨32, _⟩ => ⟨S2x8x4096x4096, .f32⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S_, .f32⟩
  | .hbm, ⟨37, _⟩ => ⟨S_, .f32⟩
  | .hbm, ⟨38, _⟩ => ⟨S2x8x4096x4096, .i1⟩
  | .hbm, ⟨39, _⟩ => ⟨S2x8x4096x4096, .f32⟩
  | .hbm, ⟨40, _⟩ => ⟨S2x8x4096x4096, .f32⟩
  | .hbm, ⟨41, _⟩ => ⟨S_, .f32⟩
  | .hbm, ⟨42, _⟩ => ⟨S_, .f32⟩
  | .hbm, ⟨43, _⟩ => ⟨S2x8x4096x4096, .f32⟩
  | .hbm, ⟨44, _⟩ => ⟨S2x8x4096x4096, .f32⟩
  | .hbm, ⟨45, _⟩ => ⟨S2x8x4096x4096, .f32⟩
  | .hbm, ⟨46, _⟩ => ⟨S2x8x4096x4096, .f32⟩
  | .hbm, ⟨47, _⟩ => ⟨S_, .f32⟩
  | .hbm, ⟨48, _⟩ => ⟨S_, .f32⟩
  | .hbm, ⟨49, _⟩ => ⟨S2x8x4096x4096, .i1⟩
  | .hbm, ⟨50, _⟩ => ⟨S2x8x4096x4096, .f32⟩
  | .hbm, ⟨51, _⟩ => ⟨S2x8x4096x4096, .f32⟩
  | .hbm, ⟨52, _⟩ => ⟨S2x8x4096x4096, .f32⟩
  | .hbm, ⟨53, _⟩ => ⟨S2x8x4096x128, .f32⟩
  | .hbm, ⟨54, _⟩ => ⟨S2x4096x8x128, .f32⟩
  | .hbm, ⟨55, _⟩ => ⟨S8192x1024, .f32⟩
  | .hbm, ⟨56, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v20 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v21 : Ref sig .tc := ⟨.hbm, 40, rfl⟩
abbrev main_call2_cst : Ref sig .tc := ⟨.hbm, 41, rfl⟩
abbrev main_call2_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩

abbrev nD : Nat := 1
abbrev τ : Topo := Topo.v7x

variable {F : FTy → Type} [FloatOps F]
-- ==== Expert.lean ====
abbrev S120 : Shape := ⟨1, ![120]⟩
abbrev S20480x2048 : Shape := ⟨2, ![20480, 2048]⟩
abbrev S2x8x2048x5632 : Shape := ⟨4, ![2, 8, 2048, 5632]⟩
abbrev S20480x5632 : Shape := ⟨2, ![20480, 5632]⟩
abbrev S512x2048 : Shape := ⟨2, ![512, 2048]⟩
abbrev S512x1408 : Shape := ⟨2, ![512, 1408]⟩
abbrev S2048x1408 : Shape := ⟨2, ![2048, 1408]⟩
abbrev S2 : Shape := ⟨1, ![2]⟩
abbrev S1 : Shape := ⟨1, ![1]⟩
abbrev S_ : Shape := ⟨0, ![]⟩
abbrev S1x1x2048x1408 : Shape := ⟨4, ![1, 1, 2048, 1408]⟩
abbrev S256x2048 : Shape := ⟨2, ![256, 2048]⟩
abbrev S256x1408 : Shape := ⟨2, ![256, 1408]⟩

abbrev nBuf : Space → Nat
  | .hbm => 4
  | .vmem => 8
  | .smem => 1
  | _ => 0

abbrev bufTy : (tb : Table) → Fin (tcTables nBuf tb) → BufTy
  | .hbm, ⟨0, _⟩ => ⟨S20480x2048, .bf16⟩
  | .hbm, ⟨1, _⟩ => ⟨S2x8x2048x5632, .f32⟩
  | .hbm, ⟨2, _⟩ => ⟨S2x8x2048x5632, .f32⟩
  | .hbm, ⟨3, _⟩ => ⟨S20480x5632, .bf16⟩
  | .local _ .vmem, ⟨0, _⟩ => ⟨S512x2048, .bf16⟩
  | .local _ .vmem, ⟨1, _⟩ => ⟨S512x2048, .bf16⟩
  | .local _ .vmem, ⟨2, _⟩ => ⟨S512x1408, .bf16⟩
  | .local _ .vmem, ⟨3, _⟩ => ⟨S512x1408, .bf16⟩
  | .local _ .vmem, ⟨4, _⟩ => ⟨S2048x1408, .f32⟩
  | .local _ .vmem, ⟨5, _⟩ => ⟨S2048x1408, .f32⟩
  | .local _ .vmem, ⟨6, _⟩ => ⟨S2048x1408, .bf16⟩
  | .local _ .vmem, ⟨7, _⟩ => ⟨S2048x1408, .bf16⟩
  | .local _ .smem, ⟨0, _⟩ => ⟨S120, .i32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 40], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (c40_i32 : BitVec 32) : Fin 1 → Nat :=
  let arg1 : BitVec 32 := BitVec.ofNat 32 (i 1).val
  let v2 : BitVec 32 := Scalar.addi c40_i32 arg1
  let v3 : Index := Scalar.indexCast v2
  ![v3.toNat]
def k0_off3 (i : grid0.Coords) : Fin 1 → Nat :=
  let arg1 : BitVec 32 := BitVec.ofNat 32 (i 1).val
  let c1_i32 : BitVec 32 := 1#32
  let v9 : BitVec 32 := Scalar.subi arg1 c1_i32
  let c0_i32_0 : BitVec 32 := 0#32
  let v10 : BitVec 32 := Scalar.maxsi v9 c0_i32_0
  let v11 : Index := Scalar.indexCast v10
  ![v11.toNat]
def k0_cond2 (i : grid0.Coords) : BitVec 1 :=
  let arg0 : BitVec 32 := BitVec.ofNat 32 (i 0).val
  let c0_i32_9 : BitVec 32 := 0#32
  let v29 : BitVec 1 := Scalar.cmpi .eq arg0 c0_i32_9
  let arg1 : BitVec 32 := BitVec.ofNat 32 (i 1).val
  let c0_i32_10 : BitVec 32 := 0#32
  let v30 : BitVec 1 := Scalar.cmpi .eq arg1 c0_i32_10
  let v31 : BitVec 1 := Scalar.andi v29 v30
  let v32 : BitVec 32 := Scalar.extui v31
  let c0_i32_11 : BitVec 32 := 0#32
  let v33 : BitVec 1 := Scalar.cmpi .ne v32 c0_i32_11
  v33

def k0_mult1 (i : grid0.Coords) : BitVec 32 :=
  let arg0 : BitVec 32 := BitVec.ofNat 32 (i 0).val
  let c1408_i32_31 : BitVec 32 := 1408#32
  let v65 : BitVec 32 := Scalar.muli arg0 c1408_i32_31
  v65
def k0_off4 (i : grid0.Coords) (v1 : BitVec 32) : Fin 4 → Nat :=
  let c0_i32_32 : BitVec 32 := 0#32
  let c0_i32_34 : BitVec 32 := 0#32
  let arg0 : BitVec 32 := BitVec.ofNat 32 (i 0).val
  let c1408_i32_31 : BitVec 32 := 1408#32
  let v65 : BitVec 32 := Scalar.muli arg0 c1408_i32_31
  let v66 : BitVec 32 := v65
  ![0, v1.toNat, 0, v66.toNat]
def k0_cond1 (i : grid0.Coords) (v1 : BitVec 32) (v12 : BitVec 32) : BitVec 1 :=
  let arg1 : BitVec 32 := BitVec.ofNat 32 (i 1).val
  let c0_i32 : BitVec 32 := 0#32
  let v8 : BitVec 1 := Scalar.cmpi .eq arg1 c0_i32
  let v13 : BitVec 1 := Scalar.cmpi .ne v1 v12
  let v14 : BitVec 1 := Scalar.ori v8 v13
  let v15 : BitVec 32 := Scalar.extui v14
  let c0_i32_1 : BitVec 32 := 0#32
  let v16 : BitVec 1 := Scalar.cmpi .ne v15 c0_i32_1
  v16

def k0_mult2 (i : grid0.Coords) : BitVec 32 :=
  let arg0 : BitVec 32 := BitVec.ofNat 32 (i 0).val
  let c1408_i32_35 : BitVec 32 := 1408#32
  let v71 : BitVec 32 := Scalar.muli arg0 c1408_i32_35
  v71
def k0_mult3 (i : grid0.Coords) : BitVec 32 :=
  let arg0 : BitVec 32 := BitVec.ofNat 32 (i 0).val
  let c1408_i32 : BitVec 32 := 1408#32
  let v34 : BitVec 32 := Scalar.muli arg0 c1408_i32
  v34
def k0_off5 (i : grid0.Coords) (v1 : BitVec 32) : Fin 4 → Nat :=
  let c0_i32_12 : BitVec 32 := 0#32
  let c0_i32_14 : BitVec 32 := 0#32
  let arg0 : BitVec 32 := BitVec.ofNat 32 (i 0).val
  let c1408_i32 : BitVec 32 := 1408#32
  let v34 : BitVec 32 := Scalar.muli arg0 c1408_i32
  let v35 : BitVec 32 := v34
  ![0, v1.toNat, 0, v35.toNat]
def k0_mult4 (i : grid0.Coords) : BitVec 32 :=
  let arg0 : BitVec 32 := BitVec.ofNat 32 (i 0).val
  let c1408_i32_18 : BitVec 32 := 1408#32
  let v45 : BitVec 32 := Scalar.muli arg0 c1408_i32_18
  v45
def k0_mult5 (i : grid0.Coords) : BitVec 32 :=
  let arg0 : BitVec 32 := BitVec.ofNat 32 (i 0).val
  let c1408_i32_31 : BitVec 32 := 1408#32
  let v65 : BitVec 32 := Scalar.muli arg0 c1408_i32_31
  v65
def k0_off6 (i : grid0.Coords) (v7 : BitVec 32) : Fin 4 → Nat :=
  let c0_i32_32 : BitVec 32 := 0#32
  let c0_i32_34 : BitVec 32 := 0#32
  let arg0 : BitVec 32 := BitVec.ofNat 32 (i 0).val
  let c1408_i32_31 : BitVec 32 := 1408#32
  let v65 : BitVec 32 := Scalar.muli arg0 c1408_i32_31
  let v66 : BitVec 32 := v65
  ![0, v7.toNat, 0, v66.toNat]
def k0_cond3 (v7 : BitVec 32) : BitVec 1 :=
  let c0_i32_26 : BitVec 32 := 0#32
  let v56 : BitVec 1 := Scalar.cmpi .sge v7 c0_i32_26
  let v57 : BitVec 32 := Scalar.extui v56
  let c0_i32_27 : BitVec 32 := 0#32
  let v58 : BitVec 1 := Scalar.cmpi .ne v57 c0_i32_27
  v58

def k0_chk1 (i : grid0.Coords) (v1 : BitVec 32) (v7 : BitVec 32) (v12 : BitVec 32) : Prop :=
  (∀ (k0_h1 : k0_cond1 i v1 v12 = 1#1), ∀ (k0_h2 : k0_cond2 i = 1#1), ∀ a, (k0_off4 i v1) a + S1x1x2048x1408.size a ≤ S2x8x2048x5632.size a) ∧
  (∀ (k0_h1 : k0_cond1 i v1 v12 = 1#1), ∀ a, (k0_off5 i v1) a + S1x1x2048x1408.size a ≤ S2x8x2048x5632.size a) ∧
  (∀ (k0_h1 : k0_cond1 i v1 v12 = 1#1), ∀ (k0_h3 : k0_cond3 v7 = 1#1), ∀ a, (k0_off6 i v7) a + S1x1x2048x1408.size a ≤ S2x8x2048x5632.size a)
theorem k0_off4_inb : ∀ (i : grid0.Coords) (v1 : BitVec 32) (v7 : BitVec 32) (v12 : BitVec 32) (k0_hw1 : k0_chk1 i v1 v7 v12), ∀ (k0_h1 : k0_cond1 i v1 v12 = 1#1), ∀ (k0_h2 : k0_cond2 i = 1#1), ∀ a, (k0_off4 i v1) a + S1x1x2048x1408.size a ≤ S2x8x2048x5632.size a := fun i v1 v7 v12 k0_hw1 k0_h1 k0_h2 => k0_hw1.1 k0_h1 k0_h2
theorem k0_off5_inb : ∀ (i : grid0.Coords) (v1 : BitVec 32) (v7 : BitVec 32) (v12 : BitVec 32) (k0_hw1 : k0_chk1 i v1 v7 v12), ∀ (k0_h1 : k0_cond1 i v1 v12 = 1#1), ∀ a, (k0_off5 i v1) a + S1x1x2048x1408.size a ≤ S2x8x2048x5632.size a := fun i v1 v7 v12 k0_hw1 k0_h1 => k0_hw1.2.1 k0_h1
theorem k0_off6_inb : ∀ (i : grid0.Coords) (v1 : BitVec 32) (v7 : BitVec 32) (v12 : BitVec 32) (k0_hw1 : k0_chk1 i v1 v7 v12), ∀ (k0_h1 : k0_cond1 i v1 v12 = 1#1), ∀ (k0_h3 : k0_cond3 v7 = 1#1), ∀ a, (k0_off6 i v7) a + S1x1x2048x1408.size a ≤ S2x8x2048x5632.size a := fun i v1 v7 v12 k0_hw1 k0_h1 k0_h3 => k0_hw1.2.2 k0_h1 k0_h3

def k0_mult6 (i : grid0.Coords) : BitVec 32 :=
  let arg0 : BitVec 32 := BitVec.ofNat 32 (i 0).val
  let c1408_i32_35 : BitVec 32 := 1408#32
  let v71 : BitVec 32 := Scalar.muli arg0 c1408_i32_35
  v71
def k0_mult7 (i : grid0.Coords) : BitVec 32 :=
  let arg0 : BitVec 32 := BitVec.ofNat 32 (i 0).val
  let c1_i32_31 : BitVec 32 := 1#32
  let v65 : BitVec 32 := Scalar.addi arg0 c1_i32_31
  let c1408_i32_33 : BitVec 32 := 1408#32
  let v67 : BitVec 32 := Scalar.muli v65 c1408_i32_33
  v67
def k0_off7 (i : grid0.Coords) (v66 : BitVec 32) : Fin 4 → Nat :=
  let c0_i32_34 : BitVec 32 := 0#32
  let c0_i32_36 : BitVec 32 := 0#32
  let arg0 : BitVec 32 := BitVec.ofNat 32 (i 0).val
  let c1_i32_31 : BitVec 32 := 1#32
  let v65 : BitVec 32 := Scalar.addi arg0 c1_i32_31
  let c1408_i32_33 : BitVec 32 := 1408#32
  let v67 : BitVec 32 := Scalar.muli v65 c1408_i32_33
  let v68 : BitVec 32 := v67
  ![0, v66.toNat, 0, v68.toNat]
def k0_cond4 (i : grid0.Coords) (v7 : BitVec 32) : BitVec 1 :=
  let c0_i32_28 : BitVec 32 := 0#32
  let v59 : BitVec 1 := Scalar.cmpi .slt v7 c0_i32_28
  let arg0 : BitVec 32 := BitVec.ofNat 32 (i 0).val
  let c1_i32_29 : BitVec 32 := 1#32
  let v60 : BitVec 32 := Scalar.addi arg0 c1_i32_29
  let c4_i32 : BitVec 32 := 4#32
  let v61 : BitVec 1 := Scalar.cmpi .slt v60 c4_i32
  let v62 : BitVec 1 := Scalar.andi v59 v61
  let v63 : BitVec 32 := Scalar.extui v62
  let c0_i32_30 : BitVec 32 := 0#32
  let v64 : BitVec 1 := Scalar.cmpi .ne v63 c0_i32_30
  v64

def k0_chk2 (i : grid0.Coords) (v1 : BitVec 32) (v7 : BitVec 32) (v12 : BitVec 32) (v66 : BitVec 32) : Prop :=
  (∀ (k0_h1 : k0_cond1 i v1 v12 = 1#1), ∀ (k0_h4 : k0_cond4 i v7 = 1#1), ∀ a, (k0_off7 i v66) a + S1x1x2048x1408.size a ≤ S2x8x2048x5632.size a)
theorem k0_off7_inb : ∀ (i : grid0.Coords) (v1 : BitVec 32) (v7 : BitVec 32) (v12 : BitVec 32) (v66 : BitVec 32) (k0_hw2 : k0_chk2 i v1 v7 v12 v66), ∀ (k0_h1 : k0_cond1 i v1 v12 = 1#1), ∀ (k0_h4 : k0_cond4 i v7 = 1#1), ∀ a, (k0_off7 i v66) a + S1x1x2048x1408.size a ≤ S2x8x2048x5632.size a := fun i v1 v7 v12 v66 k0_hw2 k0_h1 k0_h4 => k0_hw2 k0_h1 k0_h4

def k0_mult8 (i : grid0.Coords) : BitVec 32 :=
  let arg0 : BitVec 32 := BitVec.ofNat 32 (i 0).val
  let c1_i32_37 : BitVec 32 := 1#32
  let v73 : BitVec 32 := Scalar.addi arg0 c1_i32_37
  let c1408_i32_39 : BitVec 32 := 1408#32
  let v75 : BitVec 32 := Scalar.muli v73 c1408_i32_39
  v75
def k0_off8 (i : grid0.Coords) (v74 : BitVec 32) : Fin 4 → Nat :=
  let c0_i32_40 : BitVec 32 := 0#32
  let c0_i32_42 : BitVec 32 := 0#32
  let arg0 : BitVec 32 := BitVec.ofNat 32 (i 0).val
  let c1_i32_37 : BitVec 32 := 1#32
  let v73 : BitVec 32 := Scalar.addi arg0 c1_i32_37
  let c1408_i32_39 : BitVec 32 := 1408#32
  let v75 : BitVec 32 := Scalar.muli v73 c1408_i32_39
  let v76 : BitVec 32 := v75
  ![0, v74.toNat, 0, v76.toNat]

def k0_chk3 (i : grid0.Coords) (v1 : BitVec 32) (v7 : BitVec 32) (v12 : BitVec 32) (v74 : BitVec 32) : Prop :=
  (∀ (k0_h1 : k0_cond1 i v1 v12 = 1#1), ∀ (k0_h4 : k0_cond4 i v7 = 1#1), ∀ a, (k0_off8 i v74) a + S1x1x2048x1408.size a ≤ S2x8x2048x5632.size a)
theorem k0_off8_inb : ∀ (i : grid0.Coords) (v1 : BitVec 32) (v7 : BitVec 32) (v12 : BitVec 32) (v74 : BitVec 32) (k0_hw3 : k0_chk3 i v1 v7 v12 v74), ∀ (k0_h1 : k0_cond1 i v1 v12 = 1#1), ∀ (k0_h4 : k0_cond4 i v7 = 1#1), ∀ a, (k0_off8 i v74) a + S1x1x2048x1408.size a ≤ S2x8x2048x5632.size a := fun i v1 v7 v12 v74 k0_hw3 k0_h1 k0_h4 => k0_hw3 k0_h1 k0_h4

def k0_cond5 (v4 : BitVec 32) : BitVec 1 :=
  let c0_i32_2 : BitVec 32 := 0#32
  let v17 : BitVec 1 := Scalar.cmpi .sgt v4 c0_i32_2
  let v18 : BitVec 32 := Scalar.extui v17
  let c0_i32_3 : BitVec 32 := 0#32
  let v19 : BitVec 1 := Scalar.cmpi .ne v18 c0_i32_3
  v19

def k0_cond6 (v4 : BitVec 32) : BitVec 1 :=
  let c0_i32_4 : BitVec 32 := 0#32
  let v20 : BitVec 1 := Scalar.cmpi .sle v4 c0_i32_4
  let v21 : BitVec 32 := Scalar.extui v20
  let c0_i32_5 : BitVec 32 := 0#32
  let v22 : BitVec 1 := Scalar.cmpi .ne v21 c0_i32_5
  v22

def k0_cond7 (v4 : BitVec 32) : BitVec 1 :=
  let c256_i32 : BitVec 32 := 256#32
  let v23 : BitVec 1 := Scalar.cmpi .sgt v4 c256_i32
  let v24 : BitVec 32 := Scalar.extui v23
  let c0_i32_6 : BitVec 32 := 0#32
  let v25 : BitVec 1 := Scalar.cmpi .ne v24 c0_i32_6
  v25

def k0_cond8 (v4 : BitVec 32) : BitVec 1 :=
  let c256_i32_7 : BitVec 32 := 256#32
  let v26 : BitVec 1 := Scalar.cmpi .sle v4 c256_i32_7
  let v27 : BitVec 32 := Scalar.extui v26
  let c0_i32_8 : BitVec 32 := 0#32
  let v28 : BitVec 1 := Scalar.cmpi .ne v27 c0_i32_8
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ExpertReferenceIdeal.lean ====
abbrev S120 : Shape := ⟨1, ![120]⟩
abbrev S20480x2048 : Shape := ⟨2, ![20480, 2048]⟩
abbrev S2x8x2048x5632 : Shape := ⟨4, ![2, 8, 2048, 5632]⟩
abbrev S1x8x2048x5632 : Shape := ⟨4, ![1, 8, 2048, 5632]⟩
abbrev S8x2048x5632 : Shape := ⟨3, ![8, 2048, 5632]⟩
abbrev S20480x8x5632 : Shape := ⟨3, ![20480, 8, 5632]⟩
abbrev S_ : Shape := ⟨0, ![]⟩
abbrev S40 : Shape := ⟨1, ![40]⟩
abbrev S40x1 : Shape := ⟨2, ![40, 1]⟩
abbrev S8 : Shape := ⟨1, ![8]⟩
abbrev S1x8 : Shape := ⟨2, ![1, 8]⟩
abbrev S40x8 : Shape := ⟨2, ![40, 8]⟩
abbrev S512 : Shape := ⟨1, ![512]⟩
abbrev S1x512 : Shape := ⟨2, ![1, 512]⟩
abbrev S40x512 : Shape := ⟨2, ![40, 512]⟩
abbrev S40x512x1 : Shape := ⟨3, ![40, 512, 1]⟩
abbrev S40x1x8 : Shape := ⟨3, ![40, 1, 8]⟩
abbrev S40x512x8 : Shape := ⟨3, ![40, 512, 8]⟩
abbrev S20480x8 : Shape := ⟨2, ![20480, 8]⟩
abbrev S20480x8x1 : Shape := ⟨3, ![20480, 8, 1]⟩
abbrev S20480x5632 : Shape := ⟨2, ![20480, 5632]⟩

abbrev nBuf : Space → Nat
  | .hbm => 59
  | .vmem => 0
  | .smem => 0
  | _ => 0

abbrev bufTy : (tb : Table) → Fin (tcTables nBuf tb) → BufTy
  | .hbm, ⟨0, _⟩ => ⟨S120, .i32⟩
  | .hbm, ⟨1, _⟩ => ⟨S20480x2048, .bf16⟩
  | .hbm, ⟨2, _⟩ => ⟨S2x8x2048x5632, .f32⟩
  | .hbm, ⟨3, _⟩ => ⟨S2x8x2048x5632, .f32⟩
  | .hbm, ⟨4, _⟩ => ⟨S1x8x2048x5632, .f32⟩
  | .hbm, ⟨5, _⟩ => ⟨S8x2048x5632, .f32⟩
  | .hbm, ⟨6, _⟩ => ⟨S1x8x2048x5632, .f32⟩
  | .hbm, ⟨7, _⟩ => ⟨S8x2048x5632, .f32⟩
  | .hbm, ⟨8, _⟩ => ⟨S20480x2048, .f32⟩
  | .hbm, ⟨9, _⟩ => ⟨S20480x8x5632, .f32⟩
  | .hbm, ⟨10, _⟩ => ⟨S20480x8x5632, .f32⟩
  | .hbm, ⟨11, _⟩ => ⟨S20480x8x5632, .f32⟩
  | .hbm, ⟨12, _⟩ => ⟨S20480x8x5632, .f32⟩
  | .hbm, ⟨13, _⟩ => ⟨S_, .f32⟩
  | .hbm, ⟨14, _⟩ => ⟨S20480x8x5632, .f32⟩
  | .hbm, ⟨15, _⟩ => ⟨S20480x8x5632, .f32⟩
  | .hbm, ⟨16, _⟩ => ⟨S_, .f32⟩
  | .hbm, ⟨17, _⟩ => ⟨S20480x8x5632, .f32⟩
  | .hbm, ⟨18, _⟩ => ⟨S20480x8x5632, .f32⟩
  | .hbm, ⟨19, _⟩ => ⟨S20480x8x5632, .f32⟩
  | .hbm, ⟨20, _⟩ => ⟨S20480x8x5632, .f32⟩
  | .hbm, ⟨21, _⟩ => ⟨S40, .i32⟩
  | .hbm, ⟨22, _⟩ => ⟨S40x1, .i32⟩
  | .hbm, ⟨23, _⟩ => ⟨S8, .i32⟩
  | .hbm, ⟨24, _⟩ => ⟨S1x8, .i32⟩
  | .hbm, ⟨25, _⟩ => ⟨S40x8, .i32⟩
  | .hbm, ⟨26, _⟩ => ⟨S40x8, .i32⟩
  | .hbm, ⟨27, _⟩ => ⟨S40x8, .i1⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S_, .i32⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S1x512, .i32⟩
  | .hbm, ⟨38, _⟩ => ⟨S40, .i32⟩
  | .hbm, ⟨39, _⟩ => ⟨S40x1, .i32⟩
  | .hbm, ⟨40, _⟩ => ⟨S1x512, .i32⟩
  | .hbm, ⟨41, _⟩ => ⟨S40x512, .i32⟩
  | .hbm, ⟨42, _⟩ => ⟨S40x512, .i32⟩
  | .hbm, ⟨43, _⟩ => ⟨S40x512, .i1⟩
  | .hbm, ⟨44, _⟩ => ⟨S40x512x1, .i1⟩
  | .hbm, ⟨45, _⟩ => ⟨S40x1x8, .i1⟩
  | .hbm, ⟨46, _⟩ => ⟨S40x512x8, .i1⟩
  | .hbm, ⟨47, _⟩ => ⟨S40x512x8, .i1⟩
  | .hbm, ⟨48, _⟩ => ⟨S40x512x8, .i1⟩
  | .hbm, ⟨49, _⟩ => ⟨S20480x8, .i1⟩
  | .hbm, ⟨50, _⟩ => ⟨S20480x8x1, .i1⟩
  | .hbm, ⟨51, _⟩ => ⟨S_, .f32⟩
  | .hbm, ⟨52, _⟩ => ⟨S_, .f32⟩
  | .hbm, ⟨53, _⟩ => ⟨S20480x8x5632, .i1⟩
  | .hbm, ⟨54, _⟩ => ⟨S20480x8x5632, .f32⟩
  | .hbm, ⟨55, _⟩ => ⟨S20480x8x5632, .f32⟩
  | .hbm, ⟨56, _⟩ => ⟨S_, .f32⟩
  | .hbm, ⟨57, _⟩ => ⟨S20480x5632, .f32⟩
  | .hbm, ⟨58, _⟩ => ⟨S20480x5632, .bf16⟩
  | _, _ => ⟨S120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== ExpertNext.lean ====
abbrev S120 : Shape := ⟨1, ![120]⟩
abbrev S20480x2048 : Shape := ⟨2, ![20480, 2048]⟩
abbrev S2x8x2048x5632 : Shape := ⟨4, ![2, 8, 2048, 5632]⟩
abbrev S20480x5632 : Shape := ⟨2, ![20480, 5632]⟩
abbrev S512x2048 : Shape := ⟨2, ![512, 2048]⟩
abbrev S512x1408 : Shape := ⟨2, ![512, 1408]⟩
abbrev S2048x1408 : Shape := ⟨2, ![2048, 1408]⟩
abbrev S2 : Shape := ⟨1, ![2]⟩
abbrev S1 : Shape := ⟨1, ![1]⟩
abbrev S_ : Shape := ⟨0, ![]⟩
abbrev S1x1x2048x1408 : Shape := ⟨4, ![1, 1, 2048, 1408]⟩
abbrev S256x2048 : Shape := ⟨2, ![256, 2048]⟩
abbrev S256x1408 : Shape := ⟨2, ![256, 1408]⟩

abbrev nBuf : Space → Nat
  | .hbm => 4
  | .vmem => 8
  | .smem => 1
  | _ => 0

abbrev bufTy : (tb : Table) → Fin (tcTables nBuf tb) → BufTy
  | .hbm, ⟨0, _⟩ => ⟨S20480x2048, .bf16⟩
  | .hbm, ⟨1, _⟩ => ⟨S2x8x2048x5632, .f32⟩
  | .hbm, ⟨2, _⟩ => ⟨S2x8x2048x5632, .f32⟩
  | .hbm, ⟨3, _⟩ => ⟨S20480x5632, .bf16⟩
  | .local _ .vmem, ⟨0, _⟩ => ⟨S512x2048, .bf16⟩
  | .local _ .vmem, ⟨1, _⟩ => ⟨S512x2048, .bf16⟩
  | .local _ .vmem, ⟨2, _⟩ => ⟨S512x1408, .bf16⟩
  | .local _ .vmem, ⟨3, _⟩ => ⟨S512x1408, .bf16⟩
  | .local _ .vmem, ⟨4, _⟩ => ⟨S2048x1408, .f32⟩
  | .local _ .vmem, ⟨5, _⟩ => ⟨S2048x1408, .f32⟩
  | .local _ .vmem, ⟨6, _⟩ => ⟨S2048x1408, .bf16⟩
  | .local _ .vmem, ⟨7, _⟩ => ⟨S2048x1408, .bf16⟩
  | .local _ .smem, ⟨0, _⟩ => ⟨S120, .i32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 40], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (c40_i32 : BitVec 32) : Fin 1 → Nat :=
  let arg1 : BitVec 32 := BitVec.ofNat 32 (i 1).val
  let v2 : BitVec 32 := Scalar.addi c40_i32 arg1
  let v3 : Index := Scalar.indexCast v2
  ![v3.toNat]
def k0_off3 (i : grid0.Coords) : Fin 1 → Nat :=
  let arg1 : BitVec 32 := BitVec.ofNat 32 (i 1).val
  let c1_i32 : BitVec 32 := 1#32
  let v9 : BitVec 32 := Scalar.subi arg1 c1_i32
  let c0_i32_0 : BitVec 32 := 0#32
  let v10 : BitVec 32 := Scalar.maxsi v9 c0_i32_0
  let v11 : Index := Scalar.indexCast v10
  ![v11.toNat]
def k0_cond2 (i : grid0.Coords) : BitVec 1 :=
  let arg0 : BitVec 32 := BitVec.ofNat 32 (i 0).val
  let c0_i32_9 : BitVec 32 := 0#32
  let v29 : BitVec 1 := Scalar.cmpi .eq arg0 c0_i32_9
  let arg1 : BitVec 32 := BitVec.ofNat 32 (i 1).val
  let c0_i32_10 : BitVec 32 := 0#32
  let v30 : BitVec 1 := Scalar.cmpi .eq arg1 c0_i32_10
  let v31 : BitVec 1 := Scalar.andi v29 v30
  let v32 : BitVec 32 := Scalar.extui v31
  let c0_i32_11 : BitVec 32 := 0#32
  let v33 : BitVec 1 := Scalar.cmpi .ne v32 c0_i32_11
  v33

def k0_mult1 (i : grid0.Coords) : BitVec 32 :=
  let arg0 : BitVec 32 := BitVec.ofNat 32 (i 0).val
  let c1408_i32_31 : BitVec 32 := 1408#32
  let v65 : BitVec 32 := Scalar.muli arg0 c1408_i32_31
  v65
def k0_off4 (i : grid0.Coords) (v1 : BitVec 32) : Fin 4 → Nat :=
  let c1_i32_32 : BitVec 32 := 1#32
  let c0_i32_34 : BitVec 32 := 0#32
  let arg0 : BitVec 32 := BitVec.ofNat 32 (i 0).val
  let c1408_i32_31 : BitVec 32 := 1408#32
  let v65 : BitVec 32 := Scalar.muli arg0 c1408_i32_31
  let v66 : BitVec 32 := v65
  ![1, v1.toNat, 0, v66.toNat]
def k0_cond1 (i : grid0.Coords) (v1 : BitVec 32) (v12 : BitVec 32) : BitVec 1 :=
  let arg1 : BitVec 32 := BitVec.ofNat 32 (i 1).val
  let c0_i32 : BitVec 32 := 0#32
  let v8 : BitVec 1 := Scalar.cmpi .eq arg1 c0_i32
  let v13 : BitVec 1 := Scalar.cmpi .ne v1 v12
  let v14 : BitVec 1 := Scalar.ori v8 v13
  let v15 : BitVec 32 := Scalar.extui v14
  let c0_i32_1 : BitVec 32 := 0#32
  let v16 : BitVec 1 := Scalar.cmpi .ne v15 c0_i32_1
  v16

def k0_mult2 (i : grid0.Coords) : BitVec 32 :=
  let arg0 : BitVec 32 := BitVec.ofNat 32 (i 0).val
  let c1408_i32_35 : BitVec 32 := 1408#32
  let v71 : BitVec 32 := Scalar.muli arg0 c1408_i32_35
  v71
def k0_mult3 (i : grid0.Coords) : BitVec 32 :=
  let arg0 : BitVec 32 := BitVec.ofNat 32 (i 0).val
  let c1408_i32 : BitVec 32 := 1408#32
  let v34 : BitVec 32 := Scalar.muli arg0 c1408_i32
  v34
def k0_off5 (i : grid0.Coords) (v1 : BitVec 32) : Fin 4 → Nat :=
  let c1_i32_12 : BitVec 32 := 1#32
  let c0_i32_14 : BitVec 32 := 0#32
  let arg0 : BitVec 32 := BitVec.ofNat 32 (i 0).val
  let c1408_i32 : BitVec 32 := 1408#32
  let v34 : BitVec 32 := Scalar.muli arg0 c1408_i32
  let v35 : BitVec 32 := v34
  ![1, v1.toNat, 0, v35.toNat]
def k0_mult4 (i : grid0.Coords) : BitVec 32 :=
  let arg0 : BitVec 32 := BitVec.ofNat 32 (i 0).val
  let c1408_i32_18 : BitVec 32 := 1408#32
  let v45 : BitVec 32 := Scalar.muli arg0 c1408_i32_18
  v45
def k0_mult5 (i : grid0.Coords) : BitVec 32 :=
  let arg0 : BitVec 32 := BitVec.ofNat 32 (i 0).val
  let c1408_i32_31 : BitVec 32 := 1408#32
  let v65 : BitVec 32 := Scalar.muli arg0 c1408_i32_31
  v65
def k0_off6 (i : grid0.Coords) (v7 : BitVec 32) : Fin 4 → Nat :=
  let c1_i32_32 : BitVec 32 := 1#32
  let c0_i32_34 : BitVec 32 := 0#32
  let arg0 : BitVec 32 := BitVec.ofNat 32 (i 0).val
  let c1408_i32_31 : BitVec 32 := 1408#32
  let v65 : BitVec 32 := Scalar.muli arg0 c1408_i32_31
  let v66 : BitVec 32 := v65
  ![1, v7.toNat, 0, v66.toNat]
def k0_cond3 (v7 : BitVec 32) : BitVec 1 :=
  let c0_i32_26 : BitVec 32 := 0#32
  let v56 : BitVec 1 := Scalar.cmpi .sge v7 c0_i32_26
  let v57 : BitVec 32 := Scalar.extui v56
  let c0_i32_27 : BitVec 32 := 0#32
  let v58 : BitVec 1 := Scalar.cmpi .ne v57 c0_i32_27
  v58

def k0_chk1 (i : grid0.Coords) (v1 : BitVec 32) (v7 : BitVec 32) (v12 : BitVec 32) : Prop :=
  (∀ (k0_h1 : k0_cond1 i v1 v12 = 1#1), ∀ (k0_h2 : k0_cond2 i = 1#1), ∀ a, (k0_off4 i v1) a + S1x1x2048x1408.size a ≤ S2x8x2048x5632.size a) ∧
  (∀ (k0_h1 : k0_cond1 i v1 v12 = 1#1), ∀ a, (k0_off5 i v1) a + S1x1x2048x1408.size a ≤ S2x8x2048x5632.size a) ∧
  (∀ (k0_h1 : k0_cond1 i v1 v12 = 1#1), ∀ (k0_h3 : k0_cond3 v7 = 1#1), ∀ a, (k0_off6 i v7) a + S1x1x2048x1408.size a ≤ S2x8x2048x5632.size a)
theorem k0_off4_inb : ∀ (i : grid0.Coords) (v1 : BitVec 32) (v7 : BitVec 32) (v12 : BitVec 32) (k0_hw1 : k0_chk1 i v1 v7 v12), ∀ (k0_h1 : k0_cond1 i v1 v12 = 1#1), ∀ (k0_h2 : k0_cond2 i = 1#1), ∀ a, (k0_off4 i v1) a + S1x1x2048x1408.size a ≤ S2x8x2048x5632.size a := fun i v1 v7 v12 k0_hw1 k0_h1 k0_h2 => k0_hw1.1 k0_h1 k0_h2
theorem k0_off5_inb : ∀ (i : grid0.Coords) (v1 : BitVec 32) (v7 : BitVec 32) (v12 : BitVec 32) (k0_hw1 : k0_chk1 i v1 v7 v12), ∀ (k0_h1 : k0_cond1 i v1 v12 = 1#1), ∀ a, (k0_off5 i v1) a + S1x1x2048x1408.size a ≤ S2x8x2048x5632.size a := fun i v1 v7 v12 k0_hw1 k0_h1 => k0_hw1.2.1 k0_h1
theorem k0_off6_inb : ∀ (i : grid0.Coords) (v1 : BitVec 32) (v7 : BitVec 32) (v12 : BitVec 32) (k0_hw1 : k0_chk1 i v1 v7 v12), ∀ (k0_h1 : k0_cond1 i v1 v12 = 1#1), ∀ (k0_h3 : k0_cond3 v7 = 1#1), ∀ a, (k0_off6 i v7) a + S1x1x2048x1408.size a ≤ S2x8x2048x5632.size a := fun i v1 v7 v12 k0_hw1 k0_h1 k0_h3 => k0_hw1.2.2 k0_h1 k0_h3

def k0_mult6 (i : grid0.Coords) : BitVec 32 :=
  let arg0 : BitVec 32 := BitVec.ofNat 32 (i 0).val
  let c1408_i32_35 : BitVec 32 := 1408#32
  let v71 : BitVec 32 := Scalar.muli arg0 c1408_i32_35
  v71
def k0_mult7 (i : grid0.Coords) : BitVec 32 :=
  let arg0 : BitVec 32 := BitVec.ofNat 32 (i 0).val
  let c1_i32_31 : BitVec 32 := 1#32
  let v65 : BitVec 32 := Scalar.addi arg0 c1_i32_31
  let c1408_i32_33 : BitVec 32 := 1408#32
  let v67 : BitVec 32 := Scalar.muli v65 c1408_i32_33
  v67
def k0_off7 (i : grid0.Coords) (v66 : BitVec 32) : Fin 4 → Nat :=
  let c1_i32_34 : BitVec 32 := 1#32
  let c0_i32_36 : BitVec 32 := 0#32
  let arg0 : BitVec 32 := BitVec.ofNat 32 (i 0).val
  let c1_i32_31 : BitVec 32 := 1#32
  let v65 : BitVec 32 := Scalar.addi arg0 c1_i32_31
  let c1408_i32_33 : BitVec 32 := 1408#32
  let v67 : BitVec 32 := Scalar.muli v65 c1408_i32_33
  let v68 : BitVec 32 := v67
  ![1, v66.toNat, 0, v68.toNat]
def k0_cond4 (i : grid0.Coords) (v7 : BitVec 32) : BitVec 1 :=
  let c0_i32_28 : BitVec 32 := 0#32
  let v59 : BitVec 1 := Scalar.cmpi .slt v7 c0_i32_28
  let arg0 : BitVec 32 := BitVec.ofNat 32 (i 0).val
  let c1_i32_29 : BitVec 32 := 1#32
  let v60 : BitVec 32 := Scalar.addi arg0 c1_i32_29
  let c4_i32 : BitVec 32 := 4#32
  let v61 : BitVec 1 := Scalar.cmpi .slt v60 c4_i32
  let v62 : BitVec 1 := Scalar.andi v59 v61
  let v63 : BitVec 32 := Scalar.extui v62
  let c0_i32_30 : BitVec 32 := 0#32
  let v64 : BitVec 1 := Scalar.cmpi .ne v63 c0_i32_30
  v64

def k0_chk2 (i : grid0.Coords) (v1 : BitVec 32) (v7 : BitVec 32) (v12 : BitVec 32) (v66 : BitVec 32) : Prop :=
  (∀ (k0_h1 : k0_cond1 i v1 v12 = 1#1), ∀ (k0_h4 : k0_cond4 i v7 = 1#1), ∀ a, (k0_off7 i v66) a + S1x1x2048x1408.size a ≤ S2x8x2048x5632.size a)
theorem k0_off7_inb : ∀ (i : grid0.Coords) (v1 : BitVec 32) (v7 : BitVec 32) (v12 : BitVec 32) (v66 : BitVec 32) (k0_hw2 : k0_chk2 i v1 v7 v12 v66), ∀ (k0_h1 : k0_cond1 i v1 v12 = 1#1), ∀ (k0_h4 : k0_cond4 i v7 = 1#1), ∀ a, (k0_off7 i v66) a + S1x1x2048x1408.size a ≤ S2x8x2048x5632.size a := fun i v1 v7 v12 v66 k0_hw2 k0_h1 k0_h4 => k0_hw2 k0_h1 k0_h4

def k0_mult8 (i : grid0.Coords) : BitVec 32 :=
  let arg0 : BitVec 32 := BitVec.ofNat 32 (i 0).val
  let c1_i32_37 : BitVec 32 := 1#32
  let v73 : BitVec 32 := Scalar.addi arg0 c1_i32_37
  let c1408_i32_39 : BitVec 32 := 1408#32
  let v75 : BitVec 32 := Scalar.muli v73 c1408_i32_39
  v75
def k0_off8 (i : grid0.Coords) (v74 : BitVec 32) : Fin 4 → Nat :=
  let c1_i32_40 : BitVec 32 := 1#32
  let c0_i32_42 : BitVec 32 := 0#32
  let arg0 : BitVec 32 := BitVec.ofNat 32 (i 0).val
  let c1_i32_37 : BitVec 32 := 1#32
  let v73 : BitVec 32 := Scalar.addi arg0 c1_i32_37
  let c1408_i32_39 : BitVec 32 := 1408#32
  let v75 : BitVec 32 := Scalar.muli v73 c1408_i32_39
  let v76 : BitVec 32 := v75
  ![1, v74.toNat, 0, v76.toNat]

def k0_chk3 (i : grid0.Coords) (v1 : BitVec 32) (v7 : BitVec 32) (v12 : BitVec 32) (v74 : BitVec 32) : Prop :=
  (∀ (k0_h1 : k0_cond1 i v1 v12 = 1#1), ∀ (k0_h4 : k0_cond4 i v7 = 1#1), ∀ a, (k0_off8 i v74) a + S1x1x2048x1408.size a ≤ S2x8x2048x5632.size a)
theorem k0_off8_inb : ∀ (i : grid0.Coords) (v1 : BitVec 32) (v7 : BitVec 32) (v12 : BitVec 32) (v74 : BitVec 32) (k0_hw3 : k0_chk3 i v1 v7 v12 v74), ∀ (k0_h1 : k0_cond1 i v1 v12 = 1#1), ∀ (k0_h4 : k0_cond4 i v7 = 1#1), ∀ a, (k0_off8 i v74) a + S1x1x2048x1408.size a ≤ S2x8x2048x5632.size a := fun i v1 v7 v12 v74 k0_hw3 k0_h1 k0_h4 => k0_hw3 k0_h1 k0_h4

def k0_cond5 (v4 : BitVec 32) : BitVec 1 :=
  let c0_i32_2 : BitVec 32 := 0#32
  let v17 : BitVec 1 := Scalar.cmpi .sgt v4 c0_i32_2
  let v18 : BitVec 32 := Scalar.extui v17
  let c0_i32_3 : BitVec 32 := 0#32
  let v19 : BitVec 1 := Scalar.cmpi .ne v18 c0_i32_3
  v19

def k0_cond6 (v4 : BitVec 32) : BitVec 1 :=
  let c0_i32_4 : BitVec 32 := 0#32
  let v20 : BitVec 1 := Scalar.cmpi .sle v4 c0_i32_4
  let v21 : BitVec 32 := Scalar.extui v20
  let c0_i32_5 : BitVec 32 := 0#32
  let v22 : BitVec 1 := Scalar.cmpi .ne v21 c0_i32_5
  v22

def k0_cond7 (v4 : BitVec 32) : BitVec 1 :=
  let c256_i32 : BitVec 32 := 256#32
  let v23 : BitVec 1 := Scalar.cmpi .sgt v4 c256_i32
  let v24 : BitVec 32 := Scalar.extui v23
  let c0_i32_6 : BitVec 32 := 0#32
  let v25 : BitVec 1 := Scalar.cmpi .ne v24 c0_i32_6
  v25

def k0_cond8 (v4 : BitVec 32) : BitVec 1 :=
  let c256_i32_7 : BitVec 32 := 256#32
  let v26 : BitVec 1 := Scalar.cmpi .sle v4 c256_i32_7
  let v27 : BitVec 32 := Scalar.extui v26
  let c0_i32_8 : BitVec 32 := 0#32
  let v28 : BitVec 1 := Scalar.cmpi .ne v27 c0_i32_8
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ExpertNextReferenceIdeal.lean ====
abbrev S120 : Shape := ⟨1, ![120]⟩
abbrev S20480x2048 : Shape := ⟨2, ![20480, 2048]⟩
abbrev S2x8x2048x5632 : Shape := ⟨4, ![2, 8, 2048, 5632]⟩
abbrev S1x8x2048x5632 : Shape := ⟨4, ![1, 8, 2048, 5632]⟩
abbrev S8x2048x5632 : Shape := ⟨3, ![8, 2048, 5632]⟩
abbrev S20480x8x5632 : Shape := ⟨3, ![20480, 8, 5632]⟩
abbrev S_ : Shape := ⟨0, ![]⟩
abbrev S40 : Shape := ⟨1, ![40]⟩
abbrev S40x1 : Shape := ⟨2, ![40, 1]⟩
abbrev S8 : Shape := ⟨1, ![8]⟩
abbrev S1x8 : Shape := ⟨2, ![1, 8]⟩
abbrev S40x8 : Shape := ⟨2, ![40, 8]⟩
abbrev S512 : Shape := ⟨1, ![512]⟩
abbrev S1x512 : Shape := ⟨2, ![1, 512]⟩
abbrev S40x512 : Shape := ⟨2, ![40, 512]⟩
abbrev S40x512x1 : Shape := ⟨3, ![40, 512, 1]⟩
abbrev S40x1x8 : Shape := ⟨3, ![40, 1, 8]⟩
abbrev S40x512x8 : Shape := ⟨3, ![40, 512, 8]⟩
abbrev S20480x8 : Shape := ⟨2, ![20480, 8]⟩
abbrev S20480x8x1 : Shape := ⟨3, ![20480, 8, 1]⟩
abbrev S20480x5632 : Shape := ⟨2, ![20480, 5632]⟩

abbrev nBuf : Space → Nat
  | .hbm => 59
  | .vmem => 0
  | .smem => 0
  | _ => 0

abbrev bufTy : (tb : Table) → Fin (tcTables nBuf tb) → BufTy
  | .hbm, ⟨0, _⟩ => ⟨S120, .i32⟩
  | .hbm, ⟨1, _⟩ => ⟨S20480x2048, .bf16⟩
  | .hbm, ⟨2, _⟩ => ⟨S2x8x2048x5632, .f32⟩
  | .hbm, ⟨3, _⟩ => ⟨S2x8x2048x5632, .f32⟩
  | .hbm, ⟨4, _⟩ => ⟨S1x8x2048x5632, .f32⟩
  | .hbm, ⟨5, _⟩ => ⟨S8x2048x5632, .f32⟩
  | .hbm, ⟨6, _⟩ => ⟨S1x8x2048x5632, .f32⟩
  | .hbm, ⟨7, _⟩ => ⟨S8x2048x5632, .f32⟩
  | .hbm, ⟨8, _⟩ => ⟨S20480x2048, .f32⟩
  | .hbm, ⟨9, _⟩ => ⟨S20480x8x5632, .f32⟩
  | .hbm, ⟨10, _⟩ => ⟨S20480x8x5632, .f32⟩
  | .hbm, ⟨11, _⟩ => ⟨S20480x8x5632, .f32⟩
  | .hbm, ⟨12, _⟩ => ⟨S20480x8x5632, .f32⟩
  | .hbm, ⟨13, _⟩ => ⟨S_, .f32⟩
  | .hbm, ⟨14, _⟩ => ⟨S20480x8x5632, .f32⟩
  | .hbm, ⟨15, _⟩ => ⟨S20480x8x5632, .f32⟩
  | .hbm, ⟨16, _⟩ => ⟨S_, .f32⟩
  | .hbm, ⟨17, _⟩ => ⟨S20480x8x5632, .f32⟩
  | .hbm, ⟨18, _⟩ => ⟨S20480x8x5632, .f32⟩
  | .hbm, ⟨19, _⟩ => ⟨S20480x8x5632, .f32⟩
  | .hbm, ⟨20, _⟩ => ⟨S20480x8x5632, .f32⟩
  | .hbm, ⟨21, _⟩ => ⟨S40, .i32⟩
  | .hbm, ⟨22, _⟩ => ⟨S40x1, .i32⟩
  | .hbm, ⟨23, _⟩ => ⟨S8, .i32⟩
  | .hbm, ⟨24, _⟩ => ⟨S1x8, .i32⟩
  | .hbm, ⟨25, _⟩ => ⟨S40x8, .i32⟩
  | .hbm, ⟨26, _⟩ => ⟨S40x8, .i32⟩
  | .hbm, ⟨27, _⟩ => ⟨S40x8, .i1⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S_, .i32⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S1x512, .i32⟩
  | .hbm, ⟨38, _⟩ => ⟨S40, .i32⟩
  | .hbm, ⟨39, _⟩ => ⟨S40x1, .i32⟩
  | .hbm, ⟨40, _⟩ => ⟨S1x512, .i32⟩
  | .hbm, ⟨41, _⟩ => ⟨S40x512, .i32⟩
  | .hbm, ⟨42, _⟩ => ⟨S40x512, .i32⟩
  | .hbm, ⟨43, _⟩ => ⟨S40x512, .i1⟩
  | .hbm, ⟨44, _⟩ => ⟨S40x512x1, .i1⟩
  | .hbm, ⟨45, _⟩ => ⟨S40x1x8, .i1⟩
  | .hbm, ⟨46, _⟩ => ⟨S40x512x8, .i1⟩
  | .hbm, ⟨47, _⟩ => ⟨S40x512x8, .i1⟩
  | .hbm, ⟨48, _⟩ => ⟨S40x512x8, .i1⟩
  | .hbm, ⟨49, _⟩ => ⟨S20480x8, .i1⟩
  | .hbm, ⟨50, _⟩ => ⟨S20480x8x1, .i1⟩
  | .hbm, ⟨51, _⟩ => ⟨S_, .f32⟩
  | .hbm, ⟨52, _⟩ => ⟨S_, .f32⟩
  | .hbm, ⟨53, _⟩ => ⟨S20480x8x5632, .i1⟩
  | .hbm, ⟨54, _⟩ => ⟨S20480x8x5632, .f32⟩
  | .hbm, ⟨55, _⟩ => ⟨S20480x8x5632, .f32⟩
  | .hbm, ⟨56, _⟩ => ⟨S_, .f32⟩
  | .hbm, ⟨57, _⟩ => ⟨S20480x5632, .f32⟩
  | .hbm, ⟨58, _⟩ => ⟨S20480x5632, .bf16⟩
  | _, _ => ⟨S120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Down.lean ====
abbrev S120 : Shape := ⟨1, ![120]⟩
abbrev S20480x5632 : Shape := ⟨2, ![20480, 5632]⟩
abbrev S2x8x5632x2048 : Shape := ⟨4, ![2, 8, 5632, 2048]⟩
abbrev S20480x2048 : Shape := ⟨2, ![20480, 2048]⟩
abbrev S512x5632 : Shape := ⟨2, ![512, 5632]⟩
abbrev S512x512 : Shape := ⟨2, ![512, 512]⟩
abbrev S5632x512 : Shape := ⟨2, ![5632, 512]⟩
abbrev S1 : Shape := ⟨1, ![1]⟩
abbrev S_ : Shape := ⟨0, ![]⟩
abbrev S1x1x5632x512 : Shape := ⟨4, ![1, 1, 5632, 512]⟩
abbrev S256x5632 : Shape := ⟨2, ![256, 5632]⟩
abbrev S256x512 : Shape := ⟨2, ![256, 512]⟩

abbrev nBuf : Space → Nat
  | .hbm => 3
  | .vmem => 6
  | .smem => 1
  | _ => 0

abbrev bufTy : (tb : Table) → Fin (tcTables nBuf tb) → BufTy
  | .hbm, ⟨0, _⟩ => ⟨S20480x5632, .bf16⟩
  | .hbm, ⟨1, _⟩ => ⟨S2x8x5632x2048, .f32⟩
  | .hbm, ⟨2, _⟩ => ⟨S20480x2048, .f32⟩
  | .local _ .vmem, ⟨0, _⟩ => ⟨S512x5632, .bf16⟩
  | .local _ .vmem, ⟨1, _⟩ => ⟨S512x5632, .bf16⟩
  | .local _ .vmem, ⟨2, _⟩ => ⟨S512x512, .f32⟩
  | .local _ .vmem, ⟨3, _⟩ => ⟨S512x512, .f32⟩
  | .local _ .vmem, ⟨4, _⟩ => ⟨S5632x512, .f32⟩
  | .local _ .vmem, ⟨5, _⟩ => ⟨S5632x512, .bf16⟩
  | .local _ .smem, ⟨0, _⟩ => ⟨S120, .i32⟩
  | _, _ => ⟨S20480x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 40], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (c40_i32 : BitVec 32) : Fin 1 → Nat :=
  let arg1 : BitVec 32 := BitVec.ofNat 32 (i 1).val
  let v2 : BitVec 32 := Scalar.addi c40_i32 arg1
  let v3 : Index := Scalar.indexCast v2
  ![v3.toNat]
def k0_off3 (i : grid0.Coords) : Fin 1 → Nat :=
  let arg1 : BitVec 32 := BitVec.ofNat 32 (i 1).val
  let c1_i32 : BitVec 32 := 1#32
  let v9 : BitVec 32 := Scalar.subi arg1 c1_i32
  let c0_i32_0 : BitVec 32 := 0#32
  let v10 : BitVec 32 := Scalar.maxsi v9 c0_i32_0
  let v11 : Index := Scalar.indexCast v10
  ![v11.toNat]
def k0_cond2 (i : grid0.Coords) : BitVec 1 :=
  let arg0 : BitVec 32 := BitVec.ofNat 32 (i 0).val
  let c0_i32_9 : BitVec 32 := 0#32
  let v29 : BitVec 1 := Scalar.cmpi .eq arg0 c0_i32_9
  let arg1 : BitVec 32 := BitVec.ofNat 32 (i 1).val
  let c0_i32_10 : BitVec 32 := 0#32
  let v30 : BitVec 1 := Scalar.cmpi .eq arg1 c0_i32_10
  let v31 : BitVec 1 := Scalar.andi v29 v30
  let v32 : BitVec 32 := Scalar.extui v31
  let c0_i32_11 : BitVec 32 := 0#32
  let v33 : BitVec 1 := Scalar.cmpi .ne v32 c0_i32_11
  v33

def k0_mult1 (i : grid0.Coords) : BitVec 32 :=
  let arg0 : BitVec 32 := BitVec.ofNat 32 (i 0).val
  let c512_i32_23 : BitVec 32 := 512#32
  let v54 : BitVec 32 := Scalar.muli arg0 c512_i32_23
  v54
def k0_off4 (i : grid0.Coords) (v1 : BitVec 32) : Fin 4 → Nat :=
  let c0_i32_24 : BitVec 32 := 0#32
  let c0_i32_26 : BitVec 32 := 0#32
  let arg0 : BitVec 32 := BitVec.ofNat 32 (i 0).val
  let c512_i32_23 : BitVec 32 := 512#32
  let v54 : BitVec 32 := Scalar.muli arg0 c512_i32_23
  let v55 : BitVec 32 := v54
  ![0, v1.toNat, 0, v55.toNat]
def k0_cond1 (i : grid0.Coords) (v1 : BitVec 32) (v12 : BitVec 32) : BitVec 1 :=
  let arg1 : BitVec 32 := BitVec.ofNat 32 (i 1).val
  let c0_i32 : BitVec 32 := 0#32
  let v8 : BitVec 1 := Scalar.cmpi .eq arg1 c0_i32
  let v13 : BitVec 1 := Scalar.cmpi .ne v1 v12
  let v14 : BitVec 1 := Scalar.ori v8 v13
  let v15 : BitVec 32 := Scalar.extui v14
  let c0_i32_1 : BitVec 32 := 0#32
  let v16 : BitVec 1 := Scalar.cmpi .ne v15 c0_i32_1
  v16

def k0_mult2 (i : grid0.Coords) : BitVec 32 :=
  let arg0 : BitVec 32 := BitVec.ofNat 32 (i 0).val
  let c512_i32 : BitVec 32 := 512#32
  let v34 : BitVec 32 := Scalar.muli arg0 c512_i32
  v34
def k0_off5 (i : grid0.Coords) (v1 : BitVec 32) : Fin 4 → Nat :=
  let c0_i32_12 : BitVec 32 := 0#32
  let c0_i32_14 : BitVec 32 := 0#32
  let arg0 : BitVec 32 := BitVec.ofNat 32 (i 0).val
  let c512_i32 : BitVec 32 := 512#32
  let v34 : BitVec 32 := Scalar.muli arg0 c512_i32
  let v35 : BitVec 32 := v34
  ![0, v1.toNat, 0, v35.toNat]
def k0_mult3 (i : grid0.Coords) : BitVec 32 :=
  let arg0 : BitVec 32 := BitVec.ofNat 32 (i 0).val
  let c512_i32_23 : BitVec 32 := 512#32
  let v54 : BitVec 32 := Scalar.muli arg0 c512_i32_23
  v54
def k0_off6 (i : grid0.Coords) (v7 : BitVec 32) : Fin 4 → Nat :=
  let c0_i32_24 : BitVec 32 := 0#32
  let c0_i32_26 : BitVec 32 := 0#32
  let arg0 : BitVec 32 := BitVec.ofNat 32 (i 0).val
  let c512_i32_23 : BitVec 32 := 512#32
  let v54 : BitVec 32 := Scalar.muli arg0 c512_i32_23
  let v55 : BitVec 32 := v54
  ![0, v7.toNat, 0, v55.toNat]
def k0_cond3 (v7 : BitVec 32) : BitVec 1 :=
  let c0_i32_18 : BitVec 32 := 0#32
  let v45 : BitVec 1 := Scalar.cmpi .sge v7 c0_i32_18
  let v46 : BitVec 32 := Scalar.extui v45
  let c0_i32_19 : BitVec 32 := 0#32
  let v47 : BitVec 1 := Scalar.cmpi .ne v46 c0_i32_19
  v47

def k0_chk1 (i : grid0.Coords) (v1 : BitVec 32) (v7 : BitVec 32) (v12 : BitVec 32) : Prop :=
  (∀ (k0_h1 : k0_cond1 i v1 v12 = 1#1), ∀ (k0_h2 : k0_cond2 i = 1#1), ∀ a, (k0_off4 i v1) a + S1x1x5632x512.size a ≤ S2x8x5632x2048.size a) ∧
  (∀ (k0_h1 : k0_cond1 i v1 v12 = 1#1), ∀ a, (k0_off5 i v1) a + S1x1x5632x512.size a ≤ S2x8x5632x2048.size a) ∧
  (∀ (k0_h1 : k0_cond1 i v1 v12 = 1#1), ∀ (k0_h3 : k0_cond3 v7 = 1#1), ∀ a, (k0_off6 i v7) a + S1x1x5632x512.size a ≤ S2x8x5632x2048.size a)
theorem k0_off4_inb : ∀ (i : grid0.Coords) (v1 : BitVec 32) (v7 : BitVec 32) (v12 : BitVec 32) (k0_hw1 : k0_chk1 i v1 v7 v12), ∀ (k0_h1 : k0_cond1 i v1 v12 = 1#1), ∀ (k0_h2 : k0_cond2 i = 1#1), ∀ a, (k0_off4 i v1) a + S1x1x5632x512.size a ≤ S2x8x5632x2048.size a := fun i v1 v7 v12 k0_hw1 k0_h1 k0_h2 => k0_hw1.1 k0_h1 k0_h2
theorem k0_off5_inb : ∀ (i : grid0.Coords) (v1 : BitVec 32) (v7 : BitVec 32) (v12 : BitVec 32) (k0_hw1 : k0_chk1 i v1 v7 v12), ∀ (k0_h1 : k0_cond1 i v1 v12 = 1#1), ∀ a, (k0_off5 i v1) a + S1x1x5632x512.size a ≤ S2x8x5632x2048.size a := fun i v1 v7 v12 k0_hw1 k0_h1 => k0_hw1.2.1 k0_h1
theorem k0_off6_inb : ∀ (i : grid0.Coords) (v1 : BitVec 32) (v7 : BitVec 32) (v12 : BitVec 32) (k0_hw1 : k0_chk1 i v1 v7 v12), ∀ (k0_h1 : k0_cond1 i v1 v12 = 1#1), ∀ (k0_h3 : k0_cond3 v7 = 1#1), ∀ a, (k0_off6 i v7) a + S1x1x5632x512.size a ≤ S2x8x5632x2048.size a := fun i v1 v7 v12 k0_hw1 k0_h1 k0_h3 => k0_hw1.2.2 k0_h1 k0_h3

def k0_mult4 (i : grid0.Coords) : BitVec 32 :=
  let arg0 : BitVec 32 := BitVec.ofNat 32 (i 0).val
  let c1_i32_23 : BitVec 32 := 1#32
  let v54 : BitVec 32 := Scalar.addi arg0 c1_i32_23
  let c512_i32_25 : BitVec 32 := 512#32
  let v56 : BitVec 32 := Scalar.muli v54 c512_i32_25
  v56
def k0_off7 (i : grid0.Coords) (v55 : BitVec 32) : Fin 4 → Nat :=
  let c0_i32_26 : BitVec 32 := 0#32
  let c0_i32_28 : BitVec 32 := 0#32
  let arg0 : BitVec 32 := BitVec.ofNat 32 (i 0).val
  let c1_i32_23 : BitVec 32 := 1#32
  let v54 : BitVec 32 := Scalar.addi arg0 c1_i32_23
  let c512_i32_25 : BitVec 32 := 512#32
  let v56 : BitVec 32 := Scalar.muli v54 c512_i32_25
  let v57 : BitVec 32 := v56
  ![0, v55.toNat, 0, v57.toNat]
def k0_cond4 (i : grid0.Coords) (v7 : BitVec 32) : BitVec 1 :=
  let c0_i32_20 : BitVec 32 := 0#32
  let v48 : BitVec 1 := Scalar.cmpi .slt v7 c0_i32_20
  let arg0 : BitVec 32 := BitVec.ofNat 32 (i 0).val
  let c1_i32_21 : BitVec 32 := 1#32
  let v49 : BitVec 32 := Scalar.addi arg0 c1_i32_21
  let c4_i32 : BitVec 32 := 4#32
  let v50 : BitVec 1 := Scalar.cmpi .slt v49 c4_i32
  let v51 : BitVec 1 := Scalar.andi v48 v50
  let v52 : BitVec 32 := Scalar.extui v51
  let c0_i32_22 : BitVec 32 := 0#32
  let v53 : BitVec 1 := Scalar.cmpi .ne v52 c0_i32_22
  v53

def k0_chk2 (i : grid0.Coords) (v1 : BitVec 32) (v7 : BitVec 32) (v12 : BitVec 32) (v55 : BitVec 32) : Prop :=
  (∀ (k0_h1 : k0_cond1 i v1 v12 = 1#1), ∀ (k0_h4 : k0_cond4 i v7 = 1#1), ∀ a, (k0_off7 i v55) a + S1x1x5632x512.size a ≤ S2x8x5632x2048.size a)
theorem k0_off7_inb : ∀ (i : grid0.Coords) (v1 : BitVec 32) (v7 : BitVec 32) (v12 : BitVec 32) (v55 : BitVec 32) (k0_hw2 : k0_chk2 i v1 v7 v12 v55), ∀ (k0_h1 : k0_cond1 i v1 v12 = 1#1), ∀ (k0_h4 : k0_cond4 i v7 = 1#1), ∀ a, (k0_off7 i v55) a + S1x1x5632x512.size a ≤ S2x8x5632x2048.size a := fun i v1 v7 v12 v55 k0_hw2 k0_h1 k0_h4 => k0_hw2 k0_h1 k0_h4

def k0_cond5 (v4 : BitVec 32) : BitVec 1 :=
  let c0_i32_2 : BitVec 32 := 0#32
  let v17 : BitVec 1 := Scalar.cmpi .sgt v4 c0_i32_2
  let v18 : BitVec 32 := Scalar.extui v17
  let c0_i32_3 : BitVec 32 := 0#32
  let v19 : BitVec 1 := Scalar.cmpi .ne v18 c0_i32_3
  v19

def k0_cond6 (v4 : BitVec 32) : BitVec 1 :=
  let c0_i32_4 : BitVec 32 := 0#32
  let v20 : BitVec 1 := Scalar.cmpi .sle v4 c0_i32_4
  let v21 : BitVec 32 := Scalar.extui v20
  let c0_i32_5 : BitVec 32 := 0#32
  let v22 : BitVec 1 := Scalar.cmpi .ne v21 c0_i32_5
  v22

def k0_cond7 (v4 : BitVec 32) : BitVec 1 :=
  let c256_i32 : BitVec 32 := 256#32
  let v23 : BitVec 1 := Scalar.cmpi .sgt v4 c256_i32
  let v24 : BitVec 32 := Scalar.extui v23
  let c0_i32_6 : BitVec 32 := 0#32
  let v25 : BitVec 1 := Scalar.cmpi .ne v24 c0_i32_6
  v25

def k0_cond8 (v4 : BitVec 32) : BitVec 1 :=
  let c256_i32_7 : BitVec 32 := 256#32
  let v26 : BitVec 1 := Scalar.cmpi .sle v4 c256_i32_7
  let v27 : BitVec 32 := Scalar.extui v26
  let c0_i32_8 : BitVec 32 := 0#32
  let v28 : BitVec 1 := Scalar.cmpi .ne v27 c0_i32_8
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== DownReferenceIdeal.lean ====
abbrev S120 : Shape := ⟨1, ![120]⟩
abbrev S20480x5632 : Shape := ⟨2, ![20480, 5632]⟩
abbrev S2x8x5632x2048 : Shape := ⟨4, ![2, 8, 5632, 2048]⟩
abbrev S1x8x5632x2048 : Shape := ⟨4, ![1, 8, 5632, 2048]⟩
abbrev S8x5632x2048 : Shape := ⟨3, ![8, 5632, 2048]⟩
abbrev S20480x8x2048 : Shape := ⟨3, ![20480, 8, 2048]⟩
abbrev S40 : Shape := ⟨1, ![40]⟩
abbrev S40x1 : Shape := ⟨2, ![40, 1]⟩
abbrev S8 : Shape := ⟨1, ![8]⟩
abbrev S1x8 : Shape := ⟨2, ![1, 8]⟩
abbrev S40x8 : Shape := ⟨2, ![40, 8]⟩
abbrev S512 : Shape := ⟨1, ![512]⟩
abbrev S_ : Shape := ⟨0, ![]⟩
abbrev S1x512 : Shape := ⟨2, ![1, 512]⟩
abbrev S40x512 : Shape := ⟨2, ![40, 512]⟩
abbrev S40x512x1 : Shape := ⟨3, ![40, 512, 1]⟩
abbrev S40x1x8 : Shape := ⟨3, ![40, 1, 8]⟩
abbrev S40x512x8 : Shape := ⟨3, ![40, 512, 8]⟩
abbrev S20480x8 : Shape := ⟨2, ![20480, 8]⟩
abbrev S20480x8x1 : Shape := ⟨3, ![20480, 8, 1]⟩
abbrev S20480x2048 : Shape := ⟨2, ![20480, 2048]⟩

abbrev nBuf : Space → Nat
  | .hbm => 44
  | .vmem => 0
  | .smem => 0
  | _ => 0

abbrev bufTy : (tb : Table) → Fin (tcTables nBuf tb) → BufTy
  | .hbm, ⟨0, _⟩ => ⟨S120, .i32⟩
  | .hbm, ⟨1, _⟩ => ⟨S20480x5632, .bf16⟩
  | .hbm, ⟨2, _⟩ => ⟨S2x8x5632x2048, .f32⟩
  | .hbm, ⟨3, _⟩ => ⟨S1x8x5632x2048, .f32⟩
  | .hbm, ⟨4, _⟩ => ⟨S8x5632x2048, .f32⟩
  | .hbm, ⟨5, _⟩ => ⟨S20480x5632, .f32⟩
  | .hbm, ⟨6, _⟩ => ⟨S20480x8x2048, .f32⟩
  | .hbm, ⟨7, _⟩ => ⟨S40, .i32⟩
  | .hbm, ⟨8, _⟩ => ⟨S40x1, .i32⟩
  | .hbm, ⟨9, _⟩ => ⟨S8, .i32⟩
  | .hbm, ⟨10, _⟩ => ⟨S1x8, .i32⟩
  | .hbm, ⟨11, _⟩ => ⟨S40x8, .i32⟩
  | .hbm, ⟨12, _⟩ => ⟨S40x8, .i32⟩
  | .hbm, ⟨13, _⟩ => ⟨S40x8, .i1⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S1x512, .i32⟩
  | .hbm, ⟨24, _⟩ => ⟨S40, .i32⟩
  | .hbm, ⟨25, _⟩ => ⟨S40x1, .i32⟩
  | .hbm, ⟨26, _⟩ => ⟨S1x512, .i32⟩
  | .hbm, ⟨27, _⟩ => ⟨S40x512, .i32⟩
  | .hbm, ⟨28, _⟩ => ⟨S40x512, .i32⟩
  | .hbm, ⟨29, _⟩ => ⟨S40x512, .i1⟩
  | .hbm, ⟨30, _⟩ => ⟨S40x512x1, .i1⟩
  | .hbm, ⟨31, _⟩ => ⟨S40x1x8, .i1⟩
  | .hbm, ⟨32, _⟩ => ⟨S40x512x8, .i1⟩
  | .hbm, ⟨33, _⟩ => ⟨S40x512x8, .i1⟩
  | .hbm, ⟨34, _⟩ => ⟨S40x512x8, .i1⟩
  | .hbm, ⟨35, _⟩ => ⟨S20480x8, .i1⟩
  | .hbm, ⟨36, _⟩ => ⟨S20480x8x1, .i1⟩
  | .hbm, ⟨37, _⟩ => ⟨S_, .f32⟩
  | .hbm, ⟨38, _⟩ => ⟨S_, .f32⟩
  | .hbm, ⟨39, _⟩ => ⟨S20480x8x2048, .i1⟩
  | .hbm, ⟨40, _⟩ => ⟨S20480x8x2048, .f32⟩
  | .hbm, ⟨41, _⟩ => ⟨S20480x8x2048, .f32⟩
  | .hbm, ⟨42, _⟩ => ⟨S_, .f32⟩
  | .hbm, ⟨43, _⟩ => ⟨S20480x2048, .f32⟩
  | _, _ => ⟨S120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== DownNext.lean ====
abbrev S120 : Shape := ⟨1, ![120]⟩
abbrev S20480x5632 : Shape := ⟨2, ![20480, 5632]⟩
abbrev S2x8x5632x2048 : Shape := ⟨4, ![2, 8, 5632, 2048]⟩
abbrev S20480x2048 : Shape := ⟨2, ![20480, 2048]⟩
abbrev S512x5632 : Shape := ⟨2, ![512, 5632]⟩
abbrev S512x512 : Shape := ⟨2, ![512, 512]⟩
abbrev S5632x512 : Shape := ⟨2, ![5632, 512]⟩
abbrev S1 : Shape := ⟨1, ![1]⟩
abbrev S_ : Shape := ⟨0, ![]⟩
abbrev S1x1x5632x512 : Shape := ⟨4, ![1, 1, 5632, 512]⟩
abbrev S256x5632 : Shape := ⟨2, ![256, 5632]⟩
abbrev S256x512 : Shape := ⟨2, ![256, 512]⟩

abbrev nBuf : Space → Nat
  | .hbm => 3
  | .vmem => 6
  | .smem => 1
  | _ => 0

abbrev bufTy : (tb : Table) → Fin (tcTables nBuf tb) → BufTy
  | .hbm, ⟨0, _⟩ => ⟨S20480x5632, .bf16⟩
  | .hbm, ⟨1, _⟩ => ⟨S2x8x5632x2048, .f32⟩
  | .hbm, ⟨2, _⟩ => ⟨S20480x2048, .f32⟩
  | .local _ .vmem, ⟨0, _⟩ => ⟨S512x5632, .bf16⟩
  | .local _ .vmem, ⟨1, _⟩ => ⟨S512x5632, .bf16⟩
  | .local _ .vmem, ⟨2, _⟩ => ⟨S512x512, .f32⟩
  | .local _ .vmem, ⟨3, _⟩ => ⟨S512x512, .f32⟩
  | .local _ .vmem, ⟨4, _⟩ => ⟨S5632x512, .f32⟩
  | .local _ .vmem, ⟨5, _⟩ => ⟨S5632x512, .bf16⟩
  | .local _ .smem, ⟨0, _⟩ => ⟨S120, .i32⟩
  | _, _ => ⟨S20480x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 40], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (c40_i32 : BitVec 32) : Fin 1 → Nat :=
  let arg1 : BitVec 32 := BitVec.ofNat 32 (i 1).val
  let v2 : BitVec 32 := Scalar.addi c40_i32 arg1
  let v3 : Index := Scalar.indexCast v2
  ![v3.toNat]
def k0_off3 (i : grid0.Coords) : Fin 1 → Nat :=
  let arg1 : BitVec 32 := BitVec.ofNat 32 (i 1).val
  let c1_i32 : BitVec 32 := 1#32
  let v9 : BitVec 32 := Scalar.subi arg1 c1_i32
  let c0_i32_0 : BitVec 32 := 0#32
  let v10 : BitVec 32 := Scalar.maxsi v9 c0_i32_0
  let v11 : Index := Scalar.indexCast v10
  ![v11.toNat]
def k0_cond2 (i : grid0.Coords) : BitVec 1 :=
  let arg0 : BitVec 32 := BitVec.ofNat 32 (i 0).val
  let c0_i32_9 : BitVec 32 := 0#32
  let v29 : BitVec 1 := Scalar.cmpi .eq arg0 c0_i32_9
  let arg1 : BitVec 32 := BitVec.ofNat 32 (i 1).val
  let c0_i32_10 : BitVec 32 := 0#32
  let v30 : BitVec 1 := Scalar.cmpi .eq arg1 c0_i32_10
  let v31 : BitVec 1 := Scalar.andi v29 v30
  let v32 : BitVec 32 := Scalar.extui v31
  let c0_i32_11 : BitVec 32 := 0#32
  let v33 : BitVec 1 := Scalar.cmpi .ne v32 c0_i32_11
  v33

def k0_mult1 (i : grid0.Coords) : BitVec 32 :=
  let arg0 : BitVec 32 := BitVec.ofNat 32 (i 0).val
  let c512_i32_23 : BitVec 32 := 512#32
  let v54 : BitVec 32 := Scalar.muli arg0 c512_i32_23
  v54
def k0_off4 (i : grid0.Coords) (v1 : BitVec 32) : Fin 4 → Nat :=
  let c1_i32_24 : BitVec 32 := 1#32
  let c0_i32_26 : BitVec 32 := 0#32
  let arg0 : BitVec 32 := BitVec.ofNat 32 (i 0).val
  let c512_i32_23 : BitVec 32 := 512#32
  let v54 : BitVec 32 := Scalar.muli arg0 c512_i32_23
  let v55 : BitVec 32 := v54
  ![1, v1.toNat, 0, v55.toNat]
def k0_cond1 (i : grid0.Coords) (v1 : BitVec 32) (v12 : BitVec 32) : BitVec 1 :=
  let arg1 : BitVec 32 := BitVec.ofNat 32 (i 1).val
  let c0_i32 : BitVec 32 := 0#32
  let v8 : BitVec 1 := Scalar.cmpi .eq arg1 c0_i32
  let v13 : BitVec 1 := Scalar.cmpi .ne v1 v12
  let v14 : BitVec 1 := Scalar.ori v8 v13
  let v15 : BitVec 32 := Scalar.extui v14
  let c0_i32_1 : BitVec 32 := 0#32
  let v16 : BitVec 1 := Scalar.cmpi .ne v15 c0_i32_1
  v16

def k0_mult2 (i : grid0.Coords) : BitVec 32 :=
  let arg0 : BitVec 32 := BitVec.ofNat 32 (i 0).val
  let c512_i32 : BitVec 32 := 512#32
  let v34 : BitVec 32 := Scalar.muli arg0 c512_i32
  v34
def k0_off5 (i : grid0.Coords) (v1 : BitVec 32) : Fin 4 → Nat :=
  let c1_i32_12 : BitVec 32 := 1#32
  let c0_i32_14 : BitVec 32 := 0#32
  let arg0 : BitVec 32 := BitVec.ofNat 32 (i 0).val
  let c512_i32 : BitVec 32 := 512#32
  let v34 : BitVec 32 := Scalar.muli arg0 c512_i32
  let v35 : BitVec 32 := v34
  ![1, v1.toNat, 0, v35.toNat]
def k0_mult3 (i : grid0.Coords) : BitVec 32 :=
  let arg0 : BitVec 32 := BitVec.ofNat 32 (i 0).val
  let c512_i32_23 : BitVec 32 := 512#32
  let v54 : BitVec 32 := Scalar.muli arg0 c512_i32_23
  v54
def k0_off6 (i : grid0.Coords) (v7 : BitVec 32) : Fin 4 → Nat :=
  let c1_i32_24 : BitVec 32 := 1#32
  let c0_i32_26 : BitVec 32 := 0#32
  let arg0 : BitVec 32 := BitVec.ofNat 32 (i 0).val
  let c512_i32_23 : BitVec 32 := 512#32
  let v54 : BitVec 32 := Scalar.muli arg0 c512_i32_23
  let v55 : BitVec 32 := v54
  ![1, v7.toNat, 0, v55.toNat]
def k0_cond3 (v7 : BitVec 32) : BitVec 1 :=
  let c0_i32_18 : BitVec 32 := 0#32
  let v45 : BitVec 1 := Scalar.cmpi .sge v7 c0_i32_18
  let v46 : BitVec 32 := Scalar.extui v45
  let c0_i32_19 : BitVec 32 := 0#32
  let v47 : BitVec 1 := Scalar.cmpi .ne v46 c0_i32_19
  v47

def k0_chk1 (i : grid0.Coords) (v1 : BitVec 32) (v7 : BitVec 32) (v12 : BitVec 32) : Prop :=
  (∀ (k0_h1 : k0_cond1 i v1 v12 = 1#1), ∀ (k0_h2 : k0_cond2 i = 1#1), ∀ a, (k0_off4 i v1) a + S1x1x5632x512.size a ≤ S2x8x5632x2048.size a) ∧
  (∀ (k0_h1 : k0_cond1 i v1 v12 = 1#1), ∀ a, (k0_off5 i v1) a + S1x1x5632x512.size a ≤ S2x8x5632x2048.size a) ∧
  (∀ (k0_h1 : k0_cond1 i v1 v12 = 1#1), ∀ (k0_h3 : k0_cond3 v7 = 1#1), ∀ a, (k0_off6 i v7) a + S1x1x5632x512.size a ≤ S2x8x5632x2048.size a)
theorem k0_off4_inb : ∀ (i : grid0.Coords) (v1 : BitVec 32) (v7 : BitVec 32) (v12 : BitVec 32) (k0_hw1 : k0_chk1 i v1 v7 v12), ∀ (k0_h1 : k0_cond1 i v1 v12 = 1#1), ∀ (k0_h2 : k0_cond2 i = 1#1), ∀ a, (k0_off4 i v1) a + S1x1x5632x512.size a ≤ S2x8x5632x2048.size a := fun i v1 v7 v12 k0_hw1 k0_h1 k0_h2 => k0_hw1.1 k0_h1 k0_h2
theorem k0_off5_inb : ∀ (i : grid0.Coords) (v1 : BitVec 32) (v7 : BitVec 32) (v12 : BitVec 32) (k0_hw1 : k0_chk1 i v1 v7 v12), ∀ (k0_h1 : k0_cond1 i v1 v12 = 1#1), ∀ a, (k0_off5 i v1) a + S1x1x5632x512.size a ≤ S2x8x5632x2048.size a := fun i v1 v7 v12 k0_hw1 k0_h1 => k0_hw1.2.1 k0_h1
theorem k0_off6_inb : ∀ (i : grid0.Coords) (v1 : BitVec 32) (v7 : BitVec 32) (v12 : BitVec 32) (k0_hw1 : k0_chk1 i v1 v7 v12), ∀ (k0_h1 : k0_cond1 i v1 v12 = 1#1), ∀ (k0_h3 : k0_cond3 v7 = 1#1), ∀ a, (k0_off6 i v7) a + S1x1x5632x512.size a ≤ S2x8x5632x2048.size a := fun i v1 v7 v12 k0_hw1 k0_h1 k0_h3 => k0_hw1.2.2 k0_h1 k0_h3

def k0_mult4 (i : grid0.Coords) : BitVec 32 :=
  let arg0 : BitVec 32 := BitVec.ofNat 32 (i 0).val
  let c1_i32_23 : BitVec 32 := 1#32
  let v54 : BitVec 32 := Scalar.addi arg0 c1_i32_23
  let c512_i32_25 : BitVec 32 := 512#32
  let v56 : BitVec 32 := Scalar.muli v54 c512_i32_25
  v56
def k0_off7 (i : grid0.Coords) (v55 : BitVec 32) : Fin 4 → Nat :=
  let c1_i32_26 : BitVec 32 := 1#32
  let c0_i32_28 : BitVec 32 := 0#32
  let arg0 : BitVec 32 := BitVec.ofNat 32 (i 0).val
  let c1_i32_23 : BitVec 32 := 1#32
  let v54 : BitVec 32 := Scalar.addi arg0 c1_i32_23
  let c512_i32_25 : BitVec 32 := 512#32
  let v56 : BitVec 32 := Scalar.muli v54 c512_i32_25
  let v57 : BitVec 32 := v56
  ![1, v55.toNat, 0, v57.toNat]
def k0_cond4 (i : grid0.Coords) (v7 : BitVec 32) : BitVec 1 :=
  let c0_i32_20 : BitVec 32 := 0#32
  let v48 : BitVec 1 := Scalar.cmpi .slt v7 c0_i32_20
  let arg0 : BitVec 32 := BitVec.ofNat 32 (i 0).val
  let c1_i32_21 : BitVec 32 := 1#32
  let v49 : BitVec 32 := Scalar.addi arg0 c1_i32_21
  let c4_i32 : BitVec 32 := 4#32
  let v50 : BitVec 1 := Scalar.cmpi .slt v49 c4_i32
  let v51 : BitVec 1 := Scalar.andi v48 v50
  let v52 : BitVec 32 := Scalar.extui v51
  let c0_i32_22 : BitVec 32 := 0#32
  let v53 : BitVec 1 := Scalar.cmpi .ne v52 c0_i32_22
  v53

def k0_chk2 (i : grid0.Coords) (v1 : BitVec 32) (v7 : BitVec 32) (v12 : BitVec 32) (v55 : BitVec 32) : Prop :=
  (∀ (k0_h1 : k0_cond1 i v1 v12 = 1#1), ∀ (k0_h4 : k0_cond4 i v7 = 1#1), ∀ a, (k0_off7 i v55) a + S1x1x5632x512.size a ≤ S2x8x5632x2048.size a)
theorem k0_off7_inb : ∀ (i : grid0.Coords) (v1 : BitVec 32) (v7 : BitVec 32) (v12 : BitVec 32) (v55 : BitVec 32) (k0_hw2 : k0_chk2 i v1 v7 v12 v55), ∀ (k0_h1 : k0_cond1 i v1 v12 = 1#1), ∀ (k0_h4 : k0_cond4 i v7 = 1#1), ∀ a, (k0_off7 i v55) a + S1x1x5632x512.size a ≤ S2x8x5632x2048.size a := fun i v1 v7 v12 v55 k0_hw2 k0_h1 k0_h4 => k0_hw2 k0_h1 k0_h4

def k0_cond5 (v4 : BitVec 32) : BitVec 1 :=
  let c0_i32_2 : BitVec 32 := 0#32
  let v17 : BitVec 1 := Scalar.cmpi .sgt v4 c0_i32_2
  let v18 : BitVec 32 := Scalar.extui v17
  let c0_i32_3 : BitVec 32 := 0#32
  let v19 : BitVec 1 := Scalar.cmpi .ne v18 c0_i32_3
  v19

def k0_cond6 (v4 : BitVec 32) : BitVec 1 :=
  let c0_i32_4 : BitVec 32 := 0#32
  let v20 : BitVec 1 := Scalar.cmpi .sle v4 c0_i32_4
  let v21 : BitVec 32 := Scalar.extui v20
  let c0_i32_5 : BitVec 32 := 0#32
  let v22 : BitVec 1 := Scalar.cmpi .ne v21 c0_i32_5
  v22

def k0_cond7 (v4 : BitVec 32) : BitVec 1 :=
  let c256_i32 : BitVec 32 := 256#32
  let v23 : BitVec 1 := Scalar.cmpi .sgt v4 c256_i32
  let v24 : BitVec 32 := Scalar.extui v23
  let c0_i32_6 : BitVec 32 := 0#32
  let v25 : BitVec 1 := Scalar.cmpi .ne v24 c0_i32_6
  v25

def k0_cond8 (v4 : BitVec 32) : BitVec 1 :=
  let c256_i32_7 : BitVec 32 := 256#32
  let v26 : BitVec 1 := Scalar.cmpi .sle v4 c256_i32_7
  let v27 : BitVec 32 := Scalar.extui v26
  let c0_i32_8 : BitVec 32 := 0#32
  let v28 : BitVec 1 := Scalar.cmpi .ne v27 c0_i32_8
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== DownNextReferenceIdeal.lean ====
abbrev S120 : Shape := ⟨1, ![120]⟩
abbrev S20480x5632 : Shape := ⟨2, ![20480, 5632]⟩
abbrev S2x8x5632x2048 : Shape := ⟨4, ![2, 8, 5632, 2048]⟩
abbrev S1x8x5632x2048 : Shape := ⟨4, ![1, 8, 5632, 2048]⟩
abbrev S8x5632x2048 : Shape := ⟨3, ![8, 5632, 2048]⟩
abbrev S20480x8x2048 : Shape := ⟨3, ![20480, 8, 2048]⟩
abbrev S40 : Shape := ⟨1, ![40]⟩
abbrev S40x1 : Shape := ⟨2, ![40, 1]⟩
abbrev S8 : Shape := ⟨1, ![8]⟩
abbrev S1x8 : Shape := ⟨2, ![1, 8]⟩
abbrev S40x8 : Shape := ⟨2, ![40, 8]⟩
abbrev S512 : Shape := ⟨1, ![512]⟩
abbrev S_ : Shape := ⟨0, ![]⟩
abbrev S1x512 : Shape := ⟨2, ![1, 512]⟩
abbrev S40x512 : Shape := ⟨2, ![40, 512]⟩
abbrev S40x512x1 : Shape := ⟨3, ![40, 512, 1]⟩
abbrev S40x1x8 : Shape := ⟨3, ![40, 1, 8]⟩
abbrev S40x512x8 : Shape := ⟨3, ![40, 512, 8]⟩
abbrev S20480x8 : Shape := ⟨2, ![20480, 8]⟩
abbrev S20480x8x1 : Shape := ⟨3, ![20480, 8, 1]⟩
abbrev S20480x2048 : Shape := ⟨2, ![20480, 2048]⟩

abbrev nBuf : Space → Nat
  | .hbm => 44
  | .vmem => 0
  | .smem => 0
  | _ => 0

abbrev bufTy : (tb : Table) → Fin (tcTables nBuf tb) → BufTy
  | .hbm, ⟨0, _⟩ => ⟨S120, .i32⟩
  | .hbm, ⟨1, _⟩ => ⟨S20480x5632, .bf16⟩
  | .hbm, ⟨2, _⟩ => ⟨S2x8x5632x2048, .f32⟩
  | .hbm, ⟨3, _⟩ => ⟨S1x8x5632x2048, .f32⟩
  | .hbm, ⟨4, _⟩ => ⟨S8x5632x2048, .f32⟩
  | .hbm, ⟨5, _⟩ => ⟨S20480x5632, .f32⟩
  | .hbm, ⟨6, _⟩ => ⟨S20480x8x2048, .f32⟩
  | .hbm, ⟨7, _⟩ => ⟨S40, .i32⟩
  | .hbm, ⟨8, _⟩ => ⟨S40x1, .i32⟩
  | .hbm, ⟨9, _⟩ => ⟨S8, .i32⟩
  | .hbm, ⟨10, _⟩ => ⟨S1x8, .i32⟩
  | .hbm, ⟨11, _⟩ => ⟨S40x8, .i32⟩
  | .hbm, ⟨12, _⟩ => ⟨S40x8, .i32⟩
  | .hbm, ⟨13, _⟩ => ⟨S40x8, .i1⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S1x512, .i32⟩
  | .hbm, ⟨24, _⟩ => ⟨S40, .i32⟩
  | .hbm, ⟨25, _⟩ => ⟨S40x1, .i32⟩
  | .hbm, ⟨26, _⟩ => ⟨S1x512, .i32⟩
  | .hbm, ⟨27, _⟩ => ⟨S40x512, .i32⟩
  | .hbm, ⟨28, _⟩ => ⟨S40x512, .i32⟩
  | .hbm, ⟨29, _⟩ => ⟨S40x512, .i1⟩
  | .hbm, ⟨30, _⟩ => ⟨S40x512x1, .i1⟩
  | .hbm, ⟨31, _⟩ => ⟨S40x1x8, .i1⟩
  | .hbm, ⟨32, _⟩ => ⟨S40x512x8, .i1⟩
  | .hbm, ⟨33, _⟩ => ⟨S40x512x8, .i1⟩
  | .hbm, ⟨34, _⟩ => ⟨S40x512x8, .i1⟩
  | .hbm, ⟨35, _⟩ => ⟨S20480x8, .i1⟩
  | .hbm, ⟨36, _⟩ => ⟨S20480x8x1, .i1⟩
  | .hbm, ⟨37, _⟩ => ⟨S_, .f32⟩
  | .hbm, ⟨38, _⟩ => ⟨S_, .f32⟩
  | .hbm, ⟨39, _⟩ => ⟨S20480x8x2048, .i1⟩
  | .hbm, ⟨40, _⟩ => ⟨S20480x8x2048, .f32⟩
  | .hbm, ⟨41, _⟩ => ⟨S20480x8x2048, .f32⟩
  | .hbm, ⟨42, _⟩ => ⟨S_, .f32⟩
  | .hbm, ⟨43, _⟩ => ⟨S20480x2048, .f32⟩
  | _, _ => ⟨S120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Dense.lean ====
abbrev S8192x2048 : Shape := ⟨2, ![8192, 2048]⟩
abbrev S2x2048x5632 : Shape := ⟨3, ![2, 2048, 5632]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DenseReferenceIdeal.lean ====
abbrev S8192x2048 : Shape := ⟨2, ![8192, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x2048, .f32⟩
  | .hbm, ⟨4, _⟩ => ⟨S1x2048x5632, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x2048x5632, .f32⟩
  | .hbm, ⟨17, _⟩ => ⟨S2048x5632, .f32⟩
  | .hbm, ⟨18, _⟩ => ⟨S8192x5632, .f32⟩
  | .hbm, ⟨19, _⟩ => ⟨S8192x5632, .f32⟩
  | .hbm, ⟨20, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== DenseNext.lean ====
abbrev S8192x2048 : Shape := ⟨2, ![8192, 2048]⟩
abbrev S2x2048x5632 : Shape := ⟨3, ![2, 2048, 5632]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DenseNextReferenceIdeal.lean ====
abbrev S8192x2048 : Shape := ⟨2, ![8192, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x2048, .f32⟩
  | .hbm, ⟨4, _⟩ => ⟨S1x2048x5632, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x2048x5632, .f32⟩
  | .hbm, ⟨17, _⟩ => ⟨S2048x5632, .f32⟩
  | .hbm, ⟨18, _⟩ => ⟨S8192x5632, .f32⟩
  | .hbm, ⟨19, _⟩ => ⟨S8192x5632, .f32⟩
  | .hbm, ⟨20, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== DenseOut.lean ====
abbrev S8192x5632 : Shape := ⟨2, ![8192, 5632]⟩
abbrev S2x5632x2048 : Shape := ⟨3, ![2, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DenseOutReferenceIdeal.lean ====
abbrev S8192x5632 : Shape := ⟨2, ![8192, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x5632, .f32⟩
  | .hbm, ⟨3, _⟩ => ⟨S1x5632x2048, .f32⟩
  | .hbm, ⟨4, _⟩ => ⟨S5632x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DenseOutNext.lean ====
abbrev S8192x5632 : Shape := ⟨2, ![8192, 5632]⟩
abbrev S2x5632x2048 : Shape := ⟨3, ![2, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DenseOutNextReferenceIdeal.lean ====
abbrev S8192x5632 : Shape := ⟨2, ![8192, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x5632, .f32⟩
  | .hbm, ⟨3, _⟩ => ⟨S1x5632x2048, .f32⟩
  | .hbm, ⟨4, _⟩ => ⟨S5632x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InQkv.lean ====
abbrev S8192x2048 : Shape := ⟨2, ![8192, 2048]⟩
abbrev S4x8256x2048 : Shape := ⟨3, ![4, 8256, 2048]⟩
abbrev S8192x3072 : Shape := ⟨2, ![8192, 3072]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x8256x2048, .f32⟩
  | .hbm, ⟨2, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InQkvReferenceIdeal.lean ====
abbrev S8192x2048 : Shape := ⟨2, ![8192, 2048]⟩
abbrev S4x8256x2048 : Shape := ⟨3, ![4, 8256, 2048]⟩
abbrev S1x3072x2048 : Shape := ⟨3, ![1, 3072, 2048]⟩
abbrev S3072x2048 : Shape := ⟨2, ![3072, 2048]⟩
abbrev S2048x3072 : Shape := ⟨2, ![2048, 3072]⟩
abbrev S8192x3072 : Shape := ⟨2, ![8192, 3072]⟩
abbrev S3072 : Shape := ⟨1, ![3072]⟩
abbrev S_ : Shape := ⟨0, ![]⟩
abbrev S1x3072 : Shape := ⟨2, ![1, 3072]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8256x2048, .f32⟩
  | .hbm, ⟨2, _⟩ => ⟨S1x3072x2048, .f32⟩
  | .hbm, ⟨3, _⟩ => ⟨S3072x2048, .f32⟩
  | .hbm, ⟨4, _⟩ => ⟨S8192x2048, .f32⟩
  | .hbm, ⟨5, _⟩ => ⟨S2048x3072, .f32⟩
  | .hbm, ⟨6, _⟩ => ⟨S8192x3072, .f32⟩
  | .hbm, ⟨7, _⟩ => ⟨S3072, .i32⟩
  | .hbm, ⟨8, _⟩ => ⟨S_, .i32⟩
  | .hbm, ⟨9, _⟩ => ⟨S3072, .i32⟩
  | .hbm, ⟨10, _⟩ => ⟨S3072, .i1⟩
  | .hbm, ⟨11, _⟩ => ⟨S_, .f32⟩
  | .hbm, ⟨12, _⟩ => ⟨S_, .f32⟩
  | .hbm, ⟨13, _⟩ => ⟨S3072, .f32⟩
  | .hbm, ⟨14, _⟩ => ⟨S3072, .f32⟩
  | .hbm, ⟨15, _⟩ => ⟨S3072, .f32⟩
  | .hbm, ⟨16, _⟩ => ⟨S3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== InQkvNext.lean ====
abbrev S8192x2048 : Shape := ⟨2, ![8192, 2048]⟩
abbrev S4x8256x2048 : Shape := ⟨3, ![4, 8256, 2048]⟩
abbrev S8192x3072 : Shape := ⟨2, ![8192, 3072]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x8256x2048, .f32⟩
  | .hbm, ⟨2, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InQkvNextReferenceIdeal.lean ====
abbrev S8192x2048 : Shape := ⟨2, ![8192, 2048]⟩
abbrev S4x8256x2048 : Shape := ⟨3, ![4, 8256, 2048]⟩
abbrev S1x3072x2048 : Shape := ⟨3, ![1, 3072, 2048]⟩
abbrev S3072x2048 : Shape := ⟨2, ![3072, 2048]⟩
abbrev S2048x3072 : Shape := ⟨2, ![2048, 3072]⟩
abbrev S8192x3072 : Shape := ⟨2, ![8192, 3072]⟩
abbrev S3072 : Shape := ⟨1, ![3072]⟩
abbrev S_ : Shape := ⟨0, ![]⟩
abbrev S1x3072 : Shape := ⟨2, ![1, 3072]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8256x2048, .f32⟩
  | .hbm, ⟨2, _⟩ => ⟨S1x3072x2048, .f32⟩
  | .hbm, ⟨3, _⟩ => ⟨S3072x2048, .f32⟩
  | .hbm, ⟨4, _⟩ => ⟨S8192x2048, .f32⟩
  | .hbm, ⟨5, _⟩ => ⟨S2048x3072, .f32⟩
  | .hbm, ⟨6, _⟩ => ⟨S8192x3072, .f32⟩
  | .hbm, ⟨7, _⟩ => ⟨S3072, .i32⟩
  | .hbm, ⟨8, _⟩ => ⟨S_, .i32⟩
  | .hbm, ⟨9, _⟩ => ⟨S3072, .i32⟩
  | .hbm, ⟨10, _⟩ => ⟨S3072, .i1⟩
  | .hbm, ⟨11, _⟩ => ⟨S_, .f32⟩
  | .hbm, ⟨12, _⟩ => ⟨S_, .f32⟩
  | .hbm, ⟨13, _⟩ => ⟨S3072, .f32⟩
  | .hbm, ⟨14, _⟩ => ⟨S3072, .f32⟩
  | .hbm, ⟨15, _⟩ => ⟨S3072, .f32⟩
  | .hbm, ⟨16, _⟩ => ⟨S3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== InQkvThird.lean ====
abbrev S8192x2048 : Shape := ⟨2, ![8192, 2048]⟩
abbrev S4x8256x2048 : Shape := ⟨3, ![4, 8256, 2048]⟩
abbrev S8192x3072 : Shape := ⟨2, ![8192, 3072]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x8256x2048, .f32⟩
  | .hbm, ⟨2, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  let c0_i32_1 : BitVec 32 := 0#32
  ![c2_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InQkvThirdReferenceIdeal.lean ====
abbrev S8192x2048 : Shape := ⟨2, ![8192, 2048]⟩
abbrev S4x8256x2048 : Shape := ⟨3, ![4, 8256, 2048]⟩
abbrev S1x3072x2048 : Shape := ⟨3, ![1, 3072, 2048]⟩
abbrev S3072x2048 : Shape := ⟨2, ![3072, 2048]⟩
abbrev S2048x3072 : Shape := ⟨2, ![2048, 3072]⟩
abbrev S8192x3072 : Shape := ⟨2, ![8192, 3072]⟩
abbrev S3072 : Shape := ⟨1, ![3072]⟩
abbrev S_ : Shape := ⟨0, ![]⟩
abbrev S1x3072 : Shape := ⟨2, ![1, 3072]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8256x2048, .f32⟩
  | .hbm, ⟨2, _⟩ => ⟨S1x3072x2048, .f32⟩
  | .hbm, ⟨3, _⟩ => ⟨S3072x2048, .f32⟩
  | .hbm, ⟨4, _⟩ => ⟨S8192x2048, .f32⟩
  | .hbm, ⟨5, _⟩ => ⟨S2048x3072, .f32⟩
  | .hbm, ⟨6, _⟩ => ⟨S8192x3072, .f32⟩
  | .hbm, ⟨7, _⟩ => ⟨S3072, .i32⟩
  | .hbm, ⟨8, _⟩ => ⟨S_, .i32⟩
  | .hbm, ⟨9, _⟩ => ⟨S3072, .i32⟩
  | .hbm, ⟨10, _⟩ => ⟨S3072, .i1⟩
  | .hbm, ⟨11, _⟩ => ⟨S_, .f32⟩
  | .hbm, ⟨12, _⟩ => ⟨S_, .f32⟩
  | .hbm, ⟨13, _⟩ => ⟨S3072, .f32⟩
  | .hbm, ⟨14, _⟩ => ⟨S3072, .f32⟩
  | .hbm, ⟨15, _⟩ => ⟨S3072, .f32⟩
  | .hbm, ⟨16, _⟩ => ⟨S3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== InQkvLast.lean ====
abbrev S8192x2048 : Shape := ⟨2, ![8192, 2048]⟩
abbrev S4x8256x2048 : Shape := ⟨3, ![4, 8256, 2048]⟩
abbrev S8192x3072 : Shape := ⟨2, ![8192, 3072]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x8256x2048, .f32⟩
  | .hbm, ⟨2, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let c0_i32_0 : BitVec 32 := 0#32
  let c0_i32_1 : BitVec 32 := 0#32
  ![c3_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InQkvLastReferenceIdeal.lean ====
abbrev S8192x2048 : Shape := ⟨2, ![8192, 2048]⟩
abbrev S4x8256x2048 : Shape := ⟨3, ![4, 8256, 2048]⟩
abbrev S1x3072x2048 : Shape := ⟨3, ![1, 3072, 2048]⟩
abbrev S3072x2048 : Shape := ⟨2, ![3072, 2048]⟩
abbrev S2048x3072 : Shape := ⟨2, ![2048, 3072]⟩
abbrev S8192x3072 : Shape := ⟨2, ![8192, 3072]⟩
abbrev S3072 : Shape := ⟨1, ![3072]⟩
abbrev S_ : Shape := ⟨0, ![]⟩
abbrev S1x3072 : Shape := ⟨2, ![1, 3072]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8256x2048, .f32⟩
  | .hbm, ⟨2, _⟩ => ⟨S1x3072x2048, .f32⟩
  | .hbm, ⟨3, _⟩ => ⟨S3072x2048, .f32⟩
  | .hbm, ⟨4, _⟩ => ⟨S8192x2048, .f32⟩
  | .hbm, ⟨5, _⟩ => ⟨S2048x3072, .f32⟩
  | .hbm, ⟨6, _⟩ => ⟨S8192x3072, .f32⟩
  | .hbm, ⟨7, _⟩ => ⟨S3072, .i32⟩
  | .hbm, ⟨8, _⟩ => ⟨S_, .i32⟩
  | .hbm, ⟨9, _⟩ => ⟨S3072, .i32⟩
  | .hbm, ⟨10, _⟩ => ⟨S3072, .i1⟩
  | .hbm, ⟨11, _⟩ => ⟨S_, .f32⟩
  | .hbm, ⟨12, _⟩ => ⟨S_, .f32⟩
  | .hbm, ⟨13, _⟩ => ⟨S3072, .f32⟩
  | .hbm, ⟨14, _⟩ => ⟨S3072, .f32⟩
  | .hbm, ⟨15, _⟩ => ⟨S3072, .f32⟩
  | .hbm, ⟨16, _⟩ => ⟨S3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Chain.lean ====
/-
  One chain of the stick-breaking attention kernel: a block of 256 queries of one head against a block of keys.

  The kernel carries four chains (two heads, two halves of the query block) through the diagonal key block and then
  through the full key blocks. All four run the same arithmetic, which this module writes down once, for any element
  type: `block256` for a square masked diagonal block, `block512` for a wide masked diagonal block and `trip512` for an
  unmasked key block. `trip_eq` says that one trip of the loop is `trip512` on each chain.
-/
module

public import proofs.«01_k».proof.Proof.Gen.KernelIdeal.Value

@[expose] public section

set_option maxRecDepth 16384

noncomputable section

namespace Cert.KernelIdeal.Chain

open Cert.KernelIdeal Cert.KernelIdeal.Gen Idealize.ShloMosaic Idealize.ShloMosaic.TcCoe Idealize.SL.Sem

variable {F : FTy → Type} [FloatOps F] [Named F]

/-- The zero block of a shape. -/
def zero (s : Shape) : FVec F s .f32 := broadcast s (Scalar.ofBits .f32 0x00000000#32)

/-- The base-2 softplus of a block, `max z 0 + log (1 + 2 ^ min z (-z)) * (1 / ln 2)`. -/
def soft {s : Shape} (z : FVec F s .f32) : FVec F s .f32 :=
  addf (maximumf z (zero s))
    (mulf (log (addf (broadcast s (Scalar.ofBits .f32 0x3F800000#32)) (exp2 (minimumf z (subf (zero s) z)))))
      (broadcast s (Named.named κ "inv_ln2" 0x3FB8AA3B#32)))

/-- The scores of 256 queries against 256 keys. -/
def score256 (q k : Vec F S256x128 .bf16) : FVec F S256x256 .f32 :=
  matmul dot_S256x128_S256x128_S256x256_1_1_0_0_n_n none q k (constant S256x256 .f32 0x00000000#32)

/-- The scores of 256 queries against 512 keys. -/
def score512 (q : Vec F S256x128 .bf16) (k : Vec F S512x128 .bf16) : FVec F S256x512 .f32 :=
  matmul dot_S256x128_S512x128_S256x512_1_1_0_0_n_n none q k (constant S256x512 .f32 0x00000000#32)

/-- The lower-triangular matrix of ones. -/
def tri : FVec F S256x256 .bf16 :=
  truncf .bf16 (select (cmpi .sge (iota .tc S256x256 32 [0] iota_S256x256_d0_w32) (iota .tc S256x256 32 [1] iota_S256x256_d1_w32))
    (broadcast S256x256 (Scalar.ofBits .f32 0x3F800000#32)) (zero S256x256)) bitsLt_bf16_f32

/-- The suffix sums inside one block of 256 keys. -/
def loc (sp : FVec F S256x256 .bf16) : FVec F S256x256 .f32 :=
  matmul dot_S256x256_S256x256_S256x256_1_0_0_1_n_n none sp tri (constant S256x256 .f32 0x00000000#32)

/-- The carry after a block of 256 keys. -/
def carry256 (sp : FVec F S256x256 .bf16) (c : FVec F S256x1 .f32) : FVec F S256x1 .f32 :=
  addf c (extractStridedSlice S256x1 ![0, 0] (loc sp) slices_S256x256_o0_0_S256x1)

/-- The suffix sums of a block of 256 keys, the carry included. -/
def csum256 (sp : FVec F S256x256 .bf16) (c : FVec F S256x1 .f32) : FVec F S256x256 .f32 :=
  addf (loc sp) (broadcastTo S256x256 c broadcasts_S256x1_S256x256)

/-- The first 256 keys of a block of 512. -/
def lo (sp : FVec F S256x512 .bf16) : FVec F S256x256 .bf16 :=
  extractStridedSlice S256x256 ![0, 0] sp slices_S256x512_o0_0_S256x256

/-- The last 256 keys of a block of 512. -/
def hi (sp : FVec F S256x512 .bf16) : FVec F S256x256 .bf16 :=
  extractStridedSlice S256x256 ![0, 256] sp slices_S256x512_o0_256_S256x256

/-- The carry after a block of 512 keys: the last 256 first. -/
def carry512 (sp : FVec F S256x512 .bf16) (c : FVec F S256x1 .f32) : FVec F S256x1 .f32 :=
  carry256 (lo sp) (carry256 (hi sp) c)

/-- The suffix sums of a block of 512 keys, the carry included. -/
def csum512 (sp : FVec F S256x512 .bf16) (c : FVec F S256x1 .f32) : FVec F S256x512 .f32 :=
  concatenate S256x512 1 [⟨S256x256, csum256 (lo sp) (carry256 (hi sp) c)⟩, ⟨S256x256, csum256 (hi sp) c⟩]
    concatenates_S256x256_S256x256_S256x512_d1

/-- The accumulator after 256 keys with weights `a`. -/
def acc256 (a : FVec F S256x256 .f32) (v : Vec F S256x128 .bf16) (acc : FVec F S256x128 .f32) : FVec F S256x128 .f32 :=
  addf acc (matmul dot_S256x256_S256x128_S256x128_1_0_0_1_n_n none (truncf .bf16 a bitsLt_bf16_f32) v
    (constant S256x128 .f32 0x00000000#32))

/-- The accumulator after 512 keys with weights `a`. -/
def acc512 (a : FVec F S256x512 .f32) (v : Vec F S512x128 .bf16) (acc : FVec F S256x128 .f32) : FVec F S256x128 .f32 :=
  addf acc (matmul dot_S256x512_S512x128_S256x128_1_0_0_1_n_n none (truncf .bf16 a bitsLt_bf16_f32) v
    (constant S256x128 .f32 0x00000000#32))

/-- The causal mask of the first 256 queries of a diagonal block: key `c` before query `r`. -/
def mask256 : IVec S256x256 1 :=
  cmpi .slt (iota .tc S256x256 32 [1] iota_S256x256_d1_w32)
    (addi (iota .tc S256x256 32 [0] iota_S256x256_d0_w32) (broadcast S256x256 0#32))

/-- The causal mask of the last 256 queries of a diagonal block: key `c` before query `r + 256`. -/
def mask512 : IVec S256x512 1 :=
  cmpi .slt (iota .tc S256x512 32 [1] iota_S256x512_d1_w32)
    (addi (iota .tc S256x512 32 [0] iota_S256x512_d0_w32) (broadcast S256x512 256#32))

/-- The masked softplus of the square diagonal block. -/
def spd256 (q k : Vec F S256x128 .bf16) : FVec F S256x256 .bf16 :=
  truncf .bf16 (select mask256 (soft (score256 q k)) (zero S256x256)) bitsLt_bf16_f32

/-- The masked softplus of the wide diagonal block. -/
def spd512 (q : Vec F S256x128 .bf16) (k : Vec F S512x128 .bf16) : FVec F S256x512 .bf16 :=
  truncf .bf16 (select mask512 (soft (score512 q k)) (zero S256x512)) bitsLt_bf16_f32

/-- The softplus of an unmasked block. -/
def sp512 (q : Vec F S256x128 .bf16) (k : Vec F S512x128 .bf16) : FVec F S256x512 .bf16 :=
  truncf .bf16 (soft (score512 q k)) bitsLt_bf16_f32

/-- A chain's start, the square diagonal block: carry. -/
def blockC256 (q k : Vec F S256x128 .bf16) : FVec F S256x1 .f32 := carry256 (spd256 q k) (zero S256x1)

/-- A chain's start, the square diagonal block: accumulator. -/
def blockA256 (q k v : Vec F S256x128 .bf16) : FVec F S256x128 .f32 :=
  acc256 (select mask256 (exp2 (subf (score256 q k) (csum256 (spd256 q k) (zero S256x1)))) (zero S256x256)) v (zero S256x128)

/-- A chain's start, the wide diagonal block: carry. -/
def blockC512 (q : Vec F S256x128 .bf16) (k : Vec F S512x128 .bf16) : FVec F S256x1 .f32 :=
  carry512 (spd512 q k) (zero S256x1)

/-- A chain's start, the wide diagonal block: accumulator. -/
def blockA512 (q : Vec F S256x128 .bf16) (k v : Vec F S512x128 .bf16) : FVec F S256x128 .f32 :=
  acc512 (select mask512 (exp2 (subf (score512 q k) (csum512 (spd512 q k) (zero S256x1)))) (zero S256x512)) v (zero S256x128)

/-- A trip of a chain: carry. -/
def tripC (q : Vec F S256x128 .bf16) (k : Vec F S512x128 .bf16) (c : FVec F S256x1 .f32) : FVec F S256x1 .f32 :=
  carry512 (sp512 q k) c

/-- A trip of a chain: accumulator. -/
def tripA (q : Vec F S256x128 .bf16) (k v : Vec F S512x128 .bf16) (c : FVec F S256x1 .f32) (acc : FVec F S256x128 .f32) :
    FVec F S256x128 .f32 :=
  acc512 (exp2 (subf (score512 q k) (csum512 (sp512 q k) c))) v acc

/-- The queries of one chain: rows `r0 …`, columns `c0 …` of the staged query block. -/
def ldq (arg3 : Memref sig .tc .vmem S512x256 .bf16) (X : BufTy.Contents (Elt F) arg3.view.ty) (off : Fin 2 → ℕ)
    (h : ∀ a, off a + S256x128.size a ≤ S512x256.size a) : Vec F S256x128 .bf16 :=
  View.readAt (Elt F) arg3.view (Rect.unit (s := S512x256) off S256x128.size h).toLoadRect X

/-- The 256 keys (or values) of a square diagonal block. -/
def ldk256 (arg4 : Memref sig .tc .vmem S4096x256 .bf16) (X : BufTy.Contents (Elt F) arg4.view.ty) (off : Fin 2 → ℕ)
    (h : ∀ a, off a + S256x128.size a ≤ S4096x256.size a) : Vec F S256x128 .bf16 :=
  View.readAt (Elt F) arg4.view (Rect.unit (s := S4096x256) off S256x128.size h).toLoadRect X

/-- The 512 keys (or values) of a block. -/
def ldk512 (arg4 : Memref sig .tc .vmem S4096x256 .bf16) (X : BufTy.Contents (Elt F) arg4.view.ty) (off : Fin 2 → ℕ)
    (h : ∀ a, off a + S512x128.size a ≤ S4096x256.size a) : Vec F S512x128 .bf16 :=
  View.readAt (Elt F) arg4.view (Rect.unit (s := S4096x256) off S512x128.size h).toLoadRect X

/-- What the four chains carry: for each its carry and its accumulator. -/
abbrev Carried (F : FTy → Type) : Type :=
  FVec F S256x1 .f32 × FVec F S256x128 .f32 × FVec F S256x1 .f32 × FVec F S256x128 .f32 ×
    FVec F S256x1 .f32 × FVec F S256x128 .f32 × FVec F S256x1 .f32 × FVec F S256x128 .f32

/-- ONE TRIP of the loop is `tripC`, `tripA` on each of the four chains, at the trip's own keys and values. -/
theorem trip_eq (𝒱 : Variants) (c : Dev nD) (bd : Option 𝒱.V) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x256 .bf16) (harg6 : arg6.IsWhole) (arg2 : BitVec 32) (X3 : BufTy.Contents (Elt F) arg3.view.ty) (X4 : BufTy.Contents (Elt F) arg4.view.ty) (X5 : BufTy.Contents (Elt F) arg5.view.ty) (k : Fin (k0_t1_loop i).trips) (s : Carried F) :
    tripR_k0_t1 (F := F) 𝒱 c bd i arg3 harg3 arg4 harg4 arg5 harg5 arg6 harg6 arg2 tri X3 X4 X5 k s
      = (tripC (ldq arg3 X3 ![0, 0] inb_S512x256_S256x128_0_0) (ldk512 arg4 X4 (k0_off5 i k) (k0_off5_inb i k)) s.1,
        tripA (ldq arg3 X3 ![0, 0] inb_S512x256_S256x128_0_0) (ldk512 arg4 X4 (k0_off5 i k) (k0_off5_inb i k))
          (ldk512 arg5 X5 (k0_off5 i k) (k0_off5_inb i k)) s.1 s.2.1,
        tripC (ldq arg3 X3 ![256, 0] inb_S512x256_S256x128_256_0) (ldk512 arg4 X4 (k0_off5 i k) (k0_off5_inb i k)) s.2.2.1,
        tripA (ldq arg3 X3 ![256, 0] inb_S512x256_S256x128_256_0) (ldk512 arg4 X4 (k0_off5 i k) (k0_off5_inb i k))
          (ldk512 arg5 X5 (k0_off5 i k) (k0_off5_inb i k)) s.2.2.1 s.2.2.2.1,
        tripC (ldq arg3 X3 ![0, 128] inb_S512x256_S256x128_0_128) (ldk512 arg4 X4 (k0_off6 i k) (k0_off6_inb i k)) s.2.2.2.2.1,
        tripA (ldq arg3 X3 ![0, 128] inb_S512x256_S256x128_0_128) (ldk512 arg4 X4 (k0_off6 i k) (k0_off6_inb i k))
          (ldk512 arg5 X5 (k0_off6 i k) (k0_off6_inb i k)) s.2.2.2.2.1 s.2.2.2.2.2.1,
        tripC (ldq arg3 X3 ![256, 128] inb_S512x256_S256x128_256_128) (ldk512 arg4 X4 (k0_off6 i k) (k0_off6_inb i k)) s.2.2.2.2.2.2.1,
        tripA (ldq arg3 X3 ![256, 128] inb_S512x256_S256x128_256_128) (ldk512 arg4 X4 (k0_off6 i k) (k0_off6_inb i k))
          (ldk512 arg5 X5 (k0_off6 i k) (k0_off6_inb i k)) s.2.2.2.2.2.2.1 s.2.2.2.2.2.2.2) := by
  unfold tripR_k0_t1 trip_k0_t1
  rfl

end Cert.KernelIdeal.Chain

end
-- ==== Proof.Block.lean ====
/-
  What the kernel's body leaves in its output block: the four accumulators after the loop, rounded, each in its quarter.
-/
module

public import proofs.«01_k».proof.Proof.Chain

@[expose] public section

set_option maxRecDepth 16384

noncomputable section

namespace Cert.KernelIdeal.Chain

open Cert.KernelIdeal Cert.KernelIdeal.Gen Idealize.ShloMosaic Idealize.ShloMosaic.TcCoe Idealize.SL.Sem

variable {F : FTy → Type} [FloatOps F] [Named F]
variable (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x256 .bf16) (harg6 : arg6.IsWhole)
    (x0 : Vec F S512x256 .bf16) (x1 : Vec F S4096x256 .bf16) (x2 : Vec F S4096x256 .bf16)

/-- The four chains after the diagonal block. -/
def start : Carried F :=
  (blockC256 (ldq arg3 (harg3.unread x0) ![0, 0] inb_S512x256_S256x128_0_0) (ldk256 arg4 (harg4.unread x1) (k0_off1 i) (k0_off1_inb i)),
    blockA256 (ldq arg3 (harg3.unread x0) ![0, 0] inb_S512x256_S256x128_0_0) (ldk256 arg4 (harg4.unread x1) (k0_off1 i) (k0_off1_inb i))
      (ldk256 arg5 (harg5.unread x2) (k0_off1 i) (k0_off1_inb i)),
    blockC512 (ldq arg3 (harg3.unread x0) ![256, 0] inb_S512x256_S256x128_256_0) (ldk512 arg4 (harg4.unread x1) (k0_off2 i) (k0_off2_inb i)),
    blockA512 (ldq arg3 (harg3.unread x0) ![256, 0] inb_S512x256_S256x128_256_0) (ldk512 arg4 (harg4.unread x1) (k0_off2 i) (k0_off2_inb i))
      (ldk512 arg5 (harg5.unread x2) (k0_off2 i) (k0_off2_inb i)),
    blockC256 (ldq arg3 (harg3.unread x0) ![0, 128] inb_S512x256_S256x128_0_128) (ldk256 arg4 (harg4.unread x1) (k0_off3 i) (k0_off3_inb i)),
    blockA256 (ldq arg3 (harg3.unread x0) ![0, 128] inb_S512x256_S256x128_0_128) (ldk256 arg4 (harg4.unread x1) (k0_off3 i) (k0_off3_inb i))
      (ldk256 arg5 (harg5.unread x2) (k0_off3 i) (k0_off3_inb i)),
    blockC512 (ldq arg3 (harg3.unread x0) ![256, 128] inb_S512x256_S256x128_256_128) (ldk512 arg4 (harg4.unread x1) (k0_off4 i) (k0_off4_inb i)),
    blockA512 (ldq arg3 (harg3.unread x0) ![256, 128] inb_S512x256_S256x128_256_128) (ldk512 arg4 (harg4.unread x1) (k0_off4 i) (k0_off4_inb i))
      (ldk512 arg5 (harg5.unread x2) (k0_off4 i) (k0_off4_inb i)))

/-- The four chains before trip `n` of the loop over the full key blocks. -/
def state (n : ℕ) : Carried F :=
  st_k0_t1 (F := F) Variants.none c none i arg3 harg3 arg4 harg4 arg5 harg5 arg6 harg6 (BitVec.ofNat 32 (i 2).val) tri
    (harg3.unread x0) (harg4.unread x1) (harg5.unread x2)
    (start i arg3 harg3 arg4 harg4 arg5 harg5 x0 x1 x2) n

/-- The remainder of the loop runs no trip. -/
theorem trips_rest : (k0_t2_loop i).trips = 0 := Nat.le_zero.1 (k0_t2_abs i).2.1

/-- The loop runs one trip for each full key block before the diagonal. -/
theorem trips_eq : ∀ i : grid0.Coords, (k0_t1_loop i).trips = (i 2).val := by decide +kernel

/-- The body's four stores, last first: each accumulator in its quarter of the output block. -/
theorem run_eq :
    (kernelRun0_A (F := F) c i arg3 harg3 arg4 harg4 arg5 harg5 arg6 harg6 x0 x1 x2).1
      = [⟨Rect.unit (s := S512x256) ![256, 128] S256x128.size inb_S512x256_S256x128_256_128,
          truncf .bf16 (state c i arg3 harg3 arg4 harg4 arg5 harg5 arg6 harg6 x0 x1 x2 (i 2).val).2.2.2.2.2.2.2 bitsLt_bf16_f32⟩,
        ⟨Rect.unit (s := S512x256) ![0, 128] S256x128.size inb_S512x256_S256x128_0_128,
          truncf .bf16 (state c i arg3 harg3 arg4 harg4 arg5 harg5 arg6 harg6 x0 x1 x2 (i 2).val).2.2.2.2.2.1 bitsLt_bf16_f32⟩,
        ⟨Rect.unit (s := S512x256) ![256, 0] S256x128.size inb_S512x256_S256x128_256_0,
          truncf .bf16 (state c i arg3 harg3 arg4 harg4 arg5 harg5 arg6 harg6 x0 x1 x2 (i 2).val).2.2.2.1 bitsLt_bf16_f32⟩,
        ⟨Rect.unit (s := S512x256) ![0, 0] S256x128.size inb_S512x256_S256x128_0_0,
          truncf .bf16 (state c i arg3 harg3 arg4 harg4 arg5 harg5 arg6 harg6 x0 x1 x2 (i 2).val).2.1 bitsLt_bf16_f32⟩] := by
  have h1 := trips_eq i
  have h2 := trips_rest i
  unfold Scf.Loop.trips at h1 h2
  dsimp only [k0_t1_loop, k0_t2_loop] at h1 h2
  unfold kernelRun0_A
  dsimp only
  rw [h1, h2]
  rfl

end Cert.KernelIdeal.Chain

end
-- ==== Proof.Algebra.lean ====
/-
  The mathematics of stick-breaking attention over the extended reals: the base-2 softplus the kernel computes and the
  natural softplus of the reference differ by the factor `ln 2`, and so the two weights agree.
-/
module

public import proofs.«01_k».proof.Proof.Gen.KernelIdeal.Value
public import Idealize.ShloMosaic.PureOps.Ideal.Laws

@[expose] public section

noncomputable section

namespace Cert.Stick

open Idealize.ShloMosaic

/-- The natural logarithm of two. -/
def ln2 : EReal := ((Real.log 2 : ℝ) : EReal)

/-- The base-2 softplus `log2 (1 + 2 ^ x)`, in the overflow-free form the kernel computes. -/
def soft2 (x : EReal) : EReal :=
  max x 0 + Ideal.log (1 + Ideal.exp2 (min x (0 - x))) * (((Real.log 2)⁻¹ : ℝ) : EReal)

/-- The natural softplus `log (1 + e ^ x)`, in the overflow-free form the reference computes. -/
def softN (x : EReal) : EReal := max x 0 + Ideal.log1p (Ideal.exp (-(max x (-x))))

/-- The logarithm of two is positive. -/
theorem log2_pos : 0 < Real.log 2 := Real.log_pos (by norm_num)

/-- The base-2 softplus of a real number is a real number that is not negative. -/
theorem soft2_coe (r : ℝ) :
    soft2 r = ((max r 0 + Real.log (1 + Real.rpow 2 (min r (-r))) * (Real.log 2)⁻¹ : ℝ) : EReal) := by
  have hp : (0 : ℝ) < Real.rpow 2 (min r (-r)) := Real.rpow_pos_of_pos (by norm_num) _
  have e1 : min (r : EReal) (0 - r) = ((min r (-r) : ℝ) : EReal) := by
    rw [zero_sub, ← EReal.coe_neg]; exact (EReal.coe_strictMono.monotone.map_min).symm
  have e2 : max (r : EReal) 0 = ((max r 0 : ℝ) : EReal) := by
    rw [← EReal.coe_zero]; exact (EReal.coe_strictMono.monotone.map_max).symm
  rw [soft2, e1, e2, Ideal.exp2_coe, ← EReal.coe_one, ← EReal.coe_add, Ideal.log_coe,
    if_neg (by push Not; positivity), ← EReal.coe_mul, ← EReal.coe_add]

/-- The softplus at plus infinity. -/
theorem soft2_top : soft2 ⊤ = ⊤ := by
  have : (0 : EReal) - ⊤ = ⊥ := by simp
  rw [soft2, this, min_bot_right, max_eq_left le_top, Ideal.exp2_bot, add_zero, ← EReal.coe_one, Ideal.log_coe,
    if_neg (by norm_num), ← EReal.coe_mul]
  simp

/-- The softplus at minus infinity. -/
theorem soft2_bot : soft2 ⊥ = 0 := by
  have : min (⊥ : EReal) (0 - ⊥) = ⊥ := min_bot_left _
  rw [soft2, this, max_eq_right bot_le, Ideal.exp2_bot, add_zero, ← EReal.coe_one, Ideal.log_coe,
    if_neg (by norm_num), ← EReal.coe_mul]
  simp

/-- The softplus is never negative. -/
theorem soft2_nonneg (x : EReal) : 0 ≤ soft2 x := by
  induction x with
  | bot => rw [soft2_bot]
  | top => rw [soft2_top]; exact le_top
  | coe r =>
    rw [soft2_coe]
    have hp : (0 : ℝ) < Real.rpow 2 (min r (-r)) := Real.rpow_pos_of_pos (by norm_num) _
    have h1 : 0 ≤ Real.log (1 + Real.rpow 2 (min r (-r))) := Real.log_nonneg (by linarith)
    have h2 : 0 ≤ (Real.log 2)⁻¹ := inv_nonneg.2 log2_pos.le
    exact_mod_cast add_nonneg (le_max_right r 0) (mul_nonneg h1 h2)

/-- THE CHANGE OF BASE: the natural softplus of `x * ln 2` is the base-2 softplus of `x`, times `ln 2`. -/
theorem softN_mul (x : EReal) : softN (x * ln2) = soft2 x * ln2 := by
  induction x with
  | bot =>
    have : (⊥ : EReal) * ln2 = ⊥ := EReal.bot_mul_coe_of_pos log2_pos
    rw [this, soft2_bot, zero_mul, softN, max_eq_right bot_le, EReal.neg_bot, max_eq_right bot_le, EReal.neg_top,
      Ideal.exp_bot, Ideal.log1p, add_zero, ← EReal.coe_one, Ideal.log_coe, if_neg (by norm_num)]
    simp
  | top =>
    have : (⊤ : EReal) * ln2 = ⊤ := EReal.top_mul_coe_of_pos log2_pos
    rw [this, soft2_top, this, softN, EReal.neg_top, max_eq_left le_top, max_eq_left bot_le, EReal.neg_top,
      Ideal.exp_bot, Ideal.log1p, add_zero, ← EReal.coe_one, Ideal.log_coe, if_neg (by norm_num)]
    simp
  | coe r =>
    have l := log2_pos
    rw [soft2_coe, ln2, ← EReal.coe_mul, ← EReal.coe_mul, softN]
    have e1 : max ((r * Real.log 2 : ℝ) : EReal) (-((r * Real.log 2 : ℝ) : EReal)) = ((max (r * Real.log 2) (-(r * Real.log 2)) : ℝ) : EReal) := by
      rw [← EReal.coe_neg]; exact (EReal.coe_strictMono.monotone.map_max).symm
    have e2 : max ((r * Real.log 2 : ℝ) : EReal) 0 = ((max (r * Real.log 2) 0 : ℝ) : EReal) := by
      rw [← EReal.coe_zero]; exact (EReal.coe_strictMono.monotone.map_max).symm
    have e3 : Real.exp (-(max (r * Real.log 2) (-(r * Real.log 2)))) = Real.rpow 2 (min r (-r)) := by
      show _ = (2 : ℝ) ^ (min r (-r))
      rw [Real.rpow_def_of_pos (by norm_num), mul_comm (Real.log 2), min_mul_of_nonneg _ _ l.le, neg_mul, ← min_neg_neg,
        neg_neg, min_comm]
    have hp : (0 : ℝ) < Real.rpow 2 (min r (-r)) := Real.rpow_pos_of_pos (by norm_num) _
    rw [e1, e2, ← EReal.coe_neg, Ideal.exp_coe, e3, Ideal.log1p, ← EReal.coe_one, ← EReal.coe_add, Ideal.log_coe,
      if_neg (by push Not; positivity), ← EReal.coe_add, add_mul, mul_assoc, inv_mul_cancel₀ l.ne', mul_one,
      max_mul_of_nonneg _ _ l.le, zero_mul]

/-- `e ^ (y * ln 2) = 2 ^ y`. -/
theorem exp_mul_ln2 (y : EReal) : Ideal.exp (y * ln2) = Ideal.exp2 y := by
  induction y with
  | bot => rw [ln2, EReal.bot_mul_coe_of_pos log2_pos]; rfl
  | top => rw [ln2, EReal.top_mul_coe_of_pos log2_pos]; rfl
  | coe r =>
    rw [ln2, ← EReal.coe_mul, Ideal.exp_coe, Ideal.exp2_coe]
    show _ = (((2 : ℝ) ^ r : ℝ) : EReal)
    rw [Real.rpow_def_of_pos (by norm_num), mul_comm]

/-- THE WEIGHT: from the key's score `x` and the suffix sum `C` of softplus terms from that key on, what the reference
    exponentiates and what the kernel does give one number. -/
theorem weight_eq (x C : EReal) (h : soft2 x ≤ C) :
    Ideal.exp (x * ln2 - soft2 x * ln2 - (C * ln2 - soft2 x * ln2)) = Ideal.exp2 (x - C) := by
  have l := log2_pos
  rw [← exp_mul_ln2 (x - C)]
  refine congrArg Ideal.exp ?_
  have ht : (⊤ : EReal) * ln2 = ⊤ := EReal.top_mul_coe_of_pos l
  have hb : (⊥ : EReal) * ln2 = ⊥ := EReal.bot_mul_coe_of_pos l
  induction x with
  | bot => rw [hb]; simp [hb]
  | top =>
    rw [soft2_top] at h ⊢
    have hC : C = ⊤ := top_le_iff.1 h
    subst hC
    simp [ht, hb]
  | coe r =>
    rw [soft2_coe] at h ⊢
    induction C with
    | bot => exact absurd h (not_le.2 (EReal.bot_lt_coe _))
    | top =>
      rw [ht]
      simp only [ln2, ← EReal.coe_mul, ← EReal.coe_sub, EReal.top_sub_coe, EReal.sub_top]
      exact (EReal.bot_mul_coe_of_pos l).symm
    | coe t =>
      simp only [ln2, ← EReal.coe_mul, ← EReal.coe_sub]
      congr 1
      ring

/-- The factor `ln 2` comes out of a sum of terms that are not negative. -/
theorem sum_mul_ln2 {ι : Type} (s : Finset ι) (f : ι → EReal) (hf : ∀ j, 0 ≤ f j) :
    ∑ j ∈ s, f j * ln2 = (∑ j ∈ s, f j) * ln2 := by
  classical
  induction s using Finset.induction_on with
  | empty => simp
  | insert a s ha ih =>
    rw [Finset.sum_insert ha, Finset.sum_insert ha, ih, EReal.right_distrib_of_nonneg (hf a) (Finset.sum_nonneg fun j _ => hf j)]

/-! ## One query: scores `z`, values `v`, position `Q` -/

variable (z v : ℕ → EReal) (Q : ℕ)

/-- The softplus term of key `j`: nothing for a key that is not before the query. -/
def term (j : ℕ) : EReal := if j < Q then soft2 (z j) else 0

/-- The sum of the softplus terms from key `j` on. -/
def suffix (j : ℕ) : EReal := ∑ j' ∈ Finset.Ico j 4096, term z Q j'

/-- The weight of key `j`. -/
def weight (j : ℕ) : EReal := if j < Q then Ideal.exp2 (z j - suffix z Q j) else 0

/-- The weighted sum of the values from key `j` on. -/
def total (j : ℕ) : EReal := ∑ j' ∈ Finset.Ico j 4096, weight z Q j' * v j'

/-- A term of the suffix sum is never negative. -/
theorem term_nonneg (j : ℕ) : 0 ≤ term z Q j := by
  unfold term; split
  · exact soft2_nonneg _
  · exact le_refl _

/-- Past the query there is no softplus term left. -/
theorem suffix_eq_zero {j : ℕ} (h : Q ≤ j) : suffix z Q j = 0 :=
  Finset.sum_eq_zero fun j' hj' => if_neg (by have := (Finset.mem_Ico.1 hj').1; omega)

/-- Past the query nothing is added. -/
theorem total_eq_zero {j : ℕ} (h : Q ≤ j) : total z v Q j = 0 :=
  Finset.sum_eq_zero fun j' hj' => by
    rw [weight, if_neg (by have := (Finset.mem_Ico.1 hj').1; omega), zero_mul]

/-- The weighted sum depends only on the scores and values at the positions that there are. -/
theorem total_congr {z z' v v' : ℕ → EReal} (Q lo : ℕ) (hz : ∀ j < 4096, z j = z' j) (hv : ∀ j < 4096, v j = v' j) :
    total z v Q lo = total z' v' Q lo := by
  have ht : ∀ j < 4096, term z Q j = term z' Q j := fun j hj => by rw [term, term, hz j hj]
  have hs : ∀ j, suffix z Q j = suffix z' Q j := fun j => Finset.sum_congr rfl fun k hk => ht k (Finset.mem_Ico.1 hk).2
  refine Finset.sum_congr rfl fun k hk => ?_
  have hk' := (Finset.mem_Ico.1 hk).2
  rw [weight, weight, hz k hk', hv k hk', hs]

/-- A sum over a block of `n` keys from `lo` on, followed by the rest. -/
theorem sum_block (f : ℕ → EReal) (lo n : ℕ) (h : lo + n ≤ 4096) :
    (∑ j' ∈ Finset.Ico (lo + n) 4096, f j') + ∑ k : Fin n, f (lo + k.val) = ∑ j' ∈ Finset.Ico lo 4096, f j' := by
  rw [Fin.sum_univ_eq_sum_range (fun k => f (lo + k)) n, ← Finset.sum_Ico_consecutive f (Nat.le_add_right lo n) h, add_comm,
    Finset.sum_Ico_eq_sum_range f lo (lo + n), Nat.add_sub_cancel_left]

/-- The part of a block of `n` keys from its key `c` on, followed by the rest. -/
theorem sum_block_from (f : ℕ → EReal) (lo n : ℕ) (h : lo + n ≤ 4096) (c : ℕ) (hc : c < n) :
    (∑ k : Fin n, f (lo + k.val) * (if c ≤ k.val then 1 else 0)) + (∑ j' ∈ Finset.Ico (lo + n) 4096, f j')
      = ∑ j' ∈ Finset.Ico (lo + c) 4096, f j' := by
  have e : ∀ k : Fin n, f (lo + k.val) * (if c ≤ k.val then 1 else 0) = if c ≤ k.val then f (lo + k.val) else 0 := by
    intro k; split <;> simp
  rw [Finset.sum_congr rfl fun k _ => e k, Fin.sum_univ_eq_sum_range (fun k => if c ≤ k then f (lo + k) else 0) n,
    ← Finset.sum_Ico_consecutive f (by omega : lo + c ≤ lo + n) h, ← Finset.sum_filter,
    Finset.sum_Ico_eq_sum_range f (lo + c) (lo + n)]
  refine congrArg (· + _) ?_
  have hs : (Finset.range n).filter (fun k => c ≤ k) = Finset.Ico c n := by ext k; simp [and_comm]
  rw [hs, Finset.sum_Ico_eq_sum_range]
  refine Finset.sum_congr (by congr 1; omega) fun k _ => ?_
  rw [Nat.add_assoc]

end Cert.Stick

end
-- ==== Proof.Step.lean ====
/-
  One chain over the extended reals, read at one query: if before a block of keys the carry and the accumulator are the
  sums over the keys after the block, then after it they are the sums over the block's keys too.
-/
module

public import proofs.«01_k».proof.Proof.Chain
public import proofs.«01_k».proof.Proof.Algebra
public import Idealize.ShloMosaic.Lib.ValueIdx
public import Idealize.ShloMosaic.Lib.MatmulPlain
public import Idealize.ShloMosaic.Lib.WordCmp
public import Idealize.ShloMosaic.Lib.IdealHost
public import Idealize.ShloMosaic.Lib.Pipeline.Value

@[expose] public section

set_option maxRecDepth 16384

noncomputable section

namespace Cert.KernelIdeal.Chain

open Cert.KernelIdeal Cert.KernelIdeal.Gen Cert.Stick Idealize.ShloMosaic Idealize.ShloMosaic.ValueIdx

/-- A zero block holds zeros. -/
theorem zero_apply (s : Shape) (j : s.Idx) : zero (F := Ideal) s j = 0 := Ideal.ofBits_zero_f32

/-- The softplus of a block is the softplus of each entry. -/
theorem soft_apply {s : Shape} (z : FVec Ideal s .f32) (j : s.Idx) : soft z j = soft2 (z j) := by
  show max (z j) (Ideal.ofBits .f32 0x00000000#32)
      + Ideal.log (Ideal.ofBits .f32 0x3F800000#32 + Ideal.exp2 (min (z j) (Ideal.ofBits .f32 0x00000000#32 - z j)))
        * (((Real.log 2)⁻¹ : ℝ) : EReal) = _
  rw [Ideal.ofBits_zero_f32, Ideal.ofBits_one_f32]
  rfl

/-- A score of a square block: query `r` times key `c`. -/
theorem score256_apply (q k : Vec Ideal S256x128 .bf16) (r : Fin 256) (c : Fin 256) :
    score256 q k (ix2 r c) = ∑ d : Fin 128, q (ix2 r d) * k (ix2 c d) :=
  (Ideal.matmul_transposedRhs_apply (M := 256) (K := 128) (N := 256) none q k _ r c).trans
    (by rw [constant_apply, Ideal.ofBits_zero_f32, zero_add])

/-- A score of a wide block. -/
theorem score512_apply (q : Vec Ideal S256x128 .bf16) (k : Vec Ideal S512x128 .bf16) (r : Fin 256) (c : Fin 512) :
    score512 q k (ix2 r c) = ∑ d : Fin 128, q (ix2 r d) * k (ix2 c d) :=
  (Ideal.matmul_transposedRhs_apply (M := 256) (K := 128) (N := 512) none q k _ r c).trans
    (by rw [constant_apply, Ideal.ofBits_zero_f32, zero_add])

/-- A selection by a decided proposition. -/
theorem select_ofBool {α : Type} (p : Prop) [Decidable p] (a b : α) :
    Scalar.select (BitVec.ofBool (decide p)) a b = if p then a else b := by
  by_cases h : p <;> simp [h, Scalar.select]

/-- The lower-triangular matrix holds a one exactly on and below its diagonal. -/
theorem tri_apply (r c : Fin 256) : tri (F := Ideal) (ix2 r c) = if c.val ≤ r.val then 1 else 0 := by
  show Scalar.select (IntOp.cmpi .sge (iota .tc S256x256 32 [0] iota_S256x256_d0_w32 (ix2 r c))
    (iota .tc S256x256 32 [1] iota_S256x256_d1_w32 (ix2 r c)))
    (Ideal.ofBits .f32 0x3F800000#32) (Ideal.ofBits .f32 0x00000000#32) = _
  rw [iota_single_apply, iota_single_apply, WordCmp.cmpi_sge_ofNat (show r.val < 2 ^ 31 by omega) (show c.val < 2 ^ 31 by omega),
    Ideal.ofBits_zero_f32, Ideal.ofBits_one_f32]
  exact select_ofBool _ _ _

/-- The mask of the square diagonal block. -/
theorem mask256_apply (r c : Fin 256) : mask256 (ix2 r c) = BitVec.ofBool (decide (c.val < r.val)) := by
  show IntOp.cmpi .slt (iota .tc S256x256 32 [1] iota_S256x256_d1_w32 (ix2 r c))
    (iota .tc S256x256 32 [0] iota_S256x256_d0_w32 (ix2 r c) + 0#32) = _
  rw [iota_single_apply, iota_single_apply, BitVec.add_zero]
  exact WordCmp.cmpi_slt_ofNat (show c.val < 2 ^ 31 by omega) (show r.val < 2 ^ 31 by omega)

/-- The mask of the wide diagonal block. -/
theorem mask512_apply (r : Fin 256) (c : Fin 512) : mask512 (ix2 r c) = BitVec.ofBool (decide (c.val < r.val + 256)) := by
  show IntOp.cmpi .slt (iota .tc S256x512 32 [1] iota_S256x512_d1_w32 (ix2 r c))
    (iota .tc S256x512 32 [0] iota_S256x512_d0_w32 (ix2 r c) + BitVec.ofNat 32 256) = _
  rw [iota_single_apply, iota_single_apply, ← BitVec.ofNat_add]
  exact WordCmp.cmpi_slt_ofNat (show c.val < 2 ^ 31 by omega) (show r.val + 256 < 2 ^ 31 by omega)

/-- The suffix sums inside one block of 256 keys. -/
theorem loc_apply (sp : FVec Ideal S256x256 .bf16) (r c : Fin 256) :
    loc sp (ix2 r c) = ∑ k : Fin 256, sp (ix2 r k) * (if c.val ≤ k.val then 1 else 0) :=
  (Ideal.matmul_plain_apply (M := 256) (K := 256) (N := 256) none sp tri _ r c).trans
    (by rw [constant_apply, Ideal.ofBits_zero_f32, zero_add]; exact Finset.sum_congr rfl fun k _ => by rw [tri_apply])

section Query

variable (z : ℕ → EReal) (v : ℕ → ℕ → EReal) (Q : ℕ) (r : Fin 256)

/-- The suffix sums of a block of 256 keys from `lo`, the carry being the sum over the keys after it. -/
theorem csum256_apply (sp : FVec Ideal S256x256 .bf16) (c : FVec Ideal S256x1 .f32) (lo : ℕ) (hlo : lo + 256 ≤ 4096)
    (hsp : ∀ k : Fin 256, sp (ix2 r k) = term z Q (lo + k.val)) (hc : c (ix2 r 0) = suffix z Q (lo + 256)) (k : Fin 256) :
    csum256 sp c (ix2 r k) = suffix z Q (lo + k.val) := by
  have e : csum256 sp c (ix2 r k) = loc sp (ix2 r k) + c (ix2 r 0) := by
    refine congrArg (loc sp (ix2 r k) + c ·) (funext fun a => Fin.ext ?_)
    match a with
    | ⟨0, _⟩ => rfl
    | ⟨1, _⟩ => rfl
  rw [e, loc_apply, hc, Finset.sum_congr rfl fun k _ => by rw [hsp k]]
  exact sum_block_from (term z Q) lo 256 hlo k.val k.isLt

/-- The carry after a block of 256 keys from `lo`. -/
theorem carry256_apply (sp : FVec Ideal S256x256 .bf16) (c : FVec Ideal S256x1 .f32) (lo : ℕ) (hlo : lo + 256 ≤ 4096)
    (hsp : ∀ k : Fin 256, sp (ix2 r k) = term z Q (lo + k.val)) (hc : c (ix2 r 0) = suffix z Q (lo + 256)) :
    carry256 sp c (ix2 r 0) = suffix z Q lo := by
  have e : carry256 sp c (ix2 r 0) = c (ix2 r 0) + loc sp (ix2 r 0) := by
    refine congrArg (c (ix2 r 0) + loc sp ·) (funext fun a => Fin.ext ?_)
    match a with
    | ⟨0, _⟩ => exact Nat.zero_add _
    | ⟨1, _⟩ => rfl
  rw [e, loc_apply, hc, Finset.sum_congr rfl fun k _ => by rw [hsp k], add_comm]
  exact sum_block_from (term z Q) lo 256 hlo 0 (by decide)

/-- The columns of the lower half. -/
theorem lo_apply (sp : FVec Ideal S256x512 .bf16) (k : Fin 256) :
    Chain.lo sp (ix2 r k) = sp (ix2 r ⟨k.val, by omega⟩) := by
  refine congrArg sp (funext fun a => Fin.ext ?_)
  match a with
  | ⟨0, _⟩ => exact Nat.zero_add _
  | ⟨1, _⟩ => exact Nat.zero_add _

/-- The columns of the upper half. -/
theorem hi_apply (sp : FVec Ideal S256x512 .bf16) (k : Fin 256) :
    Chain.hi sp (ix2 r k) = sp (ix2 r ⟨256 + k.val, by omega⟩) := by
  refine congrArg sp (funext fun a => Fin.ext ?_)
  match a with
  | ⟨0, _⟩ => exact Nat.zero_add _
  | ⟨1, _⟩ => rfl

section Wide

variable (sp : FVec Ideal S256x512 .bf16) (c : FVec Ideal S256x1 .f32) (lo : ℕ) (hlo : lo + 512 ≤ 4096)
  (hsp : ∀ k : Fin 512, sp (ix2 r k) = term z Q (lo + k.val)) (hc : c (ix2 r 0) = suffix z Q (lo + 512))
include hlo hsp hc

/-- The carry between the two halves of a block of 512 keys. -/
theorem mid_apply : carry256 (Chain.hi sp) c (ix2 r 0) = suffix z Q (lo + 256) :=
  carry256_apply z Q r _ c (lo + 256) (by omega) (fun k => by rw [hi_apply, hsp]; exact congrArg _ (by simp only; omega)) hc

/-- The carry after a block of 512 keys from `lo`. -/
theorem carry512_apply : carry512 sp c (ix2 r 0) = suffix z Q lo :=
  carry256_apply z Q r _ _ lo (by omega) (fun k => by rw [lo_apply, hsp]) (mid_apply z Q r sp c lo hlo hsp hc)

/-- The suffix sums of a block of 512 keys from `lo`. -/
theorem csum512_apply (k : Fin 512) : csum512 sp c (ix2 r k) = suffix z Q (lo + k.val) := by
  by_cases h : k.val < 256
  · rw [csum512, concatenate_pair_apply_left (t := S256x512) (s₁ := S256x256) (s₂ := S256x256) 1 _ _ _ (ix2 r k) rfl (ix2 r (⟨k.val, h⟩ : Fin 256))
      (fun b => by match b with | ⟨0, _⟩ => rfl | ⟨1, _⟩ => rfl)]
    exact csum256_apply z Q r _ _ lo (by omega) (fun k => by rw [lo_apply, hsp]) (mid_apply z Q r sp c lo hlo hsp hc) ⟨k.val, h⟩
  · rw [csum512, concatenate_pair_apply_right (t := S256x512) (s₁ := S256x256) (s₂ := S256x256) 1 _ _ _ (ix2 r k) rfl rfl (ix2 r (⟨k.val - 256, by omega⟩ : Fin 256))
      (fun b hb => by match b with | ⟨0, _⟩ => rfl | ⟨1, _⟩ => exact absurd rfl hb)
      (by show k.val - 256 + 256 = k.val; omega)]
    refine (csum256_apply z Q r _ c (lo + 256) (by omega)
      (fun k => by rw [hi_apply, hsp]; exact congrArg _ (by simp only; omega)) hc ⟨k.val - 256, by omega⟩).trans
      (congrArg _ (by simp only; omega))

end Wide

/-- The accumulator after a square block. -/
theorem acc256_apply (a : FVec Ideal S256x256 .f32) (vb : Vec Ideal S256x128 .bf16) (acc : FVec Ideal S256x128 .f32)
    (d : Fin 128) (lo : ℕ) (hlo : lo + 256 ≤ 4096) (ha : ∀ k : Fin 256, a (ix2 r k) = weight z Q (lo + k.val))
    (hv : ∀ k : Fin 256, vb (ix2 k d) = v d (lo + k.val)) (hacc : acc (ix2 r d) = total z (v d) Q (lo + 256)) :
    acc256 a vb acc (ix2 r d) = total z (v d) Q lo := by
  have e : acc256 a vb acc (ix2 r d) = acc (ix2 r d) + ∑ k : Fin 256, a (ix2 r k) * vb (ix2 k d) :=
    congrArg (acc (ix2 r d) + ·) ((Ideal.matmul_plain_apply (M := 256) (K := 256) (N := 128) none a vb _ r d).trans
      (by rw [constant_apply, Ideal.ofBits_zero_f32, zero_add]))
  rw [e, hacc, Finset.sum_congr rfl fun k _ => by rw [ha k, hv k]]
  exact sum_block (fun j => weight z Q j * v d j) lo 256 hlo

/-- The accumulator after a wide block. -/
theorem acc512_apply (a : FVec Ideal S256x512 .f32) (vb : Vec Ideal S512x128 .bf16) (acc : FVec Ideal S256x128 .f32)
    (d : Fin 128) (lo : ℕ) (hlo : lo + 512 ≤ 4096) (ha : ∀ k : Fin 512, a (ix2 r k) = weight z Q (lo + k.val))
    (hv : ∀ k : Fin 512, vb (ix2 k d) = v d (lo + k.val)) (hacc : acc (ix2 r d) = total z (v d) Q (lo + 512)) :
    acc512 a vb acc (ix2 r d) = total z (v d) Q lo := by
  have e : acc512 a vb acc (ix2 r d) = acc (ix2 r d) + ∑ k : Fin 512, a (ix2 r k) * vb (ix2 k d) :=
    congrArg (acc (ix2 r d) + ·) ((Ideal.matmul_plain_apply (M := 256) (K := 512) (N := 128) none a vb _ r d).trans
      (by rw [constant_apply, Ideal.ofBits_zero_f32, zero_add]))
  rw [e, hacc, Finset.sum_congr rfl fun k _ => by rw [ha k, hv k]]
  exact sum_block (fun j => weight z Q j * v d j) lo 512 hlo

/-- THE SQUARE DIAGONAL BLOCK, read at a query. -/
theorem block256_apply (q k vb : Vec Ideal S256x128 .bf16) (d : Fin 128) (lo : ℕ) (hlo : lo + 256 ≤ 4096) (hQ : Q = lo + r.val)
    (hz : ∀ c : Fin 256, (∑ e : Fin 128, q (ix2 r e) * k (ix2 c e)) = z (lo + c.val))
    (hv : ∀ c : Fin 256, vb (ix2 c d) = v d (lo + c.val)) :
    blockC256 q k (ix2 r 0) = suffix z Q lo ∧ blockA256 q k vb (ix2 r d) = total z (v d) Q lo := by
  have hsp : ∀ c : Fin 256, spd256 q k (ix2 r c) = term z Q (lo + c.val) := by
    intro c
    show Scalar.select (mask256 (ix2 r c)) (soft (score256 q k) (ix2 r c)) (zero (F := Ideal) S256x256 (ix2 r c)) = _
    rw [mask256_apply, select_ofBool, soft_apply, score256_apply, hz, zero_apply, term]
    exact if_congr (by omega) rfl rfl
  have hc : zero (F := Ideal) S256x1 (ix2 r 0) = suffix z Q (lo + 256) := by rw [zero_apply, suffix_eq_zero z Q (by omega)]
  refine ⟨carry256_apply z Q r _ _ lo hlo hsp hc, acc256_apply z v Q r _ vb _ d lo hlo (fun c => ?_) hv
    (by rw [zero_apply, total_eq_zero z (v d) Q (by omega)])⟩
  show Scalar.select (mask256 (ix2 r c)) (Ideal.exp2 (score256 q k (ix2 r c) - csum256 (spd256 q k) (zero S256x1) (ix2 r c)))
    (zero (F := Ideal) S256x256 (ix2 r c)) = _
  rw [mask256_apply, select_ofBool, score256_apply, hz, zero_apply, csum256_apply z Q r _ _ lo hlo hsp hc, weight]
  exact if_congr (by omega) rfl rfl

/-- THE WIDE DIAGONAL BLOCK, read at a query. -/
theorem block512_apply (q : Vec Ideal S256x128 .bf16) (k vb : Vec Ideal S512x128 .bf16) (d : Fin 128) (lo : ℕ)
    (hlo : lo + 512 ≤ 4096) (hQ : Q = lo + 256 + r.val)
    (hz : ∀ c : Fin 512, (∑ e : Fin 128, q (ix2 r e) * k (ix2 c e)) = z (lo + c.val))
    (hv : ∀ c : Fin 512, vb (ix2 c d) = v d (lo + c.val)) :
    blockC512 q k (ix2 r 0) = suffix z Q lo ∧ blockA512 q k vb (ix2 r d) = total z (v d) Q lo := by
  have hsp : ∀ c : Fin 512, spd512 q k (ix2 r c) = term z Q (lo + c.val) := by
    intro c
    show Scalar.select (mask512 (ix2 r c)) (soft (score512 q k) (ix2 r c)) (zero (F := Ideal) S256x512 (ix2 r c)) = _
    rw [mask512_apply, select_ofBool, soft_apply, score512_apply, hz, zero_apply, term]
    exact if_congr (by omega) rfl rfl
  have hc : zero (F := Ideal) S256x1 (ix2 r 0) = suffix z Q (lo + 512) := by rw [zero_apply, suffix_eq_zero z Q (by omega)]
  refine ⟨carry512_apply z Q r _ _ lo hlo hsp hc, acc512_apply z v Q r _ vb _ d lo hlo (fun c => ?_) hv
    (by rw [zero_apply, total_eq_zero z (v d) Q (by omega)])⟩
  show Scalar.select (mask512 (ix2 r c)) (Ideal.exp2 (score512 q k (ix2 r c) - csum512 (spd512 q k) (zero S256x1) (ix2 r c)))
    (zero (F := Ideal) S256x512 (ix2 r c)) = _
  rw [mask512_apply, select_ofBool, score512_apply, hz, zero_apply, csum512_apply z Q r _ _ lo hlo hsp hc, weight]
  exact if_congr (by omega) rfl rfl

/-- A TRIP over a full key block, all of whose keys are before the query, read at that query. -/
theorem trip_apply (q : Vec Ideal S256x128 .bf16) (k vb : Vec Ideal S512x128 .bf16) (c : FVec Ideal S256x1 .f32)
    (acc : FVec Ideal S256x128 .f32) (d : Fin 128) (lo : ℕ) (hlo : lo + 512 ≤ 4096) (hQ : lo + 512 ≤ Q)
    (hz : ∀ c : Fin 512, (∑ e : Fin 128, q (ix2 r e) * k (ix2 c e)) = z (lo + c.val))
    (hv : ∀ c : Fin 512, vb (ix2 c d) = v d (lo + c.val))
    (hc : c (ix2 r 0) = suffix z Q (lo + 512)) (hacc : acc (ix2 r d) = total z (v d) Q (lo + 512)) :
    tripC q k c (ix2 r 0) = suffix z Q lo ∧ tripA q k vb c acc (ix2 r d) = total z (v d) Q lo := by
  have hsp : ∀ c : Fin 512, sp512 q k (ix2 r c) = term z Q (lo + c.val) := by
    intro c
    show soft (score512 q k) (ix2 r c) = _
    rw [soft_apply, score512_apply, hz, term, if_pos (by omega)]
  refine ⟨carry512_apply z Q r _ _ lo hlo hsp hc, acc512_apply z v Q r _ vb _ d lo hlo (fun k' => ?_) hv hacc⟩
  show Ideal.exp2 (score512 q k (ix2 r k') - csum512 (sp512 q k) c (ix2 r k')) = _
  rw [score512_apply, hz, csum512_apply z Q r _ _ lo hlo hsp hc, weight, if_pos (by omega)]

end Query

end Cert.KernelIdeal.Chain

end
-- ==== Proof.State.lean ====
/-
  The four chains over the extended reals: before trip `n` of the loop each chain carries the sums over the keys from the
  `n`-th block before the diagonal on. After the last trip each accumulator is the sum over all keys.
-/
module

public import proofs.«01_k».proof.Proof.Block
public import proofs.«01_k».proof.Proof.Step
public import Idealize.ShloMosaic.Lib.WholeRead

@[expose] public section

set_option maxRecDepth 16384

noncomputable section

namespace Cert.KernelIdeal.Chain

open Cert.KernelIdeal Cert.KernelIdeal.Gen Cert.Stick Idealize.ShloMosaic Idealize.ShloMosaic.TcCoe Idealize.SL.Sem
open Idealize.ShloMosaic.ValueIdx

/-- Row `r` of half `a` of a query block. -/
def row (a : Fin 2) (r : Fin 256) : Fin 512 := ⟨a.val * 256 + r.val, by omega⟩

/-- Column `e` of head `g` of a two-head block. -/
def col (g : Fin 2) (e : Fin 128) : Fin 256 := ⟨g.val * 128 + e.val, by omega⟩

/-- The scores of the query in row `R` under head `g`, by the key's position. -/
def scores (x0 : Vec Ideal S512x256 .bf16) (x1 : Vec Ideal S4096x256 .bf16) (g : Fin 2) (R : Fin 512) (j : ℕ) : EReal :=
  if h : j < 4096 then ∑ e : Fin 128, x0 (ix2 R (col g e)) * x1 (ix2 ⟨j, h⟩ (col g e)) else 0

/-- Component `d` of the values of head `g`, by the key's position. -/
def vals (x2 : Vec Ideal S4096x256 .bf16) (g : Fin 2) (d : ℕ) (j : ℕ) : EReal :=
  if h : j < 4096 ∧ d < 128 then x2 (ix2 ⟨j, h.1⟩ (col g ⟨d, h.2⟩)) else 0

section Loads

variable {arg3 : Memref sig .tc .vmem S512x256 .bf16} (harg3 : arg3.IsWhole) {arg4 : Memref sig .tc .vmem S4096x256 .bf16} (harg4 : arg4.IsWhole)
  (x0 : Vec Ideal S512x256 .bf16) (x1 : Vec Ideal S4096x256 .bf16)

/-- The queries of one chain. -/
theorem ldq_apply (a g : Fin 2) (off : Fin 2 → ℕ) (h) (e : off = ![a.val * 256, g.val * 128]) (r : Fin 256) (d : Fin 128) :
    ldq arg3 (harg3.unread x0) off h (ix2 r d) = x0 (ix2 (row a r) (col g d)) := by
  subst e
  refine (harg3.readAt_unread x0 _ _).trans (congrArg x0 (funext fun b => Fin.ext ?_))
  match b with
  | ⟨0, _⟩ => exact congrArg (a.val * 256 + ·) (Nat.one_mul _)
  | ⟨1, _⟩ => exact congrArg (g.val * 128 + ·) (Nat.one_mul _)

/-- 256 keys or values of one head, from position `lo`. -/
theorem ldk256_apply (g : Fin 2) (lo : ℕ) (hlo : lo + 256 ≤ 4096) (off : Fin 2 → ℕ) (h) (e : off = ![lo, g.val * 128])
    (k : Fin 256) (d : Fin 128) :
    ldk256 arg4 (harg4.unread x1) off h (ix2 k d) = x1 (ix2 ⟨lo + k.val, by omega⟩ (col g d)) := by
  subst e
  refine (harg4.readAt_unread x1 _ _).trans (congrArg x1 (funext fun b => Fin.ext ?_))
  match b with
  | ⟨0, _⟩ => exact congrArg (lo + ·) (Nat.one_mul _)
  | ⟨1, _⟩ => exact congrArg (g.val * 128 + ·) (Nat.one_mul _)

/-- 512 keys or values of one head, from position `lo`. -/
theorem ldk512_apply (g : Fin 2) (lo : ℕ) (hlo : lo + 512 ≤ 4096) (off : Fin 2 → ℕ) (h) (e : off = ![lo, g.val * 128])
    (k : Fin 512) (d : Fin 128) :
    ldk512 arg4 (harg4.unread x1) off h (ix2 k d) = x1 (ix2 ⟨lo + k.val, by omega⟩ (col g d)) := by
  subst e
  refine (harg4.readAt_unread x1 _ _).trans (congrArg x1 (funext fun b => Fin.ext ?_))
  match b with
  | ⟨0, _⟩ => exact congrArg (lo + ·) (Nat.one_mul _)
  | ⟨1, _⟩ => exact congrArg (g.val * 128 + ·) (Nat.one_mul _)

end Loads

/-- WHAT A CHAIN CARRIES once the keys from `lo` on are taken, the query block being the `t`-th: for every query of half
    `a` under head `g`, the suffix sum and the weighted sum of the values over those keys. -/
def Holds (x0 : Vec Ideal S512x256 .bf16) (x1 x2 : Vec Ideal S4096x256 .bf16) (t : ℕ) (g a : Fin 2) (lo : ℕ)
    (cc : FVec Ideal S256x1 .f32) (aa : FVec Ideal S256x128 .f32) : Prop :=
  ∀ (r : Fin 256) (d : Fin 128),
    cc (ix2 r 0) = suffix (scores x0 x1 g (row a r)) (t * 512 + (row a r).val) lo
      ∧ aa (ix2 r d) = total (scores x0 x1 g (row a r)) (vals x2 g d.val) (t * 512 + (row a r).val) lo

section Chains

variable {arg3 : Memref sig .tc .vmem S512x256 .bf16} (harg3 : arg3.IsWhole) {arg4 : Memref sig .tc .vmem S4096x256 .bf16} (harg4 : arg4.IsWhole) {arg5 : Memref sig .tc .vmem S4096x256 .bf16} (harg5 : arg5.IsWhole)
  (x0 : Vec Ideal S512x256 .bf16) (x1 x2 : Vec Ideal S4096x256 .bf16) (t : ℕ) (ht : t < 8) (g a : Fin 2)
  (offq : Fin 2 → ℕ) (hq : ∀ a, offq a + S256x128.size a ≤ S512x256.size a) (eq : offq = ![a.val * 256, g.val * 128])
  (off : Fin 2 → ℕ)

/-- A value by its place. -/
theorem vals_eq (d : Fin 128) (j : ℕ) (hj : j < 4096) : vals x2 g d.val j = x2 (ix2 ⟨j, hj⟩ (col g d)) := by
  rw [vals, dif_pos ⟨hj, d.isLt⟩]

include ht eq

/-- The first half of the query block after its diagonal block. -/
theorem holds_block256 (ha : a = 0) (h : ∀ a, off a + S256x128.size a ≤ S4096x256.size a) (e : off = ![t * 512, g.val * 128]) :
    Holds x0 x1 x2 t g a (t * 512)
      (blockC256 (ldq arg3 (harg3.unread x0) offq hq) (ldk256 arg4 (harg4.unread x1) off h))
      (blockA256 (ldq arg3 (harg3.unread x0) offq hq) (ldk256 arg4 (harg4.unread x1) off h) (ldk256 arg5 (harg5.unread x2) off h)) :=
  fun r d => block256_apply _ (vals x2 g) _ r _ _ _ d (t * 512) (by omega) (by subst ha; simp [row])
    (fun k => by
      rw [scores, dif_pos (by omega)]
      exact Finset.sum_congr rfl fun f _ => by
        rw [ldq_apply harg3 x0 a g offq hq eq, ldk256_apply harg4 x1 g (t * 512) (by omega) off h e])
    (fun k => by rw [ldk256_apply harg5 x2 g (t * 512) (by omega) off h e, vals_eq x2 g d _ (by omega)])

/-- The second half of the query block after its diagonal block. -/
theorem holds_block512 (ha : a = 1) (h : ∀ a, off a + S512x128.size a ≤ S4096x256.size a) (e : off = ![t * 512, g.val * 128]) :
    Holds x0 x1 x2 t g a (t * 512)
      (blockC512 (ldq arg3 (harg3.unread x0) offq hq) (ldk512 arg4 (harg4.unread x1) off h))
      (blockA512 (ldq arg3 (harg3.unread x0) offq hq) (ldk512 arg4 (harg4.unread x1) off h) (ldk512 arg5 (harg5.unread x2) off h)) :=
  fun r d => block512_apply _ (vals x2 g) _ r _ _ _ d (t * 512) (by omega) (by subst ha; simp [row]; omega)
    (fun k => by
      rw [scores, dif_pos (by omega)]
      exact Finset.sum_congr rfl fun f _ => by
        rw [ldq_apply harg3 x0 a g offq hq eq, ldk512_apply harg4 x1 g (t * 512) (by omega) off h e])
    (fun k => by rw [ldk512_apply harg5 x2 g (t * 512) (by omega) off h e, vals_eq x2 g d _ (by omega)])

/-- Either half after one more full key block. -/
theorem holds_trip (n : ℕ) (hn : n < t) (h : ∀ a, off a + S512x128.size a ≤ S4096x256.size a)
    (e : off = ![(t - (n + 1)) * 512, g.val * 128]) (cc : FVec Ideal S256x1 .f32) (aa : FVec Ideal S256x128 .f32)
    (H : Holds x0 x1 x2 t g a ((t - n) * 512) cc aa) :
    Holds x0 x1 x2 t g a ((t - (n + 1)) * 512)
      (tripC (ldq arg3 (harg3.unread x0) offq hq) (ldk512 arg4 (harg4.unread x1) off h) cc)
      (tripA (ldq arg3 (harg3.unread x0) offq hq) (ldk512 arg4 (harg4.unread x1) off h) (ldk512 arg5 (harg5.unread x2) off h) cc aa) :=
  fun r d => by
    have s : (t - n) * 512 = (t - (n + 1)) * 512 + 512 := by omega
    rw [s] at H
    exact trip_apply _ (vals x2 g) _ r _ _ _ _ _ d _ (by omega) (by omega)
      (fun k => by
        rw [scores, dif_pos (by omega)]
        exact Finset.sum_congr rfl fun f _ => by
          rw [ldq_apply harg3 x0 a g offq hq eq, ldk512_apply harg4 x1 g _ (by omega) off h e])
      (fun k => by rw [ldk512_apply harg5 x2 g _ (by omega) off h e, vals_eq x2 g d _ (by omega)])
      (H r d).1 (H r d).2

end Chains

section Loop

variable (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x256 .bf16) (harg6 : arg6.IsWhole)
    (x0 : Vec Ideal S512x256 .bf16) (x1 : Vec Ideal S4096x256 .bf16) (x2 : Vec Ideal S4096x256 .bf16)

/-- The rows that a trip reads, under the first head. -/
theorem off5_eq : ∀ (i : grid0.Coords) (k : Fin (k0_t1_loop i).trips),
    k0_off5 i k = ![((i 2).val - (k.val + 1)) * 512, 0] := by decide +kernel

/-- The rows that a trip reads, under the second head. -/
theorem off6_eq : ∀ (i : grid0.Coords) (k : Fin (k0_t1_loop i).trips),
    k0_off6 i k = ![((i 2).val - (k.val + 1)) * 512, 128] := by decide +kernel

/-- All four chains. -/
def HoldsAll (t lo : ℕ) (s : Carried Ideal) : Prop :=
  Holds x0 x1 x2 t 0 0 lo s.1 s.2.1 ∧ Holds x0 x1 x2 t 0 1 lo s.2.2.1 s.2.2.2.1
    ∧ Holds x0 x1 x2 t 1 0 lo s.2.2.2.2.1 s.2.2.2.2.2.1 ∧ Holds x0 x1 x2 t 1 1 lo s.2.2.2.2.2.2.1 s.2.2.2.2.2.2.2

/-- After the diagonal block. -/
theorem start_holds : HoldsAll x0 x1 x2 (i 2).val ((i 2).val * 512) (start i arg3 harg3 arg4 harg4 arg5 harg5 x0 x1 x2) := by
  have ht : (i 2).val < 8 := (i 2).isLt
  exact ⟨holds_block256 harg3 harg4 harg5 x0 x1 x2 _ ht 0 0 _ _ rfl _ rfl _ (by rw [k0_off1_eq, Nat.mul_comm]; rfl),
    holds_block512 harg3 harg4 harg5 x0 x1 x2 _ ht 0 1 _ _ rfl _ rfl _ (by rw [k0_off2_eq, Nat.mul_comm]; rfl),
    holds_block256 harg3 harg4 harg5 x0 x1 x2 _ ht 1 0 _ _ rfl _ rfl _ (by rw [k0_off3_eq, Nat.mul_comm]; rfl),
    holds_block512 harg3 harg4 harg5 x0 x1 x2 _ ht 1 1 _ _ rfl _ rfl _ (by rw [k0_off4_eq, Nat.mul_comm]; rfl)⟩

/-- BEFORE TRIP `n` the chains carry the sums over the keys from block `t - n` on. -/
theorem state_holds (n : ℕ) (hn : n ≤ (i 2).val) :
    HoldsAll x0 x1 x2 (i 2).val (((i 2).val - n) * 512) (state c i arg3 harg3 arg4 harg4 arg5 harg5 arg6 harg6 x0 x1 x2 n) := by
  have ht : (i 2).val < 8 := (i 2).isLt
  induction n with
  | zero => exact start_holds i arg3 harg3 arg4 harg4 arg5 harg5 x0 x1 x2
  | succ n ih =>
    obtain ⟨h1, h2, h3, h4⟩ := ih (by omega)
    have hk : n < (k0_t1_loop i).trips := by rw [trips_eq]; omega
    rw [state, st_k0_t1_succ (k := ⟨n, hk⟩), trip_eq]
    exact ⟨holds_trip harg3 harg4 harg5 x0 x1 x2 _ ht 0 0 _ _ rfl _ n (by omega) _ (off5_eq i ⟨n, hk⟩) _ _ h1,
      holds_trip harg3 harg4 harg5 x0 x1 x2 _ ht 0 1 _ _ rfl _ n (by omega) _ (off5_eq i ⟨n, hk⟩) _ _ h2,
      holds_trip harg3 harg4 harg5 x0 x1 x2 _ ht 1 0 _ _ rfl _ n (by omega) _ (off6_eq i ⟨n, hk⟩) _ _ h3,
      holds_trip harg3 harg4 harg5 x0 x1 x2 _ ht 1 1 _ _ rfl _ n (by omega) _ (off6_eq i ⟨n, hk⟩) _ _ h4⟩

end Loop

end Cert.KernelIdeal.Chain

end
-- ==== Proof.Attention.lean ====
/-
  The attention as a function of the projected queries, keys and values: the array both programs are shown to compute.
-/
module

public import proofs.«01_k».proof.Proof.Algebra
public import Idealize.ShloMosaic.Lib.ValueIdx

@[expose] public section

noncomputable section

namespace Cert.Stick

open Idealize.ShloMosaic Idealize.ShloMosaic.ValueIdx

variable (X : (⟨2, ![8192, 3072]⟩ : Shape).Idx → EReal)

/-- Entry `(r, c)` of the projections, by naturals. -/
def at' (r c : ℕ) : EReal := if h : r < 8192 ∧ c < 3072 then X (ix2 ⟨r, h.1⟩ ⟨c, h.2⟩) else 0

/-- Every entry is the one at its coordinates. -/
theorem at_eq (j : (⟨2, ![8192, 3072]⟩ : Shape).Idx) : X j = at' X (j 0).val (j 1).val := by
  rw [at', dif_pos ⟨(j 0).isLt, (j 1).isLt⟩]
  exact congrArg X (eq_ix2 j)

/-- The score of token `p` under head `h` with the key at position `j` of its sequence: query times key. -/
def score (p h j : ℕ) : EReal :=
  if j < 4096 then ∑ e : Fin 128, at' X p (h * 128 + e.val) * at' X (p / 4096 * 4096 + j) (1024 + (h * 128 + e.val)) else 0

/-- Component `d` under head `h` of the value at position `j` of the sequence of token `p`. -/
def value (p h d j : ℕ) : EReal := at' X (p / 4096 * 4096 + j) (2048 + (h * 128 + d))

/-- The stick-breaking attention of token `p` under head `h`, component `d`. -/
def attend (p h d : ℕ) : EReal := total (score X p h) (value X p h d) (p % 4096) 0

/-- The whole result: a row for each token, a column for each head's component. -/
def attention (j : (⟨2, ![8192, 1024]⟩ : Shape).Idx) : EReal := attend X (j 0).val ((j 1).val / 128) ((j 1).val % 128)

end Cert.Stick

end
-- ==== Proof.Array.lean ====
/-
  The kernel's result array over the extended reals: what the body stores at each entry of an output block, and the array
  that the blocks make up.
-/
module

public import proofs.«01_k».proof.Proof.State
public import proofs.«01_k».proof.Proof.Attention
public import Idealize.ShloMosaic.Lib.WritesUnit
public import Idealize.ShloMosaic.Lib.Pipeline.ValueKit

@[expose] public section

set_option maxRecDepth 16384

noncomputable section

namespace Cert.KernelIdeal.Chain

open Cert.KernelIdeal Cert.KernelIdeal.Gen Cert.Stick Idealize.ShloMosaic.TcCoe Idealize.SL.Sem
open Idealize.ShloMosaic hiding ix2 eq_ix2
open Idealize.ShloMosaic.ValueIdx
open Idealize.ShloMosaic.Pipeline (Dat)

section Body

variable (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S512x256 .bf16) (harg6 : arg6.IsWhole)
    (x0 : Vec Ideal S512x256 .bf16) (x1 : Vec Ideal S4096x256 .bf16) (x2 : Vec Ideal S4096x256 .bf16)

/-- THE OUTPUT BLOCK: each entry is the sum over all keys of weight times value. -/
theorem out_apply (a g : Fin 2) (r : Fin 256) (d : Fin 128) :
    out0_A_3 (F := Ideal) c i arg3 harg3 arg4 harg4 arg5 harg5 arg6 harg6 x0 x1 x2 (ix2 (row a r) (col g d))
      = total (scores x0 x1 g (row a r)) (vals x2 g d.val) ((i 2).val * 512 + (row a r).val) 0 := by
  have H := state_holds c i arg3 harg3 arg4 harg4 arg5 harg5 arg6 harg6 x0 x1 x2 (i 2).val le_rfl
  rw [Nat.sub_self, Nat.zero_mul] at H
  obtain ⟨h1, h2, h3, h4⟩ := H
  rw [out0_A_3, run_eq]
  fin_cases a <;> fin_cases g
  · rw [View.read_writes_cons_unit_of_not_mem _ _ _ _ _ _ rfl 0 (Or.inl (by show 0 * 256 + r.val < 256; omega)),
      View.read_writes_cons_unit_of_not_mem _ _ _ _ _ _ rfl 1 (Or.inl (by show 0 * 128 + d.val < 128; omega)),
      View.read_writes_cons_unit_of_not_mem _ _ _ _ _ _ rfl 0 (Or.inl (by show 0 * 256 + r.val < 256; omega)),
      View.read_writes_cons_unit_of_mem _ _ _ _ _ _ (ix2 r d) rfl
        (fun b => by match b with | ⟨0, _⟩ => exact congrArg (· + r.val) (Nat.zero_mul _) | ⟨1, _⟩ => exact congrArg (· + d.val) (Nat.zero_mul _))]
    exact (h1 r d).2
  · rw [View.read_writes_cons_unit_of_not_mem _ _ _ _ _ _ rfl 0 (Or.inl (by show 0 * 256 + r.val < 256; omega)),
      View.read_writes_cons_unit_of_mem _ _ _ _ _ _ (ix2 r d) rfl
        (fun b => by match b with | ⟨0, _⟩ => exact congrArg (· + r.val) (Nat.zero_mul _) | ⟨1, _⟩ => exact congrArg (· + d.val) (Nat.one_mul _))]
    exact (h3 r d).2
  · rw [View.read_writes_cons_unit_of_not_mem _ _ _ _ _ _ rfl 1 (Or.inl (by show 0 * 128 + d.val < 128; omega)),
      View.read_writes_cons_unit_of_not_mem _ _ _ _ _ _ rfl 1 (Or.inl (by show 0 * 128 + d.val < 128; omega)),
      View.read_writes_cons_unit_of_mem _ _ _ _ _ _ (ix2 r d) rfl
        (fun b => by match b with | ⟨0, _⟩ => exact congrArg (· + r.val) (Nat.one_mul _) | ⟨1, _⟩ => exact congrArg (· + d.val) (Nat.zero_mul _))]
    exact (h2 r d).2
  · rw [View.read_writes_cons_unit_of_mem _ _ _ _ _ _ (ix2 r d) rfl
        (fun b => by match b with | ⟨0, _⟩ => exact congrArg (· + r.val) (Nat.one_mul _) | ⟨1, _⟩ => exact congrArg (· + d.val) (Nat.one_mul _))]
    exact (h4 r d).2

end Body

/-- Every row of a query block lies in one of its halves. -/
theorem exists_row (R : Fin 512) : ∃ (a : Fin 2) (r : Fin 256), R = row a r :=
  ⟨⟨R.val / 256, by omega⟩, ⟨R.val % 256, by omega⟩, Fin.ext (by simp only [row]; omega)⟩

/-- Every column of a block lies under one of its two heads. -/
theorem exists_col (C : Fin 256) : ∃ (g : Fin 2) (d : Fin 128), C = col g d :=
  ⟨⟨C.val / 128, by omega⟩, ⟨C.val % 128, by omega⟩, Fin.ext (by simp only [col]; omega)⟩

section Final

variable (m : (ℓ : Loc nD τ sig) → Buf (Elt Ideal) ℓ)

/-- The projections as launched. -/
abbrev input (c : Dev nD) : (⟨2, ![8192, 3072]⟩ : Shape).Idx → EReal := m ((c : Thread nD τ).loc main_arg0)

/-- Where the queries' block lies. -/
theorem index0 : ∀ t : Fin cfg0.N, win0_0.index t = ![(grid0.coords t 0).val * 8 + (grid0.coords t 2).val, (grid0.coords t 1).val] :=
  (by decide +kernel : ∀ t : Fin grid0.N, _)
/-- Where the keys' block lies. -/
theorem index1 : ∀ t : Fin cfg0.N, win0_1.index t = ![(grid0.coords t 0).val, 4 + (grid0.coords t 1).val] :=
  (by decide +kernel : ∀ t : Fin grid0.N, _)
/-- Where the values' block lies. -/
theorem index2 : ∀ t : Fin cfg0.N, win0_2.index t = ![(grid0.coords t 0).val, 8 + (grid0.coords t 1).val] :=
  (by decide +kernel : ∀ t : Fin grid0.N, _)
/-- Where the result's block lies. -/
theorem index3 : ∀ t : Fin cfg0.N, win0_3.index t = ![(grid0.coords t 0).val * 8 + (grid0.coords t 2).val, (grid0.coords t 1).val] :=
  (by decide +kernel : ∀ t : Fin grid0.N, _)

/-- The query block at a grid point. -/
theorem iblk0_apply (c : Dev nD) (t : Fin cfg0.N) (r : Fin 512) (w : Fin 256) :
    iblk m c 0 t (ix2 r w) = at' (input m c) (((grid0.coords t 0).val * 8 + (grid0.coords t 2).val) * 512 + r.val) ((grid0.coords t 1).val * 256 + w.val) := by
  blk_simp [iblk]
  exact (at_eq (input m c) _).trans (by blk_simp [index0])

/-- The key block at a grid point. -/
theorem iblk1_apply (c : Dev nD) (t : Fin cfg0.N) (r : Fin 4096) (w : Fin 256) :
    iblk m c 1 t (ix2 r w) = at' (input m c) ((grid0.coords t 0).val * 4096 + r.val) ((4 + (grid0.coords t 1).val) * 256 + w.val) := by
  blk_simp [iblk]
  exact (at_eq (input m c) _).trans (by blk_simp [index1])

/-- The value block at a grid point. -/
theorem iblk2_apply (c : Dev nD) (t : Fin cfg0.N) (r : Fin 4096) (w : Fin 256) :
    iblk m c 2 t (ix2 r w) = at' (input m c) ((grid0.coords t 0).val * 4096 + r.val) ((8 + (grid0.coords t 1).val) * 256 + w.val) := by
  blk_simp [iblk]
  exact (at_eq (input m c) _).trans (by blk_simp [index2])

/-- THE KERNEL'S RESULT is the attention of its input. -/
theorem final (c : Dev nD) : (dats m 0 c).arrAt 3 cfg0.N = attention (input m c) := by
  refine (dats m 0 c).arrAt_eq_of_covers 3 _ (by decide +kernel) fun t hf y => ?_
  blk_simp
  rw [after0_3]
  unfold outsAt0
  obtain ⟨a, r, hr⟩ := exists_row (y 0)
  obtain ⟨g, d, hd⟩ := exists_col (y 1)
  have hy : y = ix2 (row a r) (col g d) := (eq_ix2 y).trans (by rw [hr, hd]; rfl)
  rw [hy, out_apply]
  unfold attention attend
  blk_simp [index3]
  have hb : (grid0.coords t 0).val < 2 := (grid0.coords t 0).isLt
  have hi : (grid0.coords t 2).val < 8 := (grid0.coords t 2).isLt
  have hR : (row a r).val < 512 := (row a r).isLt
  have hp : (((grid0.coords t 0).val * 8 + (grid0.coords t 2).val) * 512 + (row a r).val) / 4096 = (grid0.coords t 0).val := by omega
  have hQ : (((grid0.coords t 0).val * 8 + (grid0.coords t 2).val) * 512 + (row a r).val) % 4096
      = (grid0.coords t 2).val * 512 + (row a r).val := by omega
  have hh : ((grid0.coords t 1).val * 256 + (col g d).val) / 128 = (grid0.coords t 1).val * 2 + g.val := by
    simp only [col]; omega
  have hd : ((grid0.coords t 1).val * 256 + (col g d).val) % 128 = d.val := by simp only [col]; omega
  show _ = total
    (score (input m c) (((grid0.coords t 0).val * 8 + (grid0.coords t 2).val) * 512 + (row a r).val)
      (((grid0.coords t 1).val * 256 + (col g d).val) / 128))
    (value (input m c) (((grid0.coords t 0).val * 8 + (grid0.coords t 2).val) * 512 + (row a r).val)
      (((grid0.coords t 1).val * 256 + (col g d).val) / 128) (((grid0.coords t 1).val * 256 + (col g d).val) % 128))
    ((((grid0.coords t 0).val * 8 + (grid0.coords t 2).val) * 512 + (row a r).val) % 4096) 0
  rw [hh, hd, hQ]
  refine total_congr _ _ (fun j hj => ?_) (fun j hj => ?_)
  · rw [scores, score, dif_pos hj, if_pos hj, hp]
    refine Finset.sum_congr rfl fun e _ => ?_
    rw [iblk0_apply, iblk1_apply]
    exact congrArg₂ (· * ·) (congrArg _ (by simp only [col]; omega)) (congrArg _ (by simp only [col]; omega))
  · rw [vals, value, dif_pos ⟨hj, d.isLt⟩, hp, iblk2_apply]
    exact congrArg _ (by simp only [col]; omega)

end Final

end Cert.KernelIdeal.Chain

end
-- ==== Proof.Ref.lean ====
/-
  The reference over the extended reals, step by step, each step read at an index.
-/
module

public import proofs.«01_k».proof.Proof.Gen.ReferenceIdeal.Run
public import proofs.«01_k».proof.Proof.Attention
public import Idealize.ShloMosaic.Lib.ValueIdx
public import Idealize.ShloMosaic.Lib.WordCmp
public import Idealize.ShloMosaic.Lib.IdealHost
public import Idealize.ShloMosaic.Lib.Pipeline.Value
public import Idealize.ShloMosaic.Lib.Pointwise

@[expose] public section

set_option maxRecDepth 16384

noncomputable section

namespace Cert.ReferenceIdeal.Steps

open Cert.ReferenceIdeal Cert.ReferenceIdeal.Gen Cert.Stick Idealize.ShloMosaic.TcCoe Idealize.SL.Sem
open Idealize.ShloMosaic hiding ix0 ix1 ix2 ix3 ix4 ix5 eq_ix2 eq_ix4
open Idealize.ShloMosaic.ValueIdx

section Defs

variable {F : FTy → Type} [FloatOps F]

/-- A third of the projections, a sequence and a head at a time. -/
def heads (off : Fin 2 → ℕ) (h : S8192x3072.Slices off S8192x1024) (x : FVec F S8192x3072 .bf16) : FVec F S2x8x4096x128 .f32 :=
  transpose S2x8x4096x128 [0, 2, 1, 3]
    (shapeCast S2x4096x8x128 (extractStridedSlice S8192x1024 off (extf .f32 x bitsLt_bf16_f32) h) shapeCasts_S8192x1024_S2x4096x8x128)
    transposes_S2x4096x8x128_S2x8x4096x128_0_2_1_3

/-- A block of zeros. -/
def zero : FVec F S2x8x4096x4096 .f32 := broadcastInDim S2x8x4096x4096 ![] bcast_S_S2x8x4096x4096 (constant S_ .f32 0x00000000#32)

/-- The scores, times the logarithm of two. -/
def z (q k : FVec F S2x8x4096x128 .f32) : FVec F S2x8x4096x4096 .f32 :=
  mulf (Host.dotGeneral dot_S2x8x4096x128_S2x8x4096x128_S2x8x4096x4096_3_3_2_2_01_01 none q k)
    (broadcastInDim S2x8x4096x4096 ![] bcast_S_S2x8x4096x4096 (Host.log (constant S_ .f32 0x40000000#32)))

/-- The causal mask: the key before the query. -/
def causal : IVec S2x8x4096x4096 1 :=
  broadcastInDim S2x8x4096x4096 ![2, 3] bcast_S4096x4096_S2x8x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The softplus. -/
def softplus (z : FVec F S2x8x4096x4096 .f32) : FVec F S2x8x4096x4096 .f32 :=
  select (cmpf .une (subf z zero) (subf z zero)) (addf z zero)
    (addf (maximumf z zero) (Host.log1p (Host.exp (Host.negf (Host.absf (subf z zero))))))

/-- The softplus of the keys before the query, zero at the others. -/
def sp (z : FVec F S2x8x4096x4096 .f32) : FVec F S2x8x4096x4096 .f32 :=
  select causal (softplus z) (broadcastInDim S2x8x4096x4096 ![] bcast_S_S2x8x4096x4096 (id (constant S_ .f32 0x00000000#32)))

/-- The sum over the key and those after it. -/
def cum (s : FVec F S2x8x4096x4096 .f32) : FVec F S2x8x4096x4096 .f32 :=
  Host.reduceWindowAdd ![1, 1, 1, 4096] ![1, 1, 1, 1] ![0, 0, 0, 0] ![0, 0, 0, 4095] s
    (broadcastInDim S_ ![] bcast_S_S_ (constant S_ .f32 0x00000000#32))
    reduceWindows_S2x8x4096x4096_S2x8x4096x4096_w1s1p0_0_w1s1p0_0_w1s1p0_0_w4096s1p0_4095 h_S_

/-- The weights. -/
def weights (z : FVec F S2x8x4096x4096 .f32) : FVec F S2x8x4096x4096 .f32 :=
  Host.exp (select causal (subf (subf z (sp z)) (subf (cum (sp z)) (sp z)))
    (broadcastInDim S2x8x4096x4096 ![] bcast_S_S2x8x4096x4096 (id (constant S_ .f32 0xFF800000#32))))

/-- The result: weights times values, the heads side by side. -/
def out (a : FVec F S2x8x4096x4096 .f32) (v : FVec F S2x8x4096x128 .f32) : FVec F S8192x1024 .bf16 :=
  truncf .bf16 (shapeCast S8192x1024 (transpose S2x4096x8x128 [0, 2, 1, 3]
    (Host.dotGeneral dot_S2x8x4096x4096_S2x8x4096x128_S2x8x4096x128_3_2_2_3_01_01 none a v)
    transposes_S2x8x4096x128_S2x4096x8x128_0_2_1_3) shapeCasts_S2x4096x8x128_S8192x1024) bitsLt_bf16_f32

/-- The reference's result by its steps. -/
theorem res_eq (m : (ℓ : Loc nD τ sig) → Buf (Elt F) ℓ) (c : Dev nD) :
    Value.res_main_v31 m c
      = out (weights (z (heads ![0, 0] slices_S8192x3072_S8192x1024_0_0 (m ((c.tc : Thread nD τ).loc main_arg0)))
            (heads ![0, 1024] slices_S8192x3072_S8192x1024_0_1024 (m ((c.tc : Thread nD τ).loc main_arg0)))))
          (heads ![0, 2048] slices_S8192x3072_S8192x1024_0_2048 (m ((c.tc : Thread nD τ).loc main_arg0))) := by
  unfold Value.res_main_v31
  rfl

end Defs

/-- Head `h` of the third from column `o`, at a position of a sequence. -/
theorem heads_apply (o : ℕ) (hs : S8192x3072.Slices ![0, o] S8192x1024) (X : FVec Ideal S8192x3072 .bf16) (b : Fin 2) (h : Fin 8)
    (p : Fin 4096) (d : Fin 128) :
    heads ![0, o] hs X (ix4 b h p d) = at' X (b.val * 4096 + p.val) (o + (h.val * 128 + d.val)) := by
  refine (transpose_apply _ _ _ _ (ix4 b p h d) (fun a => by
    match a with | ⟨0, _⟩ => rfl | ⟨1, _⟩ => rfl | ⟨2, _⟩ => rfl | ⟨3, _⟩ => rfl)).trans ?_
  refine (shapeCast_apply _ _ _ (ix2 (⟨b.val * 4096 + p.val, by omega⟩ : Fin 8192) (⟨h.val * 128 + d.val, by omega⟩ : Fin 1024)) ?_).trans ?_
  · refine (rowMajor_val2 _ 1024 rfl).trans (Eq.trans ?_ (rowMajor_val4 _ 4194304 1024 128 rfl rfl rfl).symm)
    show (b.val * 4096 + p.val) * 1024 + (h.val * 128 + d.val) = b.val * 4194304 + p.val * 1024 + h.val * 128 + d.val
    omega
  · refine (at_eq X _).trans (congrArg₂ _ ?_ rfl)
    exact Nat.zero_add _

/-- The block of zeros is zero. -/
theorem zero_apply (j : S2x8x4096x4096.Idx) : zero (F := Ideal) j = 0 := Ideal.ofBits_zero_f32

/-- The pattern of two denotes it. -/
theorem ofBits_two : Ideal.ofBits .f32 0x40000000#32 = ((2 : ℝ) : EReal) := by
  simp [Ideal.ofBits, Ideal.ieee]
  rw [← EReal.coe_mul]
  norm_num

/-- The product of queries and keys of one head. -/
theorem scores_apply (q k : FVec Ideal S2x8x4096x128 .f32) (b : Fin 2) (h : Fin 8) (p j : Fin 4096) :
    Host.dotGeneral dot_S2x8x4096x128_S2x8x4096x128_S2x8x4096x4096_3_3_2_2_01_01 none q k (ix4 b h p j)
      = ∑ e : Fin 128, q (ix4 b h p e) * k (ix4 b h j e) := by
  show FloatOps.dotGeneral _ none _ q k (ix4 b h p j) = _
  rw [Ideal.dotGeneral_apply,
    ← Equiv.sum_comp (contrEquiv1 dot_S2x8x4096x128_S2x8x4096x128_S2x8x4096x4096_3_3_2_2_01_01 128 rfl rfl).symm]
  refine Finset.sum_congr rfl fun e _ => ?_
  have c3 := contrEquiv1_symm_val dot_S2x8x4096x128_S2x8x4096x128_S2x8x4096x4096_3_3_2_2_01_01 128 rfl rfl e
  refine congrArg₂ (· * ·) (congrArg q ?_) (congrArg k ?_) <;> funext ax <;> apply Fin.ext
  · match ax with
    | ⟨0, _⟩ => rfl
    | ⟨1, _⟩ => rfl
    | ⟨2, _⟩ => rfl
    | ⟨3, _⟩ => exact c3
  · match ax with
    | ⟨0, _⟩ => rfl
    | ⟨1, _⟩ => rfl
    | ⟨2, _⟩ => rfl
    | ⟨3, _⟩ => exact c3

/-- The scores times ln 2. -/
theorem z_apply (q k : FVec Ideal S2x8x4096x128 .f32) (b : Fin 2) (h : Fin 8) (p j : Fin 4096) :
    z q k (ix4 b h p j) = (∑ e : Fin 128, q (ix4 b h p e) * k (ix4 b h j e)) * ln2 := by
  refine congrArg₂ (· * ·) (scores_apply q k b h p j) ?_
  show Ideal.log (Ideal.ofBits .f32 0x40000000#32) = ln2
  rw [ofBits_two, Ideal.log_coe, if_neg (by norm_num), ln2]

/-- The mask holds exactly where the key is before the query. -/
theorem causal_apply (b : Fin 2) (h : Fin 8) (p j : Fin 4096) : causal (ix4 b h p j) = BitVec.ofBool (decide (j.val < p.val)) :=
  WordCmp.cmpi_slt_ofNat (show j.val < 2 ^ 31 by omega) (show p.val < 2 ^ 31 by omega)

/-- The softplus of a block is the softplus of each entry. -/
theorem softplus_apply (z : FVec Ideal S2x8x4096x4096 .f32) (j : S2x8x4096x4096.Idx) : softplus z j = softN (z j) := by
  have hz : subf z zero j = z j := by
    show z j - zero (F := Ideal) j = z j
    rw [zero_apply, sub_zero]
  have hc : cmpf .une (subf z zero) (subf z zero) j ≠ 1#1 := by
    show Ideal.cmp .une (subf z zero j) (subf z zero j) ≠ 1#1
    simp [Ideal.cmp]
  show Scalar.select (cmpf .une (subf z zero) (subf z zero) j) (addf z zero j)
    (max (z j) (zero (F := Ideal) j) + Ideal.log1p (Ideal.exp (-(max (subf z zero j) (-(subf z zero j)))))) = _
  rw [hz, zero_apply, softN]
  exact if_neg hc

/-- A left fold of additions is the first summand and the sum of the others. -/
theorem foldl_add {n : ℕ} (v : EReal) (g : Fin n → EReal) : (List.finRange n).foldl (fun r k => r + g k) v = v + ∑ k, g k := by
  rw [Fin.sum_univ_def]
  generalize List.finRange n = l
  induction l generalizing v with
  | nil => simp
  | cons a l ih => rw [List.foldl_cons, ih, List.map_cons, List.sum_cons, add_assoc]

/-- A window sum as a sum over the window's positions, the padding adding the initial value. -/
theorem reduceWindow_add {s t : Shape} (window strides lo hi : Fin s.rank → ℕ) (x : s.Idx → EReal) (v : EReal)
    (h : s.ReduceWindows window strides lo hi t) (hu : 0 < (⟨0, ![]⟩ : Shape).numel) (j : t.Idx) :
    Host.reduceWindow (· + ·) window strides lo hi x (fun _ : (⟨0, ![]⟩ : Shape).Idx => v) h hu j
      = v + ∑ w : (⟨s.rank, window⟩ : Shape).Idx,
          (if hin : ∀ a, lo a ≤ (j (a.cast h.1.symm)).val * strides a + (w a).val
              ∧ (j (a.cast h.1.symm)).val * strides a + (w a).val - lo a < s.size a then
            x (fun a => ⟨(j (a.cast h.1.symm)).val * strides a + (w a).val - lo a, (hin a).2⟩) else v) := by
  rw [← Equiv.sum_comp (⟨s.rank, window⟩ : Shape).rowMajor.symm]
  unfold Host.reduceWindow
  dsimp only
  refine (foldl_add v _).trans (congrArg (v + ·) (Finset.sum_congr rfl fun n _ => ?_))
  congr

/-- The padded window sums are the sums over the key and those after it. -/
theorem cum_apply (s : FVec Ideal S2x8x4096x4096 .f32) (b : Fin 2) (h : Fin 8) (p j : Fin 4096) (f : ℕ → EReal)
    (hf : ∀ k : Fin 4096, s (ix4 b h p k) = f k.val) : cum s (ix4 b h p j) = ∑ k ∈ Finset.Ico j.val 4096, f k := by
  have e0 : (broadcastInDim S_ ![] bcast_S_S_ (constant (F := Ideal) S_ .f32 0x00000000#32)) (Shape.Idx.first h_S_) = 0 := Ideal.ofBits_zero_f32
  unfold cum Host.reduceWindowAdd
  rw [Ideal.hostReduceWindowAdd_def]
  unfold Ideal.hostReduceWindowAdd
  rw [reduceWindow_add]
  rw [e0, zero_add]
  refine (sum_idx4 (n0 := 1) (n1 := 1) (n2 := 1) (n3 := 4096) _).trans ?_
  simp only [Finset.univ_unique, Finset.sum_singleton]
  have hs : ∑ k ∈ Finset.Ico j.val 4096, f k = ∑ k : Fin 4096, if j.val + k.val < 4096 then f (j.val + k.val) else 0 := by
    rw [Fin.sum_univ_eq_sum_range (fun k => if j.val + k < 4096 then f (j.val + k) else 0) 4096, ← Finset.sum_filter,
      Finset.sum_Ico_eq_sum_range]
    refine Finset.sum_congr (Finset.ext fun k => ?_) fun _ _ => rfl
    rw [Finset.mem_range, Finset.mem_filter, Finset.mem_range]
    omega
  rw [hs]
  refine Finset.sum_congr rfl fun k _ => ?_
  by_cases hk : j.val + k.val < 4096
  · rw [if_pos hk, ← hf ⟨j.val + k.val, hk⟩, dif_pos fun a => by
      match a with
      | ⟨0, _⟩ => exact ⟨Nat.zero_le _, by show b.val * 1 + 0 - 0 < 2; omega⟩
      | ⟨1, _⟩ => exact ⟨Nat.zero_le _, by show h.val * 1 + 0 - 0 < 8; omega⟩
      | ⟨2, _⟩ => exact ⟨Nat.zero_le _, by show p.val * 1 + 0 - 0 < 4096; omega⟩
      | ⟨3, _⟩ => exact ⟨Nat.zero_le _, by show j.val * 1 + k.val - 0 < 4096; omega⟩]
    refine congrArg s (funext fun a => Fin.ext ?_)
    match a with
    | ⟨0, _⟩ => show b.val * 1 + 0 - 0 = b.val; omega
    | ⟨1, _⟩ => show h.val * 1 + 0 - 0 = h.val; omega
    | ⟨2, _⟩ => show p.val * 1 + 0 - 0 = p.val; omega
    | ⟨3, _⟩ => show j.val * 1 + k.val - 0 = j.val + k.val; omega
  · rw [if_neg hk, dif_neg fun hin => hk (by
      have h3 : j.val * 1 + k.val - 0 < 4096 := (hin 3).2
      omega)]

end Cert.ReferenceIdeal.Steps

end
-- ==== Proof.Equation.lean ====
/-
  The reference's result over the extended reals is the attention of its input.
-/
module

public import proofs.«01_k».proof.Proof.Ref

@[expose] public section

set_option maxRecDepth 16384

noncomputable section

namespace Cert.ReferenceIdeal.Steps

open Cert.ReferenceIdeal Cert.ReferenceIdeal.Gen Cert.Stick Idealize.ShloMosaic.TcCoe Idealize.SL.Sem
open Idealize.ShloMosaic hiding ix0 ix1 ix2 ix3 ix4 ix5 eq_ix2 eq_ix4
open Idealize.ShloMosaic.ValueIdx

/-- The pattern of minus infinity denotes it. -/
theorem ofBits_bot : Ideal.ofBits .f32 0xFF800000#32 = ⊥ := by
  simp [Ideal.ofBits, Ideal.ieee]

/-- A selection by a decided proposition. -/
theorem select_ofBool {α : Type} (p : Prop) [Decidable p] (a b : α) :
    Scalar.select (BitVec.ofBool (decide p)) a b = if p then a else b := by
  by_cases h : p <;> simp [h, Scalar.select]

section Query

variable (Z : FVec Ideal S2x8x4096x4096 .f32) (b : Fin 2) (h : Fin 8) (p : Fin 4096) (s : ℕ → EReal)
  (hZ : ∀ k : Fin 4096, Z (ix4 b h p k) = s k.val * ln2)
include hZ

/-- The masked softplus of a query's scores is the base-2 one times ln 2. -/
theorem sp_apply (k : Fin 4096) : sp Z (ix4 b h p k) = term s p.val k.val * ln2 := by
  show Scalar.select (causal (ix4 b h p k)) (softplus Z (ix4 b h p k)) (Ideal.ofBits .f32 0x00000000#32) = _
  rw [causal_apply, select_ofBool, softplus_apply, hZ, softN_mul, Ideal.ofBits_zero_f32, term, ite_mul, zero_mul]

/-- A query's suffix sums are the base-2 ones times ln 2. -/
theorem cum_sp_apply (k : Fin 4096) : cum (sp Z) (ix4 b h p k) = suffix s p.val k.val * ln2 :=
  (cum_apply (sp Z) b h p k (fun j => term s p.val j * ln2) (sp_apply Z b h p s hZ)).trans
    (sum_mul_ln2 _ _ fun j => term_nonneg s p.val j)

/-- A query's weights. -/
theorem weights_apply (k : Fin 4096) : weights Z (ix4 b h p k) = weight s p.val k.val := by
  show Ideal.exp (Scalar.select (causal (ix4 b h p k))
    (Z (ix4 b h p k) - sp Z (ix4 b h p k) - (cum (sp Z) (ix4 b h p k) - sp Z (ix4 b h p k)))
    (Ideal.ofBits .f32 0xFF800000#32)) = _
  rw [causal_apply, select_ofBool, cum_sp_apply Z b h p s hZ, sp_apply Z b h p s hZ, hZ, ofBits_bot, weight]
  by_cases hk : k.val < p.val
  · have ht : term s p.val k.val = soft2 (s k.val) := if_pos hk
    rw [if_pos hk, if_pos hk, ht]
    refine weight_eq _ _ (ht ▸ ?_)
    exact Finset.single_le_sum (f := term s p.val) (fun j _ => term_nonneg s p.val j) (Finset.mem_Ico.2 ⟨le_rfl, k.isLt⟩)
  · rw [if_neg hk, if_neg hk]
    rfl

end Query

/-- The product of weights and values of one head. -/
theorem values_apply (a : FVec Ideal S2x8x4096x4096 .f32) (v : FVec Ideal S2x8x4096x128 .f32) (b : Fin 2) (h : Fin 8) (p : Fin 4096)
    (d : Fin 128) :
    Host.dotGeneral dot_S2x8x4096x4096_S2x8x4096x128_S2x8x4096x128_3_2_2_3_01_01 none a v (ix4 b h p d)
      = ∑ k : Fin 4096, a (ix4 b h p k) * v (ix4 b h k d) := by
  show FloatOps.dotGeneral _ none _ a v (ix4 b h p d) = _
  rw [Ideal.dotGeneral_apply,
    ← Equiv.sum_comp (contrEquiv1 dot_S2x8x4096x4096_S2x8x4096x128_S2x8x4096x128_3_2_2_3_01_01 4096 rfl rfl).symm]
  refine Finset.sum_congr rfl fun e _ => ?_
  have c3 := contrEquiv1_symm_val dot_S2x8x4096x4096_S2x8x4096x128_S2x8x4096x128_3_2_2_3_01_01 4096 rfl rfl e
  refine congrArg₂ (· * ·) (congrArg a ?_) (congrArg v ?_) <;> funext ax <;> apply Fin.ext
  · match ax with
    | ⟨0, _⟩ => rfl
    | ⟨1, _⟩ => rfl
    | ⟨2, _⟩ => rfl
    | ⟨3, _⟩ => exact c3
  · match ax with
    | ⟨0, _⟩ => rfl
    | ⟨1, _⟩ => rfl
    | ⟨2, _⟩ => exact c3
    | ⟨3, _⟩ => rfl

/-- The result at a token and a column: the token's sequence and position, the column's head and component. -/
theorem out_apply (a : FVec Ideal S2x8x4096x4096 .f32) (v : FVec Ideal S2x8x4096x128 .f32) (b : Fin 2) (h : Fin 8) (p : Fin 4096)
    (d : Fin 128) (j : S8192x1024.Idx) (h0 : (j 0).val = b.val * 4096 + p.val) (h1 : (j 1).val = h.val * 128 + d.val) :
    out a v j = ∑ k : Fin 4096, a (ix4 b h p k) * v (ix4 b h k d) := by
  refine (shapeCast_apply _ _ _ (ix4 b p h d) ?_).trans ((transpose_apply _ _ _ _ (ix4 b h p d) (fun x => by
    match x with | ⟨0, _⟩ => rfl | ⟨1, _⟩ => rfl | ⟨2, _⟩ => rfl | ⟨3, _⟩ => rfl)).trans (values_apply a v b h p d))
  refine (rowMajor_val4 _ 4194304 1024 128 rfl rfl rfl).trans (Eq.trans ?_ (rowMajor_val2 _ 1024 rfl).symm)
  rw [h0, h1]
  show b.val * 4194304 + p.val * 1024 + h.val * 128 + d.val = (b.val * 4096 + p.val) * 1024 + (h.val * 128 + d.val)
  omega

/-- THE REFERENCE'S RESULT is the attention of its input. -/
theorem res_attention (m : (ℓ : Loc nD τ sig) → Buf (Elt Ideal) ℓ) (c : Dev nD) :
    Value.res_main_v31 m c = attention (m ((c.tc : Thread nD τ).loc main_arg0)) := by
  rw [res_eq]
  generalize (m ((c.tc : Thread nD τ).loc main_arg0) : FVec Ideal S8192x3072 .bf16) = X
  funext j
  have hj0 : (j 0).val < 8192 := (j 0).isLt
  have hj1 : (j 1).val < 1024 := (j 1).isLt
  rw [out_apply _ _ ⟨(j 0).val / 4096, by omega⟩ ⟨(j 1).val / 128, by omega⟩ ⟨(j 0).val % 4096, by omega⟩ ⟨(j 1).val % 128, by omega⟩ j
    (by show _ = (j 0).val / 4096 * 4096 + (j 0).val % 4096; omega) (by show _ = (j 1).val / 128 * 128 + (j 1).val % 128; omega)]
  rw [attention, attend, total]
  rw [← Finset.range_eq_Ico, ← Fin.sum_univ_eq_sum_range (fun k => weight (score X (j 0).val ((j 1).val / 128)) ((j 0).val % 4096) k
    * value X (j 0).val ((j 1).val / 128) ((j 1).val % 128) k)]
  refine Finset.sum_congr rfl fun k _ => congrArg₂ (· * ·) ?_ (heads_apply 2048 _ X _ _ _ _)
  refine weights_apply _ _ _ _ (score X (j 0).val ((j 1).val / 128)) (fun k => ?_) k
  rw [z_apply, score, if_pos k.isLt]
  refine congrArg (· * ln2) (Finset.sum_congr rfl fun e _ => ?_)
  rw [heads_apply, heads_apply]
  exact congrArg₂ (· * ·) (congrArg₂ _ (by show (j 0).val / 4096 * 4096 + (j 0).val % 4096 = _; omega) (Nat.zero_add _)) rfl

end Cert.ReferenceIdeal.Steps

end
-- ==== Proof.StickClaims.lean ====
/-
  The claims about the stick-breaking attention: the kernel and its idealization run without a fault and come to rest, the
  reference too, the named constant has its value, and kernel and reference compute one array.
-/
module

public import proofs.«01_k».proof.Defs
public import proofs.«01_k».proof.Proof.Gen.Kernel.Frame
public import proofs.«01_k».proof.Proof.Array
public import proofs.«01_k».proof.Proof.Equation
public import Idealize.ShloMosaic.Lib.Quiescent

@[expose] public section

noncomputable section

open Idealize.ShloMosaic Idealize.ShloMosaic.TcCoe Idealize.SL.Sem

namespace Cert.Proof.Stick

/-- The kernel runs and comes to rest. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference, which has no semaphores. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named constant is the inverse of the logarithm of two. -/
theorem preserves : Cert.preserves_Kernel_KernelIdeal :=
  IdealRules.named_const.statement Cert.KernelIdeal.κ "inv_ln2" .f32 0x3FB8AA3B#32 (((Real.log 2)⁻¹ : ℝ) : EReal) rfl

/-- KERNEL AND REFERENCE COMPUTE ONE ARRAY, the attention of their common input. -/
theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Steps.res_attention m' c).trans ?_
  rw [hagree c]
  exact (Cert.KernelIdeal.Chain.final m c).symm

end Cert.Proof.Stick

end
-- ==== Proof.ExpertBody.lean ====
module
public import proofs.«01_k».proof.Proof.Gen.Expert.Launch
public import proofs.«01_k».proof.Proof.Gen.Expert.Skeleton

/-! # The body of the up-projection of an expert layer

The two expert layers run the same body and differ in the layer of the weights they copy from. The
body is stated here for a layer `l`; what follows is proved for both layers at once. -/

@[expose] public section
noncomputable section
namespace Cert.Proof.Moe
open Cert.Expert Cert.Expert.Gen
open Idealize.ShloMosaic
open Idealize.ShloMosaic.TcCoe
open Idealize.SL.Sem
variable {F : FTy → Type} [FloatOps F]

/-- An offset into the weights, moved to layer `l`. -/
def inLayer (l : Fin 2) (o : Fin 4 → ℕ) : Fin 4 → ℕ := ![l.val, o 1, o 2, o 3]
/-- Where a tile's block begins, as the very first point reads it. -/
def o4 (l : Fin 2) (i : grid0.Coords) (v : BitVec 32) : Fin 4 → ℕ := inLayer l (k0_off4 i v)
/-- Where a tile's block begins. -/
def o5 (l : Fin 2) (i : grid0.Coords) (v : BitVec 32) : Fin 4 → ℕ := inLayer l (k0_off5 i v)
/-- Where the next expert's block begins. -/
def o6 (l : Fin 2) (i : grid0.Coords) (v : BitVec 32) : Fin 4 → ℕ := inLayer l (k0_off6 i v)
/-- Where the gate block of the next group of columns begins. -/
def o7 (l : Fin 2) (i : grid0.Coords) (v : BitVec 32) : Fin 4 → ℕ := inLayer l (k0_off7 i v)
/-- Where the up block of the next group of columns begins. -/
def o8 (l : Fin 2) (i : grid0.Coords) (v : BitVec 32) : Fin 4 → ℕ := inLayer l (k0_off8 i v)

/-- A block that begins here lies inside the weights. -/
abbrev Inside (o : Fin 4 → ℕ) : Prop := ∀ a, o a + S1x1x2048x1408.size a ≤ S2x8x2048x5632.size a

/-- The blocks of a tile and of the next expert lie inside the weights. -/
def Fits1 (l : Fin 2) (i : grid0.Coords) (v1 v7 v12 : BitVec 32) : Prop :=
  (∀ (_ : k0_cond1 i v1 v12 = 1#1), ∀ (_ : k0_cond2 i = 1#1), Inside (o4 l i v1)) ∧
  (∀ (_ : k0_cond1 i v1 v12 = 1#1), Inside (o5 l i v1)) ∧
  (∀ (_ : k0_cond1 i v1 v12 = 1#1), ∀ (_ : k0_cond3 v7 = 1#1), Inside (o6 l i v7))
/-- It is decided entry by entry. -/
instance instFits1 (l : Fin 2) (i : grid0.Coords) (v1 v7 v12 : BitVec 32) : Decidable (Fits1 l i v1 v7 v12) :=
  decidable_of_iff' _ (Iff.of_eq (Fits1.eq_1 l i v1 v7 v12))
/-- The gate block of the next group of columns lies inside the weights. -/
def Fits2 (l : Fin 2) (i : grid0.Coords) (v1 v7 v12 v66 : BitVec 32) : Prop :=
  ∀ (_ : k0_cond1 i v1 v12 = 1#1), ∀ (_ : k0_cond4 i v7 = 1#1), Inside (o7 l i v66)
/-- It is decided entry by entry. -/
instance instFits2 (l : Fin 2) (i : grid0.Coords) (v1 v7 v12 v66 : BitVec 32) : Decidable (Fits2 l i v1 v7 v12 v66) :=
  decidable_of_iff' _ (Iff.of_eq (Fits2.eq_1 l i v1 v7 v12 v66))
/-- The up block of the next group of columns lies inside the weights. -/
def Fits3 (l : Fin 2) (i : grid0.Coords) (v1 v7 v12 v74 : BitVec 32) : Prop :=
  ∀ (_ : k0_cond1 i v1 v12 = 1#1), ∀ (_ : k0_cond4 i v7 = 1#1), Inside (o8 l i v74)
/-- It is decided entry by entry. -/
instance instFits3 (l : Fin 2) (i : grid0.Coords) (v1 v7 v12 v74 : BitVec 32) : Decidable (Fits3 l i v1 v7 v12 v74) :=
  decidable_of_iff' _ (Iff.of_eq (Fits3.eq_1 l i v1 v7 v12 v74))

section
variable (l : Fin 2) (i : grid0.Coords) (v1 v7 v12 v66 v74 : BitVec 32)
/-- The block the very first point reads. -/
theorem in4 (hw : Fits1 l i v1 v7 v12) (c1 : k0_cond1 i v1 v12 = 1#1) (c2 : k0_cond2 i = 1#1) : Inside (o4 l i v1) := hw.1 c1 c2
/-- The block a tile reads. -/
theorem in5 (hw : Fits1 l i v1 v7 v12) (c1 : k0_cond1 i v1 v12 = 1#1) : Inside (o5 l i v1) := hw.2.1 c1
/-- The block of the next expert. -/
theorem in6 (hw : Fits1 l i v1 v7 v12) (c1 : k0_cond1 i v1 v12 = 1#1) (c3 : k0_cond3 v7 = 1#1) : Inside (o6 l i v7) := hw.2.2 c1 c3
/-- The gate block of the next group of columns. -/
theorem in7 (hw : Fits2 l i v1 v7 v12 v66) (c1 : k0_cond1 i v1 v12 = 1#1) (c4 : k0_cond4 i v7 = 1#1) : Inside (o7 l i v66) := hw c1 c4
/-- The up block of the next group of columns. -/
theorem in8 (hw : Fits3 l i v1 v7 v12 v74) (c1 : k0_cond1 i v1 v12 = 1#1) (c4 : k0_cond4 i v7 = 1#1) : Inside (o8 l i v74) := hw c1 c4
end

set_option maxHeartbeats 4000000 in
/-- The switch of the expert: wait for the blocks under way, cast them, start the next expert's. -/
def switch (l : Fin 2) (i : grid0.Coords) (arg2 : Memref sig .tc .smem S120 .i32) (harg2 : arg2.IsWhole) (arg3 : Memref sig .tc .vmem S512x2048 .bf16) (harg3 : arg3.IsWhole) (arg4 : Memref sig .tc .hbm S2x8x2048x5632 .f32) (harg4 : arg4.IsWhole) (arg5 : Memref sig .tc .hbm S2x8x2048x5632 .f32) (harg5 : arg5.IsWhole) (arg6 : Memref sig .tc .vmem S512x1408 .bf16) (harg6 : arg6.IsWhole) (arg7 : Memref sig .tc .vmem S2048x1408 .f32) (harg7 : arg7.IsWhole) (arg8 : Memref sig .tc .vmem S2048x1408 .f32) (harg8 : arg8.IsWhole) (arg9 : Memref sig .tc .vmem S2048x1408 .bf16) (harg9 : arg9.IsWhole) (arg10 : Memref sig .tc .vmem S2048x1408 .bf16) (harg10 : arg10.IsWhole) (arg11 : DmaSems sig S2) (arg0 : BitVec 32) (arg1 : BitVec 32) (v1 : Elt F .i32) (v7 : Elt F .i32) (v12 : Elt F .i32) (hw1 : Fits1 l i v1 v7 v12) (c1 : k0_cond1 i v1 v12 = 1#1) :
    Prog (TpuEff nD τ sig (Elt F) Λ₀ .tc) (Σ' (v59 : BitVec 1), BitVec 32) := do
  if c2 : k0_cond2 i = 1#1 then do
    let v67 : DmaSems sig S1 := arg11.slice (Rect.unit (s := S2) ![0] S1.size inb_S2_S1_0)
    let v68 : DmaSems sig S_ := v67.squeeze S_ squeezes_S1_S_
    let v69 : Memref sig .tc .hbm S1x1x2048x1408 .f32 := arg4.slice (Rect.unit (s := S2x8x2048x5632) (o4 l i v1) S1x1x2048x1408.size (in4 l i v1 v7 v12 hw1 c1 c2)) (fun _ => rfl)
    let v70 : Memref sig .tc .hbm S2048x1408 .f32 := v69.squeeze S2048x1408 squeezes_S1x1x2048x1408_S2048x1408
    Prog.lift (.enqueueDma v70 (.here arg7) (.dma v68.sem) ((View.wordExact_bits rfl).reshape _ _) harg7.wordExact ⟨Or.inl rfl, trivial⟩)
    let v73 : DmaSems sig S1 := arg11.slice (Rect.unit (s := S2) ![1] S1.size inb_S2_S1_1)
    let v74 : DmaSems sig S_ := v73.squeeze S_ squeezes_S1_S_
    let v75 : Memref sig .tc .hbm S1x1x2048x1408 .f32 := arg5.slice (Rect.unit (s := S2x8x2048x5632) (o4 l i v1) S1x1x2048x1408.size (in4 l i v1 v7 v12 hw1 c1 c2)) (fun _ => rfl)
    let v76 : Memref sig .tc .hbm S2048x1408 .f32 := v75.squeeze S2048x1408 squeezes_S1x1x2048x1408_S2048x1408
    Prog.lift (.enqueueDma v76 (.here arg8) (.dma v74.sem) ((View.wordExact_bits rfl).reshape _ _) harg8.wordExact ⟨Or.inl rfl, trivial⟩)
    pure ⟨⟩
  else do
    pure ⟨⟩
  let v36 : DmaSems sig S1 := arg11.slice (Rect.unit (s := S2) ![0] S1.size inb_S2_S1_0)
  let v37 : DmaSems sig S_ := v36.squeeze S_ squeezes_S1_S_
  let v38 : Memref sig .tc .hbm S1x1x2048x1408 .f32 := arg4.slice (Rect.unit (s := S2x8x2048x5632) (o5 l i v1) S1x1x2048x1408.size (in5 l i v1 v7 v12 hw1 c1)) (fun _ => rfl)
  let v39 : Memref sig .tc .hbm S2048x1408 .f32 := v38.squeeze S2048x1408 squeezes_S1x1x2048x1408_S2048x1408
  Prog.lift (.waitDma2 v37.sem v39 arg7 ((View.wordExact_bits rfl).reshape _ _) harg7.wordExact)
  let v40 : Vec F S2048x1408 .f32 ← Prog.lift (.load arg7 (Rect.unit (s := S2048x1408) ![0, 0] S2048x1408.size inb_S2048x1408_S2048x1408_0_0).toLoadRect (View.loadsAt_vmem h_S2048x1408))
  let v42 : Vec F S2048x1408 .bf16 ← Prog.lift (.load arg9 (Rect.unit (s := S2048x1408) ![0, 0] S2048x1408.size inb_S2048x1408_S2048x1408_0_0).toLoadRect (View.loadsAt_vmem h_S2048x1408))
  Prog.lift (.store arg9 (Rect.unit (s := S2048x1408) ![0, 0] S2048x1408.size inb_S2048x1408_S2048x1408_0_0) (k0_pay5 v40) Finset.univ (View.stores_vmem h_S2048x1408 (harg9.storeExact_slice rfl _ packedbf16_S2048x1408_S2048x1408_0_0) (fun _ => rfl)) (.inl rfl))
  let v47 : DmaSems sig S1 := arg11.slice (Rect.unit (s := S2) ![1] S1.size inb_S2_S1_1)
  let v48 : DmaSems sig S_ := v47.squeeze S_ squeezes_S1_S_
  let v49 : Memref sig .tc .hbm S1x1x2048x1408 .f32 := arg5.slice (Rect.unit (s := S2x8x2048x5632) (o5 l i v1) S1x1x2048x1408.size (in5 l i v1 v7 v12 hw1 c1)) (fun _ => rfl)
  let v50 : Memref sig .tc .hbm S2048x1408 .f32 := v49.squeeze S2048x1408 squeezes_S1x1x2048x1408_S2048x1408
  Prog.lift (.waitDma2 v48.sem v50 arg8 ((View.wordExact_bits rfl).reshape _ _) harg8.wordExact)
  let v51 : Vec F S2048x1408 .f32 ← Prog.lift (.load arg8 (Rect.unit (s := S2048x1408) ![0, 0] S2048x1408.size inb_S2048x1408_S2048x1408_0_0).toLoadRect (View.loadsAt_vmem h_S2048x1408))
  let v53 : Vec F S2048x1408 .bf16 ← Prog.lift (.load arg10 (Rect.unit (s := S2048x1408) ![0, 0] S2048x1408.size inb_S2048x1408_S2048x1408_0_0).toLoadRect (View.loadsAt_vmem h_S2048x1408))
  Prog.lift (.store arg10 (Rect.unit (s := S2048x1408) ![0, 0] S2048x1408.size inb_S2048x1408_S2048x1408_0_0) (k0_pay6 v51) Finset.univ (View.stores_vmem h_S2048x1408 (harg10.storeExact_slice rfl _ packedbf16_S2048x1408_S2048x1408_0_0) (fun _ => rfl)) (.inl rfl))
  if c3 : k0_cond3 v7 = 1#1 then do
    let v67 : DmaSems sig S1 := arg11.slice (Rect.unit (s := S2) ![0] S1.size inb_S2_S1_0)
    let v68 : DmaSems sig S_ := v67.squeeze S_ squeezes_S1_S_
    let v69 : Memref sig .tc .hbm S1x1x2048x1408 .f32 := arg4.slice (Rect.unit (s := S2x8x2048x5632) (o6 l i v7) S1x1x2048x1408.size (in6 l i v1 v7 v12 hw1 c1 c3)) (fun _ => rfl)
    let v70 : Memref sig .tc .hbm S2048x1408 .f32 := v69.squeeze S2048x1408 squeezes_S1x1x2048x1408_S2048x1408
    Prog.lift (.enqueueDma v70 (.here arg7) (.dma v68.sem) ((View.wordExact_bits rfl).reshape _ _) harg7.wordExact ⟨Or.inl rfl, trivial⟩)
    let v73 : DmaSems sig S1 := arg11.slice (Rect.unit (s := S2) ![1] S1.size inb_S2_S1_1)
    let v74 : DmaSems sig S_ := v73.squeeze S_ squeezes_S1_S_
    let v75 : Memref sig .tc .hbm S1x1x2048x1408 .f32 := arg5.slice (Rect.unit (s := S2x8x2048x5632) (o6 l i v7) S1x1x2048x1408.size (in6 l i v1 v7 v12 hw1 c1 c3)) (fun _ => rfl)
    let v76 : Memref sig .tc .hbm S2048x1408 .f32 := v75.squeeze S2048x1408 squeezes_S1x1x2048x1408_S2048x1408
    Prog.lift (.enqueueDma v76 (.here arg8) (.dma v74.sem) ((View.wordExact_bits rfl).reshape _ _) harg8.wordExact ⟨Or.inl rfl, trivial⟩)
    pure ⟨⟩
  else do
    pure ⟨⟩
  let v59 : BitVec 1 := Scalar.cmpi .slt v7 0#32
  pure ⟨v59, 1#32⟩

set_option maxHeartbeats 4000000 in
/-- The body of the call. -/
def body (l : Fin 2) (i : grid0.Coords) (arg2 : Memref sig .tc .smem S120 .i32) (harg2 : arg2.IsWhole) (arg3 : Memref sig .tc .vmem S512x2048 .bf16) (harg3 : arg3.IsWhole) (arg4 : Memref sig .tc .hbm S2x8x2048x5632 .f32) (harg4 : arg4.IsWhole) (arg5 : Memref sig .tc .hbm S2x8x2048x5632 .f32) (harg5 : arg5.IsWhole) (arg6 : Memref sig .tc .vmem S512x1408 .bf16) (harg6 : arg6.IsWhole) (arg7 : Memref sig .tc .vmem S2048x1408 .f32) (harg7 : arg7.IsWhole) (arg8 : Memref sig .tc .vmem S2048x1408 .f32) (harg8 : arg8.IsWhole) (arg9 : Memref sig .tc .vmem S2048x1408 .bf16) (harg9 : arg9.IsWhole) (arg10 : Memref sig .tc .vmem S2048x1408 .bf16) (harg10 : arg10.IsWhole) (arg11 : DmaSems sig S2) :
    Prog (TpuEff nD τ sig (Elt F) Λ₀ .tc) PUnit := do
  let arg0 : BitVec 32 := BitVec.ofNat 32 (i 0).val
  let arg1 : BitVec 32 := BitVec.ofNat 32 (i 1).val
  let v1 : Elt F .i32 ← smemLoad arg2 (Rect.unit (s := S120) (k0_off1 i) S1.size (k0_off1_inb i)) numel1_S1 rfl
  let v4 : Elt F .i32 ← smemLoad arg2 (Rect.unit (s := S120) (k0_off2 i 40#32) S1.size (k0_off2_inb i 0)) numel1_S1 rfl
  let v7 : Elt F .i32 ← smemLoad arg2 (Rect.unit (s := S120) (k0_off2 i 80#32) S1.size (k0_off2_inb i 1)) numel1_S1 rfl
  let v12 : Elt F .i32 ← smemLoad arg2 (Rect.unit (s := S120) (k0_off3 i) S1.size (k0_off3_inb i)) numel1_S1 rfl
  have hw1 : Fits1 l i v1 v7 v12 := (← Prog.lift (TpuEff.assume (Fits1 l i v1 v7 v12) (instFits1 l i v1 v7 v12))).down
  if c1 : k0_cond1 i v1 v12 = 1#1 then do
    let ⟨_, _⟩ : Σ' (v59 : BitVec 1), BitVec 32 ← switch l i arg2 harg2 arg3 harg3 arg4 harg4 arg5 harg5 arg6 harg6 arg7 harg7 arg8 harg8 arg9 harg9 arg10 harg10 arg11 arg0 arg1 v1 v7 v12 hw1 c1
    if c4 : k0_cond4 i v7 = 1#1 then do
      let v66 : Elt F .i32 ← smemLoad arg2 (Rect.unit (s := S120) ![0] S1.size inb_S120_S1_0) numel1_S1 rfl
      have hw2 : Fits2 l i v1 v7 v12 v66 := (← Prog.lift (TpuEff.assume (Fits2 l i v1 v7 v12 v66) (instFits2 l i v1 v7 v12 v66))).down
      let v69 : DmaSems sig S1 := arg11.slice (Rect.unit (s := S2) ![0] S1.size inb_S2_S1_0)
      let v70 : DmaSems sig S_ := v69.squeeze S_ squeezes_S1_S_
      let v71 : Memref sig .tc .hbm S1x1x2048x1408 .f32 := arg4.slice (Rect.unit (s := S2x8x2048x5632) (o7 l i v66) S1x1x2048x1408.size (in7 l i v1 v7 v12 v66 hw2 c1 c4)) (fun _ => rfl)
      let v72 : Memref sig .tc .hbm S2048x1408 .f32 := v71.squeeze S2048x1408 squeezes_S1x1x2048x1408_S2048x1408
      Prog.lift (.enqueueDma v72 (.here arg7) (.dma v70.sem) ((View.wordExact_bits rfl).reshape _ _) harg7.wordExact ⟨Or.inl rfl, trivial⟩)
      let v74 : Elt F .i32 ← smemLoad arg2 (Rect.unit (s := S120) ![0] S1.size inb_S120_S1_0) numel1_S1 rfl
      have hw3 : Fits3 l i v1 v7 v12 v74 := (← Prog.lift (TpuEff.assume (Fits3 l i v1 v7 v12 v74) (instFits3 l i v1 v7 v12 v74))).down
      let v77 : DmaSems sig S1 := arg11.slice (Rect.unit (s := S2) ![1] S1.size inb_S2_S1_1)
      let v78 : DmaSems sig S_ := v77.squeeze S_ squeezes_S1_S_
      let v79 : Memref sig .tc .hbm S1x1x2048x1408 .f32 := arg5.slice (Rect.unit (s := S2x8x2048x5632) (o8 l i v74) S1x1x2048x1408.size (in8 l i v1 v7 v12 v74 hw3 c1 c4)) (fun _ => rfl)
      let v80 : Memref sig .tc .hbm S2048x1408 .f32 := v79.squeeze S2048x1408 squeezes_S1x1x2048x1408_S2048x1408
      Prog.lift (.enqueueDma v80 (.here arg8) (.dma v78.sem) ((View.wordExact_bits rfl).reshape _ _) harg8.wordExact ⟨Or.inl rfl, trivial⟩)
      pure ⟨⟩
    else do
      pure ⟨⟩
    pure ⟨⟩
  else do
    pure ⟨⟩
  if c5 : k0_cond5 v4 = 1#1 then do
    let v29 : Vec F S256x2048 .bf16 ← Prog.lift (.load arg3 (Rect.unit (s := S512x2048) ![0, 0] S256x2048.size inb_S512x2048_S256x2048_0_0).toLoadRect (View.loadsAt_vmem h_S256x2048))
    let v30 : Vec F S2048x1408 .bf16 ← Prog.lift (.load arg9 (Rect.unit (s := S2048x1408) ![0, 0] S2048x1408.size inb_S2048x1408_S2048x1408_0_0).toLoadRect (View.loadsAt_vmem h_S2048x1408))
    let v32 : Vec F S2048x1408 .bf16 ← Prog.lift (.load arg10 (Rect.unit (s := S2048x1408) ![0, 0] S2048x1408.size inb_S2048x1408_S2048x1408_0_0).toLoadRect (View.loadsAt_vmem h_S2048x1408))
    let v38 : Vec F S256x1408 .bf16 ← Prog.lift (.load arg6 (Rect.unit (s := S512x1408) ![0, 0] S256x1408.size inb_S512x1408_S256x1408_0_0).toLoadRect (View.loadsAt_vmem h_S256x1408))
    Prog.lift (.store arg6 (Rect.unit (s := S512x1408) ![0, 0] S256x1408.size inb_S512x1408_S256x1408_0_0) (k0_pay1 v29 v30 v32) Finset.univ (View.stores_vmem h_S256x1408 (harg6.storeExact_slice rfl _ packedbf16_S512x1408_S256x1408_0_0) (fun _ => rfl)) (.inl rfl))
    pure ⟨⟩
  else do
    pure ⟨⟩
  if c6 : k0_cond6 v4 = 1#1 then do
    let v30 : Vec F S256x1408 .bf16 ← Prog.lift (.load arg6 (Rect.unit (s := S512x1408) ![0, 0] S256x1408.size inb_S512x1408_S256x1408_0_0).toLoadRect (View.loadsAt_vmem h_S256x1408))
    Prog.lift (.store arg6 (Rect.unit (s := S512x1408) ![0, 0] S256x1408.size inb_S512x1408_S256x1408_0_0) (k0_pay2 (F := F)) Finset.univ (View.stores_vmem h_S256x1408 (harg6.storeExact_slice rfl _ packedbf16_S512x1408_S256x1408_0_0) (fun _ => rfl)) (.inl rfl))
    pure ⟨⟩
  else do
    pure ⟨⟩
  if c7 : k0_cond7 v4 = 1#1 then do
    let v29 : Vec F S256x2048 .bf16 ← Prog.lift (.load arg3 (Rect.unit (s := S512x2048) ![256, 0] S256x2048.size inb_S512x2048_S256x2048_256_0).toLoadRect (View.loadsAt_vmem h_S256x2048))
    let v30 : Vec F S2048x1408 .bf16 ← Prog.lift (.load arg9 (Rect.unit (s := S2048x1408) ![0, 0] S2048x1408.size inb_S2048x1408_S2048x1408_0_0).toLoadRect (View.loadsAt_vmem h_S2048x1408))
    let v32 : Vec F S2048x1408 .bf16 ← Prog.lift (.load arg10 (Rect.unit (s := S2048x1408) ![0, 0] S2048x1408.size inb_S2048x1408_S2048x1408_0_0).toLoadRect (View.loadsAt_vmem h_S2048x1408))
    let v38 : Vec F S256x1408 .bf16 ← Prog.lift (.load arg6 (Rect.unit (s := S512x1408) ![256, 0] S256x1408.size inb_S512x1408_S256x1408_256_0).toLoadRect (View.loadsAt_vmem h_S256x1408))
    Prog.lift (.store arg6 (Rect.unit (s := S512x1408) ![256, 0] S256x1408.size inb_S512x1408_S256x1408_256_0) (k0_pay3 v29 v30 v32) Finset.univ (View.stores_vmem h_S256x1408 (harg6.storeExact_slice rfl _ packedbf16_S512x1408_S256x1408_256_0) (fun _ => rfl)) (.inl rfl))
    pure ⟨⟩
  else do
    pure ⟨⟩
  if c8 : k0_cond8 v4 = 1#1 then do
    let v30 : Vec F S256x1408 .bf16 ← Prog.lift (.load arg6 (Rect.unit (s := S512x1408) ![256, 0] S256x1408.size inb_S512x1408_S256x1408_256_0).toLoadRect (View.loadsAt_vmem h_S256x1408))
    Prog.lift (.store arg6 (Rect.unit (s := S512x1408) ![256, 0] S256x1408.size inb_S512x1408_S256x1408_256_0) (k0_pay4 (F := F)) Finset.univ (View.stores_vmem h_S256x1408 (harg6.storeExact_slice rfl _ packedbf16_S512x1408_S256x1408_256_0) (fun _ => rfl)) (.inl rfl))
    pure ⟨⟩
  else do
    pure ⟨⟩
  pure ⟨⟩

/-- The bodies by label: the call's alone. -/
def bodies (l : Fin 2) : Defs nD τ sig (Elt F) Λ₀ := Defs.onTc fun
  | 0, (t, s) => body l (grid0.coords t) (Memref.whole main_arg0) (Memref.isWhole_whole _) (spec0_0.stage (s 0)) (hstage0_0 ((s 0).cast nbuf0_0)) (Memref.whole main_arg2) (Memref.isWhole_whole _) (Memref.whole main_arg3) (Memref.isWhole_whole _) (spec0_1.stage (s 1)) (hstage0_1 ((s 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  | ⟨_ + 1, h⟩, _ => absurd h (Nat.not_lt.2 (Nat.le_add_left _ _))

set_option maxRecDepth 65536 in
/-- The first expert layer's bodies are those at layer 0. -/
theorem bodies_first : defs₀ (F := F) = bodies (F := F) 0 := by
  unfold defs₀ bodies
  refine congrArg Defs.onTc ?_
  funext k x
  match k, x with
  | 0, (t, s) => rfl
end Cert.Proof.Moe
end
-- ==== Proof.ExpertPoint.lean ====
module
public import proofs.«01_k».proof.Proof.ExpertBody
public import Idealize.ShloMosaic.Lib.Pipeline.FrameBody
public import Idealize.ShloMosaic.Lib.MixedBatch
public import Idealize.ShloMosaic.Lib.Tactic
public import Idealize.ShloMosaic.Lib.VecWindow
public import Idealize.ShloMosaic.Lib.WritesUnit
public import Idealize.ShloMosaic.Lib.Pipeline.ValueKit

/-! # One grid point of the expert up-projection

What the body of the call does at one grid point, from what it finds in flight and in the two cast
weight buffers: the copies it waits for, the copies it starts, the weights it casts, and the two
halves of the output tile. -/

@[expose] public section
noncomputable section
namespace Cert.Proof.Moe
open Cert.Expert Cert.Expert.Gen
open Idealize.ShloMosaic hiding ix2 eq_ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (Pipeline.UD sig nD τ) ℕ

/-! ## The buffers -/

/-- The table of tiles. -/
abbrev tabM : Memref sig .tc .smem S120 .i32 := Memref.whole main_arg0
/-- The gate weights of all layers and experts. -/
abbrev gateM : Memref sig .tc .hbm S2x8x2048x5632 .f32 := Memref.whole main_arg2
/-- The up weights of all layers and experts. -/
abbrev upM : Memref sig .tc .hbm S2x8x2048x5632 .f32 := Memref.whole main_arg3
/-- Where a block of the gate weights lands. -/
abbrev stg0 : Memref sig .tc .vmem S2048x1408 .f32 := Memref.whole cc0_scratch0
/-- Where a block of the up weights lands. -/
abbrev stg1 : Memref sig .tc .vmem S2048x1408 .f32 := Memref.whole cc0_scratch1
/-- The cast block of the gate weights. -/
abbrev wb0 : Memref sig .tc .vmem S2048x1408 .bf16 := Memref.whole cc0_scratch2
/-- The cast block of the up weights. -/
abbrev wb1 : Memref sig .tc .vmem S2048x1408 .bf16 := Memref.whole cc0_scratch3

/-- The contents of the buffer a memref lies in. -/
abbrev Cont (c : Dev nD) {sp : Space} {S : Shape} {e : EltTy} (M : Memref sig .tc sp S e) : Type :=
  Buf (Elt F) (M.view.loc (c : Thread nD τ))
/-- The whole buffer of a memref, at the contents given. -/
abbrev whole (c : Dev nD) {sp : Space} {S : Shape} {e : EltTy} (M : Memref sig .tc sp S e) (f : Cont (F := F) c M) : sProp 𝕄 :=
  M.view.loc (c : Thread nD τ) ↦{fullShare} f
/-- The half share of a buffer that a body may read. -/
abbrev half (c : Dev nD) {S : Shape} {e : EltTy} (M : Memref sig .tc .smem S e) (f : Cont (F := F) c M) : sProp 𝕄 :=
  M.view.loc (c : Thread nD τ) ↦{fullShare.right} f
/-- The block of the weights at an offset, as the copies name it. -/
abbrev block (M : Memref sig .tc .hbm S2x8x2048x5632 .f32) (o : Fin 4 → ℕ)
    (h : ∀ a, o a + S1x1x2048x1408.size a ≤ S2x8x2048x5632.size a) : Memref sig .tc .hbm S2048x1408 .f32 :=
  (M.slice (Rect.unit (s := S2x8x2048x5632) o S1x1x2048x1408.size h) (fun _ => rfl)).squeeze S2048x1408
    squeezes_S1x1x2048x1408_S2048x1408
/-- What the block of the weights at an offset holds. -/
abbrev blockOf (c : Dev nD) (M : Memref sig .tc .hbm S2x8x2048x5632 .f32) (o : Fin 4 → ℕ)
    (h : ∀ a, o a + S1x1x2048x1408.size a ≤ S2x8x2048x5632.size a) (g : Cont (F := F) c M) : Vec F S2048x1408 .f32 :=
  (block M o h).view.read (Elt F) g

/-- The word of the table at an offset. -/
abbrev word (c : Dev nD) (te : Cont (F := F) c tabM) (o : Fin 1 → ℕ) (h : ∀ a, o a + S1.size a ≤ S120.size a) : BitVec 32 :=
  View.readAt (Elt F) tabM.view (Rect.unit (s := S120) o S1.size h).toLoadRect te (Shape.Idx.first (numel1_S1.symm ▸ Nat.one_pos))
/-- The expert of the tile at hand. -/
abbrev word1 (c : Dev nD) (te : Cont (F := F) c tabM) (i : grid0.Coords) : BitVec 32 := word c te (k0_off1 i) (k0_off1_inb i)
/-- How many rows of the tile at hand are filled. -/
abbrev word4 (c : Dev nD) (te : Cont (F := F) c tabM) (i : grid0.Coords) : BitVec 32 := word c te (k0_off2 i 40#32) (k0_off2_inb i 0)
/-- The expert that follows. -/
abbrev word7 (c : Dev nD) (te : Cont (F := F) c tabM) (i : grid0.Coords) : BitVec 32 := word c te (k0_off2 i 80#32) (k0_off2_inb i 1)
/-- The expert of the tile before. -/
abbrev word12 (c : Dev nD) (te : Cont (F := F) c tabM) (i : grid0.Coords) : BitVec 32 := word c te (k0_off3 i) (k0_off3_inb i)
/-- The first expert of the table. -/
abbrev word0 (c : Dev nD) (te : Cont (F := F) c tabM) : BitVec 32 := word c te ![0] inb_S120_S1_0

/-! ## What is carried between grid points -/

/-- A copy of a block of the weights into its landing buffer is under way: the copy itself, and the
rest of the weights. -/
def pend (c : Dev nD) (s : DmaSem sig) (M : Memref sig .tc .hbm S2x8x2048x5632 .f32) (S : Memref sig .tc .vmem S2048x1408 .f32)
    (o : Fin 4 → ℕ) (h : ∀ a, o a + S1x1x2048x1408.size a ≤ S2x8x2048x5632.size a) (g : Cont (F := F) c M) : sProp 𝕄 :=
  iprop(∃ f : Cont (F := F) c S, ⌜S.view.read (Elt F) f = blockOf c M o h g⌝
    ∗ Transfers.Flight (countersEmb (U := Pipeline.UD sig nD τ)) (c : Thread nD τ) (.dma s) () (S.view.amount (SemLoc.dma (sig := sig) s))
        iprop((S.view.loc (c : Thread nD τ) ↦[S.view.set]{fullShare} f)
          ∗ ((block M o h).view.loc (c : Thread nD τ) ↦[(block M o h).view.set]{fullShare} g))
    ∗ (M.view.loc (c : Thread nD τ) ↦[Finset.univ \ (block M o h).view.set]{fullShare} g))
/-- No copy is under way. -/
def quiet (c : Dev nD) (s : DmaSem sig) (M : Memref sig .tc .hbm S2x8x2048x5632 .f32) (S : Memref sig .tc .vmem S2048x1408 .f32)
    (g : Cont (F := F) c M) : sProp 𝕄 :=
  iprop((∃ f : Cont (F := F) c S, S.view.loc (c : Thread nD τ) ↦[S.view.set]{fullShare} f) ∗ semVal ((c : Thread nD τ), SemLoc.dma s) 0 ∗ whole c M g)
/-- A cast weight buffer reads as the block given. -/
def loaded (c : Dev nD) (S : Memref sig .tc .vmem S2048x1408 .bf16) (X : Vec F S2048x1408 .bf16) : sProp 𝕄 :=
  iprop(∃ f : Cont (F := F) c S, ⌜S.view.read (Elt F) f = X⌝ ∗ whole c S f)

/-! ## The output tile -/

/-- Rows 0 to 255 of the tile of inputs. -/
def rowsTop (x : Vec F S512x2048 .bf16) : Vec F S256x2048 .bf16 :=
  fun y => x ((Rect.unit (s := S512x2048) ![0, 0] S256x2048.size inb_S512x2048_S256x2048_0_0).toLoadRect.idx y)
/-- Rows 256 to 511 of the tile of inputs. -/
def rowsBottom (x : Vec F S512x2048 .bf16) : Vec F S256x2048 .bf16 :=
  fun y => x ((Rect.unit (s := S512x2048) ![256, 0] S256x2048.size inb_S512x2048_S256x2048_256_0).toLoadRect.idx y)
/-- The upper half of the output tile: computed where the tile has a filled row, zero otherwise. -/
def top (n : BitVec 32) (x : Vec F S512x2048 .bf16) (G U : Vec F S2048x1408 .bf16) : Vec F S256x1408 .bf16 :=
  if k0_cond5 n = 1#1 then k0_pay1 (rowsTop x) G U else k0_pay2
/-- The lower half of the output tile: computed where more than 256 rows are filled. -/
def bottom (n : BitVec 32) (x : Vec F S512x2048 .bf16) (G U : Vec F S2048x1408 .bf16) : Vec F S256x1408 .bf16 :=
  if k0_cond7 n = 1#1 then k0_pay3 (rowsBottom x) G U else k0_pay4
/-- A tile from its two halves. -/
def tile (p q : Vec F S256x1408 .bf16) : Vec F S512x1408 .bf16 := fun y =>
  if h : (y 0).val < 256 then p (ix2 ⟨(y 0).val, h⟩ (y 1))
  else q (ix2 ⟨(y 0).val - 256, by have := (y 0).isLt; change (y 0).val < 512 at this; omega⟩ (y 1))
/-- The output tile of a grid point. -/
def made (n : BitVec 32) (x : Vec F S512x2048 .bf16) (G U : Vec F S2048x1408 .bf16) : Vec F S512x1408 .bf16 :=
  tile (top n x G U) (bottom n x G U)

/-- The upper half of a tile. -/
theorem tile_lt (p q : Vec F S256x1408 .bf16) (r : Fin 512) (d : Fin 1408) (h : r.val < 256) :
    tile p q (ix2 r d) = p (ix2 ⟨r.val, h⟩ d) := by
  unfold tile; exact dif_pos h
/-- The lower half of a tile. -/
theorem tile_ge (p q : Vec F S256x1408 .bf16) (r : Fin 512) (d : Fin 1408) (h : ¬ r.val < 256) (hr : r.val - 256 < 256) :
    tile p q (ix2 r d) = q (ix2 ⟨r.val - 256, hr⟩ d) := by
  unfold tile; exact dif_neg h

/-- Two stores that cover the tile leave the two halves. -/
theorem read_halves (a6 : Memref sig .tc .vmem S512x1408 .bf16) (f : a6.view.ty.Contents (Elt F)) (p q p' q' : Vec F S256x1408 .bf16)
    (hp : p = p') (hq : q = q') :
    a6.view.read (Elt F) (a6.view.writes (Elt F) f
      [⟨Rect.unit (s := S512x1408) ![256, 0] S256x1408.size inb_S512x1408_S256x1408_256_0, q⟩,
       ⟨Rect.unit (s := S512x1408) ![0, 0] S256x1408.size inb_S512x1408_S256x1408_0_0, p⟩]) = tile p' q' := by
  subst hp hq
  funext y
  have hy : y = ix2 (y 0 : Fin 512) (y 1 : Fin 1408) := eq_ix2 y
  generalize (y 0 : Fin 512) = r at hy
  generalize (y 1 : Fin 1408) = d at hy
  subst hy
  by_cases h : r.val < 256
  · have k1 := View.read_writes_cons_unit_of_not_mem (Val := Elt F) a6.view f (off := ![256, 0]) (off' := ![256, 0]) (size := S256x1408.size)
      inb_S512x1408_S256x1408_256_0 q [⟨Rect.unit (s := S512x1408) ![0, 0] S256x1408.size inb_S512x1408_S256x1408_0_0, p⟩]
      (ix2 r d) rfl 0 (Or.inl h)
    have k2 := View.read_writes_cons_unit_of_mem (Val := Elt F) a6.view f (off := ![0, 0]) (off' := ![0, 0]) (size := S256x1408.size)
      inb_S512x1408_S256x1408_0_0 p [] (ix2 r d) (ix2 (⟨r.val, h⟩ : Fin 256) d) rfl
      (fun b => by match b with | ⟨0, _⟩ => exact (Nat.zero_add _).symm | ⟨1, _⟩ => exact (Nat.zero_add _).symm)
    exact (k1.trans k2).trans (tile_lt p q r d h).symm
  · have hr : r.val - 256 < 256 := by have : r.val < 512 := r.isLt; omega
    have k1 := View.read_writes_cons_unit_of_mem (Val := Elt F) a6.view f (off := ![256, 0]) (off' := ![256, 0]) (size := S256x1408.size)
      inb_S512x1408_S256x1408_256_0 q [⟨Rect.unit (s := S512x1408) ![0, 0] S256x1408.size inb_S512x1408_S256x1408_0_0, p⟩]
      (ix2 r d) (ix2 (⟨r.val - 256, hr⟩ : Fin 256) d) rfl
      (fun b => by match b with | ⟨0, _⟩ => exact (Nat.add_sub_cancel' (Nat.le_of_not_lt h)).symm | ⟨1, _⟩ => exact (Nat.zero_add _).symm)
    exact k1.trans (tile_ge p q r d h hr).symm

/-- A store of everything leaves what was stored. -/
theorem read_stored {S : Shape} {e : EltTy} {sp : Space} (M : Memref sig .tc sp S e) (f : M.view.ty.Contents (Elt F)) (p : S.Idx → Elt F e)
    (L : List (View.Piece (Elt F) S e)) :
    M.view.read (Elt F) (M.view.writes (Elt F) f (⟨Rect.whole S, p⟩ :: L)) = p := by
  funext y
  have := View.read_writes_cons_emb (Val := Elt F) M.view f (Rect.whole S) p L y
  simpa using this

/-- The upper half, as the body computes it where a row is filled. -/
theorem top_eq {n : BitVec 32} (h : k0_cond5 n = 1#1) {a3 : Memref sig .tc .vmem S512x2048 .bf16} {f : a3.view.ty.Contents (Elt F)}
    {x : Vec F S512x2048 .bf16} (e3 : a3.view.read (Elt F) f = x) {G U G' U' : Vec F S2048x1408 .bf16} (hG : G' = G) (hU : U' = U) :
    k0_pay1 (View.readAt (Elt F) a3.view (Rect.unit (s := S512x2048) ![0, 0] S256x2048.size inb_S512x2048_S256x2048_0_0).toLoadRect f) G' U'
      = top n x G U := by
  subst e3 hG hU; exact (if_pos h).symm
/-- The lower half, as the body computes it where more than 256 rows are filled. -/
theorem bottom_eq {n : BitVec 32} (h : k0_cond7 n = 1#1) {a3 : Memref sig .tc .vmem S512x2048 .bf16} {f : a3.view.ty.Contents (Elt F)}
    {x : Vec F S512x2048 .bf16} (e3 : a3.view.read (Elt F) f = x) {G U G' U' : Vec F S2048x1408 .bf16} (hG : G' = G) (hU : U' = U) :
    k0_pay3 (View.readAt (Elt F) a3.view (Rect.unit (s := S512x2048) ![256, 0] S256x2048.size inb_S512x2048_S256x2048_256_0).toLoadRect f) G' U'
      = bottom n x G U := by
  subst e3 hG hU; exact (if_pos h).symm

/-- The upper half where no row is filled. -/
theorem top_zero {n : BitVec 32} (h : ¬ k0_cond5 n = 1#1) (x : Vec F S512x2048 .bf16) (G U : Vec F S2048x1408 .bf16) :
    k0_pay2 = top n x G U := by unfold top; exact (if_neg h).symm
/-- The lower half where at most 256 rows are filled. -/
theorem bottom_zero {n : BitVec 32} (h : ¬ k0_cond7 n = 1#1) (x : Vec F S512x2048 .bf16) (G U : Vec F S2048x1408 .bf16) :
    k0_pay4 = bottom n x G U := by unfold bottom; exact (if_neg h).symm

/-- What the four conditional stores of the body leave in the tile: each half is stored exactly once. -/
theorem read_made {n : BitVec 32} (e6 : k0_cond6 n = 1#1 ↔ ¬ k0_cond5 n = 1#1) (e8 : k0_cond8 n = 1#1 ↔ ¬ k0_cond7 n = 1#1)
    (a6 : Memref sig .tc .vmem S512x1408 .bf16) (f : a6.view.ty.Contents (Elt F)) {x : Vec F S512x2048 .bf16} {G U : Vec F S2048x1408 .bf16}
    {p q : Vec F S256x1408 .bf16} (hp : k0_cond5 n = 1#1 → p = top n x G U) (hq : k0_cond7 n = 1#1 → q = bottom n x G U)
    {f1 f2 f3 f4 : a6.view.ty.Contents (Elt F)}
    (h1 : f1 = if hc : k0_cond5 n = 1#1 then a6.view.writes (Elt F) f
      [⟨Rect.unit (s := S512x1408) ![0, 0] S256x1408.size inb_S512x1408_S256x1408_0_0, p⟩] else f)
    (h2 : f2 = if hc : k0_cond6 n = 1#1 then a6.view.writes (Elt F) f1
      [⟨Rect.unit (s := S512x1408) ![0, 0] S256x1408.size inb_S512x1408_S256x1408_0_0, k0_pay2⟩] else f1)
    (h3 : f3 = if hc : k0_cond7 n = 1#1 then a6.view.writes (Elt F) f2
      [⟨Rect.unit (s := S512x1408) ![256, 0] S256x1408.size inb_S512x1408_S256x1408_256_0, q⟩] else f2)
    (h4 : f4 = if hc : k0_cond8 n = 1#1 then a6.view.writes (Elt F) f3
      [⟨Rect.unit (s := S512x1408) ![256, 0] S256x1408.size inb_S512x1408_S256x1408_256_0, k0_pay4⟩] else f3) :
    a6.view.read (Elt F) f4 = made n x G U := by
  by_cases c5 : k0_cond5 n = 1#1 <;> by_cases c7 : k0_cond7 n = 1#1
  · rw [dif_pos c5] at h1; rw [dif_neg (fun h => e6.mp h c5)] at h2; rw [dif_pos c7] at h3; rw [dif_neg (fun h => e8.mp h c7)] at h4
    subst h4 h3 h2 h1; unfold made; rw [← View.writes_append]; exact read_halves a6 f _ _ _ _ (hp c5) (hq c7)
  · rw [dif_pos c5] at h1; rw [dif_neg (fun h => e6.mp h c5)] at h2; rw [dif_neg c7] at h3; rw [dif_pos (e8.mpr c7)] at h4
    subst h4 h3 h2 h1; unfold made; rw [← View.writes_append]; exact read_halves a6 f _ _ _ _ (hp c5) (bottom_zero c7 x G U)
  · rw [dif_neg c5] at h1; rw [dif_pos (e6.mpr c5)] at h2; rw [dif_pos c7] at h3; rw [dif_neg (fun h => e8.mp h c7)] at h4
    subst h4 h3 h2 h1; unfold made; rw [← View.writes_append]; exact read_halves a6 _ _ _ _ _ (top_zero c5 x G U) (hq c7)
  · rw [dif_neg c5] at h1; rw [dif_pos (e6.mpr c5)] at h2; rw [dif_neg c7] at h3; rw [dif_pos (e8.mpr c7)] at h4
    subst h4 h3 h2 h1; unfold made; rw [← View.writes_append]; exact read_halves a6 _ _ _ _ _ (top_zero c5 x G U) (bottom_zero c7 x G U)

/-- A gate block just cast reads back as the cast of what landed. -/
theorem recast0 {s : Cont (F := F) (0 : Dev nD) stg0} {X : Vec F S2048x1408 .f32} (h : stg0.view.read (Elt F) s = X) :
    wb0.view.readCov (Val := Elt F) [⟨Rect.unit (s := S2048x1408) ![0, 0] S2048x1408.size inb_S2048x1408_S2048x1408_0_0,
        k0_pay5 (View.readAt (Elt F) stg0.view (Rect.unit (s := S2048x1408) ![0, 0] S2048x1408.size inb_S2048x1408_S2048x1408_0_0).toLoadRect s)⟩]
      (Rect.unit (s := S2048x1408) ![0, 0] S2048x1408.size inb_S2048x1408_S2048x1408_0_0).toLoadRect = k0_pay5 X :=
  (View.readCov_cons_toLoadRect _ _ _ _).trans (congrArg k0_pay5 ((View.readAt_full _ _ _).trans h))
/-- An up block just cast reads back as the cast of what landed. -/
theorem recast1 {s : Cont (F := F) (0 : Dev nD) stg1} {X : Vec F S2048x1408 .f32} (h : stg1.view.read (Elt F) s = X) :
    wb1.view.readCov (Val := Elt F) [⟨Rect.unit (s := S2048x1408) ![0, 0] S2048x1408.size inb_S2048x1408_S2048x1408_0_0,
        k0_pay6 (View.readAt (Elt F) stg1.view (Rect.unit (s := S2048x1408) ![0, 0] S2048x1408.size inb_S2048x1408_S2048x1408_0_0).toLoadRect s)⟩]
      (Rect.unit (s := S2048x1408) ![0, 0] S2048x1408.size inb_S2048x1408_S2048x1408_0_0).toLoadRect = k0_pay6 X :=
  (View.readCov_cons_toLoadRect _ _ _ _).trans (congrArg k0_pay6 ((View.readAt_full _ _ _).trans h))

/-- A block landed by a copy of everything is loaded as it was copied. -/
theorem landed (S : Memref sig .tc .vmem S2048x1408 .f32) (X : Vec F S2048x1408 .f32) :
    S.view.readCov (Val := Elt F) [⟨Rect.whole S2048x1408, X⟩]
      (Rect.unit (s := S2048x1408) ![0, 0] S2048x1408.size inb_S2048x1408_S2048x1408_0_0).toLoadRect = X :=
  (View.readAt_full _ _ _).trans (read_stored S _ X [])
/-- A gate block copied and cast at once reads back as its cast. -/
theorem copied0 (X : Vec F S2048x1408 .f32) :
    wb0.view.readCov (Val := Elt F) [⟨Rect.unit (s := S2048x1408) ![0, 0] S2048x1408.size inb_S2048x1408_S2048x1408_0_0,
        k0_pay5 (stg0.view.readCov (Val := Elt F) [⟨Rect.whole S2048x1408, X⟩]
          (Rect.unit (s := S2048x1408) ![0, 0] S2048x1408.size inb_S2048x1408_S2048x1408_0_0).toLoadRect)⟩]
      (Rect.unit (s := S2048x1408) ![0, 0] S2048x1408.size inb_S2048x1408_S2048x1408_0_0).toLoadRect = k0_pay5 X :=
  (View.readCov_cons_toLoadRect _ _ _ _).trans (congrArg k0_pay5 (landed stg0 X))
/-- An up block copied and cast at once reads back as its cast. -/
theorem copied1 (X : Vec F S2048x1408 .f32) :
    wb1.view.readCov (Val := Elt F) [⟨Rect.unit (s := S2048x1408) ![0, 0] S2048x1408.size inb_S2048x1408_S2048x1408_0_0,
        k0_pay6 (stg1.view.readCov (Val := Elt F) [⟨Rect.whole S2048x1408, X⟩]
          (Rect.unit (s := S2048x1408) ![0, 0] S2048x1408.size inb_S2048x1408_S2048x1408_0_0).toLoadRect)⟩]
      (Rect.unit (s := S2048x1408) ![0, 0] S2048x1408.size inb_S2048x1408_S2048x1408_0_0).toLoadRect = k0_pay6 X :=
  (View.readCov_cons_toLoadRect _ _ _ _).trans (congrArg k0_pay6 (landed stg1 X))

section Run

variable (l : Fin 2) (c : Dev nD) (i : grid0.Coords) (a3 : Memref sig .tc .vmem S512x2048 .bf16) (h3 : a3.IsWhole)
  (a6 : Memref sig .tc .vmem S512x1408 .bf16) (h6 : a6.IsWhole)
  (te : Cont (F := F) c tabM) (g : Cont (F := F) c gateM) (u : Cont (F := F) c upM)

/-- The body of the call at a grid point, at the buffers it is given. -/
abbrev bodyOf : Prog (TpuEff nD τ sig (Elt F) Λ₀ .tc) PUnit :=
  body l i tabM (Memref.isWhole_whole _) a3 h3 gateM (Memref.isWhole_whole _) upM (Memref.isWhole_whole _) a6 h6
    stg0 (Memref.isWhole_whole _) stg1 (Memref.isWhole_whole _) wb0 (Memref.isWhole_whole _) wb1 (Memref.isWhole_whole _) cc0_scratch4

/-- A grid point whose expert is that of the tile before: the cast weights serve again. -/
theorem run_same (c1 : ¬ k0_cond1 i (word1 c te i) (word12 c te i) = 1#1)
    (hw : Fits1 l i (word1 c te i) (word7 c te i) (word12 c te i))
    (e6 : k0_cond6 (word4 c te i) = 1#1 ↔ ¬ k0_cond5 (word4 c te i) = 1#1)
    (e8 : k0_cond8 (word4 c te i) = 1#1 ↔ ¬ k0_cond7 (word4 c te i) = 1#1)
    (x : Vec F S512x2048 .bf16) (G U : Vec F S2048x1408 .bf16) (W : Waits sig Unit) (K : PUnit → sProp 𝕄) :
    iprop(half c tabM te ∗ owns (c : Thread nD τ) a3 fullShare x ∗ (∃ d, owns (c : Thread nD τ) a6 fullShare d)
       ∗ loaded c wb0 G ∗ loaded c wb1 U ∗ owes (c : Thread nD τ) 0 W
       ∗ ((half c tabM te ∗ owns (c : Thread nD τ) a3 fullShare x ∗ owns (c : Thread nD τ) a6 fullShare (made (word4 c te i) x G U)
            ∗ loaded c wb0 G ∗ loaded c wb1 U ∗ (∃ W', owes (c : Thread nD τ) 0 W')) -∗ K ⟨⟩))
    ⊢ wp frame (wpE (bodies (F := F) l) Variants.none c none) Set.univ (bodyOf l i a3 h3 a6 h6) K := by
  unfold bodyOf body
  unfold owns loaded
  by_cases c5 : k0_cond5 (word4 c te i) = 1#1 <;> by_cases c7 : k0_cond7 (word4 c te i) = 1#1
  all_goals
    have c6 := e6
    have c8 := e8
    simp only [c5, c7, not_true_eq_false, not_false_eq_true, iff_false, iff_true] at c6 c8
    iintro ⟨HT, ⟨%f3, %e3, H3⟩, ⟨%d6, %f6, -, H6⟩, ⟨%b0, %eb0, HB0⟩, ⟨%b1, %eb1, HB1⟩, HO, Hk⟩
    sl_exec
    sl_step
    iapply Hk
    isplitl [HT]; · iexact HT
    isplitl [H3]
    · iexists _; isplitr; · ipureintro; exact e3
      iexact H3
    isplitl [H6]
    · iexists _; isplitr; swap; · iexact H6
      ipureintro
      refine read_halves a6 _ _ _ _ _ ?_ ?_
      · first
          | exact top_eq c5 e3 ((View.readAt_full _ _ _).trans eb0) ((View.readAt_full _ _ _).trans eb1)
          | exact (if_neg c5).symm
      · first
          | exact bottom_eq c7 e3 ((View.readAt_full _ _ _).trans eb0) ((View.readAt_full _ _ _).trans eb1)
          | exact (if_neg c7).symm
    isplitl [HB0]
    · iexists _; isplitr; · ipureintro; exact eb0
      iexact HB0
    isplitl [HB1]
    · iexists _; isplitr; · ipureintro; exact eb1
      iexact HB1
    iexists _; iexact HO
end Run
end Cert.Proof.Moe
end
-- ==== Proof.ExpertSwitch.lean ====
module
public import proofs.«01_k».proof.Proof.ExpertPoint

/-! # A grid point that changes the expert

The body waits for the two blocks under way (at the very first point it starts them first), casts
them, starts the two blocks that follow, and computes the output tile with the blocks just cast. -/

@[expose] public section
noncomputable section
namespace Cert.Proof.Moe
open Cert.Expert Cert.Expert.Gen
open Idealize.ShloMosaic hiding ix2 eq_ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (Pipeline.UD sig nD τ) ℕ

section Run

variable (l : Fin 2) (c : Dev nD) (i : grid0.Coords) (a3 : Memref sig .tc .vmem S512x2048 .bf16) (h3 : a3.IsWhole)
  (a6 : Memref sig .tc .vmem S512x1408 .bf16) (h6 : a6.IsWhole)
  (te : Cont (F := F) c tabM) (g : Cont (F := F) c gateM) (u : Cont (F := F) c upM)
  (hw : Fits1 l i (word1 c te i) (word7 c te i) (word12 c te i))
  (c1 : k0_cond1 i (word1 c te i) (word12 c te i) = 1#1)
  (hw2 : Fits2 l i (word1 c te i) (word7 c te i) (word12 c te i) (word0 c te))
  (hw3 : Fits3 l i (word1 c te i) (word7 c te i) (word12 c te i) (word0 c te))

/-- What a changing point finds: nothing under way at the first point, otherwise its own two blocks. -/
def found : sProp 𝕄 :=
  if k0_cond2 i = 1#1 then iprop(quiet c 4 gateM stg0 g ∗ quiet c 5 upM stg1 u)
  else iprop(pend c 4 gateM stg0 (o5 l i (word1 c te i)) (in5 l i _ _ _ hw c1) g
    ∗ pend c 5 upM stg1 (o5 l i (word1 c te i)) (in5 l i _ _ _ hw c1) u)

/-- What it leaves under way: the blocks of the expert that follows; after the last expert those of
the first expert in the next block of columns; at the very last nothing. -/
def started : sProp 𝕄 :=
  if k3 : k0_cond3 (word7 c te i) = 1#1 then
    iprop(pend c 4 gateM stg0 (o6 l i (word7 c te i)) (in6 l i _ _ _ hw c1 k3) g
      ∗ pend c 5 upM stg1 (o6 l i (word7 c te i)) (in6 l i _ _ _ hw c1 k3) u)
  else if k4 : k0_cond4 i (word7 c te i) = 1#1 then
    iprop(pend c 4 gateM stg0 (o7 l i (word0 c te)) (in7 l i _ _ _ _ hw2 c1 k4) g
      ∗ pend c 5 upM stg1 (o8 l i (word0 c te)) (in8 l i _ _ _ _ hw3 c1 k4) u)
  else iprop(quiet c 4 gateM stg0 g ∗ quiet c 5 upM stg1 u)

/-- Of two conditions the first holds, or the second alone, or neither. -/
theorem three (p q : Prop) : p ∨ (¬ p ∧ q) ∨ (¬ p ∧ ¬ q) := by
  by_cases hp : p
  · exact Or.inl hp
  · by_cases hq : q
    · exact Or.inr (Or.inl ⟨hp, hq⟩)
    · exact Or.inr (Or.inr ⟨hp, hq⟩)

set_option maxHeartbeats 1600000 in
/-- A grid point whose expert differs from that of the tile before. -/
theorem run_switch (e6 : k0_cond6 (word4 c te i) = 1#1 ↔ ¬ k0_cond5 (word4 c te i) = 1#1)
    (e8 : k0_cond8 (word4 c te i) = 1#1 ↔ ¬ k0_cond7 (word4 c te i) = 1#1)
    (e4 : k0_cond3 (word7 c te i) = 1#1 → ¬ k0_cond4 i (word7 c te i) = 1#1)
    (x : Vec F S512x2048 .bf16) (W : Waits sig Unit) (K : PUnit → sProp 𝕄) :
    iprop(half c tabM te ∗ owns (c : Thread nD τ) a3 fullShare x ∗ (∃ d, owns (c : Thread nD τ) a6 fullShare d)
       ∗ (∃ f, whole c wb0 f) ∗ (∃ f, whole c wb1 f) ∗ found l c i te g u hw c1 ∗ owes (c : Thread nD τ) 0 W
       ∗ ((half c tabM te ∗ owns (c : Thread nD τ) a3 fullShare x
            ∗ owns (c : Thread nD τ) a6 fullShare (made (word4 c te i) x
                (k0_pay5 (blockOf c gateM (o5 l i (word1 c te i)) (in5 l i _ _ _ hw c1) g))
                (k0_pay6 (blockOf c upM (o5 l i (word1 c te i)) (in5 l i _ _ _ hw c1) u)))
            ∗ loaded c wb0 (k0_pay5 (blockOf c gateM (o5 l i (word1 c te i)) (in5 l i _ _ _ hw c1) g))
            ∗ loaded c wb1 (k0_pay6 (blockOf c upM (o5 l i (word1 c te i)) (in5 l i _ _ _ hw c1) u))
            ∗ started l c i te g u hw c1 hw2 hw3 ∗ (∃ W', owes (c : Thread nD τ) 0 W')) -∗ K ⟨⟩))
    ⊢ wp frame (wpE (bodies (F := F) l) Variants.none c none) Set.univ (bodyOf l i a3 h3 a6 h6) K := by
  unfold bodyOf body switch
  unfold found started owns loaded
  by_cases c2 : k0_cond2 i = 1#1
  all_goals rcases three (k0_cond3 (word7 c te i) = 1#1) (k0_cond4 i (word7 c te i) = 1#1) with c3 | ⟨c3, c4⟩ | ⟨c3, c4⟩
  · rw [if_pos c2, dif_pos c3]
    have c4 := e4 c3
    unfold pend quiet
    iintro ⟨HT, ⟨%f3, %e3, H3⟩, ⟨%d6, %f6, -, H6⟩, ⟨%b0, HB0⟩, ⟨%b1, HB1⟩, ⟨⟨⟨%s0, HS0⟩, HF0, HG⟩, ⟨⟨%s1, HS1⟩, HF1, HU⟩⟩, HO, Hk⟩
    sl_exec
    sl_step
    iapply Hk
    isplitl [HT]; · iexact HT
    isplitl [H3]
    · iexists _; isplitr; · ipureintro; exact e3
      iexact H3
    isplitl [H6]
    · iexists _; isplitr; swap; · iexact H6
      ipureintro
      exact read_made e6 e8 a6 _ (fun c5 => top_eq c5 e3 (copied0 _) (copied1 _))
        (fun c7 => bottom_eq c7 e3 (copied0 _) (copied1 _)) rfl rfl rfl rfl
    isplitl [HB0]
    · iexists _; isplitr; swap; · iexact HB0
      ipureintro
      exact (View.read_writes_full _ _ _ _ _).trans (congrArg k0_pay5 (landed stg0 _))
    isplitl [HB1]
    · iexists _; isplitr; swap; · iexact HB1
      ipureintro
      exact (View.read_writes_full _ _ _ _ _).trans (congrArg k0_pay6 (landed stg1 _))
    isplitr [HO]; swap; · iexists _; iexact HO
    isplitl [HF0 HG]
    · iexists _; isplitr; swap
      · isplitl [HF0]; · iexact HF0
        iexact HG
      ipureintro; exact read_stored stg0 _ _ _
    · iexists _; isplitr; swap
      · isplitl [HF1]; · iexact HF1
        iexact HU
      ipureintro; exact read_stored stg1 _ _ _
  · rw [if_pos c2, dif_neg c3, dif_pos c4]
    unfold pend quiet
    iintro ⟨HT, ⟨%f3, %e3, H3⟩, ⟨%d6, %f6, -, H6⟩, ⟨%b0, HB0⟩, ⟨%b1, HB1⟩, ⟨⟨⟨%s0, HS0⟩, HF0, HG⟩, ⟨⟨%s1, HS1⟩, HF1, HU⟩⟩, HO, Hk⟩
    sl_exec
    sl_step
    iapply Hk
    isplitl [HT]; · iexact HT
    isplitl [H3]
    · iexists _; isplitr; · ipureintro; exact e3
      iexact H3
    isplitl [H6]
    · iexists _; isplitr; swap; · iexact H6
      ipureintro
      exact read_made e6 e8 a6 _ (fun c5 => top_eq c5 e3 (copied0 _) (copied1 _))
        (fun c7 => bottom_eq c7 e3 (copied0 _) (copied1 _)) rfl rfl rfl rfl
    isplitl [HB0]
    · iexists _; isplitr; swap; · iexact HB0
      ipureintro
      exact (View.read_writes_full _ _ _ _ _).trans (congrArg k0_pay5 (landed stg0 _))
    isplitl [HB1]
    · iexists _; isplitr; swap; · iexact HB1
      ipureintro
      exact (View.read_writes_full _ _ _ _ _).trans (congrArg k0_pay6 (landed stg1 _))
    isplitr [HO]; swap; · iexists _; iexact HO
    isplitl [HF0 HG]
    · iexists _; isplitr; swap
      · isplitl [HF0]; · iexact HF0
        iexact HG
      ipureintro; exact read_stored stg0 _ _ _
    · iexists _; isplitr; swap
      · isplitl [HF1]; · iexact HF1
        iexact HU
      ipureintro; exact read_stored stg1 _ _ _
  · rw [if_pos c2, dif_neg c3, dif_neg c4]
    unfold quiet
    iintro ⟨HT, ⟨%f3, %e3, H3⟩, ⟨%d6, %f6, -, H6⟩, ⟨%b0, HB0⟩, ⟨%b1, HB1⟩, ⟨⟨⟨%s0, HS0⟩, HF0, HG⟩, ⟨⟨%s1, HS1⟩, HF1, HU⟩⟩, HO, Hk⟩
    sl_exec
    sl_step
    iapply Hk
    isplitl [HT]; · iexact HT
    isplitl [H3]
    · iexists _; isplitr; · ipureintro; exact e3
      iexact H3
    isplitl [H6]
    · iexists _; isplitr; swap; · iexact H6
      ipureintro
      exact read_made e6 e8 a6 _ (fun c5 => top_eq c5 e3 (copied0 _) (copied1 _))
        (fun c7 => bottom_eq c7 e3 (copied0 _) (copied1 _)) rfl rfl rfl rfl
    isplitl [HB0]
    · iexists _; isplitr; swap; · iexact HB0
      ipureintro
      exact (View.read_writes_full _ _ _ _ _).trans (congrArg k0_pay5 (landed stg0 _))
    isplitl [HB1]
    · iexists _; isplitr; swap; · iexact HB1
      ipureintro
      exact (View.read_writes_full _ _ _ _ _).trans (congrArg k0_pay6 (landed stg1 _))
    isplitr [HO]; swap; · iexists _; iexact HO
    isplitl [HF0 HS0 HG]
    · isplitl [HS0]; · iexists _; iexact HS0
      isplitl [HF0]; · iexact HF0
      iexact HG
    · isplitl [HS1]; · iexists _; iexact HS1
      isplitl [HF1]; · iexact HF1
      iexact HU
  · rw [if_neg c2, dif_pos c3]
    have c4 := e4 c3
    unfold pend
    iintro ⟨HT, ⟨%f3, %e3, H3⟩, ⟨%d6, %f6, -, H6⟩, ⟨%b0, HB0⟩, ⟨%b1, HB1⟩, ⟨⟨%s0, %es0, HF0, HG⟩, ⟨%s1, %es1, HF1, HU⟩⟩, HO, Hk⟩
    sl_exec
    ihave HG := (show (_ ⊢ whole c gateM g) from .rfl) $$ HG
    ihave HU := (show (_ ⊢ whole c upM u) from .rfl) $$ HU
    sl_exec
    sl_step
    iapply Hk
    isplitl [HT]; · iexact HT
    isplitl [H3]
    · iexists _; isplitr; · ipureintro; exact e3
      iexact H3
    isplitl [H6]
    · iexists _; isplitr; swap; · iexact H6
      ipureintro
      exact read_made e6 e8 a6 _ (fun c5 => top_eq c5 e3 (recast0 es0) (recast1 es1))
        (fun c7 => bottom_eq c7 e3 (recast0 es0) (recast1 es1)) rfl rfl rfl rfl
    isplitl [HB0]
    · iexists _; isplitr; swap; · iexact HB0
      ipureintro
      exact (View.read_writes_full _ _ _ _ _).trans (congrArg k0_pay5 ((View.readAt_full _ _ _).trans es0))
    isplitl [HB1]
    · iexists _; isplitr; swap; · iexact HB1
      ipureintro
      exact (View.read_writes_full _ _ _ _ _).trans (congrArg k0_pay6 ((View.readAt_full _ _ _).trans es1))
    isplitr [HO]; swap; · iexists _; iexact HO
    isplitl [HF0 HG]
    · iexists _; isplitr; swap
      · isplitl [HF0]; · iexact HF0
        iexact HG
      ipureintro; exact read_stored stg0 _ _ _
    · iexists _; isplitr; swap
      · isplitl [HF1]; · iexact HF1
        iexact HU
      ipureintro; exact read_stored stg1 _ _ _
  · rw [if_neg c2, dif_neg c3, dif_pos c4]
    unfold pend
    iintro ⟨HT, ⟨%f3, %e3, H3⟩, ⟨%d6, %f6, -, H6⟩, ⟨%b0, HB0⟩, ⟨%b1, HB1⟩, ⟨⟨%s0, %es0, HF0, HG⟩, ⟨%s1, %es1, HF1, HU⟩⟩, HO, Hk⟩
    sl_exec
    ihave HG := (show (_ ⊢ whole c gateM g) from .rfl) $$ HG
    ihave HU := (show (_ ⊢ whole c upM u) from .rfl) $$ HU
    sl_exec
    sl_step
    iapply Hk
    isplitl [HT]; · iexact HT
    isplitl [H3]
    · iexists _; isplitr; · ipureintro; exact e3
      iexact H3
    isplitl [H6]
    · iexists _; isplitr; swap; · iexact H6
      ipureintro
      exact read_made e6 e8 a6 _ (fun c5 => top_eq c5 e3 (recast0 es0) (recast1 es1))
        (fun c7 => bottom_eq c7 e3 (recast0 es0) (recast1 es1)) rfl rfl rfl rfl
    isplitl [HB0]
    · iexists _; isplitr; swap; · iexact HB0
      ipureintro
      exact (View.read_writes_full _ _ _ _ _).trans (congrArg k0_pay5 ((View.readAt_full _ _ _).trans es0))
    isplitl [HB1]
    · iexists _; isplitr; swap; · iexact HB1
      ipureintro
      exact (View.read_writes_full _ _ _ _ _).trans (congrArg k0_pay6 ((View.readAt_full _ _ _).trans es1))
    isplitr [HO]; swap; · iexists _; iexact HO
    isplitl [HF0 HG]
    · iexists _; isplitr; swap
      · isplitl [HF0]; · iexact HF0
        iexact HG
      ipureintro; exact read_stored stg0 _ _ _
    · iexists _; isplitr; swap
      · isplitl [HF1]; · iexact HF1
        iexact HU
      ipureintro; exact read_stored stg1 _ _ _
  · rw [if_neg c2, dif_neg c3, dif_neg c4]
    unfold quiet pend
    iintro ⟨HT, ⟨%f3, %e3, H3⟩, ⟨%d6, %f6, -, H6⟩, ⟨%b0, HB0⟩, ⟨%b1, HB1⟩, ⟨⟨%s0, %es0, HF0, HG⟩, ⟨%s1, %es1, HF1, HU⟩⟩, HO, Hk⟩
    sl_exec
    sl_step
    iapply Hk
    isplitl [HT]; · iexact HT
    isplitl [H3]
    · iexists _; isplitr; · ipureintro; exact e3
      iexact H3
    isplitl [H6]
    · iexists _; isplitr; swap; · iexact H6
      ipureintro
      exact read_made e6 e8 a6 _ (fun c5 => top_eq c5 e3 (recast0 es0) (recast1 es1))
        (fun c7 => bottom_eq c7 e3 (recast0 es0) (recast1 es1)) rfl rfl rfl rfl
    isplitl [HB0]
    · iexists _; isplitr; swap; · iexact HB0
      ipureintro
      exact (View.read_writes_full _ _ _ _ _).trans (congrArg k0_pay5 ((View.readAt_full _ _ _).trans es0))
    isplitl [HB1]
    · iexists _; isplitr; swap; · iexact HB1
      ipureintro
      exact (View.read_writes_full _ _ _ _ _).trans (congrArg k0_pay6 ((View.readAt_full _ _ _).trans es1))
    isplitr [HO]; swap; · iexists _; iexact HO
    isplitl [HF0 HF0_dst HG]
    · isplitl [HF0_dst]; · iexists _; iexact HF0_dst
      isplitl [HF0]; · iexact HF0
      iexact HG
    · isplitl [HF1_dst]; · iexists _; iexact HF1_dst
      isplitl [HF1]; · iexact HF1
      iexact HU
end Run
end Cert.Proof.Moe
end
-- ==== Proof.ExpertTable.lean ====
module
public import proofs.«01_k».proof.Proof.ExpertSwitch
public import Idealize.ShloMosaic.Lib.WordCmp

/-! # The table of tiles and the kernel's decisions

The table lists, for the forty tiles of rows: the expert of each, how many of its rows are filled, and
the expert of the next run of tiles. This module reads the body's conditions and offsets off it. -/

@[expose] public section
noncomputable section
namespace Cert.Proof.Moe
open Cert.Expert Cert.Expert.Gen
open Idealize.ShloMosaic hiding ix1 ix2 eq_ix1 eq_ix2
open Idealize.ShloMosaic.TcCoe Idealize.ShloMosaic.ValueIdx Idealize.ShloMosaic.WordCmp
variable {F : FTy → Type} [FloatOps F]

/-- The word of the table at a position. -/
def at_ (te : S120.Idx → BitVec 32) (k : ℕ) : BitVec 32 := if h : k < 120 then te (ix1 ⟨k, h⟩) else 0

/-- A table as the grouping of the rows by expert makes it: every tile's expert is known; the next
expert is that of the next tile where it differs, and otherwise the next tile's own next expert; the
last tile has none. -/
structure Planned (te : S120.Idx → BitVec 32) : Prop where
  known : ∀ t, t < 40 → (at_ te t).toNat < 8
  turn : ∀ t, t < 39 → at_ te (t + 1) ≠ at_ te t → at_ te (80 + t) = at_ te (t + 1)
  stay : ∀ t, t < 39 → at_ te (t + 1) = at_ te t → at_ te (80 + t) = at_ te (80 + (t + 1))
  last : at_ te (80 + 39) = BitVec.ofInt 32 (-1)

/-- A next expert is either none or known. -/
theorem Planned.next {te : S120.Idx → BitVec 32} (P : Planned te) (t : ℕ) (h : t < 40) :
    at_ te (80 + t) = BitVec.ofInt 32 (-1) ∨ (at_ te (80 + t)).toNat < 8 := by
  have key : ∀ d t, t + d = 39 → at_ te (80 + t) = BitVec.ofInt 32 (-1) ∨ (at_ te (80 + t)).toNat < 8 := by
    intro d
    induction d with
    | zero => intro t ht; obtain rfl : t = 39 := by omega
              exact Or.inl P.last
    | succ d ih =>
      intro t ht
      by_cases hs : at_ te (t + 1) = at_ te t
      · rw [P.stay t (by omega) hs]; exact ih (t + 1) (by omega)
      · rw [P.turn t (by omega) hs]; exact Or.inr (P.known (t + 1) (by omega))
  exact key (39 - t) t (by omega)

/-- The word loaded at an offset is the table's word at that position. -/
theorem word_eq (c : Dev nD) (te : Cont (F := F) c tabM) (o : Fin 1 → ℕ) (h : ∀ a, o a + S1.size a ≤ S120.size a) (k : ℕ) (ho : o 0 = k) :
    word c te o h = at_ te k := by
  have hk : k < 120 := by have := h 0; change o 0 + 1 ≤ 120 at this; omega
  unfold at_; rw [dif_pos hk]
  refine congrArg te (funext fun a => Fin.ext ?_)
  match a with
  | ⟨0, _⟩ => exact ho

/-- A branch is taken where its bit is set. -/
theorem branch_iff (b : BitVec 1) : Scalar.cmpi .ne (Scalar.extui b : BitVec 32) 0#32 = 1#1 ↔ b = 1#1 := by
  revert b; decide

/-- The upper half is computed where a row is filled. -/
theorem cond5_iff (n : BitVec 32) : k0_cond5 n = 1#1 ↔ 0 < n.toInt :=
  (branch_iff _).trans (by rw [show Scalar.cmpi .sgt n 0#32 = IntOp.cmpi .sgt n 0#32 from rfl, cmpi_sgt_eq, ofBool_decide_eq_one_iff]; rfl)
/-- It is blanked otherwise. -/
theorem cond6_iff (n : BitVec 32) : k0_cond6 n = 1#1 ↔ ¬ k0_cond5 n = 1#1 :=
  (branch_iff _).trans (by
    rw [show Scalar.cmpi .sle n 0#32 = IntOp.cmpi .sle n 0#32 from rfl, cmpi_sle_eq, ofBool_decide_eq_one_iff, cond5_iff]
    exact Int.not_lt.symm)
/-- The lower half is computed where more than 256 rows are filled. -/
theorem cond7_iff (n : BitVec 32) : k0_cond7 n = 1#1 ↔ 256 < n.toInt :=
  (branch_iff _).trans (by rw [show Scalar.cmpi .sgt n 256#32 = IntOp.cmpi .sgt n 256#32 from rfl, cmpi_sgt_eq, ofBool_decide_eq_one_iff]; rfl)
/-- It is blanked otherwise. -/
theorem cond8_iff (n : BitVec 32) : k0_cond8 n = 1#1 ↔ ¬ k0_cond7 n = 1#1 :=
  (branch_iff _).trans (by
    rw [show Scalar.cmpi .sle n 256#32 = IntOp.cmpi .sle n 256#32 from rfl, cmpi_sle_eq, ofBool_decide_eq_one_iff, cond7_iff]
    exact Int.not_lt.symm)
/-- There is a next expert where its word is not negative. -/
theorem cond3_iff (n : BitVec 32) : k0_cond3 n = 1#1 ↔ 0 ≤ n.toInt :=
  (branch_iff _).trans (by rw [show Scalar.cmpi .sge n 0#32 = IntOp.cmpi .sge n 0#32 from rfl, cmpi_sge_eq, ofBool_decide_eq_one_iff]; rfl)

/-- The conjunction of two bits. -/
theorem and_iff (a b : BitVec 1) : Scalar.andi a b = 1#1 ↔ a = 1#1 ∧ b = 1#1 := by revert a b; decide
/-- The disjunction of two bits. -/
theorem or_iff (a b : BitVec 1) : Scalar.ori a b = 1#1 ↔ a = 1#1 ∨ b = 1#1 := by revert a b; decide

/-- The first group of columns. -/
theorem isZero4 (b : Fin 4) : Scalar.cmpi .eq (BitVec.ofNat 32 b.val) 0#32 = 1#1 ↔ b.val = 0 := by revert b; decide
/-- The first tile. -/
theorem isZero40 (b : Fin 40) : Scalar.cmpi .eq (BitVec.ofNat 32 b.val) 0#32 = 1#1 ↔ b.val = 0 := by revert b; decide +kernel
/-- A group of columns that has a next one. -/
theorem before4 (b : Fin 4) : Scalar.cmpi .slt (Scalar.addi (BitVec.ofNat 32 b.val) 1#32) 4#32 = 1#1 ↔ b.val + 1 < 4 := by revert b; decide

/-- The first point of all. -/
theorem cond2_iff (i : grid0.Coords) : k0_cond2 i = 1#1 ↔ (i 0).val = 0 ∧ (i 1).val = 0 :=
  (branch_iff _).trans ((and_iff _ _).trans (and_congr (isZero4 (i 0)) (isZero40 (i 1))))
/-- The expert changes at the first tile and where the tiles' experts differ. -/
theorem cond1_iff (i : grid0.Coords) (v w : BitVec 32) : k0_cond1 i v w = 1#1 ↔ (i 1).val = 0 ∨ v ≠ w :=
  (branch_iff _).trans ((or_iff _ _).trans (or_congr (isZero40 (i 1)) (by
    rw [show Scalar.cmpi .ne v w = IntOp.cmpi .ne v w from rfl, cmpi_ne_eq, ofBool_decide_eq_one_iff])))
/-- The next group of columns is fetched where no next expert is and a group follows. -/
theorem cond4_iff (i : grid0.Coords) (n : BitVec 32) : k0_cond4 i n = 1#1 ↔ n.toInt < 0 ∧ (i 0).val + 1 < 4 :=
  (branch_iff _).trans ((and_iff _ _).trans (and_congr (by
    rw [show Scalar.cmpi .slt n 0#32 = IntOp.cmpi .slt n 0#32 from rfl, cmpi_slt_eq, ofBool_decide_eq_one_iff]; rfl) (before4 (i 0))))

/-! ## Offsets -/

/-- Where the block of a layer's expert and a group of 1408 columns begins. -/
def off (l : Fin 2) (e b : ℕ) : Fin 4 → ℕ := ![l.val, e % 8, 0, (b % 4) * 1408]
/-- A block lies inside the weights. -/
theorem off_inb (l : Fin 2) (e b : ℕ) : ∀ a, off l e b a + S1x1x2048x1408.size a ≤ S2x8x2048x5632.size a := by
  have h1 : e % 8 < 8 := Nat.mod_lt _ (by decide)
  have h2 : b % 4 < 4 := Nat.mod_lt _ (by decide)
  intro a
  match a with
  | 0 => show l.val + 1 ≤ 2; omega
  | 1 => show e % 8 + 1 ≤ 8; omega
  | 2 => exact (by decide : 0 + 2048 ≤ 2048)
  | 3 => show (b % 4) * 1408 + 1408 ≤ 5632; omega

/-- Where a group of columns begins. -/
theorem col (b : Fin 4) : (Scalar.muli (BitVec.ofNat 32 b.val) 1408#32).toNat = (b.val % 4) * 1408 := by revert b; decide
/-- Where the next group of columns begins. -/
theorem colNext (b : Fin 4) (h : b.val + 1 < 4) :
    (Scalar.muli (Scalar.addi (BitVec.ofNat 32 b.val) 1#32) 1408#32).toNat = ((b.val + 1) % 4) * 1408 := by revert b; decide
/-- The block fetched first, by expert and group. -/
theorem off5_eq (l : Fin 2) (i : grid0.Coords) (v : BitVec 32) (h : v.toNat < 8) : o5 l i v = off l v.toNat (i 0).val := by
  show ![l.val, v.toNat, 0, (Scalar.muli (BitVec.ofNat 32 (i 0).val) 1408#32).toNat] = _
  rw [col (i 0)]; unfold off; rw [Nat.mod_eq_of_lt h]
/-- The next group's block, by expert and group. -/
theorem off7_eq (l : Fin 2) (i : grid0.Coords) (v : BitVec 32) (h : v.toNat < 8) (hb : (i 0).val + 1 < 4) : o7 l i v = off l v.toNat ((i 0).val + 1) := by
  show ![l.val, v.toNat, 0, (Scalar.muli (Scalar.addi (BitVec.ofNat 32 (i 0).val) 1#32) 1408#32).toNat] = _
  rw [colNext (i 0) hb]; unfold off; rw [Nat.mod_eq_of_lt h]

/-- A tile's place in the table. -/
theorem pos1 (t : Fin 40) : (Scalar.indexCast (BitVec.ofNat 32 t.val)).toNat = t.val := by revert t; decide +kernel
/-- The place of a tile's count of rows. -/
theorem pos4 (t : Fin 40) : (Scalar.indexCast (Scalar.addi 40#32 (BitVec.ofNat 32 t.val))).toNat = 40 + t.val := by revert t; decide +kernel
/-- The place of a tile's next expert. -/
theorem pos7 (t : Fin 40) : (Scalar.indexCast (Scalar.addi 80#32 (BitVec.ofNat 32 t.val))).toNat = 80 + t.val := by revert t; decide +kernel
/-- The place of the tile before. -/
theorem pos12 (t : Fin 40) : (Scalar.indexCast (Scalar.maxsi (Scalar.subi (BitVec.ofNat 32 t.val) 1#32) 0#32)).toNat = t.val - 1 := by
  revert t; decide +kernel

section Words
variable (c : Dev nD) (te : Cont (F := F) c tabM) (i : grid0.Coords)
/-- A tile's expert. -/
theorem word1_eq : word1 c te i = at_ te (i 1).val := word_eq c te _ _ _ (pos1 (i 1))
/-- A tile's count of filled rows. -/
theorem word4_eq : word4 c te i = at_ te (40 + (i 1).val) := word_eq c te _ _ _ (pos4 (i 1))
/-- A tile's next expert. -/
theorem word7_eq : word7 c te i = at_ te (80 + (i 1).val) := word_eq c te _ _ _ (pos7 (i 1))
/-- The expert of the tile before. -/
theorem word12_eq : word12 c te i = at_ te ((i 1).val - 1) := word_eq c te _ _ _ (pos12 (i 1))
/-- The first tile's expert. -/
theorem word0_eq : word0 c te = at_ te 0 := word_eq c te _ _ _ rfl
end Words

/-- A next expert that is not negative is known. -/
theorem small_of_nonneg {te : S120.Idx → BitVec 32} (P : Planned te) {t : ℕ} (h : t < 40) (h0 : 0 ≤ (at_ te (80 + t)).toInt) :
    (at_ te (80 + t)).toNat < 8 := by
  rcases P.next t h with e | e
  · rw [e] at h0; exact absurd h0 (by decide)
  · exact e
/-- A known expert's word is not negative. -/
theorem nonneg_of_small {v : BitVec 32} (h : v.toNat < 8) : 0 ≤ v.toInt := by
  rw [toInt_eq_toNat_of_lt_half (by omega)]; exact Int.natCast_nonneg _

section Checks
variable (l : Fin 2) (c : Dev nD) (te : Cont (F := F) c tabM) (i : grid0.Coords) (P : Planned te)
include P
/-- The blocks of a tile's switch lie inside the weights. -/
theorem chk1 : Fits1 l i (word1 c te i) (word7 c te i) (word12 c te i) := by
  have h1 : (word1 c te i).toNat < 8 := by rw [word1_eq]; exact P.known _ (i 1).isLt
  refine ⟨fun _ _ => ?_, fun _ => ?_, fun _ h3 => ?_⟩
  · show ∀ a, o5 l i (word1 c te i) a + _ ≤ _
    rw [off5_eq l i _ h1]; exact off_inb _ _ _
  · rw [off5_eq l i _ h1]; exact off_inb _ _ _
  · have h7 : (word7 c te i).toNat < 8 := by
      rw [cond3_iff, word7_eq] at h3; rw [word7_eq]; exact small_of_nonneg P (i 1).isLt h3
    show ∀ a, o5 l i (word7 c te i) a + _ ≤ _
    rw [off5_eq l i _ h7]; exact off_inb _ _ _
/-- So do those of the next group of columns. -/
theorem chk2 : Fits2 l i (word1 c te i) (word7 c te i) (word12 c te i) (word0 c te) := by
  intro _ h4
  rw [off7_eq l i _ (by rw [word0_eq]; exact P.known 0 (by decide)) ((cond4_iff i _).mp h4).2]; exact off_inb _ _ _
end Checks
end Cert.Proof.Moe
end
-- ==== Proof.ExpertState.lean ====
module
public import proofs.«01_k».proof.Proof.ExpertTable

/-! # What holds between grid points

The grid runs over four groups of columns and, within each, the forty tiles of rows. After a point the
cast buffers hold the blocks of that tile's expert, and the blocks of the expert that follows are on
their way. -/

@[expose] public section
noncomputable section
namespace Cert.Proof.Moe
open Cert.Expert Cert.Expert.Gen
open Idealize.ShloMosaic hiding ix1 ix2 eq_ix1 eq_ix2
open Idealize.ShloMosaic.TcCoe Idealize.ShloMosaic.Tactic Idealize.ShloMosaic.ValueIdx Idealize.ShloMosaic.WordCmp
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

section State
variable (l : Fin 2) (c : Dev nD) (te : Cont (F := F) c tabM) (g : Cont (F := F) c gateM) (u : Cont (F := F) c upM)

/-- The two blocks of an expert and a group of columns are on their way. -/
def pendAt (e b : ℕ) : sProp 𝕄 :=
  iprop(pend c 4 gateM stg0 (off l e b) (off_inb l e b) g ∗ pend c 5 upM stg1 (off l e b) (off_inb l e b) u)
/-- The gate block of an expert and a group of columns, cast. -/
def gateAt (e b : ℕ) : Vec F S2048x1408 .bf16 := k0_pay5 (blockOf c gateM (off l e b) (off_inb l e b) g)
/-- The up block of an expert and a group of columns, cast. -/
def upAt (e b : ℕ) : Vec F S2048x1408 .bf16 := k0_pay6 (blockOf c upM (off l e b) (off_inb l e b) u)
/-- The cast buffers hold the blocks of an expert and a group of columns. -/
def loadedAt (e b : ℕ) : sProp 𝕄 := iprop(loaded c wb0 (gateAt l c g e b) ∗ loaded c wb1 (upAt l c u e b))
/-- No copy is on its way. -/
def still : sProp 𝕄 := iprop(quiet c 4 gateM stg0 g ∗ quiet c 5 upM stg1 u)
/-- What is on its way after a tile in a group of columns. -/
def flying (t b : ℕ) : sProp 𝕄 :=
  if 0 ≤ (at_ te (80 + t)).toInt then pendAt l c g u (at_ te (80 + t)).toNat b
  else if b + 1 < 4 then pendAt l c g u (at_ te 0).toNat (b + 1) else still c g u
/-- What holds before a grid point. -/
def state : ℕ → sProp 𝕄
  | 0 => iprop((∃ f, whole c wb0 f) ∗ (∃ f, whole c wb1 f) ∗ still c g u)
  | n + 1 => iprop(loadedAt l c g u (at_ te (n % 40)).toNat (n / 40) ∗ flying l c te g u (n % 40) (n / 40))

/-- A copy on its way, its block renamed. -/
theorem pend_congr {s : DmaSem sig} {M : Memref sig .tc .hbm S2x8x2048x5632 .f32} {S : Memref sig .tc .vmem S2048x1408 .f32}
    {o o' : Fin 4 → ℕ} (e : o = o') (h : ∀ a, o a + S1x1x2048x1408.size a ≤ S2x8x2048x5632.size a)
    (h' : ∀ a, o' a + S1x1x2048x1408.size a ≤ S2x8x2048x5632.size a) (f : Cont (F := F) c M) :
    pend c s M S o h f = pend c s M S o' h' f := by subst e; rfl
/-- A block, renamed. -/
theorem blockOf_congr {M : Memref sig .tc .hbm S2x8x2048x5632 .f32} {o o' : Fin 4 → ℕ} (e : o = o')
    (h : ∀ a, o a + S1x1x2048x1408.size a ≤ S2x8x2048x5632.size a)
    (h' : ∀ a, o' a + S1x1x2048x1408.size a ≤ S2x8x2048x5632.size a) (f : Cont (F := F) c M) :
    blockOf c M o h f = blockOf c M o' h' f := by subst e; rfl
/-- Two names of one block on its way. -/
theorem pend_both {o p o' : Fin 4 → ℕ} (e : o = o') (e' : p = o') (h : ∀ a, o a + S1x1x2048x1408.size a ≤ S2x8x2048x5632.size a)
    (hp : ∀ a, p a + S1x1x2048x1408.size a ≤ S2x8x2048x5632.size a)
    (h' : ∀ a, o' a + S1x1x2048x1408.size a ≤ S2x8x2048x5632.size a) :
    iprop(pend c 4 gateM stg0 o h g ∗ pend c 5 upM stg1 p hp u) = iprop(pend c 4 gateM stg0 o' h' g ∗ pend c 5 upM stg1 o' h' u) := by
  subst e; subst e'; rfl

variable (i : grid0.Coords) (P : Planned te)
include P

/-- What the switch finds, by the table's words. -/
theorem found_eq (hw : Fits1 l i (word1 c te i) (word7 c te i) (word12 c te i))
    (c1 : k0_cond1 i (word1 c te i) (word12 c te i) = 1#1) :
    found l c i te g u hw c1 = if (i 0).val = 0 ∧ (i 1).val = 0 then still c g u
      else pendAt l c g u (at_ te (i 1).val).toNat (i 0).val := by
  have h1 : (word1 c te i).toNat < 8 := by rw [word1_eq]; exact P.known _ (i 1).isLt
  have e := off5_eq l i _ h1
  rw [word1_eq] at e
  unfold found pendAt still
  by_cases h : (i 0).val = 0 ∧ (i 1).val = 0
  · rw [if_pos h, if_pos ((cond2_iff i).mpr h)]
  · rw [if_neg h, if_neg (fun h' => h ((cond2_iff i).mp h'))]
    have e' : o5 l i (word1 c te i) = off l (at_ te (i 1).val).toNat (i 0).val := by rw [word1_eq]; exact e
    exact pend_both c g u e' e' _ _ _

/-- What the switch starts, by the table's words. -/
theorem started_eq (hw : Fits1 l i (word1 c te i) (word7 c te i) (word12 c te i))
    (c1 : k0_cond1 i (word1 c te i) (word12 c te i) = 1#1)
    (hw2 : Fits2 l i (word1 c te i) (word7 c te i) (word12 c te i) (word0 c te))
    (hw3 : Fits3 l i (word1 c te i) (word7 c te i) (word12 c te i) (word0 c te)) :
    started l c i te g u hw c1 hw2 hw3 = flying l c te g u (i 1).val (i 0).val := by
  unfold started flying pendAt still
  by_cases h3 : 0 ≤ (at_ te (80 + (i 1).val)).toInt
  · rw [if_pos h3, dif_pos ((cond3_iff _).mpr (by rw [word7_eq]; exact h3))]
    have e : o6 l i (word7 c te i) = off l (at_ te (80 + (i 1).val)).toNat (i 0).val := by
      show o5 l i (word7 c te i) = _
      rw [off5_eq l i _ (by rw [word7_eq]; exact small_of_nonneg P (i 1).isLt h3), word7_eq]
    exact pend_both c g u e e _ _ _
  · have h3' : ¬ k0_cond3 (word7 c te i) = 1#1 := fun h => h3 (by rw [← word7_eq c te i]; exact (cond3_iff _).mp h)
    rw [if_neg h3, dif_neg h3']
    by_cases h4 : (i 0).val + 1 < 4
    · rw [if_pos h4, dif_pos ((cond4_iff i _).mpr ⟨by rw [word7_eq]; omega, h4⟩)]
      have e : o7 l i (word0 c te) = off l (at_ te 0).toNat ((i 0).val + 1) := by
        rw [off7_eq l i _ (by rw [word0_eq]; exact P.known 0 (by decide)) h4, word0_eq]
      exact pend_both c g u e e _ _ _
    · rw [if_neg h4, dif_neg (fun h => h4 ((cond4_iff i _).mp h).2)]

variable (a3 : Memref sig .tc .vmem S512x2048 .bf16) (h3 : a3.IsWhole) (a6 : Memref sig .tc .vmem S512x1408 .bf16) (h6 : a6.IsWhole)

/-- One grid point: from what holds before it to what holds before the next, leaving the tile made of
the tile of inputs and its expert's cast blocks. -/
theorem step (n : ℕ) (e0 : (i 0).val = n / 40) (e1 : (i 1).val = n % 40)
    (x : Vec F S512x2048 .bf16) (W : Waits sig Unit) (K : PUnit → sProp 𝕄) :
    iprop(half c tabM te ∗ owns (c : Thread nD τ) a3 fullShare x ∗ (∃ d, owns (c : Thread nD τ) a6 fullShare d)
       ∗ state l c te g u n ∗ owes (c : Thread nD τ) 0 W
       ∗ ((half c tabM te ∗ owns (c : Thread nD τ) a3 fullShare x
            ∗ owns (c : Thread nD τ) a6 fullShare (made (at_ te (40 + n % 40)) x
                (gateAt l c g (at_ te (n % 40)).toNat (n / 40)) (upAt l c u (at_ te (n % 40)).toNat (n / 40)))
            ∗ state l c te g u (n + 1) ∗ (∃ W', owes (c : Thread nD τ) 0 W')) -∗ K ⟨⟩))
    ⊢ wp frame (wpE (bodies (F := F) l) Variants.none c none) Set.univ (bodyOf l i a3 h3 a6 h6) K := by
  have hw := chk1 l c te i P
  have hw2 := chk2 l c te i P
  have hw3 : Fits3 l i (word1 c te i) (word7 c te i) (word12 c te i) (word0 c te) := hw2
  have hlt : n % 40 < 40 := Nat.mod_lt _ (by decide)
  have h1 : (word1 c te i).toNat < 8 := by rw [word1_eq]; exact P.known _ (i 1).isLt
  by_cases c1 : k0_cond1 i (word1 c te i) (word12 c te i) = 1#1
  · have eo : o5 l i (word1 c te i) = off l (at_ te (n % 40)).toNat (n / 40) := by rw [off5_eq l i _ h1, word1_eq, e1, e0]
    have key := run_switch l c i a3 h3 a6 h6 te g u hw c1 hw2 hw3 (cond6_iff _) (cond8_iff _)
      (fun a b => absurd ((cond3_iff _).mp a) (Int.not_le.mpr ((cond4_iff i _).mp b).1)) x W K
    rw [started_eq l c te g u i P, found_eq l c te g u i P, word4_eq, e0, e1,
      blockOf_congr c eo _ (off_inb _ _ _), blockOf_congr c eo _ (off_inb _ _ _)] at key
    refine BIBase.Entails.trans ?_ key
    have hpre : state l c te g u n ⊢ iprop((∃ f, whole c wb0 f) ∗ (∃ f, whole c wb1 f)
        ∗ (if n / 40 = 0 ∧ n % 40 = 0 then still c g u else pendAt l c g u (at_ te (n % 40)).toNat (n / 40))) := by
      cases n with
      | zero => rw [if_pos ⟨rfl, rfl⟩]; exact .rfl
      | succ k =>
        rw [if_neg (by omega)]
        have hf : flying l c te g u (k % 40) (k / 40) = pendAt l c g u (at_ te ((k + 1) % 40)).toNat ((k + 1) / 40) := by
          unfold flying
          by_cases hk : k % 40 = 39
          · have a1 : (k + 1) % 40 = 0 := by omega
            have a2 : (k + 1) / 40 = k / 40 + 1 := by omega
            rw [a1, a2, hk, P.last, if_neg (by decide), if_pos (by rw [← a2, ← e0]; exact (i 0).isLt)]
          · have a1 : (k + 1) % 40 = k % 40 + 1 := by omega
            have a2 : (k + 1) / 40 = k / 40 := by omega
            have hne : at_ te (k % 40 + 1) ≠ at_ te (k % 40) := by
              rcases (cond1_iff i _ _).mp c1 with h | h
              · omega
              · rw [word1_eq, word12_eq, e1, a1] at h; exact h
            rw [a1, a2, P.turn _ (by omega) hne, if_pos (nonneg_of_small (P.known _ (by omega)))]
        show iprop(loadedAt l c g u (at_ te (k % 40)).toNat (k / 40) ∗ flying l c te g u (k % 40) (k / 40)) ⊢ _
        rw [hf]
        unfold loadedAt loaded
        iintro ⟨⟨⟨%f0, -, H0⟩, ⟨%f1, -, H1⟩⟩, HP⟩
        isplitl [H0]; · iexists _; iexact H0
        isplitl [H1]; · iexists _; iexact H1
        iexact HP
    iintro ⟨HT, H3, H6, HS, HO, Hk⟩
    ihave HS := hpre $$ HS
    icases HS with ⟨HB0, HB1, HF⟩
    isplitl [HT]; · iexact HT
    isplitl [H3]; · iexact H3
    isplitl [H6]; · iexact H6
    isplitl [HB0]; · iexact HB0
    isplitl [HB1]; · iexact HB1
    isplitl [HF]; · iexact HF
    isplitl [HO]; · iexact HO
    iintro ⟨HT, H3, H6, HL0, HL1, HF, HO⟩
    iapply Hk
    isplitl [HT]; · iexact HT
    isplitl [H3]; · iexact H3
    isplitl [H6]; · iexact H6
    isplitr [HO]; swap; · iexact HO
    unfold state loadedAt
    isplitl [HL0 HL1]
    · isplitl [HL0]; · iexact HL0
      iexact HL1
    iexact HF
  · have hn : ¬ ((i 1).val = 0 ∨ word1 c te i ≠ word12 c te i) := fun h => c1 ((cond1_iff i _ _).mpr h)
    obtain ⟨k, rfl⟩ : ∃ k, n = k + 1 := ⟨n - 1, by have : ¬ (i 1).val = 0 := fun h => hn (Or.inl h); omega⟩
    have h0 : ¬ (i 1).val = 0 := fun h => hn (Or.inl h)
    have a1 : (k + 1) % 40 = k % 40 + 1 := by omega
    have a2 : (k + 1) / 40 = k / 40 := by omega
    have he : at_ te (k % 40 + 1) = at_ te (k % 40) := by
      have := not_not.mp (fun h => hn (Or.inr h))
      rw [word1_eq, word12_eq, e1, a1] at this; exact this
    have key := run_same l c i a3 h3 a6 h6 te c1 hw (cond6_iff _) (cond8_iff _) x
      (gateAt l c g (at_ te ((k + 1) % 40)).toNat ((k + 1) / 40)) (upAt l c u (at_ te ((k + 1) % 40)).toNat ((k + 1) / 40)) W K
    rw [word4_eq, e1] at key
    refine BIBase.Entails.trans ?_ key
    have hs : state l c te g u (k + 1) = iprop(loadedAt l c g u (at_ te ((k + 1) % 40)).toNat ((k + 1) / 40) ∗ flying l c te g u ((k + 1) % 40) ((k + 1) / 40)) := by
      show iprop(loadedAt l c g u (at_ te (k % 40)).toNat (k / 40) ∗ flying l c te g u (k % 40) (k / 40)) = _
      unfold flying
      rw [a1, a2, he, P.stay _ (by omega) he]
    rw [hs]
    unfold loadedAt
    iintro ⟨HT, H3, H6, ⟨⟨HL0, HL1⟩, HF⟩, HO, Hk⟩
    isplitl [HT]; · iexact HT
    isplitl [H3]; · iexact H3
    isplitl [H6]; · iexact H6
    isplitl [HL0]; · iexact HL0
    isplitl [HL1]; · iexact HL1
    isplitl [HO]; · iexact HO
    iintro ⟨HT, H3, H6, HL0, HL1, HO⟩
    iapply Hk
    isplitl [HT]; · iexact HT
    isplitl [H3]; · iexact H3
    isplitl [H6]; · iexact H6
    isplitr [HO]; swap; · iexact HO
    unfold state loadedAt
    isplitl [HL0 HL1]
    · isplitl [HL0]; · iexact HL0
      iexact HL1
    iexact HF
end State
end Cert.Proof.Moe
end
-- ==== Proof.ExpertFrame.lean ====
module
public import proofs.«01_k».proof.Proof.ExpertState
public import Idealize.ShloMosaic.Lib.Pipeline.Frame

/-! # The run of the expert up-projection

The proof data of the pipeline, its body's obligation from the grid point's lemma, and the run: the
arguments are left as they were, every semaphore ends at zero, and the result's array is what the
points wrote back. -/

@[expose] public section
noncomputable section
namespace Cert.Proof.Moe
open Cert.Expert Cert.Expert.Gen
open Idealize.ShloMosaic hiding ix1 ix2 eq_ix1 eq_ix2
open Idealize.ShloMosaic.TcCoe Idealize.ShloMosaic.Tactic Idealize.ShloMosaic.ValueIdx Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (Pipeline.UD sig nD τ) ℕ

section Run
variable (l : Fin 2) (m : (ℓ : Loc nD τ sig) → Buf (Elt F) ℓ) (ρ : Dev nD → PrngReg)

/-- The memory at launch, by core and buffer. -/
abbrev V (c : Dev nD) (b : Ref sig .tc) : Buf (Elt F) ((c : Thread nD τ).loc b) := m ((c : Thread nD τ).loc b)
/-- The table as the pipeline holds it. -/
def tbl : pre0.Contents (Elt F) := fun j => V m (0 : Dev nD) (pre0.ref j)
/-- Every core's table is the launch's. -/
theorem V_pre (c : Dev nD) (j : Fin pre0.K) : V m c (pre0.ref j) = tbl m j := by
  obtain rfl : c = 0 := Subsingleton.elim _ _
  rfl
/-- Any table is admitted: no block's place is read off it. -/
def adm : (pcfg0 (F := F)).Adm := ⟨tbl m, trivial⟩
/-- The pipeline at the launch's table. -/
abbrev cfgM : Cfg sig Λ₀ := cfg0 (adm m)

/-- The kernel's own semaphores. -/
abbrev osem0 : Fin 2 → SemLoc sig := fun j => (![SemLoc.dma 4, SemLoc.dma 5] : Fin 2 → SemLoc sig) j
/-- The kernel's own semaphores are not the pipeline's. -/
theorem ownSemFacts0 : Pipeline.OwnSemFacts spec0 osem0 := by decide
/-- The arrays the kernel copies from itself. -/
abbrev H0 : Finset (Ref sig .tc) := {main_arg2, main_arg3}
/-- The weights are left to the kernel. -/
theorem H0_sub : H0 ⊆ Pipeline.restRefsP sig pre0 spec0 := by decide

/-- The kernel's own semaphores, one by one. -/
theorem ownSems00_eq (c : Dev nD) : (Pipeline.ownSems0 osem0 c : sProp 𝕄)
    = iprop(semVal ((c : Thread nD τ), SemLoc.dma 4) 0 ∗ semVal ((c : Thread nD τ), SemLoc.dma 5) 0) := by
  rw [Pipeline.ownSems0_eq_of_list c osem0 [0, 1] (by decide) (by decide)]; rfl

/-- The arrays left to the kernel, one by one. -/
theorem hbmPts0_eq (c : Dev nD) :
    (bigSep H0 (fun b => ((c : Thread nD τ).loc b) ↦{fullShare} V m c b) : sProp 𝕄)
      = iprop((((c : Thread nD τ).loc main_arg2) ↦{fullShare} V m c main_arg2) ∗ (((c : Thread nD τ).loc main_arg3) ↦{fullShare} V m c main_arg3)) := by
  rw [BI.bigSep_eq_bigSepL_of_eq [main_arg2, main_arg3] (by decide) (by decide)]; rfl

/-- What the launch hands the kernel, one by one. -/
theorem PhiD_eq (c : Dev nD) :
    (Pipeline.ΦD osem0 spec0 H0 (V m) c : sProp 𝕄)
      = iprop(((∃ f, whole c stg0 f) ∗ (∃ f, whole c stg1 f) ∗ (∃ f, whole c wb0 f) ∗ (∃ f, whole c wb1 f))
          ∗ (∃ r, prngReg c r)
          ∗ (semVal ((c : Thread nD τ), SemLoc.dma 4) 0 ∗ semVal ((c : Thread nD τ), SemLoc.dma 5) 0)
          ∗ (whole c gateM (V m c main_arg2) ∗ whole c upM (V m c main_arg3))) := by
  rw [Pipeline.ΦD_eq, scopedRest0_eq, ownSems00_eq, hbmPts0_eq]

/-- The table's share, as the kernel reads it. -/
theorem PhiT_eq (c : Dev nD) : (Pipeline.ΦT pre0 (tbl m) c : sProp 𝕄) = half c tabM (V m c main_arg0) := by
  obtain rfl : c = 0 := Subsingleton.elim _ _
  unfold Pipeline.ΦT Pipeline.prefHeld
  rw [show (Finset.univ : Finset (Fin 1)) = {(0 : Fin 1)} from by decide, bigSep_singleton]; rfl

/-- The tile of inputs at a point. -/
def iblk (c : Dev nD) (t : Fin grid0.N) : Vec F S512x2048 .bf16 :=
  (((cfgM m).win 0).blk t).view.read (Elt F) (V m c main_arg1)
/-- What a point leaves in the output's buffer. -/
def outAt (c : Dev nD) (t : Fin grid0.N) : Vec F S512x1408 .bf16 :=
  made (at_ (V m c main_arg0) (40 + t.val % 40)) (iblk m c t)
    (gateAt l c (V m c main_arg2) (at_ (V m c main_arg0) (t.val % 40)).toNat (t.val / 40))
    (upAt l c (V m c main_arg3) (at_ (V m c main_arg0) (t.val % 40)).toNat (t.val / 40))
/-- What holds between points: the table's half, the generator, and the state of the buffers. -/
def inv (c : Dev nD) (n : ℕ) : sProp 𝕄 :=
  iprop(half c tabM (V m c main_arg0) ∗ (∃ r, prngReg c r) ∗ state l c (V m c main_arg0) (V m c main_arg2) (V m c main_arg3) n)

/-- The proof data of the pipeline on a core. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c t
    | ⟨1, _⟩ => outAt l m c t
  Φ t := inv l m c t.val
  q _ := fullShare
  owed _ := 0

/-- A window's array at launch. -/
theorem A_eq (c : Dev nD) (w : Fin (cfgM m).W) : (dats l m 0 c).A w = V m c (Pipeline.arrRef spec0 w) := by dsimp only [dats]
/-- What the inputs' buffer holds after a point. -/
theorem after0_0 (c : Dev nD) (t : Fin (cfgM m).N) : (dats l m 0 c).after 0 t = iblk m c t := by dsimp only [dats]; rfl
/-- What the result's buffer holds after a point. -/
theorem after0_1 (c : Dev nD) (t : Fin (cfgM m).N) : (dats l m 0 c).after 1 t = outAt l m c t := by dsimp only [dats]; rfl
/-- The input's buffer holds its block at every point, fetched there or not. -/
theorem before0_0 (c : Dev nD) (t : Fin (cfgM m).N) (d) : (dats l m 0 c).before 0 t d = iblk m c t :=
  ((dats l m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- The group of columns at a point. -/
theorem coords_div : ∀ t : Fin grid0.N, (grid0.coords t 0).val = t.val / 40 := by decide +kernel
/-- The tile at a point. -/
theorem coords_mod : ∀ t : Fin grid0.N, (grid0.coords t 1).val = t.val % 40 := by decide +kernel

/-- The staging buffers at a point. -/
abbrev ms0 (t : Fin grid0.N) : Memref sig .tc .vmem S512x2048 .bf16 := spec0_0.stage ((cfgM m).slots t 0)
/-- The result's staging buffer at a point. -/
abbrev ms1 (t : Fin grid0.N) : Memref sig .tc .vmem S512x1408 .bf16 := spec0_1.stage ((cfgM m).slots t 1)
/-- The body at a point. -/
abbrev bodyAt (t : Fin grid0.N) : Prog (TpuEff nD τ sig (Elt F) Λ₀ .tc) PUnit :=
  bodyOf l (grid0.coords t) (ms0 m t) (hstage0_0 (((cfgM m).slots t 0).cast nbuf0_0)) (ms1 m t) (hstage0_1 (((cfgM m).slots t 1).cast nbuf0_1))

/-- The output is stored at every point. -/
theorem idle_out (pf : pre0.Contents (Elt F)) (i : grid0.Coords) : idle0 pf 1 i = false := by
  show (!(k0_cond5 (pf.atD 0 (k0_off2 i 40#32)) == 1#1) && !(k0_cond6 (pf.atD 0 (k0_off2 i 40#32)) == 1#1)
    && !(k0_cond7 (pf.atD 0 (k0_off2 i 40#32)) == 1#1) && !(k0_cond8 (pf.atD 0 (k0_off2 i 40#32)) == 1#1)) = false
  by_cases h : k0_cond5 (pf.atD 0 (k0_off2 i 40#32)) = 1#1
  · rw [h]; rfl
  · rw [(cond6_iff _).mpr h]; simp

/-- What a point's body starts from. -/
def bodyPre (c : Dev nD) (t : Fin grid0.N) : sProp 𝕄 :=
  iprop((dats l m 0 c).Φ t.castSucc ∗ (dats l m 0 c).owesAt () t.castSucc
    ∗ (∃ d, owns (c : Thread nD τ) (ms0 m t) fullShare ((dats l m 0 c).before 0 t d))
    ∗ (∃ d, owns (c : Thread nD τ) (ms1 m t) fullShare ((dats l m 0 c).before 1 t d)))
/-- What a point's body leaves. -/
def bodyPost (c : Dev nD) (t : Fin grid0.N) : sProp 𝕄 :=
  iprop((dats l m 0 c).Φ t.succ ∗ (dats l m 0 c).owesAt () t.succ
    ∗ owns (c : Thread nD τ) (ms0 m t) fullShare ((dats l m 0 c).after 0 t)
    ∗ owns (c : Thread nD τ) (ms1 m t) fullShare ((dats l m 0 c).after 1 t))

/-- The body's triple at a point. -/
theorem sound_body (c : Dev nD) (P : Planned (V m c main_arg0)) (t : Fin grid0.N) :
    bodyPre l m c t ⊢ wp frame (wpE (bodies (F := F) l) Variants.none c none) Set.univ (bodyAt l m t) (fun _ => bodyPost l m c t) := by
  unfold bodyPre bodyPost
  rw [show (dats l m 0 c).Φ t.castSucc = inv l m c t.val from rfl, show (dats l m 0 c).Φ t.succ = inv l m c (t.val + 1) from rfl,
    after0_0, after0_1]
  simp only [before0_0]
  unfold Dat.owesAt Pipeline.owesWithin inv outAt
  rw [show (dats l m 0 c).owed t.castSucc = 0 from rfl, show (dats l m 0 c).owed t.succ = 0 from rfl]
  iintro ⟨⟨HT, Hg, HS⟩, ⟨%W, -, HW⟩, ⟨%d0, H0⟩, ⟨%d1, H1⟩⟩
  iapply (step l c (V m c main_arg0) (V m c main_arg2) (V m c main_arg3) (grid0.coords t) P (ms0 m t) _ (ms1 m t) _ t.val
    (coords_div t) (coords_mod t) (iblk m c t) W _)
  isplitl [HT]; · iexact HT
  isplitl [H0]; · iexact H0
  isplitl [H1]; · iexists _; iexact H1
  isplitl [HS]; · iexact HS
  isplitl [HW]; · iexact HW
  iintro ⟨HT, H0, H1, HS, ⟨%W', HW'⟩⟩
  isplitl [HT Hg HS]
  · isplitl [HT]; · iexact HT
    isplitl [Hg]; · iexact Hg
    iexact HS
  isplitl [HW']
  · iexists W'; isplitr; · ipureintro; exact fun _ _ => Or.inl trivial
    iexact HW'
  isplitl [H0]; · iexact H0
  iexact H1

/-- The body table at a point is the body. -/
theorem bodies_row (t : Fin grid0.N) :
    bodies (F := F) l .tc (cfgM m).body ((cfgM m).bodyArgs t ((cfgM m).slots t)) = bodyAt l m t := by
  unfold bodies; rw [Defs.onTc_tc]

/-- The body meets the pipeline's obligation. -/
theorem body_obligation (c : Dev nD) (P : Planned (V m c main_arg0)) :
    BodyObligation (dats (F := F) l m 0 c) (bodies (F := F) l) Variants.none () Set.univ := fun t => by
  rw [bigSep_W0, bigSep_W0, bodies_row l]
  refine triple_restated (sound_body l m c P t) rfl .rfl fun _ => ?_
  have hi : Cfg.idle (cfgM m) (1 : Fin 2) ((cfgM m).grid.coords t) = false := idle_out _ _
  rw [hi]
  exact .rfl

/-- The launch hands over what holds before the first point. -/
theorem first (c : Dev nD) : iprop(Pipeline.ΦD osem0 spec0 H0 (V m) c ∗ Pipeline.ΦT pre0 (tbl m) c) ⊢ inv l m c 0 := by
  rw [PhiD_eq, PhiT_eq]
  unfold inv state still quiet
  rw [View.set_whole, View.set_whole]
  iintro ⟨⟨⟨HS0, HS1, HB0, HB1⟩, Hg, ⟨Hq0, Hq1⟩, ⟨HG, HU⟩⟩, HT⟩
  isplitl [HT]; · iexact HT
  isplitl [Hg]; · iexact Hg
  isplitl [HB0]; · iexact HB0
  isplitl [HB1]; · iexact HB1
  isplitl [HS0 Hq0 HG]
  · isplitl [HS0]; · iexact HS0
    isplitl [Hq0]; · iexact Hq0
    iexact HG
  isplitl [HS1]; · iexact HS1
  isplitl [Hq1]; · iexact Hq1
  iexact HU

/-- What holds after the last point gives back what the launch handed over. -/
theorem final (c : Dev nD) (P : Planned (V m c main_arg0)) : inv l m c 160 ⊢ Pipeline.ΦD osem0 spec0 H0 (V m) c := by
  rw [PhiD_eq]
  have hf : state l c (V m c main_arg0) (V m c main_arg2) (V m c main_arg3) 160
      = iprop(loadedAt l c (V m c main_arg2) (V m c main_arg3) (at_ (V m c main_arg0) 39).toNat 3 ∗ still c (V m c main_arg2) (V m c main_arg3)) := by
    show iprop(loadedAt l c (V m c main_arg2) (V m c main_arg3) (at_ (V m c main_arg0) 39).toNat 3
      ∗ flying l c (V m c main_arg0) (V m c main_arg2) (V m c main_arg3) 39 3) = _
    unfold flying
    rw [P.last, if_neg (by decide), if_neg (by decide)]
  unfold inv
  rw [hf]
  unfold loadedAt loaded still quiet
  rw [View.set_whole, View.set_whole]
  iintro ⟨-, Hg, ⟨⟨%f0, -, HB0⟩, ⟨%f1, -, HB1⟩⟩, ⟨HS0, Hq0, HG⟩, ⟨HS1, Hq1, HU⟩⟩
  isplitl [HS0 HS1 HB0 HB1]
  · isplitl [HS0]; · iexact HS0
    isplitl [HS1]; · iexact HS1
    isplitl [HB0]; · iexists _; iexact HB0
    iexists _; iexact HB1
  isplitl [Hg]; · iexact Hg
  isplitl [Hq0 Hq1]
  · isplitl [Hq0]; · iexact Hq0
    iexact Hq1
  isplitl [HG]; · iexact HG
  iexact HU

/-- The main function is the pipeline's run. -/
theorem hmain : Pipeline.HMainP (Ix := Unit) (Name := ℕ) (U := Pipeline.UD sig nD τ) (Lvl := ℕ) pcfgs 0 (bodies l) Variants.none m (main (F := F)) (V m) :=
  Pipeline.hmainP_region pcfgs 0 (bodies l) Variants.none m main fun c => (main_chain c).trans rfl

set_option backward.isDefEq.respectTransparency.types false in
/-- The run, from any memory whose table is planned. -/
theorem run_main (P : ∀ c, Planned (V m c main_arg0)) :
    θ_run (Pipeline.defs pcfgs (bodies l)) (onTc (τ := τ) (main (F := F))) (s₀ m ρ)
      (fun r => Pipeline.FramePost (Pipeline.pin pcfgs fun _ => adm m) (dats l m) 0 (V m) r ∧ r.2.sem = fun _ => 0) :=
  Pipeline.θ_run_frameP_dma (Q' := _) pcfgs (fun _ => adm m) (dats l m) (0 : Fin 1) launch0 osem0 (bodies l) Variants.none ownSemFacts0 H0 H0_sub m ρ main
    (hbody := fun c => (body_obligation l m c (P c)).loose) (hshare := fun c => (dats l m 0 c).share_full fun _ => rfl)
    (howed := fun _ _ => rfl) (V := V m) (hmain := hmain l m) (hA := A_eq l m) (hpf := V_pre m)
    (hin := fun c => first l m c) (hout := fun c => final l m c (P c))
end Run
end Cert.Proof.Moe
end
-- ==== Proof.ExpertLayer.lean ====
module
public import proofs.«01_k».proof.Proof.ExpertTable

/-! # The gated hidden layer of the experts, as mathematics

Each row of the inputs goes through the expert of its tile of 512 rows: the gate's product, times its
logistic, times the up product; the half tiles that hold no filled row are zero. -/

@[expose] public section
noncomputable section
namespace Cert.Proof.Moe
open Cert.Expert
open Idealize.ShloMosaic hiding ix1 ix2 ix4 eq_ix1 eq_ix2 eq_ix4
open Idealize.ShloMosaic.ValueIdx

/-- An input's entry, zero outside. -/
def xAt (x : S20480x2048.Idx → EReal) (r d : ℕ) : EReal := if h : r < 20480 ∧ d < 2048 then x (ix2 ⟨r, h.1⟩ ⟨d, h.2⟩) else 0
/-- A weight of an expert of expert layer `l`, zero outside. -/
def wAt (l : Fin 2) (w : S2x8x2048x5632.Idx → EReal) (e d f : ℕ) : EReal :=
  if h : e < 8 ∧ d < 2048 ∧ f < 5632 then w (ix4 l ⟨e, h.1⟩ ⟨d, h.2.1⟩ ⟨f, h.2.2⟩) else 0
/-- A row of inputs times a column of an expert's weights. -/
def dot (l : Fin 2) (x : S20480x2048.Idx → EReal) (w : S2x8x2048x5632.Idx → EReal) (r e f : ℕ) : EReal :=
  ∑ d : Fin 2048, xAt x r d.val * wAt l w e d.val f
/-- The gate times its logistic times the up value. -/
def gated (g u : EReal) : EReal := g * Ideal.logistic g * u
/-- Whether a row's half tile holds a filled row: `n` rows of the tile are filled. -/
def live (n : BitVec 32) (r : ℕ) : Prop := (if r % 512 < 256 then 0 else 256 : ℤ) < n.toInt
/-- It is decided by comparing. -/
instance (n : BitVec 32) (r : ℕ) : Decidable (live n r) := inferInstanceAs (Decidable (_ < _))

/-- The hidden layer of expert layer `l` at a row and a column. -/
def hiddenAt (l : Fin 2) (te : S120.Idx → BitVec 32) (x : S20480x2048.Idx → EReal) (wg wu : S2x8x2048x5632.Idx → EReal) (r f : ℕ) : EReal :=
  if live (at_ te (40 + r / 512)) r then gated (dot l x wg r (at_ te (r / 512)).toNat f) (dot l x wu r (at_ te (r / 512)).toNat f) else 0
/-- The hidden layer. -/
def hidden (l : Fin 2) (te : S120.Idx → BitVec 32) (x : S20480x2048.Idx → EReal) (wg wu : S2x8x2048x5632.Idx → EReal) : S20480x5632.Idx → EReal :=
  fun j => hiddenAt l te x wg wu (j 0).val (j 1).val

/-- An entry of the inputs by its place. -/
theorem x_eq (x : S20480x2048.Idx → EReal) (j : S20480x2048.Idx) : x j = xAt x (j 0).val (j 1).val := by
  rw [xAt, dif_pos ⟨(j 0).isLt, (j 1).isLt⟩]
  exact congrArg x (eq_ix2 j)
/-- An entry of the weights by its place. -/
theorem w_eq (l : Fin 2) (w : S2x8x2048x5632.Idx → EReal) (e : Fin 8) (d : Fin 2048) (f : Fin 5632) : w (ix4 l e d f) = wAt l w e.val d.val f.val := by
  rw [wAt, dif_pos ⟨e.isLt, d.isLt, f.isLt⟩]
end Cert.Proof.Moe
end
-- ==== Proof.ExpertArray.lean ====
module
public import proofs.«01_k».proof.Proof.ExpertFrame
public import proofs.«01_k».proof.Proof.ExpertLayer
public import Idealize.ShloMosaic.Lib.MatmulPlain
public import Idealize.ShloMosaic.Lib.Pipeline.ValueKit

/-! # The result's array

What a grid point's tile holds over the extended reals, and the array that the tiles make up: the
experts' hidden layer. -/

@[expose] public section
set_option maxRecDepth 16384
noncomputable section
namespace Cert.Proof.Moe
open Cert.Expert Cert.Expert.Gen
open Idealize.ShloMosaic hiding ix1 ix2 ix4 eq_ix1 eq_ix2 eq_ix4
open Idealize.ShloMosaic.TcCoe Idealize.ShloMosaic.ValueIdx Idealize.SL.Sem
open Idealize.ShloMosaic.Pipeline (Dat)

/-- One half of a tile, where it is computed. -/
theorem half_apply (X : FVec Ideal S256x2048 .bf16) (G U : FVec Ideal S2048x1408 .bf16) (r : Fin 256) (f : Fin 1408) :
    k0_pay1 (F := Ideal) X G U (ix2 r f) = gated (∑ d : Fin 2048, X (ix2 r d) * G (ix2 d f)) (∑ d : Fin 2048, X (ix2 r d) * U (ix2 d f)) := by
  have hm : ∀ W : FVec Ideal S2048x1408 .bf16,
      matmul (F := Ideal) dot_S256x2048_S2048x1408_S256x1408_1_0_0_1_n_n none X W (constant S256x1408 .f32 0x00000000#32) (ix2 r f)
        = ∑ d : Fin 2048, X (ix2 r d) * W (ix2 d f) := fun W =>
    (Ideal.matmul_plain_apply (M := 256) (K := 2048) (N := 1408) none X W _ r f).trans
      (by rw [constant_apply, Ideal.ofBits_zero_f32, zero_add])
  unfold gated
  rw [← hm G, ← hm U]
  rfl

/-- The lower half is computed as the upper one. -/
theorem pay3_eq (X : FVec Ideal S256x2048 .bf16) (G U : FVec Ideal S2048x1408 .bf16) : k0_pay3 (F := Ideal) X G U = k0_pay1 X G U := rfl
/-- The upper half's blank is zero. -/
theorem pay2_apply (j : S256x1408.Idx) : k0_pay2 (F := Ideal) j = 0 := Ideal.ofBits_zero_bf16
/-- The lower half's blank is zero. -/
theorem pay4_apply (j : S256x1408.Idx) : k0_pay4 (F := Ideal) j = 0 := Ideal.ofBits_zero_bf16

/-- A row of the upper half. -/
theorem rowsTop_apply (x : Vec Ideal S512x2048 .bf16) (r : Fin 256) (d : Fin 2048) :
    rowsTop x (ix2 r d) = x (ix2 ⟨r.val, by omega⟩ d) :=
  congrArg x (funext fun a => Fin.ext (by
    match a with
    | ⟨0, _⟩ => exact (congrArg (0 + ·) (Nat.one_mul _)).trans (Nat.zero_add _)
    | ⟨1, _⟩ => exact (congrArg (0 + ·) (Nat.one_mul _)).trans (Nat.zero_add _)))
/-- A row of the lower half. -/
theorem rowsBottom_apply (x : Vec Ideal S512x2048 .bf16) (r : Fin 256) (d : Fin 2048) :
    rowsBottom x (ix2 r d) = x (ix2 ⟨256 + r.val, by omega⟩ d) :=
  congrArg x (funext fun a => Fin.ext (by
    match a with
    | ⟨0, _⟩ => exact congrArg (256 + ·) (Nat.one_mul _)
    | ⟨1, _⟩ => exact (congrArg (0 + ·) (Nat.one_mul _)).trans (Nat.zero_add _)))

/-- THE TILE: each entry is the gated product of its row, where its half holds a filled row. -/
theorem made_apply (n : BitVec 32) (x : Vec Ideal S512x2048 .bf16) (G U : Vec Ideal S2048x1408 .bf16) (r : Fin 512) (f : Fin 1408) :
    made (F := Ideal) n x G U (ix2 r f)
      = if live n r.val then gated (∑ d : Fin 2048, x (ix2 r d) * G (ix2 d f)) (∑ d : Fin 2048, x (ix2 r d) * U (ix2 d f)) else 0 := by
  have hr := r.isLt
  unfold made
  by_cases h : r.val < 256
  · have hl : live n r.val ↔ 0 < n.toInt := by unfold live; rw [if_pos (show r.val % 512 < 256 by omega)]
    rw [tile_lt _ _ r f h]
    unfold top
    by_cases c5 : k0_cond5 n = 1#1
    · rw [if_pos c5, if_pos (hl.mpr ((cond5_iff n).mp c5)), half_apply]
      simp only [rowsTop_apply]
    · rw [if_neg c5, if_neg (fun h' => c5 ((cond5_iff n).mpr (hl.mp h'))), pay2_apply]
  · have hl : live n r.val ↔ 256 < n.toInt := by unfold live; rw [if_neg (show ¬ r.val % 512 < 256 by omega)]
    rw [tile_ge _ _ r f h (by omega)]
    unfold bottom
    by_cases c7 : k0_cond7 n = 1#1
    · rw [if_pos c7, if_pos (hl.mpr ((cond7_iff n).mp c7)), pay3_eq, half_apply]
      have e : (⟨256 + (r.val - 256), by omega⟩ : Fin 512) = r := Fin.ext (by show 256 + (r.val - 256) = r.val; omega)
      simp only [rowsBottom_apply, e]
    · rw [if_neg c7, if_neg (fun h' => c7 ((cond7_iff n).mpr (hl.mp h'))), pay4_apply]

/-- A block of the weights, entry by entry. -/
theorem blockOf_apply (l : Fin 2) (c : Dev nD) (M : Memref sig .tc .hbm S2x8x2048x5632 .f32) (e b : ℕ) (he : e < 8) (hb : b < 4)
    (g : Cont (F := Ideal) c M) (d : Fin 2048) (f : Fin 1408) :
    blockOf c M (off l e b) (off_inb l e b) g (ix2 d f) = M.view.read (Elt Ideal) g (ix4 l ⟨e, he⟩ d ⟨b * 1408 + f.val, by omega⟩) := by
  refine (congrFun (Memref.read_squeeze_slice M _ (fun _ => rfl) squeezes_S1x1x2048x1408_S2048x1408 (by decide : S1x1x2048x1408.ShapeCasts S2048x1408) g) (ix2 d f)).trans ?_
  refine (shapeCast_apply _ _ _ (ix4 0 0 d f) ?_).trans ?_
  · refine (rowMajor_val4 _ 2883584 2883584 1408 rfl rfl rfl).trans (Eq.trans ?_ (rowMajor_val2 _ 1408 rfl).symm)
    show 0 * 2883584 + 0 * 2883584 + d.val * 1408 + f.val = d.val * 1408 + f.val
    omega
  · refine congrArg (M.view.read (Elt Ideal) g) (funext fun a => Fin.ext ?_)
    match a with
    | ⟨0, _⟩ => rfl
    | ⟨1, _⟩ => show e % 8 + 1 * 0 = e; omega
    | ⟨2, _⟩ => show 0 + 1 * d.val = d.val; omega
    | ⟨3, _⟩ => show (b % 4) * 1408 + 1 * f.val = b * 1408 + f.val; omega

/-- A gate block, entry by entry. -/
theorem gateAt_apply (l : Fin 2) (c : Dev nD) (g : Cont (F := Ideal) c gateM) (e b : ℕ) (he : e < 8) (hb : b < 4) (d : Fin 2048) (f : Fin 1408) :
    gateAt l c g e b (ix2 d f) = wAt l g e d.val (b * 1408 + f.val) := by
  have h1 : gateAt l c g e b (ix2 d f) = blockOf c gateM (off l e b) (off_inb l e b) g (ix2 d f) := by
    unfold gateAt k0_pay5; rw [shapeCast_self]; rfl
  rw [h1, blockOf_apply l c gateM e b he hb g d f]
  exact w_eq l g ⟨e, he⟩ d ⟨b * 1408 + f.val, by omega⟩
/-- An up block, entry by entry. -/
theorem upAt_apply (l : Fin 2) (c : Dev nD) (g : Cont (F := Ideal) c upM) (e b : ℕ) (he : e < 8) (hb : b < 4) (d : Fin 2048) (f : Fin 1408) :
    upAt l c g e b (ix2 d f) = wAt l g e d.val (b * 1408 + f.val) := by
  have h1 : upAt l c g e b (ix2 d f) = blockOf c upM (off l e b) (off_inb l e b) g (ix2 d f) := by
    unfold upAt k0_pay6; rw [shapeCast_self]; rfl
  rw [h1, blockOf_apply l c upM e b he hb g d f]
  exact w_eq l g ⟨e, he⟩ d ⟨b * 1408 + f.val, by omega⟩

section Final
variable (m : (ℓ : Loc nD τ sig) → Buf (Elt Ideal) ℓ)

/-- Where the tile of inputs lies. -/
theorem index0 : ∀ t : Fin grid0.N, ((cfgM m).win 0).index t = ![t.val % 40, 0] :=
  (by decide +kernel : ∀ t : Fin grid0.N, cc0_transform_0 (grid0.coords t) = ![t.val % 40, 0])
/-- Where the tile of the result lies. -/
theorem index1 : ∀ t : Fin grid0.N, ((cfgM m).win 1).index t = ![t.val % 40, t.val / 40] :=
  (by decide +kernel : ∀ t : Fin grid0.N, cc0_transform_3 (grid0.coords t) = ![t.val % 40, t.val / 40])

/-- The tiles make up the whole result. -/
theorem covers : ((cfgM m).win 1).Covers := by
  have h : ((cfg0 (F := Ideal) ⟨fun | 0 => fun _ => (0#32 : BitVec 32), trivial⟩).win 1).Covers := by decide +kernel
  exact h

/-- The tile of inputs at a grid point. -/
theorem iblk_apply (c : Dev nD) (t : Fin grid0.N) (r : Fin 512) (d : Fin 2048) :
    iblk m c t (ix2 r d) = xAt (V m c main_arg1) (t.val % 40 * 512 + r.val) d.val := by
  have h0 : ((cfgM m).win 0).index t (0 : Fin 2) = t.val % 40 := congrFun (index0 m t) (0 : Fin 2)
  have h1 : ((cfgM m).win 0).index t (1 : Fin 2) = 0 := congrFun (index0 m t) (1 : Fin 2)
  blk_simp [iblk]
  refine (x_eq (V m c main_arg1) _).trans (congrArg₂ (xAt (V m c main_arg1)) ?_ ?_)
  · blk_simp; rw [h0]
  · blk_simp; rw [h1]; show 0 * 2048 + d.val = d.val; omega

/-- What a grid point leaves in its tile. -/
theorem outAt_apply (l : Fin 2) (c : Dev nD) (P : Planned (V m c main_arg0)) (t : Fin grid0.N) (r : Fin 512) (f : Fin 1408) :
    outAt l m c t (ix2 r f) = hiddenAt l (V m c main_arg0) (V m c main_arg1) (V m c main_arg2) (V m c main_arg3)
      (t.val % 40 * 512 + r.val) (t.val / 40 * 1408 + f.val) := by
  have ht : t.val < 160 := t.isLt
  have hr := r.isLt
  have hk := P.known (t.val % 40) (by omega)
  have e1 : (t.val % 40 * 512 + r.val) / 512 = t.val % 40 := by omega
  have e2 : ∀ n, live n (t.val % 40 * 512 + r.val) = live n r.val := fun n => by
    unfold live; rw [show (t.val % 40 * 512 + r.val) % 512 = r.val % 512 by omega]
  unfold outAt
  rw [made_apply]
  unfold hiddenAt dot
  rw [e1]
  simp only [e2, iblk_apply, gateAt_apply l c _ _ _ hk (show t.val / 40 < 4 by omega), upAt_apply l c _ _ _ hk (show t.val / 40 < 4 by omega)]

/-- THE KERNEL'S RESULT is the experts' hidden layer. -/
theorem array (l : Fin 2) (c : Dev nD) (P : Planned (V m c main_arg0)) :
    (dats l m 0 c).arrAt 1 (cfgM m).N = hidden l (V m c main_arg0) (V m c main_arg1) (V m c main_arg2) (V m c main_arg3) := by
  refine (dats l m 0 c).arrAt_eq_of_covers 1 _ (covers m) fun t hf y => ?_
  have h0 : ((cfgM m).win 1).index t (0 : Fin 2) = t.val % 40 := congrFun (index1 m t) (0 : Fin 2)
  have h1 : ((cfgM m).win 1).index t (1 : Fin 2) = t.val / 40 := congrFun (index1 m t) (1 : Fin 2)
  blk_simp
  rw [after0_1]
  refine (congrArg (outAt l m c t) (eq_ix2 (y : S512x1408.Idx))).trans ((outAt_apply m l c P t _ _).trans ?_)
  unfold hidden
  refine congrArg₂ (hiddenAt _ _ _ _ _) ?_ ?_
  · blk_simp; rw [h0]
  · blk_simp; rw [h1]
end Final
end Cert.Proof.Moe
end
-- ==== Proof.ExpertRun.lean ====
module

public import proofs.«01_k».proof.Proof.ExpertArray

/-! # The run of an expert layer's call

What the call ends with, for a layer `l` of the weights: at any float values what the pipeline's
array holds, over the extended reals the experts' hidden layer. -/

@[expose] public section
noncomputable section
namespace Cert.Proof.Moe
open Cert.Expert Cert.Expert.Gen
open Idealize.ShloMosaic Idealize.ShloMosaic.TcCoe Idealize.SL.Sem
open Idealize.ShloMosaic.Pipeline (Dat)

/-- The kernel's run at any float values: the arguments end unchanged, the result is what the pipeline's array holds, and
every counter reads zero. -/
theorem run_ends {F : FTy → Type} [FloatOps F] (l : Fin 2) (m : (ℓ : Loc nD τ sig) → Buf (Elt F) ℓ) (ρ : Dev nD → PrngReg)
    (P : ∀ c, Planned (V m c main_arg0)) :
    θ_run (Pipeline.defs pcfgs (bodies l)) (onTc (τ := τ) (main (F := F))) ⟨m, fun _ => 0, ρ⟩ (fun r => (∀ c : Dev nD,
      r.2.mem ((c.tc : Thread nD τ).loc main_v0) = (dats l m 0 c).arrAt 1 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (Pipeline.defs pcfgs (bodies l)) _ _).mono (fun _ h => ⟨fun c => ⟨(h.1 c).1 1,
      (h.1 c).2 main_arg0 (Pipeline.mem_restRefs_of main_arg0 (by decide) (show ∀ w : Fin 2, (spec0 w).arr.view.ref ≠ main_arg0 by decide)),
      ((h.1 c).1 0).trans (((dats l m 0 c).arrAt_in (0 : Fin 2) rfl _).trans (A_eq l m c 0)),
      (h.1 c).2 main_arg2 (Pipeline.mem_restRefs_of main_arg2 (by decide) (show ∀ w : Fin 2, (spec0 w).arr.view.ref ≠ main_arg2 by decide)),
      (h.1 c).2 main_arg3 (Pipeline.mem_restRefs_of main_arg3 (by decide) (show ∀ w : Fin 2, (spec0 w).arr.view.ref ≠ main_arg3 by decide))⟩, h.2⟩) (run_main l m ρ P)

/-- Over the extended reals the result is the experts' hidden layer. -/
theorem run_hidden (l : Fin 2) (m : (ℓ : Loc nD τ sig) → Buf (Elt Ideal) ℓ) (ρ : Dev nD → PrngReg) (P : ∀ c, Planned (V m c main_arg0)) :
    θ_run (Pipeline.defs pcfgs (bodies l)) (onTc (τ := τ) (main (F := Ideal))) ⟨m, fun _ => 0, ρ⟩ (fun r => (∀ c : Dev nD,
      r.2.mem ((c.tc : Thread nD τ).loc main_v0) = hidden l (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (Pipeline.defs pcfgs (bodies l)) _ _).mono
    (fun _ h => ⟨fun c => ⟨(h.1 c).1.trans (array m l c (P c)), (h.1 c).2⟩, h.2⟩) (run_ends l m ρ P)
end Cert.Proof.Moe
end
-- ==== Proof.ExpertRef.lean ====
/-
  The experts' reference over the extended reals, step by step, each step read at an index.
-/
module

public import proofs.«01_k».proof.Proof.Gen.ExpertReferenceIdeal.Run
public import proofs.«01_k».proof.Proof.ExpertLayer
public import Idealize.ShloMosaic.Lib.ValueIdx
public import Idealize.ShloMosaic.Lib.WordCmp
public import Idealize.ShloMosaic.Lib.IdealHost
public import Idealize.ShloMosaic.Lib.Pipeline.Value
public import Idealize.ShloMosaic.Lib.Pointwise

@[expose] public section

set_option maxRecDepth 16384

noncomputable section

namespace Cert.ExpertReferenceIdeal.Steps

open Cert.ExpertReferenceIdeal Cert.ExpertReferenceIdeal.Gen Idealize.ShloMosaic.TcCoe Idealize.SL.Sem
open Cert.Proof.Moe (xAt wAt dot gated live hidden hiddenAt at_ x_eq w_eq Planned)
open Idealize.ShloMosaic hiding ix0 ix1 ix2 ix3 ix4 ix5 eq_ix1 eq_ix2 eq_ix3 eq_ix4
open Idealize.ShloMosaic.ValueIdx

section Defs

variable {F : FTy → Type} [FloatOps F]

/-- A layer's weights are a slice of all weights. -/
theorem slices (l : Fin 2) : S2x8x2048x5632.Slices ![l.val, 0, 0, 0] S1x8x2048x5632 := by revert l; decide

/-- The weights of expert layer `l`. -/
def layer (l : Fin 2) (w : FVec F S2x8x2048x5632 .f32) : FVec F S8x2048x5632 .f32 :=
  shapeCast _ (extractStridedSlice S1x8x2048x5632 ![l.val, 0, 0, 0] w (slices l)) shapeCasts_S1x8x2048x5632_S8x2048x5632

/-- Every row times every expert's weights. -/
def product (l : Fin 2) (x : FVec F S20480x2048 .bf16) (w : FVec F S2x8x2048x5632 .f32) : FVec F S20480x8x5632 .f32 :=
  Host.dotGeneral dot_S20480x2048_S8x2048x5632_S20480x8x5632_1_1_0_02_n_n none (extf .f32 x bitsLt_bf16_f32) (layer l w)

/-- The number one everywhere. -/
def one : FVec F S20480x8x5632 .f32 := broadcastInDim S20480x8x5632 ![] bcast_S_S20480x8x5632 (constant S_ .f32 0x3F800000#32)
/-- The number zero everywhere. -/
def zero : FVec F S20480x8x5632 .f32 := broadcastInDim S20480x8x5632 ![] bcast_S_S20480x8x5632 (id (constant S_ .f32 0x00000000#32))

/-- The gate times its logistic times the up product. -/
def gate (g u : FVec F S20480x8x5632 .f32) : FVec F S20480x8x5632 .f32 :=
  mulf (mulf g (Host.divf one (addf one (Host.exp (Host.negf g))))) u

/-- The first row of a row's half tile. -/
def half : IVec S512 32 :=
  select (cmpi .slt (iotaInDim S512 32 0) (broadcastInDim S512 ![] bcast_S_S512 (constantI S_ 32 256#32)))
    (broadcastInDim S512 ![] bcast_S_S512 (constantI S_ 32 0#32)) (broadcastInDim S512 ![] bcast_S_S512 (constantI S_ 32 256#32))

/-- Whether the half tile holds a filled row. -/
def filled (te : IVec S120 32) : IVec S40x512 1 :=
  cmpi .slt (broadcastInDim S40x512 ![0, 1] bcast_S1x512_S40x512_0_1 (id (broadcastInDim S1x512 ![1] bcast_S512_S1x512_1 half)))
    (broadcastInDim S40x512 ![0, 1] bcast_S40x1_S40x512_0_1 (broadcastInDim S40x1 ![0] bcast_S40_S40x1_0 (extractStridedSlice S40 ![40] te slices_S120_S40_40)))

/-- Whether an expert is the tile's. -/
def mine (te : IVec S120 32) : IVec S40x8 1 :=
  cmpi .eq (broadcastInDim S40x8 ![0, 1] bcast_S40x1_S40x8_0_1 (broadcastInDim S40x1 ![0] bcast_S40_S40x1_0 (extractStridedSlice S40 ![0] te slices_S120_S40_0)))
    (broadcastInDim S40x8 ![0, 1] bcast_S1x8_S40x8_0_1 (broadcastInDim S1x8 ![1] bcast_S8_S1x8_1 (iotaInDim S8 32 0)))

/-- The row's expert, where its half tile holds a filled row. -/
def pick (te : IVec S120 32) : IVec S20480x8 1 :=
  shapeCast _ (andi (broadcastInDim S40x512x8 ![0, 1, 2] bcast_S40x512x1_S40x512x8_0_1_2 (broadcastInDim S40x512x1 ![0, 1] bcast_S40x512_S40x512x1_0_1 (filled te)))
    (broadcastInDim S40x512x8 ![0, 1, 2] bcast_S40x1x8_S40x512x8_0_1_2 (broadcastInDim S40x1x8 ![0, 2] bcast_S40x8_S40x1x8_0_2 (mine te)))) shapeCasts_S40x512x8_S20480x8

/-- The sum over the experts of what is picked. -/
def total (te : IVec S120 32) (y : FVec F S20480x8x5632 .f32) : FVec F S20480x5632 .bf16 :=
  truncf .bf16 (Host.reduceAdd (select (broadcastInDim S20480x8x5632 ![0, 1, 2] bcast_S20480x8x1_S20480x8x5632_0_1_2
    (broadcastInDim S20480x8x1 ![0, 1] bcast_S20480x8_S20480x8x1_0_1 (pick te))) y zero) (constant S_ .f32 0x00000000#32)
    reducesTo_S20480x8x5632_S20480x5632_d1 h_S_) bitsLt_bf16_f32

/-- The reference's result by its steps. -/
def result (l : Fin 2) (te : IVec S120 32) (x : FVec F S20480x2048 .bf16) (wg wu : FVec F S2x8x2048x5632 .f32) : FVec F S20480x5632 .bf16 :=
  total te (gate (product l x wg) (product l x wu))

end Defs

/-- A weight of an expert layer. -/
theorem layer_apply (l : Fin 2) (w : FVec Ideal S2x8x2048x5632 .f32) (e : Fin 8) (d : Fin 2048) (f : Fin 5632) : layer l w (ix3 e d f) = wAt l w e.val d.val f.val := by
  refine (shapeCast_apply _ _ _ (ix4 0 e d f) ?_).trans ?_
  · refine (rowMajor_val4 _ 92274688 11534336 5632 rfl rfl rfl).trans (Eq.trans ?_ (rowMajor_val3 _ 11534336 5632 rfl rfl).symm)
    show 0 * 92274688 + e.val * 11534336 + d.val * 5632 + f.val = e.val * 11534336 + d.val * 5632 + f.val
    omega
  · refine (congrArg w (funext fun a => Fin.ext ?_)).trans (w_eq l w e d f)
    match a with
    | ⟨0, _⟩ => exact Nat.add_zero _
    | ⟨1, _⟩ => exact Nat.zero_add _
    | ⟨2, _⟩ => exact Nat.zero_add _
    | ⟨3, _⟩ => exact Nat.zero_add _

/-- A row times a column of an expert's weights. -/
theorem product_apply (l : Fin 2) (x : FVec Ideal S20480x2048 .bf16) (w : FVec Ideal S2x8x2048x5632 .f32) (r : Fin 20480) (e : Fin 8) (f : Fin 5632) :
    product l x w (ix3 r e f) = dot l x w r.val e.val f.val := by
  unfold product
  show FloatOps.dotGeneral _ none _ _ _ (ix3 r e f) = _
  rw [Ideal.dotGeneral_apply,
    ← Equiv.sum_comp (contrEquiv1 dot_S20480x2048_S8x2048x5632_S20480x8x5632_1_1_0_02_n_n 2048 rfl rfl).symm]
  unfold dot
  refine Finset.sum_congr rfl fun d _ => ?_
  have c3 := contrEquiv1_symm_val dot_S20480x2048_S8x2048x5632_S20480x8x5632_1_1_0_02_n_n 2048 rfl rfl d
  refine congrArg₂ (· * ·) ((congrArg x ?_).trans (x_eq x (ix2 r d))) ((congrArg (layer l w) ?_).trans (layer_apply l w e d f)) <;>
    funext ax <;> apply Fin.ext
  · match ax with
    | ⟨0, _⟩ => rfl
    | ⟨1, _⟩ => exact c3
  · match ax with
    | ⟨0, _⟩ => rfl
    | ⟨1, _⟩ => exact c3
    | ⟨2, _⟩ => rfl

/-- The gated product, entry by entry. -/
theorem gate_apply (g u : FVec Ideal S20480x8x5632 .f32) (j : S20480x8x5632.Idx) : gate g u j = gated (g j) (u j) := by
  have h1 : one (F := Ideal) j = 1 := Ideal.ofBits_one_f32
  show g j * Ideal.div (one (F := Ideal) j) (one (F := Ideal) j + Ideal.exp (-(g j))) * u j = _
  rw [h1]
  rfl

/-- A word of the table. -/
theorem word (te : IVec S120 32) (o : ℕ) (h : S120.Slices ![o] S40) (a : Fin 40) :
    extractStridedSlice S40 ![o] te h (ix1 a) = at_ te (o + a.val) := by
  have ho : o + a.val < 120 := by
    have := h.2 ⟨0, by decide⟩
    have h' : o + 40 ≤ 120 := this
    omega
  rw [at_, dif_pos ho]
  refine congrArg te (funext fun b => Fin.ext ?_)
  match b with
  | ⟨0, _⟩ => rfl

/-- A tile's word at each of its rows. -/
theorem rows_apply (w : IVec S40 32) (a : Fin 40) (b : Fin 512) :
    broadcastInDim S40x512 ![0, 1] bcast_S40x1_S40x512_0_1 (broadcastInDim S40x1 ![0] bcast_S40_S40x1_0 w) (ix2 a b) = w (ix1 a) :=
  congrArg w (funext fun i => Fin.ext (by match i with | ⟨0, _⟩ => rfl))
/-- A tile's word at each expert. -/
theorem experts_apply (w : IVec S40 32) (a : Fin 40) (e : Fin 8) :
    broadcastInDim S40x8 ![0, 1] bcast_S40x1_S40x8_0_1 (broadcastInDim S40x1 ![0] bcast_S40_S40x1_0 w) (ix2 a e) = w (ix1 a) :=
  congrArg w (funext fun i => Fin.ext (by match i with | ⟨0, _⟩ => rfl))

/-- The first row of a row's half tile. -/
theorem half_apply (b : Fin 512) : half (ix1 b) = if b.val < 256 then 0#32 else 256#32 := by
  show Scalar.select (IntOp.cmpi .slt (BitVec.ofNat 32 b.val) (BitVec.ofNat 32 256)) 0#32 256#32 = _
  rw [WordCmp.cmpi_slt_ofNat (by omega) (by omega), WordCmp.ofBool_decide_eq_ite]
  by_cases h : b.val < 256
  · rw [if_pos h, if_pos h]; rfl
  · rw [if_neg h, if_neg h]; rfl

/-- A half tile holds a filled row where the number of the tile's filled rows exceeds its first row. -/
theorem filled_apply (te : IVec S120 32) (a : Fin 40) (b : Fin 512) :
    filled te (ix2 a b) = BitVec.ofBool (decide (live (at_ te (40 + a.val)) b.val)) := by
  have h : filled te (ix2 a b) = IntOp.cmpi .slt (half (ix1 b)) (at_ te (40 + a.val)) :=
    congrArg₂ (IntOp.cmpi .slt) (congrArg half (funext fun i => Fin.ext (by match i with | ⟨0, _⟩ => rfl)))
      ((rows_apply _ a b).trans (word te 40 slices_S120_S40_40 a))
  rw [h, WordCmp.cmpi_slt_eq, half_apply]
  refine congrArg BitVec.ofBool (decide_eq_decide.mpr ?_)
  unfold live
  have hb := b.isLt
  by_cases h : b.val < 256
  · rw [if_pos h, if_pos (show b.val % 512 < 256 by omega)]; rfl
  · rw [if_neg h, if_neg (show ¬ b.val % 512 < 256 by omega)]; rfl

/-- An expert is the tile's where the table says so. -/
theorem mine_apply (te : IVec S120 32) (a : Fin 40) (e : Fin 8) :
    mine te (ix2 a e) = BitVec.ofBool (decide ((at_ te a.val).toNat = e.val)) := by
  have h : mine te (ix2 a e) = IntOp.cmpi .eq (at_ te (0 + a.val)) (BitVec.ofNat 32 e.val) :=
    congrArg₂ (IntOp.cmpi .eq) ((experts_apply _ a e).trans (word te 0 slices_S120_S40_0 a)) rfl
  rw [h, WordCmp.cmpi_eq_eq_toNat, Nat.zero_add, WordCmp.toNat_ofNat_of_lt (show e.val < 2 ^ 32 by omega)]

/-- What is picked, at a row and an expert. -/
theorem pick_apply (te : IVec S120 32) (r : Fin 20480) (e : Fin 8) :
    pick te (ix2 r e) = 1#1 ↔ live (at_ te (40 + r.val / 512)) r.val ∧ (at_ te (r.val / 512)).toNat = e.val := by
  have hr := r.isLt
  obtain ⟨a, ha⟩ : ∃ a : Fin 40, a.val = r.val / 512 := ⟨⟨r.val / 512, by omega⟩, rfl⟩
  obtain ⟨b, hb⟩ : ∃ b : Fin 512, b.val = r.val % 512 := ⟨⟨r.val % 512, by omega⟩, rfl⟩
  have h : pick te (ix2 r e) = IntOp.andi (filled te (ix2 a b)) (mine te (ix2 a e)) := by
    refine (shapeCast_apply _ _ _ (ix3 a b e) ?_).trans ?_
    · refine (rowMajor_val3 _ 4096 8 rfl rfl).trans (Eq.trans ?_ (rowMajor_val2 _ 8 rfl).symm)
      show a.val * 4096 + b.val * 8 + e.val = r.val * 8 + e.val
      omega
    · refine congrArg₂ IntOp.andi (congrArg (filled te) ?_) (congrArg (mine te) ?_) <;> funext i <;> apply Fin.ext
      · match i with
        | ⟨0, _⟩ => rfl
        | ⟨1, _⟩ => rfl
      · match i with
        | ⟨0, _⟩ => rfl
        | ⟨1, _⟩ => rfl
  rw [h, filled_apply, mine_apply, WordCmp.andi_ofBool, WordCmp.ofBool_eq_one_iff, Bool.and_eq_true, decide_eq_true_iff, decide_eq_true_iff, ha]
  have hl : live (at_ te (40 + r.val / 512)) b.val ↔ live (at_ te (40 + r.val / 512)) r.val := by
    unfold live; rw [hb, Nat.mod_mod]
  rw [hl]

/-- THE REFERENCE'S RESULT is the experts' hidden layer. -/
theorem result_eq (l : Fin 2) (te : IVec S120 32) (x : FVec Ideal S20480x2048 .bf16) (wg wu : FVec Ideal S2x8x2048x5632 .f32) (P : Planned te) :
    result l te x wg wu = hidden l te x wg wu := by
  funext j
  obtain ⟨r, hr⟩ : ∃ r : Fin 20480, r = j 0 := ⟨_, rfl⟩
  obtain ⟨f, hf⟩ : ∃ f : Fin 5632, f = j 1 := ⟨_, rfl⟩
  have hk := P.known (r.val / 512) (by omega)
  have h0 : (constant (F := Ideal) S_ .f32 0x00000000#32) (Shape.Idx.first h_S_) = 0 := Ideal.ofBits_zero_f32
  have hz : ∀ i, zero (F := Ideal) i = 0 := fun _ => Ideal.ofBits_zero_f32
  have hs : ∀ e : Fin 8, select (broadcastInDim S20480x8x5632 ![0, 1, 2] bcast_S20480x8x1_S20480x8x5632_0_1_2
      (broadcastInDim S20480x8x1 ![0, 1] bcast_S20480x8_S20480x8x1_0_1 (pick te))) (gate (product l x wg) (product l x wu)) (zero (F := Ideal)) (ix3 r e f)
      = if pick te (ix2 r e) = 1#1 then gated (dot l x wg r.val e.val f.val) (dot l x wu r.val e.val f.val) else 0 := fun e => by
    have hp : broadcastInDim S20480x8x5632 ![0, 1, 2] bcast_S20480x8x1_S20480x8x5632_0_1_2
      (broadcastInDim S20480x8x1 ![0, 1] bcast_S20480x8_S20480x8x1_0_1 (pick te)) (ix3 r e f) = pick te (ix2 r e) :=
        congrArg (pick te) (funext fun i => Fin.ext (by match i with | ⟨0, _⟩ => rfl | ⟨1, _⟩ => rfl))
    rw [select_apply, hp, gate_apply, product_apply, product_apply, hz]
    rfl
  have hsum : result l te x wg wu j = 0 + ∑ e : Fin 8, (if pick te (ix2 r e) = 1#1 then gated (dot l x wg r.val e.val f.val) (dot l x wu r.val e.val f.val) else 0) := by
    refine (hostReduceAdd_apply _ _ reducesTo_S20480x8x5632_S20480x5632_d1 h_S_ j).trans ?_
    rw [h0, Ideal.hostReduceAdd_r3_a1]
    refine congrArg (0 + ·) (Finset.sum_congr rfl fun e _ => Eq.trans ?_ (hs e))
    rw [hr, hf]
    rfl
  rw [hsum, zero_add]
  unfold Cert.Proof.Moe.hidden
  rw [← hr, ← hf]
  unfold hiddenAt
  by_cases hl : live (at_ te (40 + r.val / 512)) r.val
  · rw [if_pos hl, Finset.sum_eq_single (⟨_, hk⟩ : Fin 8), if_pos ((pick_apply te r _).mpr ⟨hl, rfl⟩)]
    · exact fun e _ he => if_neg fun h => he (Fin.ext ((pick_apply te r e).mp h).2.symm)
    · exact fun h => absurd (Finset.mem_univ _) h
  · rw [if_neg hl]
    exact Finset.sum_eq_zero fun e _ => if_neg fun h => hl ((pick_apply te r e).mp h).1

end Cert.ExpertReferenceIdeal.Steps

end
-- ==== Proof.ExpertPlan.lean ====
module

public import proofs.«01_k».proof.Pre_tiles_planned
public import proofs.«01_k».proof.Proof.Gen.Pre_tiles_planned
public import proofs.«01_k».proof.Proof.ExpertTable
public import Idealize.ShloMosaic.Lib.ValueIdx
public import Idealize.ShloMosaic.Lib.WordCmp
public import Idealize.ShloMosaic.Lib.Pipeline.Value

/-! # What the precondition says of the table -/

@[expose] public section

set_option maxRecDepth 16384

noncomputable section

namespace Cert.Pre_tiles_planned.Read

open Cert.Pre_tiles_planned Cert.Pre_tiles_planned.Gen
open Cert.Proof.Moe (at_ Planned)
open Idealize.ShloMosaic hiding ix0 ix1 ix2 ix3 ix4 ix5 eq_ix1 eq_ix2 eq_ix3 eq_ix4
open Idealize.ShloMosaic.ValueIdx

/-- Three lists of bits are all set where the one list of them is. -/
theorem parts (A : IVec S40 1) (B : IVec S39 1) (C : IVec S1 1) (hc : Shape.Concatenates [S40, S39, S1] S80 0)
    (h : ∀ j, concatenate S80 0 [⟨S40, A⟩, ⟨S39, B⟩, ⟨S1, C⟩] hc j = 1#1) :
    (∀ t : Fin 40, A (ix1 t) = 1#1) ∧ (∀ t : Fin 39, B (ix1 t) = 1#1) ∧ C (ix1 0) = 1#1 := by
  refine ⟨fun t => ?_, fun t => ?_, ?_⟩
  · exact (concatenate_apply_piece (t := S80) 0 [⟨S40, A⟩, ⟨S39, B⟩, ⟨S1, C⟩] hc (ix1 (⟨t.val, by omega⟩ : Fin 80)) 0 (show 0 < 3 by decide) S40 A rfl rfl 0 rfl (ix1 t)
      (fun b hb => absurd (Subsingleton.elim (α := Fin 1) b 0) hb) (Nat.zero_add _)).symm.trans (h _)
  · exact (concatenate_apply_piece (t := S80) 0 [⟨S40, A⟩, ⟨S39, B⟩, ⟨S1, C⟩] hc (ix1 (⟨40 + t.val, by omega⟩ : Fin 80)) 1 (show 1 < 3 by decide) S39 B rfl rfl 40 rfl (ix1 t)
      (fun b hb => absurd (Subsingleton.elim (α := Fin 1) b 0) hb) rfl).symm.trans (h _)
  · exact (concatenate_apply_piece (t := S80) 0 [⟨S40, A⟩, ⟨S39, B⟩, ⟨S1, C⟩] hc (ix1 (79 : Fin 80)) 2 (show 2 < 3 by decide) S1 C rfl rfl 79 rfl (ix1 0)
      (fun b hb => absurd (Subsingleton.elim (α := Fin 1) b 0) hb) rfl).symm.trans (h _)

/-- A word of the table by its place. -/
theorem word (te : IVec S120 32) (o : ℕ) (h : S120.Slices ![o] S40) (a : Fin 40) :
    extractStridedSlice S40 ![o] te h (ix1 a) = at_ te (o + a.val) := by
  have ho : o + a.val < 120 := by
    have h1 := h.2 ⟨0, by decide⟩
    have h2 : o + 40 ≤ 120 := h1
    omega
  rw [at_, dif_pos ho]
  refine congrArg te (funext fun b => Fin.ext ?_)
  match b with
  | ⟨0, _⟩ => rfl

/-- A word of a shifted row of words. -/
theorem shifted {n : ℕ} (w : IVec S40 32) (o : ℕ) (h : S40.Slices ![o] ⟨1, ![n]⟩) (a : Fin n) (ha : o + a.val < 40) :
    extractStridedSlice ⟨1, ![n]⟩ ![o] w h (ix1 a) = w (ix1 ⟨o + a.val, ha⟩) := by
  refine congrArg w (funext fun b => Fin.ext ?_)
  match b with
  | ⟨0, _⟩ => rfl

/-- A word from zero to seven, signed, is below eight. -/
theorem small (x : BitVec 32) (h0 : (0#32 : BitVec 32).toInt ≤ x.toInt) (h8 : x.toInt < (8#32 : BitVec 32).toInt) : x.toNat < 8 := by
  have e0 : (0#32 : BitVec 32).toInt = 0 := rfl
  have e8 : (8#32 : BitVec 32).toInt = 8 := rfl
  rw [e0] at h0
  rw [e8] at h8
  have := BitVec.toInt_eq_toNat_cond x
  have hx := x.isLt
  split at this <;> omega

/-- THE PRECONDITION DECODED: where the predicate holds, the table is planned. -/
theorem planned {F : FTy → Type} [FloatOps F] (te : IVec S120 32) (x : FVec F S20480x2048 .bf16) (g u : FVec F S2x8x2048x5632 .f32)
    (h : fn (F := F) te x g u = fun _ => 1#1) : Planned te := by
  obtain ⟨hA, hB, hC⟩ := parts _ _ _ concatenates_S40_S39_S1_S80_d0 (fun j => congrFun h j)
  have w0 := word te 0 slices_S120_S40_0
  have w8 := word te 80 slices_S120_S40_80
  have turn : ∀ t : Fin 39, (if at_ te (t.val + 1) ≠ at_ te t.val then at_ te (80 + t.val) = at_ te (t.val + 1)
      else at_ te (80 + t.val) = at_ te (80 + (t.val + 1))) := fun t => by
    have hb : Scalar.select (IntOp.cmpi .ne (at_ te (t.val + 1)) (at_ te t.val)) (IntOp.cmpi .eq (at_ te (80 + t.val)) (at_ te (t.val + 1)))
        (IntOp.cmpi .eq (at_ te (80 + t.val)) (at_ te (80 + (t.val + 1)))) = 1#1 := by
      have a1 := (shifted (extractStridedSlice S40 ![0] te slices_S120_S40_0) 1 slices_S40_S39_1 t (by omega)).trans (w0 _)
      have a0 := (shifted (extractStridedSlice S40 ![0] te slices_S120_S40_0) 0 slices_S40_S39_0 t (by omega)).trans (w0 _)
      have b1 := (shifted (extractStridedSlice S40 ![80] te slices_S120_S40_80) 1 slices_S40_S39_1 t (by omega)).trans (w8 _)
      have b0 := (shifted (extractStridedSlice S40 ![80] te slices_S120_S40_80) 0 slices_S40_S39_0 t (by omega)).trans (w8 _)
      have e1 : (0 + (1 + t.val)) = t.val + 1 := by omega
      have e0 : (0 + (0 + t.val)) = t.val := by omega
      have f1 : (80 + (1 + t.val)) = 80 + (t.val + 1) := by omega
      have f0 : (80 + (0 + t.val)) = 80 + t.val := by omega
      simp only [e1, e0, f1, f0] at a1 a0 b1 b0
      rw [← a1, ← a0, ← b1, ← b0]
      exact hB t
    rw [WordCmp.cmpi_ne_eq, WordCmp.cmpi_eq_eq, WordCmp.cmpi_eq_eq] at hb
    by_cases hn : at_ te (t.val + 1) ≠ at_ te t.val
    · rw [if_pos hn]
      rw [(WordCmp.ofBool_decide_eq_one_iff _).mpr hn] at hb
      exact (WordCmp.ofBool_decide_eq_one_iff _).mp hb
    · rw [if_neg hn]
      rw [(WordCmp.ofBool_decide_eq_zero_iff _).mpr hn] at hb
      exact (WordCmp.ofBool_decide_eq_one_iff _).mp hb
  refine ⟨fun t ht => ?_, fun t ht hne => ?_, fun t ht heq => ?_, ?_⟩
  · have ha : IntOp.andi (IntOp.cmpi .sge (at_ te t) 0#32) (IntOp.cmpi .slt (at_ te t) 8#32) = 1#1 := by
      have e : at_ te t = _ := (congrArg (at_ te) (Nat.zero_add t).symm).trans (w0 ⟨t, ht⟩).symm
      rw [e]
      exact hA ⟨t, ht⟩
    rw [WordCmp.cmpi_sge_eq, WordCmp.cmpi_slt_eq, WordCmp.andi_ofBool, WordCmp.ofBool_eq_one_iff, Bool.and_eq_true, decide_eq_true_iff,
      decide_eq_true_iff] at ha
    exact small _ ha.1 ha.2
  · have := turn ⟨t, ht⟩
    rwa [if_pos hne] at this
  · have := turn ⟨t, ht⟩
    rwa [if_neg (fun hne => hne heq)] at this
  · have e : at_ te (80 + 39) = _ :=
      (w8 39).symm.trans (shifted (extractStridedSlice S40 ![80] te slices_S120_S40_80) 39 slices_S40_S1_39 (0 : Fin 1) (by decide)).symm
    have hc : IntOp.cmpi .eq (at_ te (80 + 39)) (4294967295#32) = 1#1 := by rw [e]; exact hC
    rw [WordCmp.cmpi_eq_eq, WordCmp.ofBool_decide_eq_one_iff] at hc
    exact hc

end Cert.Pre_tiles_planned.Read

end
-- ==== Proof.ExpertClaims.lean ====
/-
  The claims about the up projection of the first expert layer: the kernel and its idealization run without a fault and
  come to rest, the reference too, and kernel and reference compute one array.
-/
module

public import proofs.«01_k».proof.Defs
public import proofs.«01_k».proof.Proof.Gen.Expert.Launch
public import proofs.«01_k».proof.Proof.Gen.ExpertIdeal.Launch
public import proofs.«01_k».proof.Proof.ExpertRun
public import proofs.«01_k».proof.Proof.ExpertRef
public import proofs.«01_k».proof.Proof.ExpertPlan
public import Idealize.ShloMosaic.Lib.Quiescent

@[expose] public section

noncomputable section

open Idealize.ShloMosaic Idealize.ShloMosaic.TcCoe Idealize.SL.Sem

namespace Cert.Proof.Moe.First

open Cert.Proof.Moe

variable {F : FTy → Type} [FloatOps F]

/-- The program's main function is the layers' common one. -/
theorem main_kernel : Cert.Expert.main (F := F) = Cert.Expert.main (F := F) := rfl
/-- So is its idealization's. -/
theorem main_ideal : Cert.ExpertIdeal.main (F := F) = Cert.Expert.main (F := F) := rfl

set_option maxRecDepth 65536 in
/-- The program's bodies are those at its layer. -/
theorem bodies_kernel : Cert.Expert.defs₀ (F := F) = bodies (F := F) 0 := by
  unfold Cert.Expert.defs₀ bodies
  refine congrArg Defs.onTc ?_
  funext k x
  match k, x with
  | 0, (t, s) => rfl
set_option maxRecDepth 65536 in
/-- So are its idealization's. -/
theorem bodies_ideal : Cert.ExpertIdeal.defs₀ (F := F) = bodies (F := F) 0 := by
  unfold Cert.ExpertIdeal.defs₀ bodies
  refine congrArg Defs.onTc ?_
  funext k x
  match k, x with
  | 0, (t, s) => rfl

/-- The program's functions are those at its layer. -/
theorem defs_kernel : Cert.Expert.defs (F := F) = Pipeline.defs Cert.Expert.pcfgs (bodies (F := F) 0) := by
  show Pipeline.defs Cert.Expert.pcfgs Cert.Expert.defs₀ = _
  exact congrArg (Pipeline.defs Cert.Expert.pcfgs) bodies_kernel
/-- So are its idealization's. -/
theorem defs_ideal : Cert.ExpertIdeal.defs (F := F) = Pipeline.defs Cert.Expert.pcfgs (bodies (F := F) 0) := by
  show Pipeline.defs Cert.ExpertIdeal.pcfgs Cert.ExpertIdeal.defs₀ = _
  exact congrArg (Pipeline.defs Cert.Expert.pcfgs) bodies_ideal

/-- The kernel runs and comes to rest. -/
theorem frame_kernel : Cert.quiescent_Expert := fun m ρ hp => by
  rw [main_kernel, defs_kernel]
  exact (θ_run (nD := Cert.Expert.nD) (τ := Cert.Expert.τ) (sig := Cert.Expert.sig) _ _ _).mono (fun _ h => ⟨fun c => (h.1 c).2, h.2⟩)
    (run_ends 0 m ρ fun c => Cert.Pre_tiles_planned.Read.planned _ _ _ _ (hp c))

/-- The idealization runs and comes to rest. -/
theorem frame_ideal : Cert.quiescent_ExpertIdeal := fun m ρ hp => by
  rw [main_ideal, defs_ideal]
  exact (θ_run (nD := Cert.Expert.nD) (τ := Cert.Expert.τ) (sig := Cert.Expert.sig) _ _ _).mono (fun _ h => ⟨fun c => (h.1 c).2, h.2⟩)
    (run_ends 0 m ρ fun c => Cert.Pre_tiles_planned.Read.planned _ _ _ _ (hp c))

/-- So does the reference, which has no semaphores. -/
theorem frame_reference : Cert.quiescent_ExpertReferenceIdeal := fun m ρ _ =>
  (θ_run Cert.ExpertReferenceIdeal.defs _ _).mono (fun r h => ⟨fun c => (h c).2,
      Idealize.ShloMosaic.sem_eq_zero_of_no_sems (by decide) r.2⟩)
    (Cert.ExpertReferenceIdeal.Value.run (F := Ideal) m ρ)

/-- The idealization rewrites no operation. -/
theorem preserves : Cert.preserves_Expert_ExpertIdeal := trivial

/-- KERNEL AND REFERENCE COMPUTE ONE ARRAY, the hidden layer of the experts. -/
theorem algebraic : Cert.algebraic_ExpertIdeal_ExpertReferenceIdeal := by
  intro m ρ m' ρ' hp hagree
  have P := fun c => Cert.Pre_tiles_planned.Read.planned _ _ _ _ (hp c)
  rw [main_ideal, defs_ideal]
  refine ⟨_, (θ_run (nD := Cert.Expert.nD) (τ := Cert.Expert.τ) (sig := Cert.Expert.sig) _ _ _).mono (fun _ h => h.1) (run_hidden 0 m ρ P), ?_⟩
  refine (θ_run Cert.ExpertReferenceIdeal.defs _ _).mono (fun _ h c => ⟨(h c).1.trans ?_, (h c).2⟩)
    (Cert.ExpertReferenceIdeal.Value.run (F := Ideal) m' ρ')
  obtain ⟨h0, h1, h2, h3⟩ := hagree c
  rw [h0, h1, h2, h3]
  exact Cert.ExpertReferenceIdeal.Steps.result_eq 0 _ _ _ _ (P c)

end Cert.Proof.Moe.First

end
-- ==== Proof.ExpertNextClaims.lean ====
/-
  The claims about the up projection of the second expert layer: the kernel and its idealization run without a fault and
  come to rest, the reference too, and kernel and reference compute one array.
-/
module

public import proofs.«01_k».proof.Defs
public import proofs.«01_k».proof.Proof.Gen.ExpertNext.Launch
public import proofs.«01_k».proof.Proof.Gen.ExpertNextIdeal.Launch
public import proofs.«01_k».proof.Proof.ExpertRun
public import proofs.«01_k».proof.Proof.ExpertRef
public import proofs.«01_k».proof.Proof.ExpertPlan
public import proofs.«01_k».proof.Proof.Gen.ExpertNextReferenceIdeal.Run
public import Idealize.ShloMosaic.Lib.Quiescent

@[expose] public section

noncomputable section

open Idealize.ShloMosaic Idealize.ShloMosaic.TcCoe Idealize.SL.Sem

namespace Cert.Proof.Moe.Second

open Cert.Proof.Moe

variable {F : FTy → Type} [FloatOps F]

/-- The program's main function is the layers' common one. -/
theorem main_kernel : Cert.ExpertNext.main (F := F) = Cert.Expert.main (F := F) := rfl
/-- So is its idealization's. -/
theorem main_ideal : Cert.ExpertNextIdeal.main (F := F) = Cert.Expert.main (F := F) := rfl

set_option maxRecDepth 65536 in
/-- The program's bodies are those at its layer. -/
theorem bodies_kernel : Cert.ExpertNext.defs₀ (F := F) = bodies (F := F) 1 := by
  unfold Cert.ExpertNext.defs₀ bodies
  refine congrArg Defs.onTc ?_
  funext k x
  match k, x with
  | 0, (t, s) => rfl
set_option maxRecDepth 65536 in
/-- So are its idealization's. -/
theorem bodies_ideal : Cert.ExpertNextIdeal.defs₀ (F := F) = bodies (F := F) 1 := by
  unfold Cert.ExpertNextIdeal.defs₀ bodies
  refine congrArg Defs.onTc ?_
  funext k x
  match k, x with
  | 0, (t, s) => rfl

/-- The program's functions are those at its layer. -/
theorem defs_kernel : Cert.ExpertNext.defs (F := F) = Pipeline.defs Cert.Expert.pcfgs (bodies (F := F) 1) := by
  show Pipeline.defs Cert.ExpertNext.pcfgs Cert.ExpertNext.defs₀ = _
  exact congrArg (Pipeline.defs Cert.Expert.pcfgs) bodies_kernel
/-- So are its idealization's. -/
theorem defs_ideal : Cert.ExpertNextIdeal.defs (F := F) = Pipeline.defs Cert.Expert.pcfgs (bodies (F := F) 1) := by
  show Pipeline.defs Cert.ExpertNextIdeal.pcfgs Cert.ExpertNextIdeal.defs₀ = _
  exact congrArg (Pipeline.defs Cert.Expert.pcfgs) bodies_ideal

/-- The kernel runs and comes to rest. -/
theorem frame_kernel : Cert.quiescent_ExpertNext := fun m ρ hp => by
  rw [main_kernel, defs_kernel]
  exact (θ_run (nD := Cert.Expert.nD) (τ := Cert.Expert.τ) (sig := Cert.Expert.sig) _ _ _).mono (fun _ h => ⟨fun c => (h.1 c).2, h.2⟩)
    (run_ends 1 m ρ fun c => Cert.Pre_tiles_planned.Read.planned _ _ _ _ (hp c))

/-- The idealization runs and comes to rest. -/
theorem frame_ideal : Cert.quiescent_ExpertNextIdeal := fun m ρ hp => by
  rw [main_ideal, defs_ideal]
  exact (θ_run (nD := Cert.Expert.nD) (τ := Cert.Expert.τ) (sig := Cert.Expert.sig) _ _ _).mono (fun _ h => ⟨fun c => (h.1 c).2, h.2⟩)
    (run_ends 1 m ρ fun c => Cert.Pre_tiles_planned.Read.planned _ _ _ _ (hp c))

/-- So does the reference, which has no semaphores. -/
theorem frame_reference : Cert.quiescent_ExpertNextReferenceIdeal := fun m ρ _ =>
  (θ_run Cert.ExpertNextReferenceIdeal.defs _ _).mono (fun r h => ⟨fun c => (h c).2,
      Idealize.ShloMosaic.sem_eq_zero_of_no_sems (by decide) r.2⟩)
    (Cert.ExpertNextReferenceIdeal.Value.run (F := Ideal) m ρ)

/-- The idealization rewrites no operation. -/
theorem preserves : Cert.preserves_ExpertNext_ExpertNextIdeal := trivial

/-- KERNEL AND REFERENCE COMPUTE ONE ARRAY, the hidden layer of the experts. -/
theorem algebraic : Cert.algebraic_ExpertNextIdeal_ExpertNextReferenceIdeal := by
  intro m ρ m' ρ' hp hagree
  have P := fun c => Cert.Pre_tiles_planned.Read.planned _ _ _ _ (hp c)
  rw [main_ideal, defs_ideal]
  refine ⟨_, (θ_run (nD := Cert.Expert.nD) (τ := Cert.Expert.τ) (sig := Cert.Expert.sig) _ _ _).mono (fun _ h => h.1) (run_hidden 1 m ρ P), ?_⟩
  refine (θ_run Cert.ExpertNextReferenceIdeal.defs _ _).mono (fun _ h c => ⟨(h c).1.trans ?_, (h c).2⟩)
    (Cert.ExpertNextReferenceIdeal.Value.run (F := Ideal) m' ρ')
  obtain ⟨h0, h1, h2, h3⟩ := hagree c
  rw [h0, h1, h2, h3]
  exact Cert.ExpertReferenceIdeal.Steps.result_eq 1 _ _ _ _ (P c)

end Cert.Proof.Moe.Second

end
-- ==== Proof.DownBody.lean ====
module
public import proofs.«01_k».proof.Proof.Gen.Down.Launch
public import proofs.«01_k».proof.Proof.Gen.Down.Skeleton

/-! # The body of the output projection of an expert layer

The two expert layers run the same body and differ in the layer of the weights they copy from. The
body is stated here for a layer `l`; what follows is proved for both layers at once. -/

@[expose] public section
noncomputable section
namespace Cert.Proof.Down
open Cert.Down Cert.Down.Gen
open Idealize.ShloMosaic
open Idealize.ShloMosaic.TcCoe
open Idealize.SL.Sem
variable {F : FTy → Type} [FloatOps F]

/-- An offset into the weights, moved to layer `l`. -/
def inLayer (l : Fin 2) (o : Fin 4 → ℕ) : Fin 4 → ℕ := ![l.val, o 1, o 2, o 3]
/-- Where a tile's block begins, as the very first point reads it. -/
def o4 (l : Fin 2) (i : grid0.Coords) (v : BitVec 32) : Fin 4 → ℕ := inLayer l (k0_off4 i v)
/-- Where a tile's block begins. -/
def o5 (l : Fin 2) (i : grid0.Coords) (v : BitVec 32) : Fin 4 → ℕ := inLayer l (k0_off5 i v)
/-- Where the next expert's block begins. -/
def o6 (l : Fin 2) (i : grid0.Coords) (v : BitVec 32) : Fin 4 → ℕ := inLayer l (k0_off6 i v)
/-- Where the block of the next group of columns begins. -/
def o7 (l : Fin 2) (i : grid0.Coords) (v : BitVec 32) : Fin 4 → ℕ := inLayer l (k0_off7 i v)

/-- A block that begins here lies inside the weights. -/
abbrev Inside (o : Fin 4 → ℕ) : Prop := ∀ a, o a + S1x1x5632x512.size a ≤ S2x8x5632x2048.size a

/-- The blocks of a tile and of the next expert lie inside the weights. -/
def Fits1 (l : Fin 2) (i : grid0.Coords) (v1 v7 v12 : BitVec 32) : Prop :=
  (∀ (_ : k0_cond1 i v1 v12 = 1#1), ∀ (_ : k0_cond2 i = 1#1), Inside (o4 l i v1)) ∧
  (∀ (_ : k0_cond1 i v1 v12 = 1#1), Inside (o5 l i v1)) ∧
  (∀ (_ : k0_cond1 i v1 v12 = 1#1), ∀ (_ : k0_cond3 v7 = 1#1), Inside (o6 l i v7))
/-- It is decided entry by entry. -/
instance instFits1 (l : Fin 2) (i : grid0.Coords) (v1 v7 v12 : BitVec 32) : Decidable (Fits1 l i v1 v7 v12) :=
  decidable_of_iff' _ (Iff.of_eq (Fits1.eq_1 l i v1 v7 v12))
/-- The block of the next group of columns lies inside the weights. -/
def Fits2 (l : Fin 2) (i : grid0.Coords) (v1 v7 v12 v55 : BitVec 32) : Prop :=
  ∀ (_ : k0_cond1 i v1 v12 = 1#1), ∀ (_ : k0_cond4 i v7 = 1#1), Inside (o7 l i v55)
/-- It is decided entry by entry. -/
instance instFits2 (l : Fin 2) (i : grid0.Coords) (v1 v7 v12 v55 : BitVec 32) : Decidable (Fits2 l i v1 v7 v12 v55) :=
  decidable_of_iff' _ (Iff.of_eq (Fits2.eq_1 l i v1 v7 v12 v55))

section
variable (l : Fin 2) (i : grid0.Coords) (v1 v7 v12 v55 : BitVec 32)
/-- The block the very first point reads. -/
theorem in4 (hw : Fits1 l i v1 v7 v12) (c1 : k0_cond1 i v1 v12 = 1#1) (c2 : k0_cond2 i = 1#1) : Inside (o4 l i v1) := hw.1 c1 c2
/-- The block a tile reads. -/
theorem in5 (hw : Fits1 l i v1 v7 v12) (c1 : k0_cond1 i v1 v12 = 1#1) : Inside (o5 l i v1) := hw.2.1 c1
/-- The block of the next expert. -/
theorem in6 (hw : Fits1 l i v1 v7 v12) (c1 : k0_cond1 i v1 v12 = 1#1) (c3 : k0_cond3 v7 = 1#1) : Inside (o6 l i v7) := hw.2.2 c1 c3
/-- The block of the next group of columns. -/
theorem in7 (hw : Fits2 l i v1 v7 v12 v55) (c1 : k0_cond1 i v1 v12 = 1#1) (c4 : k0_cond4 i v7 = 1#1) : Inside (o7 l i v55) := hw c1 c4
end

set_option maxHeartbeats 4000000 in
/-- The body of the call. -/
def body (l : Fin 2) (i : grid0.Coords) (arg2 : Memref sig .tc .smem S120 .i32) (harg2 : arg2.IsWhole) (arg3 : Memref sig .tc .vmem S512x5632 .bf16) (harg3 : arg3.IsWhole) (arg4 : Memref sig .tc .hbm S2x8x5632x2048 .f32) (harg4 : arg4.IsWhole) (arg5 : Memref sig .tc .vmem S512x512 .f32) (harg5 : arg5.IsWhole) (arg6 : Memref sig .tc .vmem S5632x512 .f32) (harg6 : arg6.IsWhole) (arg7 : Memref sig .tc .vmem S5632x512 .bf16) (harg7 : arg7.IsWhole) (arg8 : DmaSems sig S1) :
    Prog (TpuEff nD τ sig (Elt F) Λ₀ .tc) PUnit := do
  let v1 : Elt F .i32 ← smemLoad arg2 (Rect.unit (s := S120) (k0_off1 i) S1.size (k0_off1_inb i)) numel1_S1 rfl
  let v4 : Elt F .i32 ← smemLoad arg2 (Rect.unit (s := S120) (k0_off2 i 40#32) S1.size (k0_off2_inb i 0)) numel1_S1 rfl
  let v7 : Elt F .i32 ← smemLoad arg2 (Rect.unit (s := S120) (k0_off2 i 80#32) S1.size (k0_off2_inb i 1)) numel1_S1 rfl
  let v12 : Elt F .i32 ← smemLoad arg2 (Rect.unit (s := S120) (k0_off3 i) S1.size (k0_off3_inb i)) numel1_S1 rfl
  have hw1 : Fits1 l i v1 v7 v12 := (← Prog.lift (TpuEff.assume (Fits1 l i v1 v7 v12) (instFits1 l i v1 v7 v12))).down
  if c1 : k0_cond1 i v1 v12 = 1#1 then do
    if c2 : k0_cond2 i = 1#1 then do
      let v56 : DmaSems sig S1 := arg8.slice (Rect.unit (s := S1) ![0] S1.size inb_S1_S1_0)
      let v57 : DmaSems sig S_ := v56.squeeze S_ squeezes_S1_S_
      let v58 : Memref sig .tc .hbm S1x1x5632x512 .f32 := arg4.slice (Rect.unit (s := S2x8x5632x2048) (o4 l i v1) S1x1x5632x512.size (in4 l i v1 v7 v12 hw1 c1 c2)) (fun _ => rfl)
      let v59 : Memref sig .tc .hbm S5632x512 .f32 := v58.squeeze S5632x512 squeezes_S1x1x5632x512_S5632x512
      Prog.lift (.enqueueDma v59 (.here arg6) (.dma v57.sem) ((View.wordExact_bits rfl).reshape _ _) harg6.wordExact ⟨Or.inl rfl, trivial⟩)
      pure ⟨⟩
    else do
      pure ⟨⟩
    let v36 : DmaSems sig S1 := arg8.slice (Rect.unit (s := S1) ![0] S1.size inb_S1_S1_0)
    let v37 : DmaSems sig S_ := v36.squeeze S_ squeezes_S1_S_
    let v38 : Memref sig .tc .hbm S1x1x5632x512 .f32 := arg4.slice (Rect.unit (s := S2x8x5632x2048) (o5 l i v1) S1x1x5632x512.size (in5 l i v1 v7 v12 hw1 c1)) (fun _ => rfl)
    let v39 : Memref sig .tc .hbm S5632x512 .f32 := v38.squeeze S5632x512 squeezes_S1x1x5632x512_S5632x512
    Prog.lift (.waitDma2 v37.sem v39 arg6 ((View.wordExact_bits rfl).reshape _ _) harg6.wordExact)
    let v40 : Vec F S5632x512 .f32 ← Prog.lift (.load arg6 (Rect.unit (s := S5632x512) ![0, 0] S5632x512.size inb_S5632x512_S5632x512_0_0).toLoadRect (View.loadsAt_vmem h_S5632x512))
    let v42 : Vec F S5632x512 .bf16 ← Prog.lift (.load arg7 (Rect.unit (s := S5632x512) ![0, 0] S5632x512.size inb_S5632x512_S5632x512_0_0).toLoadRect (View.loadsAt_vmem h_S5632x512))
    Prog.lift (.store arg7 (Rect.unit (s := S5632x512) ![0, 0] S5632x512.size inb_S5632x512_S5632x512_0_0) (k0_pay1 v40) Finset.univ (View.stores_vmem h_S5632x512 (harg7.storeExact_slice rfl _ packedbf16_S5632x512_S5632x512_0_0) (fun _ => rfl)) (.inl rfl))
    if c3 : k0_cond3 v7 = 1#1 then do
      let v56 : DmaSems sig S1 := arg8.slice (Rect.unit (s := S1) ![0] S1.size inb_S1_S1_0)
      let v57 : DmaSems sig S_ := v56.squeeze S_ squeezes_S1_S_
      let v58 : Memref sig .tc .hbm S1x1x5632x512 .f32 := arg4.slice (Rect.unit (s := S2x8x5632x2048) (o6 l i v7) S1x1x5632x512.size (in6 l i v1 v7 v12 hw1 c1 c3)) (fun _ => rfl)
      let v59 : Memref sig .tc .hbm S5632x512 .f32 := v58.squeeze S5632x512 squeezes_S1x1x5632x512_S5632x512
      Prog.lift (.enqueueDma v59 (.here arg6) (.dma v57.sem) ((View.wordExact_bits rfl).reshape _ _) harg6.wordExact ⟨Or.inl rfl, trivial⟩)
      pure ⟨⟩
    else do
      pure ⟨⟩
    if c4 : k0_cond4 i v7 = 1#1 then do
      let v55 : Elt F .i32 ← smemLoad arg2 (Rect.unit (s := S120) ![0] S1.size inb_S120_S1_0) numel1_S1 rfl
      have hw2 : Fits2 l i v1 v7 v12 v55 := (← Prog.lift (TpuEff.assume (Fits2 l i v1 v7 v12 v55) (instFits2 l i v1 v7 v12 v55))).down
      let v58 : DmaSems sig S1 := arg8.slice (Rect.unit (s := S1) ![0] S1.size inb_S1_S1_0)
      let v59 : DmaSems sig S_ := v58.squeeze S_ squeezes_S1_S_
      let v60 : Memref sig .tc .hbm S1x1x5632x512 .f32 := arg4.slice (Rect.unit (s := S2x8x5632x2048) (o7 l i v55) S1x1x5632x512.size (in7 l i v1 v7 v12 v55 hw2 c1 c4)) (fun _ => rfl)
      let v61 : Memref sig .tc .hbm S5632x512 .f32 := v60.squeeze S5632x512 squeezes_S1x1x5632x512_S5632x512
      Prog.lift (.enqueueDma v61 (.here arg6) (.dma v59.sem) ((View.wordExact_bits rfl).reshape _ _) harg6.wordExact ⟨Or.inl rfl, trivial⟩)
      pure ⟨⟩
    else do
      pure ⟨⟩
    pure ⟨⟩
  else do
    pure ⟨⟩
  if c5 : k0_cond5 v4 = 1#1 then do
    let v29 : Vec F S256x5632 .bf16 ← Prog.lift (.load arg3 (Rect.unit (s := S512x5632) ![0, 0] S256x5632.size inb_S512x5632_S256x5632_0_0).toLoadRect (View.loadsAt_vmem h_S256x5632))
    let v30 : Vec F S5632x512 .bf16 ← Prog.lift (.load arg7 (Rect.unit (s := S5632x512) ![0, 0] S5632x512.size inb_S5632x512_S5632x512_0_0).toLoadRect (View.loadsAt_vmem h_S5632x512))
    let v32 : Vec F S256x512 .f32 ← Prog.lift (.load arg5 (Rect.unit (s := S512x512) ![0, 0] S256x512.size inb_S512x512_S256x512_0_0).toLoadRect (View.loadsAt_vmem h_S256x512))
    Prog.lift (.store arg5 (Rect.unit (s := S512x512) ![0, 0] S256x512.size inb_S512x512_S256x512_0_0) (k0_pay2 v29 v30) Finset.univ (View.stores_vmem_bits_univ h_S256x512 rfl) (.inl rfl))
    pure ⟨⟩
  else do
    pure ⟨⟩
  if c6 : k0_cond6 v4 = 1#1 then do
    let v30 : Vec F S256x512 .f32 ← Prog.lift (.load arg5 (Rect.unit (s := S512x512) ![0, 0] S256x512.size inb_S512x512_S256x512_0_0).toLoadRect (View.loadsAt_vmem h_S256x512))
    Prog.lift (.store arg5 (Rect.unit (s := S512x512) ![0, 0] S256x512.size inb_S512x512_S256x512_0_0) (k0_pay3 (F := F)) Finset.univ (View.stores_vmem_bits_univ h_S256x512 rfl) (.inl rfl))
    pure ⟨⟩
  else do
    pure ⟨⟩
  if c7 : k0_cond7 v4 = 1#1 then do
    let v29 : Vec F S256x5632 .bf16 ← Prog.lift (.load arg3 (Rect.unit (s := S512x5632) ![256, 0] S256x5632.size inb_S512x5632_S256x5632_256_0).toLoadRect (View.loadsAt_vmem h_S256x5632))
    let v30 : Vec F S5632x512 .bf16 ← Prog.lift (.load arg7 (Rect.unit (s := S5632x512) ![0, 0] S5632x512.size inb_S5632x512_S5632x512_0_0).toLoadRect (View.loadsAt_vmem h_S5632x512))
    let v32 : Vec F S256x512 .f32 ← Prog.lift (.load arg5 (Rect.unit (s := S512x512) ![256, 0] S256x512.size inb_S512x512_S256x512_256_0).toLoadRect (View.loadsAt_vmem h_S256x512))
    Prog.lift (.store arg5 (Rect.unit (s := S512x512) ![256, 0] S256x512.size inb_S512x512_S256x512_256_0) (k0_pay4 v29 v30) Finset.univ (View.stores_vmem_bits_univ h_S256x512 rfl) (.inl rfl))
    pure ⟨⟩
  else do
    pure ⟨⟩
  if c8 : k0_cond8 v4 = 1#1 then do
    let v30 : Vec F S256x512 .f32 ← Prog.lift (.load arg5 (Rect.unit (s := S512x512) ![256, 0] S256x512.size inb_S512x512_S256x512_256_0).toLoadRect (View.loadsAt_vmem h_S256x512))
    Prog.lift (.store arg5 (Rect.unit (s := S512x512) ![256, 0] S256x512.size inb_S512x512_S256x512_256_0) (k0_pay5 (F := F)) Finset.univ (View.stores_vmem_bits_univ h_S256x512 rfl) (.inl rfl))
    pure ⟨⟩
  else do
    pure ⟨⟩
  pure ⟨⟩

/-- The bodies by label: the call's alone. -/
def bodies (l : Fin 2) : Defs nD τ sig (Elt F) Λ₀ := Defs.onTc fun
  | 0, (t, s) => body l (grid0.coords t) (Memref.whole main_arg0) (Memref.isWhole_whole _) (spec0_0.stage (s 0)) (hstage0_0 ((s 0).cast nbuf0_0)) (Memref.whole main_arg2) (Memref.isWhole_whole _) (spec0_1.stage (s 1)) (hstage0_1 ((s 1).cast nbuf0_1)) (Memref.whole cc0_scratch0) (Memref.isWhole_whole _) (Memref.whole cc0_scratch1) (Memref.isWhole_whole _) cc0_scratch2
  | ⟨_ + 1, h⟩, _ => absurd h (Nat.not_lt.2 (Nat.le_add_left _ _))

set_option maxRecDepth 65536 in
/-- The first expert layer's bodies are those at layer 0. -/
theorem bodies_first : defs₀ (F := F) = bodies (F := F) 0 := by
  unfold defs₀ bodies
  refine congrArg Defs.onTc ?_
  funext k x
  match k, x with
  | 0, (t, s) => rfl
end Cert.Proof.Down
end
-- ==== Proof.DownPoint.lean ====
module
public import proofs.«01_k».proof.Proof.DownBody
public import Idealize.ShloMosaic.Lib.Pipeline.FrameBody
public import Idealize.ShloMosaic.Lib.MixedBatch
public import Idealize.ShloMosaic.Lib.Tactic
public import Idealize.ShloMosaic.Lib.VecWindow
public import Idealize.ShloMosaic.Lib.WritesUnit
public import Idealize.ShloMosaic.Lib.Pipeline.ValueKit

/-! # One grid point of the experts' output projection

What the body of the call does at one grid point, from what it finds in flight and in the cast
weight buffer: the copies it waits for, the copies it starts, the weights it casts, and the two
halves of the output tile. -/

@[expose] public section
noncomputable section
namespace Cert.Proof.Down
open Cert.Down Cert.Down.Gen
open Idealize.ShloMosaic hiding ix2 eq_ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (Pipeline.UD sig nD τ) ℕ

/-! ## The buffers -/

/-- The table of tiles. -/
abbrev tabM : Memref sig .tc .smem S120 .i32 := Memref.whole main_arg0
/-- The output weights of all layers and experts. -/
abbrev downM : Memref sig .tc .hbm S2x8x5632x2048 .f32 := Memref.whole main_arg2
/-- Where a block of the weights lands. -/
abbrev stg : Memref sig .tc .vmem S5632x512 .f32 := Memref.whole cc0_scratch0
/-- The cast block of the weights. -/
abbrev wb : Memref sig .tc .vmem S5632x512 .bf16 := Memref.whole cc0_scratch1

/-- The contents of the buffer a memref lies in. -/
abbrev Cont (c : Dev nD) {sp : Space} {S : Shape} {e : EltTy} (M : Memref sig .tc sp S e) : Type :=
  Buf (Elt F) (M.view.loc (c : Thread nD τ))
/-- The whole buffer of a memref, at the contents given. -/
abbrev whole (c : Dev nD) {sp : Space} {S : Shape} {e : EltTy} (M : Memref sig .tc sp S e) (f : Cont (F := F) c M) : sProp 𝕄 :=
  M.view.loc (c : Thread nD τ) ↦{fullShare} f
/-- The half share of a buffer that a body may read. -/
abbrev half (c : Dev nD) {S : Shape} {e : EltTy} (M : Memref sig .tc .smem S e) (f : Cont (F := F) c M) : sProp 𝕄 :=
  M.view.loc (c : Thread nD τ) ↦{fullShare.right} f
/-- The block of the weights at an offset, as the copies name it. -/
abbrev block (M : Memref sig .tc .hbm S2x8x5632x2048 .f32) (o : Fin 4 → ℕ)
    (h : ∀ a, o a + S1x1x5632x512.size a ≤ S2x8x5632x2048.size a) : Memref sig .tc .hbm S5632x512 .f32 :=
  (M.slice (Rect.unit (s := S2x8x5632x2048) o S1x1x5632x512.size h) (fun _ => rfl)).squeeze S5632x512
    squeezes_S1x1x5632x512_S5632x512
/-- What the block of the weights at an offset holds. -/
abbrev blockOf (c : Dev nD) (M : Memref sig .tc .hbm S2x8x5632x2048 .f32) (o : Fin 4 → ℕ)
    (h : ∀ a, o a + S1x1x5632x512.size a ≤ S2x8x5632x2048.size a) (g : Cont (F := F) c M) : Vec F S5632x512 .f32 :=
  (block M o h).view.read (Elt F) g

/-- The word of the table at an offset. -/
abbrev word (c : Dev nD) (te : Cont (F := F) c tabM) (o : Fin 1 → ℕ) (h : ∀ a, o a + S1.size a ≤ S120.size a) : BitVec 32 :=
  View.readAt (Elt F) tabM.view (Rect.unit (s := S120) o S1.size h).toLoadRect te (Shape.Idx.first (numel1_S1.symm ▸ Nat.one_pos))
/-- The expert of the tile at hand. -/
abbrev word1 (c : Dev nD) (te : Cont (F := F) c tabM) (i : grid0.Coords) : BitVec 32 := word c te (k0_off1 i) (k0_off1_inb i)
/-- How many rows of the tile at hand are filled. -/
abbrev word4 (c : Dev nD) (te : Cont (F := F) c tabM) (i : grid0.Coords) : BitVec 32 := word c te (k0_off2 i 40#32) (k0_off2_inb i 0)
/-- The expert that follows. -/
abbrev word7 (c : Dev nD) (te : Cont (F := F) c tabM) (i : grid0.Coords) : BitVec 32 := word c te (k0_off2 i 80#32) (k0_off2_inb i 1)
/-- The expert of the tile before. -/
abbrev word12 (c : Dev nD) (te : Cont (F := F) c tabM) (i : grid0.Coords) : BitVec 32 := word c te (k0_off3 i) (k0_off3_inb i)
/-- The first expert of the table. -/
abbrev word0 (c : Dev nD) (te : Cont (F := F) c tabM) : BitVec 32 := word c te ![0] inb_S120_S1_0

/-! ## What is carried between grid points -/

/-- A copy of a block of the weights into its landing buffer is under way: the copy itself, and the
rest of the weights. -/
def pend (c : Dev nD) (s : DmaSem sig) (M : Memref sig .tc .hbm S2x8x5632x2048 .f32) (S : Memref sig .tc .vmem S5632x512 .f32)
    (o : Fin 4 → ℕ) (h : ∀ a, o a + S1x1x5632x512.size a ≤ S2x8x5632x2048.size a) (g : Cont (F := F) c M) : sProp 𝕄 :=
  iprop(∃ f : Cont (F := F) c S, ⌜S.view.read (Elt F) f = blockOf c M o h g⌝
    ∗ Transfers.Flight (countersEmb (U := Pipeline.UD sig nD τ)) (c : Thread nD τ) (.dma s) () (S.view.amount (SemLoc.dma (sig := sig) s))
        iprop((S.view.loc (c : Thread nD τ) ↦[S.view.set]{fullShare} f)
          ∗ ((block M o h).view.loc (c : Thread nD τ) ↦[(block M o h).view.set]{fullShare} g))
    ∗ (M.view.loc (c : Thread nD τ) ↦[Finset.univ \ (block M o h).view.set]{fullShare} g))
/-- No copy is under way. -/
def quiet (c : Dev nD) (s : DmaSem sig) (M : Memref sig .tc .hbm S2x8x5632x2048 .f32) (S : Memref sig .tc .vmem S5632x512 .f32)
    (g : Cont (F := F) c M) : sProp 𝕄 :=
  iprop((∃ f : Cont (F := F) c S, S.view.loc (c : Thread nD τ) ↦[S.view.set]{fullShare} f) ∗ semVal ((c : Thread nD τ), SemLoc.dma s) 0 ∗ whole c M g)
/-- A cast weight buffer reads as the block given. -/
def loaded (c : Dev nD) (S : Memref sig .tc .vmem S5632x512 .bf16) (X : Vec F S5632x512 .bf16) : sProp 𝕄 :=
  iprop(∃ f : Cont (F := F) c S, ⌜S.view.read (Elt F) f = X⌝ ∗ whole c S f)

/-! ## The output tile -/

/-- Rows 0 to 255 of the tile of inputs. -/
def rowsTop (x : Vec F S512x5632 .bf16) : Vec F S256x5632 .bf16 :=
  fun y => x ((Rect.unit (s := S512x5632) ![0, 0] S256x5632.size inb_S512x5632_S256x5632_0_0).toLoadRect.idx y)
/-- Rows 256 to 511 of the tile of inputs. -/
def rowsBottom (x : Vec F S512x5632 .bf16) : Vec F S256x5632 .bf16 :=
  fun y => x ((Rect.unit (s := S512x5632) ![256, 0] S256x5632.size inb_S512x5632_S256x5632_256_0).toLoadRect.idx y)
/-- The upper half of the output tile: computed where the tile has a filled row, zero otherwise. -/
def top (n : BitVec 32) (x : Vec F S512x5632 .bf16) (G : Vec F S5632x512 .bf16) : Vec F S256x512 .f32 :=
  if k0_cond5 n = 1#1 then k0_pay2 (rowsTop x) G else k0_pay3
/-- The lower half of the output tile: computed where more than 256 rows are filled. -/
def bottom (n : BitVec 32) (x : Vec F S512x5632 .bf16) (G : Vec F S5632x512 .bf16) : Vec F S256x512 .f32 :=
  if k0_cond7 n = 1#1 then k0_pay4 (rowsBottom x) G else k0_pay5
/-- A tile from its two halves. -/
def tile (p q : Vec F S256x512 .f32) : Vec F S512x512 .f32 := fun y =>
  if h : (y 0).val < 256 then p (ix2 ⟨(y 0).val, h⟩ (y 1))
  else q (ix2 ⟨(y 0).val - 256, by have := (y 0).isLt; change (y 0).val < 512 at this; omega⟩ (y 1))
/-- The output tile of a grid point. -/
def made (n : BitVec 32) (x : Vec F S512x5632 .bf16) (G : Vec F S5632x512 .bf16) : Vec F S512x512 .f32 :=
  tile (top n x G) (bottom n x G)

/-- The upper half of a tile. -/
theorem tile_lt (p q : Vec F S256x512 .f32) (r : Fin 512) (d : Fin 512) (h : r.val < 256) :
    tile p q (ix2 r d) = p (ix2 ⟨r.val, h⟩ d) := by
  unfold tile; exact dif_pos h
/-- The lower half of a tile. -/
theorem tile_ge (p q : Vec F S256x512 .f32) (r : Fin 512) (d : Fin 512) (h : ¬ r.val < 256) (hr : r.val - 256 < 256) :
    tile p q (ix2 r d) = q (ix2 ⟨r.val - 256, hr⟩ d) := by
  unfold tile; exact dif_neg h

/-- Two stores that cover the tile leave the two halves. -/
theorem read_halves (a5 : Memref sig .tc .vmem S512x512 .f32) (f : a5.view.ty.Contents (Elt F)) (p q p' q' : Vec F S256x512 .f32)
    (hp : p = p') (hq : q = q') :
    a5.view.read (Elt F) (a5.view.writes (Elt F) f
      [⟨Rect.unit (s := S512x512) ![256, 0] S256x512.size inb_S512x512_S256x512_256_0, q⟩,
       ⟨Rect.unit (s := S512x512) ![0, 0] S256x512.size inb_S512x512_S256x512_0_0, p⟩]) = tile p' q' := by
  subst hp hq
  funext y
  have hy : y = ix2 (y 0 : Fin 512) (y 1 : Fin 512) := eq_ix2 y
  generalize (y 0 : Fin 512) = r at hy
  generalize (y 1 : Fin 512) = d at hy
  subst hy
  by_cases h : r.val < 256
  · have k1 := View.read_writes_cons_unit_of_not_mem (Val := Elt F) a5.view f (off := ![256, 0]) (off' := ![256, 0]) (size := S256x512.size)
      inb_S512x512_S256x512_256_0 q [⟨Rect.unit (s := S512x512) ![0, 0] S256x512.size inb_S512x512_S256x512_0_0, p⟩]
      (ix2 r d) rfl 0 (Or.inl h)
    have k2 := View.read_writes_cons_unit_of_mem (Val := Elt F) a5.view f (off := ![0, 0]) (off' := ![0, 0]) (size := S256x512.size)
      inb_S512x512_S256x512_0_0 p [] (ix2 r d) (ix2 (⟨r.val, h⟩ : Fin 256) d) rfl
      (fun b => by match b with | ⟨0, _⟩ => exact (Nat.zero_add _).symm | ⟨1, _⟩ => exact (Nat.zero_add _).symm)
    exact (k1.trans k2).trans (tile_lt p q r d h).symm
  · have hr : r.val - 256 < 256 := by have : r.val < 512 := r.isLt; omega
    have k1 := View.read_writes_cons_unit_of_mem (Val := Elt F) a5.view f (off := ![256, 0]) (off' := ![256, 0]) (size := S256x512.size)
      inb_S512x512_S256x512_256_0 q [⟨Rect.unit (s := S512x512) ![0, 0] S256x512.size inb_S512x512_S256x512_0_0, p⟩]
      (ix2 r d) (ix2 (⟨r.val - 256, hr⟩ : Fin 256) d) rfl
      (fun b => by match b with | ⟨0, _⟩ => exact (Nat.add_sub_cancel' (Nat.le_of_not_lt h)).symm | ⟨1, _⟩ => exact (Nat.zero_add _).symm)
    exact k1.trans (tile_ge p q r d h hr).symm

/-- A store of everything leaves what was stored. -/
theorem read_stored {S : Shape} {e : EltTy} {sp : Space} (M : Memref sig .tc sp S e) (f : M.view.ty.Contents (Elt F)) (p : S.Idx → Elt F e)
    (L : List (View.Piece (Elt F) S e)) :
    M.view.read (Elt F) (M.view.writes (Elt F) f (⟨Rect.whole S, p⟩ :: L)) = p := by
  funext y
  have := View.read_writes_cons_emb (Val := Elt F) M.view f (Rect.whole S) p L y
  simpa using this

/-- The upper half, as the body computes it where a row is filled. -/
theorem top_eq {n : BitVec 32} (h : k0_cond5 n = 1#1) {a3 : Memref sig .tc .vmem S512x5632 .bf16} {f : a3.view.ty.Contents (Elt F)}
    {x : Vec F S512x5632 .bf16} (e3 : a3.view.read (Elt F) f = x) {G G' : Vec F S5632x512 .bf16} (hG : G' = G) :
    k0_pay2 (View.readAt (Elt F) a3.view (Rect.unit (s := S512x5632) ![0, 0] S256x5632.size inb_S512x5632_S256x5632_0_0).toLoadRect f) G'
      = top n x G := by
  subst e3 hG; exact (if_pos h).symm
/-- The lower half, as the body computes it where more than 256 rows are filled. -/
theorem bottom_eq {n : BitVec 32} (h : k0_cond7 n = 1#1) {a3 : Memref sig .tc .vmem S512x5632 .bf16} {f : a3.view.ty.Contents (Elt F)}
    {x : Vec F S512x5632 .bf16} (e3 : a3.view.read (Elt F) f = x) {G G' : Vec F S5632x512 .bf16} (hG : G' = G) :
    k0_pay4 (View.readAt (Elt F) a3.view (Rect.unit (s := S512x5632) ![256, 0] S256x5632.size inb_S512x5632_S256x5632_256_0).toLoadRect f) G'
      = bottom n x G := by
  subst e3 hG; exact (if_pos h).symm

/-- The upper half where no row is filled. -/
theorem top_zero {n : BitVec 32} (h : ¬ k0_cond5 n = 1#1) (x : Vec F S512x5632 .bf16) (G : Vec F S5632x512 .bf16) :
    k0_pay3 = top n x G := by unfold top; exact (if_neg h).symm
/-- The lower half where at most 256 rows are filled. -/
theorem bottom_zero {n : BitVec 32} (h : ¬ k0_cond7 n = 1#1) (x : Vec F S512x5632 .bf16) (G : Vec F S5632x512 .bf16) :
    k0_pay5 = bottom n x G := by unfold bottom; exact (if_neg h).symm

/-- What the four conditional stores of the body leave in the tile: each half is stored exactly once. -/
theorem read_made {n : BitVec 32} (e6 : k0_cond6 n = 1#1 ↔ ¬ k0_cond5 n = 1#1) (e8 : k0_cond8 n = 1#1 ↔ ¬ k0_cond7 n = 1#1)
    (a5 : Memref sig .tc .vmem S512x512 .f32) (f : a5.view.ty.Contents (Elt F)) {x : Vec F S512x5632 .bf16} {G : Vec F S5632x512 .bf16}
    {p q : Vec F S256x512 .f32} (hp : k0_cond5 n = 1#1 → p = top n x G) (hq : k0_cond7 n = 1#1 → q = bottom n x G)
    {f1 f2 f3 f4 : a5.view.ty.Contents (Elt F)}
    (h1 : f1 = if hc : k0_cond5 n = 1#1 then a5.view.writes (Elt F) f
      [⟨Rect.unit (s := S512x512) ![0, 0] S256x512.size inb_S512x512_S256x512_0_0, p⟩] else f)
    (h2 : f2 = if hc : k0_cond6 n = 1#1 then a5.view.writes (Elt F) f1
      [⟨Rect.unit (s := S512x512) ![0, 0] S256x512.size inb_S512x512_S256x512_0_0, k0_pay3⟩] else f1)
    (h3 : f3 = if hc : k0_cond7 n = 1#1 then a5.view.writes (Elt F) f2
      [⟨Rect.unit (s := S512x512) ![256, 0] S256x512.size inb_S512x512_S256x512_256_0, q⟩] else f2)
    (h4 : f4 = if hc : k0_cond8 n = 1#1 then a5.view.writes (Elt F) f3
      [⟨Rect.unit (s := S512x512) ![256, 0] S256x512.size inb_S512x512_S256x512_256_0, k0_pay5⟩] else f3) :
    a5.view.read (Elt F) f4 = made n x G := by
  by_cases c5 : k0_cond5 n = 1#1 <;> by_cases c7 : k0_cond7 n = 1#1
  · rw [dif_pos c5] at h1; rw [dif_neg (fun h => e6.mp h c5)] at h2; rw [dif_pos c7] at h3; rw [dif_neg (fun h => e8.mp h c7)] at h4
    subst h4 h3 h2 h1; unfold made; rw [← View.writes_append]; exact read_halves a5 f _ _ _ _ (hp c5) (hq c7)
  · rw [dif_pos c5] at h1; rw [dif_neg (fun h => e6.mp h c5)] at h2; rw [dif_neg c7] at h3; rw [dif_pos (e8.mpr c7)] at h4
    subst h4 h3 h2 h1; unfold made; rw [← View.writes_append]; exact read_halves a5 f _ _ _ _ (hp c5) (bottom_zero c7 x G)
  · rw [dif_neg c5] at h1; rw [dif_pos (e6.mpr c5)] at h2; rw [dif_pos c7] at h3; rw [dif_neg (fun h => e8.mp h c7)] at h4
    subst h4 h3 h2 h1; unfold made; rw [← View.writes_append]; exact read_halves a5 _ _ _ _ _ (top_zero c5 x G) (hq c7)
  · rw [dif_neg c5] at h1; rw [dif_pos (e6.mpr c5)] at h2; rw [dif_neg c7] at h3; rw [dif_pos (e8.mpr c7)] at h4
    subst h4 h3 h2 h1; unfold made; rw [← View.writes_append]; exact read_halves a5 _ _ _ _ _ (top_zero c5 x G) (bottom_zero c7 x G)

/-- A block just cast reads back as the cast of what landed. -/
theorem recast0 {s : Cont (F := F) (0 : Dev nD) stg} {X : Vec F S5632x512 .f32} (h : stg.view.read (Elt F) s = X) :
    wb.view.readCov (Val := Elt F) [⟨Rect.unit (s := S5632x512) ![0, 0] S5632x512.size inb_S5632x512_S5632x512_0_0,
        k0_pay1 (View.readAt (Elt F) stg.view (Rect.unit (s := S5632x512) ![0, 0] S5632x512.size inb_S5632x512_S5632x512_0_0).toLoadRect s)⟩]
      (Rect.unit (s := S5632x512) ![0, 0] S5632x512.size inb_S5632x512_S5632x512_0_0).toLoadRect = k0_pay1 X :=
  (View.readCov_cons_toLoadRect _ _ _ _).trans (congrArg k0_pay1 ((View.readAt_full _ _ _).trans h))

/-- A block landed by a copy of everything is loaded as it was copied. -/
theorem landed (S : Memref sig .tc .vmem S5632x512 .f32) (X : Vec F S5632x512 .f32) :
    S.view.readCov (Val := Elt F) [⟨Rect.whole S5632x512, X⟩]
      (Rect.unit (s := S5632x512) ![0, 0] S5632x512.size inb_S5632x512_S5632x512_0_0).toLoadRect = X :=
  (View.readAt_full _ _ _).trans (read_stored S _ X [])
/-- A block copied and cast at once reads back as its cast. -/
theorem copied0 (X : Vec F S5632x512 .f32) :
    wb.view.readCov (Val := Elt F) [⟨Rect.unit (s := S5632x512) ![0, 0] S5632x512.size inb_S5632x512_S5632x512_0_0,
        k0_pay1 (stg.view.readCov (Val := Elt F) [⟨Rect.whole S5632x512, X⟩]
          (Rect.unit (s := S5632x512) ![0, 0] S5632x512.size inb_S5632x512_S5632x512_0_0).toLoadRect)⟩]
      (Rect.unit (s := S5632x512) ![0, 0] S5632x512.size inb_S5632x512_S5632x512_0_0).toLoadRect = k0_pay1 X :=
  (View.readCov_cons_toLoadRect _ _ _ _).trans (congrArg k0_pay1 (landed stg X))

section Run

variable (l : Fin 2) (c : Dev nD) (i : grid0.Coords) (a3 : Memref sig .tc .vmem S512x5632 .bf16) (h3 : a3.IsWhole)
  (a5 : Memref sig .tc .vmem S512x512 .f32) (h5 : a5.IsWhole)
  (te : Cont (F := F) c tabM) (g : Cont (F := F) c downM)

/-- The body of the call at a grid point, at the buffers it is given. -/
abbrev bodyOf : Prog (TpuEff nD τ sig (Elt F) Λ₀ .tc) PUnit :=
  body l i tabM (Memref.isWhole_whole _) a3 h3 downM (Memref.isWhole_whole _) a5 h5
    stg (Memref.isWhole_whole _) wb (Memref.isWhole_whole _) cc0_scratch2

/-- A grid point whose expert is that of the tile before: the cast weights serve again. -/
theorem run_same (c1 : ¬ k0_cond1 i (word1 c te i) (word12 c te i) = 1#1)
    (hw : Fits1 l i (word1 c te i) (word7 c te i) (word12 c te i))
    (e6 : k0_cond6 (word4 c te i) = 1#1 ↔ ¬ k0_cond5 (word4 c te i) = 1#1)
    (e8 : k0_cond8 (word4 c te i) = 1#1 ↔ ¬ k0_cond7 (word4 c te i) = 1#1)
    (x : Vec F S512x5632 .bf16) (G : Vec F S5632x512 .bf16) (W : Waits sig Unit) (K : PUnit → sProp 𝕄) :
    iprop(half c tabM te ∗ owns (c : Thread nD τ) a3 fullShare x ∗ (∃ d, owns (c : Thread nD τ) a5 fullShare d)
       ∗ loaded c wb G ∗ owes (c : Thread nD τ) 0 W
       ∗ ((half c tabM te ∗ owns (c : Thread nD τ) a3 fullShare x ∗ owns (c : Thread nD τ) a5 fullShare (made (word4 c te i) x G)
            ∗ loaded c wb G ∗ (∃ W', owes (c : Thread nD τ) 0 W')) -∗ K ⟨⟩))
    ⊢ wp frame (wpE (bodies (F := F) l) Variants.none c none) Set.univ (bodyOf l i a3 h3 a5 h5) K := by
  unfold bodyOf body
  unfold owns loaded
  by_cases c5 : k0_cond5 (word4 c te i) = 1#1 <;> by_cases c7 : k0_cond7 (word4 c te i) = 1#1
  all_goals
    have c6 := e6
    have c8 := e8
    simp only [c5, c7, not_true_eq_false, not_false_eq_true, iff_false, iff_true] at c6 c8
    iintro ⟨HT, ⟨%f3, %e3, H3⟩, ⟨%d6, %f6, -, H6⟩, ⟨%b0, %eb0, HB0⟩, HO, Hk⟩
    sl_exec
    sl_step
    iapply Hk
    isplitl [HT]; · iexact HT
    isplitl [H3]
    · iexists _; isplitr; · ipureintro; exact e3
      iexact H3
    isplitl [H6]
    · iexists _; isplitr; swap; · iexact H6
      ipureintro
      refine read_halves a5 _ _ _ _ _ ?_ ?_
      · first
          | exact top_eq c5 e3 ((View.readAt_full _ _ _).trans eb0)
          | exact (if_neg c5).symm
      · first
          | exact bottom_eq c7 e3 ((View.readAt_full _ _ _).trans eb0)
          | exact (if_neg c7).symm
    isplitl [HB0]
    · iexists _; isplitr; · ipureintro; exact eb0
      iexact HB0
    iexists _; iexact HO
end Run
end Cert.Proof.Down
end
-- ==== Proof.DownSwitch.lean ====
module
public import proofs.«01_k».proof.Proof.DownPoint
public import proofs.«01_k».proof.Proof.ExpertSwitch

/-! # A grid point of the output projection that changes the expert

The body waits for the block under way (at the very first point it starts it first), casts it, starts
the block that follows, and computes the output tile with the block just cast. -/

@[expose] public section
noncomputable section
namespace Cert.Proof.Down
open Cert.Down Cert.Down.Gen
open Idealize.ShloMosaic hiding ix2 eq_ix2
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (Pipeline.UD sig nD τ) ℕ

section Run

variable (l : Fin 2) (c : Dev nD) (i : grid0.Coords) (a3 : Memref sig .tc .vmem S512x5632 .bf16) (h3 : a3.IsWhole)
  (a5 : Memref sig .tc .vmem S512x512 .f32) (h5 : a5.IsWhole)
  (te : Cont (F := F) c tabM) (g : Cont (F := F) c downM)
  (hw : Fits1 l i (word1 c te i) (word7 c te i) (word12 c te i))
  (c1 : k0_cond1 i (word1 c te i) (word12 c te i) = 1#1)
  (hw2 : Fits2 l i (word1 c te i) (word7 c te i) (word12 c te i) (word0 c te))

/-- What a changing point finds: nothing under way at the first point, otherwise its own block. -/
def found : sProp 𝕄 :=
  if k0_cond2 i = 1#1 then quiet c 4 downM stg g
  else pend c 4 downM stg (o5 l i (word1 c te i)) (in5 l i _ _ _ hw c1) g

/-- What it leaves under way: the block of the expert that follows; after the last expert that of
the first expert in the next block of columns; at the very last nothing. -/
def started : sProp 𝕄 :=
  if k3 : k0_cond3 (word7 c te i) = 1#1 then
    pend c 4 downM stg (o6 l i (word7 c te i)) (in6 l i _ _ _ hw c1 k3) g
  else if k4 : k0_cond4 i (word7 c te i) = 1#1 then
    pend c 4 downM stg (o7 l i (word0 c te)) (in7 l i _ _ _ _ hw2 c1 k4) g
  else quiet c 4 downM stg g

set_option maxHeartbeats 1600000 in
/-- A grid point whose expert differs from that of the tile before. -/
theorem run_switch (e6 : k0_cond6 (word4 c te i) = 1#1 ↔ ¬ k0_cond5 (word4 c te i) = 1#1)
    (e8 : k0_cond8 (word4 c te i) = 1#1 ↔ ¬ k0_cond7 (word4 c te i) = 1#1)
    (e4 : k0_cond3 (word7 c te i) = 1#1 → ¬ k0_cond4 i (word7 c te i) = 1#1)
    (x : Vec F S512x5632 .bf16) (W : Waits sig Unit) (K : PUnit → sProp 𝕄) :
    iprop(half c tabM te ∗ owns (c : Thread nD τ) a3 fullShare x ∗ (∃ d, owns (c : Thread nD τ) a5 fullShare d)
       ∗ (∃ f, whole c wb f) ∗ found l c i te g hw c1 ∗ owes (c : Thread nD τ) 0 W
       ∗ ((half c tabM te ∗ owns (c : Thread nD τ) a3 fullShare x
            ∗ owns (c : Thread nD τ) a5 fullShare (made (word4 c te i) x
                (k0_pay1 (blockOf c downM (o5 l i (word1 c te i)) (in5 l i _ _ _ hw c1) g)))
            ∗ loaded c wb (k0_pay1 (blockOf c downM (o5 l i (word1 c te i)) (in5 l i _ _ _ hw c1) g))
            ∗ started l c i te g hw c1 hw2 ∗ (∃ W', owes (c : Thread nD τ) 0 W')) -∗ K ⟨⟩))
    ⊢ wp frame (wpE (bodies (F := F) l) Variants.none c none) Set.univ (bodyOf l i a3 h3 a5 h5) K := by
  unfold bodyOf body
  unfold found started owns loaded
  by_cases c2 : k0_cond2 i = 1#1
  all_goals rcases Moe.three (k0_cond3 (word7 c te i) = 1#1) (k0_cond4 i (word7 c te i) = 1#1) with c3 | ⟨c3, c4⟩ | ⟨c3, c4⟩
  · rw [if_pos c2, dif_pos c3]
    have c4 := e4 c3
    unfold pend quiet
    iintro ⟨HT, ⟨%f3, %e3, H3⟩, ⟨%d6, %f6, -, H6⟩, ⟨%b0, HB0⟩, ⟨⟨%s0, HS0⟩, HF0, HG⟩, HO, Hk⟩
    sl_exec
    sl_step
    iapply Hk
    isplitl [HT]; · iexact HT
    isplitl [H3]
    · iexists _; isplitr; · ipureintro; exact e3
      iexact H3
    isplitl [H6]
    · iexists _; isplitr; swap; · iexact H6
      ipureintro
      exact read_made e6 e8 a5 _ (fun c5 => top_eq c5 e3 (copied0 _))
        (fun c7 => bottom_eq c7 e3 (copied0 _)) rfl rfl rfl rfl
    isplitl [HB0]
    · iexists _; isplitr; swap; · iexact HB0
      ipureintro
      exact (View.read_writes_full _ _ _ _ _).trans (congrArg k0_pay1 (landed stg _))
    isplitr [HO]; swap; · iexists _; iexact HO
    iexists _; isplitr; swap
    · isplitl [HF0]; · iexact HF0
      iexact HG
    ipureintro; exact read_stored stg _ _ _
  · rw [if_pos c2, dif_neg c3, dif_pos c4]
    unfold pend quiet
    iintro ⟨HT, ⟨%f3, %e3, H3⟩, ⟨%d6, %f6, -, H6⟩, ⟨%b0, HB0⟩, ⟨⟨%s0, HS0⟩, HF0, HG⟩, HO, Hk⟩
    sl_exec
    sl_step
    iapply Hk
    isplitl [HT]; · iexact HT
    isplitl [H3]
    · iexists _; isplitr; · ipureintro; exact e3
      iexact H3
    isplitl [H6]
    · iexists _; isplitr; swap; · iexact H6
      ipureintro
      exact read_made e6 e8 a5 _ (fun c5 => top_eq c5 e3 (copied0 _))
        (fun c7 => bottom_eq c7 e3 (copied0 _)) rfl rfl rfl rfl
    isplitl [HB0]
    · iexists _; isplitr; swap; · iexact HB0
      ipureintro
      exact (View.read_writes_full _ _ _ _ _).trans (congrArg k0_pay1 (landed stg _))
    isplitr [HO]; swap; · iexists _; iexact HO
    iexists _; isplitr; swap
    · isplitl [HF0]; · iexact HF0
      iexact HG
    ipureintro; exact read_stored stg _ _ _
  · rw [if_pos c2, dif_neg c3, dif_neg c4]
    unfold quiet
    iintro ⟨HT, ⟨%f3, %e3, H3⟩, ⟨%d6, %f6, -, H6⟩, ⟨%b0, HB0⟩, ⟨⟨%s0, HS0⟩, HF0, HG⟩, HO, Hk⟩
    sl_exec
    sl_step
    iapply Hk
    isplitl [HT]; · iexact HT
    isplitl [H3]
    · iexists _; isplitr; · ipureintro; exact e3
      iexact H3
    isplitl [H6]
    · iexists _; isplitr; swap; · iexact H6
      ipureintro
      exact read_made e6 e8 a5 _ (fun c5 => top_eq c5 e3 (copied0 _))
        (fun c7 => bottom_eq c7 e3 (copied0 _)) rfl rfl rfl rfl
    isplitl [HB0]
    · iexists _; isplitr; swap; · iexact HB0
      ipureintro
      exact (View.read_writes_full _ _ _ _ _).trans (congrArg k0_pay1 (landed stg _))
    isplitr [HO]; swap; · iexists _; iexact HO
    isplitl [HS0]; · iexists _; iexact HS0
    isplitl [HF0]; · iexact HF0
    iexact HG
  · rw [if_neg c2, dif_pos c3]
    have c4 := e4 c3
    unfold pend
    iintro ⟨HT, ⟨%f3, %e3, H3⟩, ⟨%d6, %f6, -, H6⟩, ⟨%b0, HB0⟩, ⟨%s0, %es0, HF0, HG⟩, HO, Hk⟩
    sl_exec
    ihave HG := (show (_ ⊢ whole c downM g) from .rfl) $$ HG
    sl_exec
    sl_step
    iapply Hk
    isplitl [HT]; · iexact HT
    isplitl [H3]
    · iexists _; isplitr; · ipureintro; exact e3
      iexact H3
    isplitl [H6]
    · iexists _; isplitr; swap; · iexact H6
      ipureintro
      exact read_made e6 e8 a5 _ (fun c5 => top_eq c5 e3 (recast0 es0))
        (fun c7 => bottom_eq c7 e3 (recast0 es0)) rfl rfl rfl rfl
    isplitl [HB0]
    · iexists _; isplitr; swap; · iexact HB0
      ipureintro
      exact (View.read_writes_full _ _ _ _ _).trans (congrArg k0_pay1 ((View.readAt_full _ _ _).trans es0))
    isplitr [HO]; swap; · iexists _; iexact HO
    iexists _; isplitr; swap
    · isplitl [HF0]; · iexact HF0
      iexact HG
    ipureintro; exact read_stored stg _ _ _
  · rw [if_neg c2, dif_neg c3, dif_pos c4]
    unfold pend
    iintro ⟨HT, ⟨%f3, %e3, H3⟩, ⟨%d6, %f6, -, H6⟩, ⟨%b0, HB0⟩, ⟨%s0, %es0, HF0, HG⟩, HO, Hk⟩
    sl_exec
    ihave HG := (show (_ ⊢ whole c downM g) from .rfl) $$ HG
    sl_exec
    sl_step
    iapply Hk
    isplitl [HT]; · iexact HT
    isplitl [H3]
    · iexists _; isplitr; · ipureintro; exact e3
      iexact H3
    isplitl [H6]
    · iexists _; isplitr; swap; · iexact H6
      ipureintro
      exact read_made e6 e8 a5 _ (fun c5 => top_eq c5 e3 (recast0 es0))
        (fun c7 => bottom_eq c7 e3 (recast0 es0)) rfl rfl rfl rfl
    isplitl [HB0]
    · iexists _; isplitr; swap; · iexact HB0
      ipureintro
      exact (View.read_writes_full _ _ _ _ _).trans (congrArg k0_pay1 ((View.readAt_full _ _ _).trans es0))
    isplitr [HO]; swap; · iexists _; iexact HO
    iexists _; isplitr; swap
    · isplitl [HF0]; · iexact HF0
      iexact HG
    ipureintro; exact read_stored stg _ _ _
  · rw [if_neg c2, dif_neg c3, dif_neg c4]
    unfold quiet pend
    iintro ⟨HT, ⟨%f3, %e3, H3⟩, ⟨%d6, %f6, -, H6⟩, ⟨%b0, HB0⟩, ⟨%s0, %es0, HF0, HG⟩, HO, Hk⟩
    sl_exec
    sl_step
    iapply Hk
    isplitl [HT]; · iexact HT
    isplitl [H3]
    · iexists _; isplitr; · ipureintro; exact e3
      iexact H3
    isplitl [H6]
    · iexists _; isplitr; swap; · iexact H6
      ipureintro
      exact read_made e6 e8 a5 _ (fun c5 => top_eq c5 e3 (recast0 es0))
        (fun c7 => bottom_eq c7 e3 (recast0 es0)) rfl rfl rfl rfl
    isplitl [HB0]
    · iexists _; isplitr; swap; · iexact HB0
      ipureintro
      exact (View.read_writes_full _ _ _ _ _).trans (congrArg k0_pay1 ((View.readAt_full _ _ _).trans es0))
    isplitr [HO]; swap; · iexists _; iexact HO
    isplitl [HF0_dst]; · iexists _; iexact HF0_dst
    isplitl [HF0]; · iexact HF0
    iexact HG
end Run
end Cert.Proof.Down
end
-- ==== Proof.DownTable.lean ====
module
public import proofs.«01_k».proof.Proof.DownSwitch
public import proofs.«01_k».proof.Proof.ExpertTable

/-! # The table of tiles and the decisions of the output projection

The output projection walks the same tiles as the expert products before it, by the same table and
with the same conditions; only the blocks of the weights differ. -/

@[expose] public section
noncomputable section
namespace Cert.Proof.Down
open Cert.Down Cert.Down.Gen
open Cert.Proof.Moe (at_ Planned pos1 pos4 pos7 pos12 small_of_nonneg nonneg_of_small)
open Idealize.ShloMosaic hiding ix1 ix2 eq_ix1 eq_ix2
open Idealize.ShloMosaic.TcCoe Idealize.ShloMosaic.ValueIdx
variable {F : FTy → Type} [FloatOps F]

/-- The word loaded at an offset is the table's word at that position. -/
theorem word_eq (c : Dev nD) (te : Cont (F := F) c tabM) (o : Fin 1 → ℕ) (h : ∀ a, o a + S1.size a ≤ S120.size a) (k : ℕ) (ho : o 0 = k) :
    word c te o h = at_ te k := by
  have hk : k < 120 := by have := h 0; change o 0 + 1 ≤ 120 at this; omega
  unfold at_; rw [dif_pos hk]
  refine congrArg te (funext fun a => Fin.ext ?_)
  match a with
  | ⟨0, _⟩ => exact ho

/-- The upper half is computed where a row is filled. -/
theorem cond5_iff (n : BitVec 32) : k0_cond5 n = 1#1 ↔ 0 < n.toInt := Moe.cond5_iff n
/-- It is blanked otherwise. -/
theorem cond6_iff (n : BitVec 32) : k0_cond6 n = 1#1 ↔ ¬ k0_cond5 n = 1#1 := Moe.cond6_iff n
/-- The lower half is computed where more than 256 rows are filled. -/
theorem cond7_iff (n : BitVec 32) : k0_cond7 n = 1#1 ↔ 256 < n.toInt := Moe.cond7_iff n
/-- It is blanked otherwise. -/
theorem cond8_iff (n : BitVec 32) : k0_cond8 n = 1#1 ↔ ¬ k0_cond7 n = 1#1 := Moe.cond8_iff n
/-- There is a next expert where its word is not negative. -/
theorem cond3_iff (n : BitVec 32) : k0_cond3 n = 1#1 ↔ 0 ≤ n.toInt := Moe.cond3_iff n
/-- The first point of all. -/
theorem cond2_iff (i : grid0.Coords) : k0_cond2 i = 1#1 ↔ (i 0).val = 0 ∧ (i 1).val = 0 := Moe.cond2_iff i
/-- The expert changes at the first tile and where the tiles' experts differ. -/
theorem cond1_iff (i : grid0.Coords) (v w : BitVec 32) : k0_cond1 i v w = 1#1 ↔ (i 1).val = 0 ∨ v ≠ w := Moe.cond1_iff i v w
/-- The next group of columns is fetched where no next expert is and a group follows. -/
theorem cond4_iff (i : grid0.Coords) (n : BitVec 32) : k0_cond4 i n = 1#1 ↔ n.toInt < 0 ∧ (i 0).val + 1 < 4 := Moe.cond4_iff i n

/-! ## Offsets -/

/-- Where the block of a layer's expert and a group of 512 columns begins. -/
def off (l : Fin 2) (e b : ℕ) : Fin 4 → ℕ := ![l.val, e % 8, 0, (b % 4) * 512]
/-- A block lies inside the weights. -/
theorem off_inb (l : Fin 2) (e b : ℕ) : ∀ a, off l e b a + S1x1x5632x512.size a ≤ S2x8x5632x2048.size a := by
  have h1 : e % 8 < 8 := Nat.mod_lt _ (by decide)
  have h2 : b % 4 < 4 := Nat.mod_lt _ (by decide)
  intro a
  match a with
  | 0 => show l.val + 1 ≤ 2; omega
  | 1 => show e % 8 + 1 ≤ 8; omega
  | 2 => exact (by decide : 0 + 5632 ≤ 5632)
  | 3 => show (b % 4) * 512 + 512 ≤ 2048; omega
/-- Where a group of columns begins. -/
theorem col (b : Fin 4) : (Scalar.muli (BitVec.ofNat 32 b.val) 512#32).toNat = (b.val % 4) * 512 := by revert b; decide
/-- Where the next group of columns begins. -/
theorem colNext (b : Fin 4) (h : b.val + 1 < 4) :
    (Scalar.muli (Scalar.addi (BitVec.ofNat 32 b.val) 1#32) 512#32).toNat = ((b.val + 1) % 4) * 512 := by revert b; decide
/-- The block fetched first, by expert and group. -/
theorem off5_eq (l : Fin 2) (i : grid0.Coords) (v : BitVec 32) (h : v.toNat < 8) : o5 l i v = off l v.toNat (i 0).val := by
  show ![l.val, v.toNat, 0, (Scalar.muli (BitVec.ofNat 32 (i 0).val) 512#32).toNat] = _
  rw [col (i 0)]; unfold off; rw [Nat.mod_eq_of_lt h]
/-- The next group's block, by expert and group. -/
theorem off7_eq (l : Fin 2) (i : grid0.Coords) (v : BitVec 32) (h : v.toNat < 8) (hb : (i 0).val + 1 < 4) : o7 l i v = off l v.toNat ((i 0).val + 1) := by
  show ![l.val, v.toNat, 0, (Scalar.muli (Scalar.addi (BitVec.ofNat 32 (i 0).val) 1#32) 512#32).toNat] = _
  rw [colNext (i 0) hb]; unfold off; rw [Nat.mod_eq_of_lt h]

section Words
variable (c : Dev nD) (te : Cont (F := F) c tabM) (i : grid0.Coords)
/-- A tile's expert. -/
theorem word1_eq : word1 c te i = at_ te (i 1).val := word_eq c te _ _ _ (pos1 (i 1))
/-- A tile's count of filled rows. -/
theorem word4_eq : word4 c te i = at_ te (40 + (i 1).val) := word_eq c te _ _ _ (pos4 (i 1))
/-- A tile's next expert. -/
theorem word7_eq : word7 c te i = at_ te (80 + (i 1).val) := word_eq c te _ _ _ (pos7 (i 1))
/-- The expert of the tile before. -/
theorem word12_eq : word12 c te i = at_ te ((i 1).val - 1) := word_eq c te _ _ _ (pos12 (i 1))
/-- The first tile's expert. -/
theorem word0_eq : word0 c te = at_ te 0 := word_eq c te _ _ _ rfl
end Words

section Checks
variable (l : Fin 2) (c : Dev nD) (te : Cont (F := F) c tabM) (i : grid0.Coords) (P : Planned te)
include P
/-- The blocks of a tile's switch lie inside the weights. -/
theorem chk1 : Fits1 l i (word1 c te i) (word7 c te i) (word12 c te i) := by
  have h1 : (word1 c te i).toNat < 8 := by rw [word1_eq]; exact P.known _ (i 1).isLt
  refine ⟨fun _ _ => ?_, fun _ => ?_, fun _ h3 => ?_⟩
  · show ∀ a, o5 l i (word1 c te i) a + _ ≤ _
    rw [off5_eq l i _ h1]; exact off_inb _ _ _
  · rw [off5_eq l i _ h1]; exact off_inb _ _ _
  · have h7 : (word7 c te i).toNat < 8 := by
      rw [cond3_iff, word7_eq] at h3; rw [word7_eq]; exact small_of_nonneg P (i 1).isLt h3
    show ∀ a, o5 l i (word7 c te i) a + _ ≤ _
    rw [off5_eq l i _ h7]; exact off_inb _ _ _
/-- So do those of the next group of columns. -/
theorem chk2 : Fits2 l i (word1 c te i) (word7 c te i) (word12 c te i) (word0 c te) := by
  intro _ h4
  rw [off7_eq l i _ (by rw [word0_eq]; exact P.known 0 (by decide)) ((cond4_iff i _).mp h4).2]; exact off_inb _ _ _
end Checks
end Cert.Proof.Down
end
-- ==== Proof.DownState.lean ====
module
public import proofs.«01_k».proof.Proof.DownTable

/-! # What holds between grid points of the output projection

The grid runs over four groups of columns and, within each, the forty tiles of rows. After a point the
cast buffer holds the block of that tile's expert, and the block of the expert that follows is on its
way. -/

@[expose] public section
noncomputable section
namespace Cert.Proof.Down
open Cert.Down Cert.Down.Gen
open Cert.Proof.Moe (at_ Planned small_of_nonneg nonneg_of_small)
open Idealize.ShloMosaic hiding ix1 ix2 eq_ix1 eq_ix2
open Idealize.ShloMosaic.TcCoe Idealize.ShloMosaic.Tactic Idealize.ShloMosaic.ValueIdx Idealize.ShloMosaic.WordCmp
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

section State
variable (l : Fin 2) (c : Dev nD) (te : Cont (F := F) c tabM) (g : Cont (F := F) c downM)

/-- The block of an expert and a group of columns is on its way. -/
def pendAt (e b : ℕ) : sProp 𝕄 :=
  pend c 4 downM stg (off l e b) (off_inb l e b) g
/-- The block of an expert and a group of columns, cast. -/
def blockAt (e b : ℕ) : Vec F S5632x512 .bf16 := k0_pay1 (blockOf c downM (off l e b) (off_inb l e b) g)
/-- The cast buffer holds the block of an expert and a group of columns. -/
def loadedAt (e b : ℕ) : sProp 𝕄 := loaded c wb (blockAt l c g e b)
/-- No copy is on its way. -/
def still : sProp 𝕄 := quiet c 4 downM stg g
/-- What is on its way after a tile in a group of columns. -/
def flying (t b : ℕ) : sProp 𝕄 :=
  if 0 ≤ (at_ te (80 + t)).toInt then pendAt l c g (at_ te (80 + t)).toNat b
  else if b + 1 < 4 then pendAt l c g (at_ te 0).toNat (b + 1) else still c g
/-- What holds before a grid point. -/
def state : ℕ → sProp 𝕄
  | 0 => iprop((∃ f, whole c wb f) ∗ still c g)
  | n + 1 => iprop(loadedAt l c g (at_ te (n % 40)).toNat (n / 40) ∗ flying l c te g (n % 40) (n / 40))

/-- A copy on its way, its block renamed. -/
theorem pend_congr {s : DmaSem sig} {M : Memref sig .tc .hbm S2x8x5632x2048 .f32} {S : Memref sig .tc .vmem S5632x512 .f32}
    {o o' : Fin 4 → ℕ} (e : o = o') (h : ∀ a, o a + S1x1x5632x512.size a ≤ S2x8x5632x2048.size a)
    (h' : ∀ a, o' a + S1x1x5632x512.size a ≤ S2x8x5632x2048.size a) (f : Cont (F := F) c M) :
    pend c s M S o h f = pend c s M S o' h' f := by subst e; rfl
/-- A block, renamed. -/
theorem blockOf_congr {M : Memref sig .tc .hbm S2x8x5632x2048 .f32} {o o' : Fin 4 → ℕ} (e : o = o')
    (h : ∀ a, o a + S1x1x5632x512.size a ≤ S2x8x5632x2048.size a)
    (h' : ∀ a, o' a + S1x1x5632x512.size a ≤ S2x8x5632x2048.size a) (f : Cont (F := F) c M) :
    blockOf c M o h f = blockOf c M o' h' f := by subst e; rfl
variable (i : grid0.Coords) (P : Planned te)
include P

/-- What the switch finds, by the table's words. -/
theorem found_eq (hw : Fits1 l i (word1 c te i) (word7 c te i) (word12 c te i))
    (c1 : k0_cond1 i (word1 c te i) (word12 c te i) = 1#1) :
    found l c i te g hw c1 = if (i 0).val = 0 ∧ (i 1).val = 0 then still c g
      else pendAt l c g (at_ te (i 1).val).toNat (i 0).val := by
  have h1 : (word1 c te i).toNat < 8 := by rw [word1_eq]; exact P.known _ (i 1).isLt
  have e := off5_eq l i _ h1
  rw [word1_eq] at e
  unfold found pendAt still
  by_cases h : (i 0).val = 0 ∧ (i 1).val = 0
  · rw [if_pos h, if_pos ((cond2_iff i).mpr h)]
  · rw [if_neg h, if_neg (fun h' => h ((cond2_iff i).mp h'))]
    have e' : o5 l i (word1 c te i) = off l (at_ te (i 1).val).toNat (i 0).val := by rw [word1_eq]; exact e
    exact pend_congr c e' _ _ _

/-- What the switch starts, by the table's words. -/
theorem started_eq (hw : Fits1 l i (word1 c te i) (word7 c te i) (word12 c te i))
    (c1 : k0_cond1 i (word1 c te i) (word12 c te i) = 1#1)
    (hw2 : Fits2 l i (word1 c te i) (word7 c te i) (word12 c te i) (word0 c te)) :
    started l c i te g hw c1 hw2 = flying l c te g (i 1).val (i 0).val := by
  unfold started flying pendAt still
  by_cases h3 : 0 ≤ (at_ te (80 + (i 1).val)).toInt
  · rw [if_pos h3, dif_pos ((cond3_iff _).mpr (by rw [word7_eq]; exact h3))]
    have e : o6 l i (word7 c te i) = off l (at_ te (80 + (i 1).val)).toNat (i 0).val := by
      show o5 l i (word7 c te i) = _
      rw [off5_eq l i _ (by rw [word7_eq]; exact small_of_nonneg P (i 1).isLt h3), word7_eq]
    exact pend_congr c e _ _ _
  · have h3' : ¬ k0_cond3 (word7 c te i) = 1#1 := fun h => h3 (by rw [← word7_eq c te i]; exact (cond3_iff _).mp h)
    rw [if_neg h3, dif_neg h3']
    by_cases h4 : (i 0).val + 1 < 4
    · rw [if_pos h4, dif_pos ((cond4_iff i _).mpr ⟨by rw [word7_eq]; omega, h4⟩)]
      have e : o7 l i (word0 c te) = off l (at_ te 0).toNat ((i 0).val + 1) := by
        rw [off7_eq l i _ (by rw [word0_eq]; exact P.known 0 (by decide)) h4, word0_eq]
      exact pend_congr c e _ _ _
    · rw [if_neg h4, dif_neg (fun h => h4 ((cond4_iff i _).mp h).2)]

variable (a3 : Memref sig .tc .vmem S512x5632 .bf16) (h3 : a3.IsWhole) (a5 : Memref sig .tc .vmem S512x512 .f32) (h5 : a5.IsWhole)

/-- One grid point: from what holds before it to what holds before the next, leaving the tile made of
the tile of inputs and its expert's cast block. -/
theorem step (n : ℕ) (e0 : (i 0).val = n / 40) (e1 : (i 1).val = n % 40)
    (x : Vec F S512x5632 .bf16) (W : Waits sig Unit) (K : PUnit → sProp 𝕄) :
    iprop(half c tabM te ∗ owns (c : Thread nD τ) a3 fullShare x ∗ (∃ d, owns (c : Thread nD τ) a5 fullShare d)
       ∗ state l c te g n ∗ owes (c : Thread nD τ) 0 W
       ∗ ((half c tabM te ∗ owns (c : Thread nD τ) a3 fullShare x
            ∗ owns (c : Thread nD τ) a5 fullShare (made (at_ te (40 + n % 40)) x
                (blockAt l c g (at_ te (n % 40)).toNat (n / 40)))
            ∗ state l c te g (n + 1) ∗ (∃ W', owes (c : Thread nD τ) 0 W')) -∗ K ⟨⟩))
    ⊢ wp frame (wpE (bodies (F := F) l) Variants.none c none) Set.univ (bodyOf l i a3 h3 a5 h5) K := by
  have hw := chk1 l c te i P
  have hw2 := chk2 l c te i P
  have hlt : n % 40 < 40 := Nat.mod_lt _ (by decide)
  have h1 : (word1 c te i).toNat < 8 := by rw [word1_eq]; exact P.known _ (i 1).isLt
  by_cases c1 : k0_cond1 i (word1 c te i) (word12 c te i) = 1#1
  · have eo : o5 l i (word1 c te i) = off l (at_ te (n % 40)).toNat (n / 40) := by rw [off5_eq l i _ h1, word1_eq, e1, e0]
    have key := run_switch l c i a3 h3 a5 h5 te g hw c1 hw2 (cond6_iff _) (cond8_iff _)
      (fun a b => absurd ((cond3_iff _).mp a) (Int.not_le.mpr ((cond4_iff i _).mp b).1)) x W K
    rw [started_eq l c te g i P, found_eq l c te g i P, word4_eq, e0, e1,
      blockOf_congr c eo _ (off_inb _ _ _)] at key
    refine BIBase.Entails.trans ?_ key
    have hpre : state l c te g n ⊢ iprop((∃ f, whole c wb f)
        ∗ (if n / 40 = 0 ∧ n % 40 = 0 then still c g else pendAt l c g (at_ te (n % 40)).toNat (n / 40))) := by
      cases n with
      | zero => rw [if_pos ⟨rfl, rfl⟩]; exact .rfl
      | succ k =>
        rw [if_neg (by omega)]
        have hf : flying l c te g (k % 40) (k / 40) = pendAt l c g (at_ te ((k + 1) % 40)).toNat ((k + 1) / 40) := by
          unfold flying
          by_cases hk : k % 40 = 39
          · have a1 : (k + 1) % 40 = 0 := by omega
            have a2 : (k + 1) / 40 = k / 40 + 1 := by omega
            rw [a1, a2, hk, P.last, if_neg (by decide), if_pos (by rw [← a2, ← e0]; exact (i 0).isLt)]
          · have a1 : (k + 1) % 40 = k % 40 + 1 := by omega
            have a2 : (k + 1) / 40 = k / 40 := by omega
            have hne : at_ te (k % 40 + 1) ≠ at_ te (k % 40) := by
              rcases (cond1_iff i _ _).mp c1 with h | h
              · omega
              · rw [word1_eq, word12_eq, e1, a1] at h; exact h
            rw [a1, a2, P.turn _ (by omega) hne, if_pos (nonneg_of_small (P.known _ (by omega)))]
        show iprop(loadedAt l c g (at_ te (k % 40)).toNat (k / 40) ∗ flying l c te g (k % 40) (k / 40)) ⊢ _
        rw [hf]
        unfold loadedAt loaded
        iintro ⟨⟨%f0, -, H0⟩, HP⟩
        isplitl [H0]; · iexists _; iexact H0
        iexact HP
    iintro ⟨HT, H3, H5, HS, HO, Hk⟩
    ihave HS := hpre $$ HS
    icases HS with ⟨HB0, HF⟩
    isplitl [HT]; · iexact HT
    isplitl [H3]; · iexact H3
    isplitl [H5]; · iexact H5
    isplitl [HB0]; · iexact HB0
    isplitl [HF]; · iexact HF
    isplitl [HO]; · iexact HO
    iintro ⟨HT, H3, H5, HL0, HF, HO⟩
    iapply Hk
    isplitl [HT]; · iexact HT
    isplitl [H3]; · iexact H3
    isplitl [H5]; · iexact H5
    isplitr [HO]; swap; · iexact HO
    unfold state loadedAt
    isplitl [HL0]; · iexact HL0
    iexact HF
  · have hn : ¬ ((i 1).val = 0 ∨ word1 c te i ≠ word12 c te i) := fun h => c1 ((cond1_iff i _ _).mpr h)
    obtain ⟨k, rfl⟩ : ∃ k, n = k + 1 := ⟨n - 1, by have : ¬ (i 1).val = 0 := fun h => hn (Or.inl h); omega⟩
    have h0 : ¬ (i 1).val = 0 := fun h => hn (Or.inl h)
    have a1 : (k + 1) % 40 = k % 40 + 1 := by omega
    have a2 : (k + 1) / 40 = k / 40 := by omega
    have he : at_ te (k % 40 + 1) = at_ te (k % 40) := by
      have := not_not.mp (fun h => hn (Or.inr h))
      rw [word1_eq, word12_eq, e1, a1] at this; exact this
    have key := run_same l c i a3 h3 a5 h5 te c1 hw (cond6_iff _) (cond8_iff _) x
      (blockAt l c g (at_ te ((k + 1) % 40)).toNat ((k + 1) / 40)) W K
    rw [word4_eq, e1] at key
    refine BIBase.Entails.trans ?_ key
    have hs : state l c te g (k + 1) = iprop(loadedAt l c g (at_ te ((k + 1) % 40)).toNat ((k + 1) / 40) ∗ flying l c te g ((k + 1) % 40) ((k + 1) / 40)) := by
      show iprop(loadedAt l c g (at_ te (k % 40)).toNat (k / 40) ∗ flying l c te g (k % 40) (k / 40)) = _
      unfold flying
      rw [a1, a2, he, P.stay _ (by omega) he]
    rw [hs]
    unfold loadedAt
    iintro ⟨HT, H3, H5, ⟨HL0, HF⟩, HO, Hk⟩
    isplitl [HT]; · iexact HT
    isplitl [H3]; · iexact H3
    isplitl [H5]; · iexact H5
    isplitl [HL0]; · iexact HL0
    isplitl [HO]; · iexact HO
    iintro ⟨HT, H3, H5, HL0, HO⟩
    iapply Hk
    isplitl [HT]; · iexact HT
    isplitl [H3]; · iexact H3
    isplitl [H5]; · iexact H5
    isplitr [HO]; swap; · iexact HO
    unfold state loadedAt
    isplitl [HL0]; · iexact HL0
    iexact HF
end State
end Cert.Proof.Down
end
-- ==== Proof.DownFrame.lean ====
module
public import proofs.«01_k».proof.Proof.DownState
public import Idealize.ShloMosaic.Lib.Pipeline.Frame

/-! # The run of the experts' output projection

The proof data of the pipeline, its body's obligation from the grid point's lemma, and the run: the
arguments are left as they were, every semaphore ends at zero, and the result's array is what the
points wrote back. -/

@[expose] public section
noncomputable section
namespace Cert.Proof.Down
open Cert.Down Cert.Down.Gen
open Cert.Proof.Moe (at_ Planned small_of_nonneg nonneg_of_small)
open Idealize.ShloMosaic hiding ix1 ix2 eq_ix1 eq_ix2
open Idealize.ShloMosaic.TcCoe Idealize.ShloMosaic.Tactic Idealize.ShloMosaic.ValueIdx Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (Pipeline.UD sig nD τ) ℕ

section Run
variable (l : Fin 2) (m : (ℓ : Loc nD τ sig) → Buf (Elt F) ℓ) (ρ : Dev nD → PrngReg)

/-- The memory at launch, by core and buffer. -/
abbrev V (c : Dev nD) (b : Ref sig .tc) : Buf (Elt F) ((c : Thread nD τ).loc b) := m ((c : Thread nD τ).loc b)
/-- The table as the pipeline holds it. -/
def tbl : pre0.Contents (Elt F) := fun j => V m (0 : Dev nD) (pre0.ref j)
/-- Every core's table is the launch's. -/
theorem V_pre (c : Dev nD) (j : Fin pre0.K) : V m c (pre0.ref j) = tbl m j := by
  obtain rfl : c = 0 := Subsingleton.elim _ _
  rfl
/-- Any table is admitted: no block's place is read off it. -/
def adm : (pcfg0 (F := F)).Adm := ⟨tbl m, trivial⟩
/-- The pipeline at the launch's table. -/
abbrev cfgM : Cfg sig Λ₀ := cfg0 (adm m)

/-- The kernel's own semaphore. -/
abbrev osem0 : Fin 1 → SemLoc sig := fun j => (![SemLoc.dma 4] : Fin 1 → SemLoc sig) j
/-- The kernel's own semaphore is not the pipeline's. -/
theorem ownSemFacts0 : Pipeline.OwnSemFacts spec0 osem0 := by decide
/-- The array the kernel copies from itself. -/
abbrev H0 : Finset (Ref sig .tc) := {main_arg2}
/-- The weights are left to the kernel. -/
theorem H0_sub : H0 ⊆ Pipeline.restRefsP sig pre0 spec0 := by decide

/-- The kernel's own semaphore, counted. -/
theorem ownSems00_eq (c : Dev nD) : (Pipeline.ownSems0 osem0 c : sProp 𝕄) = semVal ((c : Thread nD τ), SemLoc.dma 4) 0 := by
  rw [Pipeline.ownSems0_eq_of_list c osem0 [0] (by decide) (by decide)]; rfl

/-- The array left to the kernel. -/
theorem hbmPts0_eq (c : Dev nD) :
    (bigSep H0 (fun b => ((c : Thread nD τ).loc b) ↦{fullShare} V m c b) : sProp 𝕄) = (((c : Thread nD τ).loc main_arg2) ↦{fullShare} V m c main_arg2) := by
  rw [BI.bigSep_eq_bigSepL_of_eq [main_arg2] (by decide) (by decide)]; rfl

/-- What the launch hands the kernel, one by one. -/
theorem PhiD_eq (c : Dev nD) :
    (Pipeline.ΦD osem0 spec0 H0 (V m) c : sProp 𝕄)
      = iprop(((∃ f, whole c stg f) ∗ (∃ f, whole c wb f))
          ∗ (∃ r, prngReg c r)
          ∗ semVal ((c : Thread nD τ), SemLoc.dma 4) 0
          ∗ whole c downM (V m c main_arg2)) := by
  rw [Pipeline.ΦD_eq, scopedRest0_eq, ownSems00_eq, hbmPts0_eq]

/-- The table's share, as the kernel reads it. -/
theorem PhiT_eq (c : Dev nD) : (Pipeline.ΦT pre0 (tbl m) c : sProp 𝕄) = half c tabM (V m c main_arg0) := by
  obtain rfl : c = 0 := Subsingleton.elim _ _
  unfold Pipeline.ΦT Pipeline.prefHeld
  rw [show (Finset.univ : Finset (Fin 1)) = {(0 : Fin 1)} from by decide, bigSep_singleton]; rfl

/-- The tile of inputs at a point. -/
def iblk (c : Dev nD) (t : Fin grid0.N) : Vec F S512x5632 .bf16 :=
  (((cfgM m).win 0).blk t).view.read (Elt F) (V m c main_arg1)
/-- What a point leaves in the output's buffer. -/
def outAt (c : Dev nD) (t : Fin grid0.N) : Vec F S512x512 .f32 :=
  made (at_ (V m c main_arg0) (40 + t.val % 40)) (iblk m c t)
    (blockAt l c (V m c main_arg2) (at_ (V m c main_arg0) (t.val % 40)).toNat (t.val / 40))
/-- What holds between points: the table's half, the generator, and the state of the buffers. -/
def inv (c : Dev nD) (n : ℕ) : sProp 𝕄 :=
  iprop(half c tabM (V m c main_arg0) ∗ (∃ r, prngReg c r) ∗ state l c (V m c main_arg0) (V m c main_arg2) n)

/-- The proof data of the pipeline on a core. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c t
    | ⟨1, _⟩ => outAt l m c t
  Φ t := inv l m c t.val
  q _ := fullShare
  owed _ := 0

/-- A window's array at launch. -/
theorem A_eq (c : Dev nD) (w : Fin (cfgM m).W) : (dats l m 0 c).A w = V m c (Pipeline.arrRef spec0 w) := by dsimp only [dats]
/-- What the inputs' buffer holds after a point. -/
theorem after0_0 (c : Dev nD) (t : Fin (cfgM m).N) : (dats l m 0 c).after 0 t = iblk m c t := by dsimp only [dats]; rfl
/-- What the result's buffer holds after a point. -/
theorem after0_1 (c : Dev nD) (t : Fin (cfgM m).N) : (dats l m 0 c).after 1 t = outAt l m c t := by dsimp only [dats]; rfl
/-- The input's buffer holds its block at every point, fetched there or not. -/
theorem before0_0 (c : Dev nD) (t : Fin (cfgM m).N) (d) : (dats l m 0 c).before 0 t d = iblk m c t :=
  ((dats l m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- The group of columns at a point. -/
theorem coords_div : ∀ t : Fin grid0.N, (grid0.coords t 0).val = t.val / 40 := by decide +kernel
/-- The tile at a point. -/
theorem coords_mod : ∀ t : Fin grid0.N, (grid0.coords t 1).val = t.val % 40 := by decide +kernel

/-- The staging buffers at a point. -/
abbrev ms0 (t : Fin grid0.N) : Memref sig .tc .vmem S512x5632 .bf16 := spec0_0.stage ((cfgM m).slots t 0)
/-- The result's staging buffer at a point. -/
abbrev ms1 (t : Fin grid0.N) : Memref sig .tc .vmem S512x512 .f32 := spec0_1.stage ((cfgM m).slots t 1)
/-- The body at a point. -/
abbrev bodyAt (t : Fin grid0.N) : Prog (TpuEff nD τ sig (Elt F) Λ₀ .tc) PUnit :=
  bodyOf l (grid0.coords t) (ms0 m t) (hstage0_0 (((cfgM m).slots t 0).cast nbuf0_0)) (ms1 m t) (hstage0_1 (((cfgM m).slots t 1).cast nbuf0_1))

/-- The output is stored at every point. -/
theorem idle_out (pf : pre0.Contents (Elt F)) (i : grid0.Coords) : idle0 pf 1 i = false := by
  show (!(k0_cond5 (pf.atD 0 (k0_off2 i 40#32)) == 1#1) && !(k0_cond6 (pf.atD 0 (k0_off2 i 40#32)) == 1#1)
    && !(k0_cond7 (pf.atD 0 (k0_off2 i 40#32)) == 1#1) && !(k0_cond8 (pf.atD 0 (k0_off2 i 40#32)) == 1#1)) = false
  by_cases h : k0_cond5 (pf.atD 0 (k0_off2 i 40#32)) = 1#1
  · rw [h]; rfl
  · rw [(cond6_iff _).mpr h]; simp

/-- What a point's body starts from. -/
def bodyPre (c : Dev nD) (t : Fin grid0.N) : sProp 𝕄 :=
  iprop((dats l m 0 c).Φ t.castSucc ∗ (dats l m 0 c).owesAt () t.castSucc
    ∗ (∃ d, owns (c : Thread nD τ) (ms0 m t) fullShare ((dats l m 0 c).before 0 t d))
    ∗ (∃ d, owns (c : Thread nD τ) (ms1 m t) fullShare ((dats l m 0 c).before 1 t d)))
/-- What a point's body leaves. -/
def bodyPost (c : Dev nD) (t : Fin grid0.N) : sProp 𝕄 :=
  iprop((dats l m 0 c).Φ t.succ ∗ (dats l m 0 c).owesAt () t.succ
    ∗ owns (c : Thread nD τ) (ms0 m t) fullShare ((dats l m 0 c).after 0 t)
    ∗ owns (c : Thread nD τ) (ms1 m t) fullShare ((dats l m 0 c).after 1 t))

/-- The body's triple at a point. -/
theorem sound_body (c : Dev nD) (P : Planned (V m c main_arg0)) (t : Fin grid0.N) :
    bodyPre l m c t ⊢ wp frame (wpE (bodies (F := F) l) Variants.none c none) Set.univ (bodyAt l m t) (fun _ => bodyPost l m c t) := by
  unfold bodyPre bodyPost
  rw [show (dats l m 0 c).Φ t.castSucc = inv l m c t.val from rfl, show (dats l m 0 c).Φ t.succ = inv l m c (t.val + 1) from rfl,
    after0_0, after0_1]
  simp only [before0_0]
  unfold Dat.owesAt Pipeline.owesWithin inv outAt
  rw [show (dats l m 0 c).owed t.castSucc = 0 from rfl, show (dats l m 0 c).owed t.succ = 0 from rfl]
  iintro ⟨⟨HT, Hg, HS⟩, ⟨%W, -, HW⟩, ⟨%d0, H0⟩, ⟨%d1, H1⟩⟩
  iapply (step l c (V m c main_arg0) (V m c main_arg2) (grid0.coords t) P (ms0 m t) _ (ms1 m t) _ t.val
    (coords_div t) (coords_mod t) (iblk m c t) W _)
  isplitl [HT]; · iexact HT
  isplitl [H0]; · iexact H0
  isplitl [H1]; · iexists _; iexact H1
  isplitl [HS]; · iexact HS
  isplitl [HW]; · iexact HW
  iintro ⟨HT, H0, H1, HS, ⟨%W', HW'⟩⟩
  isplitl [HT Hg HS]
  · isplitl [HT]; · iexact HT
    isplitl [Hg]; · iexact Hg
    iexact HS
  isplitl [HW']
  · iexists W'; isplitr; · ipureintro; exact fun _ _ => Or.inl trivial
    iexact HW'
  isplitl [H0]; · iexact H0
  iexact H1

/-- The body table at a point is the body. -/
theorem bodies_row (t : Fin grid0.N) :
    bodies (F := F) l .tc (cfgM m).body ((cfgM m).bodyArgs t ((cfgM m).slots t)) = bodyAt l m t := by
  unfold bodies; rw [Defs.onTc_tc]

/-- The body meets the pipeline's obligation. -/
theorem body_obligation (c : Dev nD) (P : Planned (V m c main_arg0)) :
    BodyObligation (dats (F := F) l m 0 c) (bodies (F := F) l) Variants.none () Set.univ := fun t => by
  rw [bigSep_W0, bigSep_W0, bodies_row l]
  refine triple_restated (sound_body l m c P t) rfl .rfl fun _ => ?_
  have hi : Cfg.idle (cfgM m) (1 : Fin 2) ((cfgM m).grid.coords t) = false := idle_out _ _
  rw [hi]
  exact .rfl

/-- The launch hands over what holds before the first point. -/
theorem first (c : Dev nD) : iprop(Pipeline.ΦD osem0 spec0 H0 (V m) c ∗ Pipeline.ΦT pre0 (tbl m) c) ⊢ inv l m c 0 := by
  rw [PhiD_eq, PhiT_eq]
  unfold inv state still quiet
  rw [View.set_whole]
  iintro ⟨⟨⟨HS0, HB0⟩, Hg, Hq0, HG⟩, HT⟩
  isplitl [HT]; · iexact HT
  isplitl [Hg]; · iexact Hg
  isplitl [HB0]; · iexact HB0
  isplitl [HS0]; · iexact HS0
  isplitl [Hq0]; · iexact Hq0
  iexact HG

/-- What holds after the last point gives back what the launch handed over. -/
theorem final (c : Dev nD) (P : Planned (V m c main_arg0)) : inv l m c 160 ⊢ Pipeline.ΦD osem0 spec0 H0 (V m) c := by
  rw [PhiD_eq]
  have hf : state l c (V m c main_arg0) (V m c main_arg2) 160
      = iprop(loadedAt l c (V m c main_arg2) (at_ (V m c main_arg0) 39).toNat 3 ∗ still c (V m c main_arg2)) := by
    show iprop(loadedAt l c (V m c main_arg2) (at_ (V m c main_arg0) 39).toNat 3
      ∗ flying l c (V m c main_arg0) (V m c main_arg2) 39 3) = _
    unfold flying
    rw [P.last, if_neg (by decide), if_neg (by decide)]
  unfold inv
  rw [hf]
  unfold loadedAt loaded still quiet
  rw [View.set_whole]
  iintro ⟨-, Hg, ⟨%f0, -, HB0⟩, ⟨HS0, Hq0, HG⟩⟩
  isplitl [HS0 HB0]
  · isplitl [HS0]; · iexact HS0
    iexists _; iexact HB0
  isplitl [Hg]; · iexact Hg
  isplitl [Hq0]; · iexact Hq0
  iexact HG

/-- The main function is the pipeline's run. -/
theorem hmain : Pipeline.HMainP (Ix := Unit) (Name := ℕ) (U := Pipeline.UD sig nD τ) (Lvl := ℕ) pcfgs 0 (bodies l) Variants.none m (main (F := F)) (V m) :=
  Pipeline.hmainP_region pcfgs 0 (bodies l) Variants.none m main fun c => (main_chain c).trans rfl

set_option backward.isDefEq.respectTransparency.types false in
/-- The run, from any memory whose table is planned. -/
theorem run_main (P : ∀ c, Planned (V m c main_arg0)) :
    θ_run (Pipeline.defs pcfgs (bodies l)) (onTc (τ := τ) (main (F := F))) (s₀ m ρ)
      (fun r => Pipeline.FramePost (Pipeline.pin pcfgs fun _ => adm m) (dats l m) 0 (V m) r ∧ r.2.sem = fun _ => 0) :=
  Pipeline.θ_run_frameP_dma (Q' := _) pcfgs (fun _ => adm m) (dats l m) (0 : Fin 1) launch0 osem0 (bodies l) Variants.none ownSemFacts0 H0 H0_sub m ρ main
    (hbody := fun c => (body_obligation l m c (P c)).loose) (hshare := fun c => (dats l m 0 c).share_full fun _ => rfl)
    (howed := fun _ _ => rfl) (V := V m) (hmain := hmain l m) (hA := A_eq l m) (hpf := V_pre m)
    (hin := fun c => first l m c) (hout := fun c => final l m c (P c))
end Run
end Cert.Proof.Down
end
-- ==== Proof.DownLayer.lean ====
module
public import proofs.«01_k».proof.Proof.DownTable
public import proofs.«01_k».proof.Proof.ExpertLayer

/-! # The experts' output projection, as mathematics

Each row of the hidden layer goes through the output weights of the expert of its tile of 512 rows; the
half tiles that hold no filled row are zero. -/

@[expose] public section
noncomputable section
namespace Cert.Proof.Down
open Cert.Down
open Cert.Proof.Moe (at_ live)
open Idealize.ShloMosaic hiding ix1 ix2 ix4 eq_ix1 eq_ix2 eq_ix4
open Idealize.ShloMosaic.ValueIdx

/-- An entry of the hidden layer, zero outside. -/
def hAt (x : S20480x5632.Idx → EReal) (r d : ℕ) : EReal := if h : r < 20480 ∧ d < 5632 then x (ix2 ⟨r, h.1⟩ ⟨d, h.2⟩) else 0
/-- An output weight of an expert of expert layer `l`, zero outside. -/
def wAt (l : Fin 2) (w : S2x8x5632x2048.Idx → EReal) (e d f : ℕ) : EReal :=
  if h : e < 8 ∧ d < 5632 ∧ f < 2048 then w (ix4 l ⟨e, h.1⟩ ⟨d, h.2.1⟩ ⟨f, h.2.2⟩) else 0
/-- A row of the hidden layer times a column of an expert's output weights. -/
def dot (l : Fin 2) (x : S20480x5632.Idx → EReal) (w : S2x8x5632x2048.Idx → EReal) (r e f : ℕ) : EReal :=
  ∑ d : Fin 5632, hAt x r d.val * wAt l w e d.val f

/-- The output of expert layer `l` at a row and a column. -/
def projectedAt (l : Fin 2) (te : S120.Idx → BitVec 32) (x : S20480x5632.Idx → EReal) (w : S2x8x5632x2048.Idx → EReal) (r f : ℕ) : EReal :=
  if live (at_ te (40 + r / 512)) r then dot l x w r (at_ te (r / 512)).toNat f else 0
/-- The output of the experts. -/
def projected (l : Fin 2) (te : S120.Idx → BitVec 32) (x : S20480x5632.Idx → EReal) (w : S2x8x5632x2048.Idx → EReal) : S20480x2048.Idx → EReal :=
  fun j => projectedAt l te x w (j 0).val (j 1).val

/-- An entry of the hidden layer by its place. -/
theorem h_eq (x : S20480x5632.Idx → EReal) (j : S20480x5632.Idx) : x j = hAt x (j 0).val (j 1).val := by
  rw [hAt, dif_pos ⟨(j 0).isLt, (j 1).isLt⟩]
  exact congrArg x (eq_ix2 j)
/-- An entry of the weights by its place. -/
theorem w_eq (l : Fin 2) (w : S2x8x5632x2048.Idx → EReal) (e : Fin 8) (d : Fin 5632) (f : Fin 2048) : w (ix4 l e d f) = wAt l w e.val d.val f.val := by
  rw [wAt, dif_pos ⟨e.isLt, d.isLt, f.isLt⟩]
end Cert.Proof.Down
end
-- ==== Proof.DownArray.lean ====
module
public import proofs.«01_k».proof.Proof.DownFrame
public import proofs.«01_k».proof.Proof.DownLayer
public import Idealize.ShloMosaic.Lib.MatmulPlain
public import Idealize.ShloMosaic.Lib.Pipeline.ValueKit

/-! # The output projection's array

What a grid point's tile holds over the extended reals, and the array that the tiles make up: the
experts' output. -/

@[expose] public section
set_option maxRecDepth 16384
noncomputable section
namespace Cert.Proof.Down
open Cert.Down Cert.Down.Gen
open Cert.Proof.Moe (at_ Planned live)
open Idealize.ShloMosaic hiding ix1 ix2 ix4 eq_ix1 eq_ix2 eq_ix4
open Idealize.ShloMosaic.TcCoe Idealize.ShloMosaic.ValueIdx Idealize.SL.Sem
open Idealize.ShloMosaic.Pipeline (Dat)

/-- One half of a tile, where it is computed. -/
theorem half_apply (X : FVec Ideal S256x5632 .bf16) (G : FVec Ideal S5632x512 .bf16) (r : Fin 256) (f : Fin 512) :
    k0_pay2 (F := Ideal) X G (ix2 r f) = ∑ d : Fin 5632, X (ix2 r d) * G (ix2 d f) := by
  have hm : matmul (F := Ideal) dot_S256x5632_S5632x512_S256x512_1_0_0_1_n_n none X G (constant S256x512 .f32 0x00000000#32) (ix2 r f)
        = ∑ d : Fin 5632, X (ix2 r d) * G (ix2 d f) :=
    (Ideal.matmul_plain_apply (M := 256) (K := 5632) (N := 512) none X G _ r f).trans
      (by rw [constant_apply, Ideal.ofBits_zero_f32, zero_add])
  rw [← hm]
  rfl

/-- The lower half is computed as the upper one. -/
theorem pay4_eq (X : FVec Ideal S256x5632 .bf16) (G : FVec Ideal S5632x512 .bf16) : k0_pay4 (F := Ideal) X G = k0_pay2 X G := rfl
/-- The upper half's blank is zero. -/
theorem pay3_apply (j : S256x512.Idx) : k0_pay3 (F := Ideal) j = 0 := Ideal.ofBits_zero_f32
/-- The lower half's blank is zero. -/
theorem pay5_apply (j : S256x512.Idx) : k0_pay5 (F := Ideal) j = 0 := Ideal.ofBits_zero_f32

/-- A row of the upper half. -/
theorem rowsTop_apply (x : Vec Ideal S512x5632 .bf16) (r : Fin 256) (d : Fin 5632) :
    rowsTop x (ix2 r d) = x (ix2 ⟨r.val, by omega⟩ d) :=
  congrArg x (funext fun a => Fin.ext (by
    match a with
    | ⟨0, _⟩ => exact (congrArg (0 + ·) (Nat.one_mul _)).trans (Nat.zero_add _)
    | ⟨1, _⟩ => exact (congrArg (0 + ·) (Nat.one_mul _)).trans (Nat.zero_add _)))
/-- A row of the lower half. -/
theorem rowsBottom_apply (x : Vec Ideal S512x5632 .bf16) (r : Fin 256) (d : Fin 5632) :
    rowsBottom x (ix2 r d) = x (ix2 ⟨256 + r.val, by omega⟩ d) :=
  congrArg x (funext fun a => Fin.ext (by
    match a with
    | ⟨0, _⟩ => exact congrArg (256 + ·) (Nat.one_mul _)
    | ⟨1, _⟩ => exact (congrArg (0 + ·) (Nat.one_mul _)).trans (Nat.zero_add _)))

/-- THE TILE: each entry is the product of its row and a column, where its half holds a filled row. -/
theorem made_apply (n : BitVec 32) (x : Vec Ideal S512x5632 .bf16) (G : Vec Ideal S5632x512 .bf16) (r : Fin 512) (f : Fin 512) :
    made (F := Ideal) n x G (ix2 r f)
      = if live n r.val then ∑ d : Fin 5632, x (ix2 r d) * G (ix2 d f) else 0 := by
  have hr := r.isLt
  unfold made
  by_cases h : r.val < 256
  · have hl : live n r.val ↔ 0 < n.toInt := by unfold live; rw [if_pos (show r.val % 512 < 256 by omega)]
    rw [tile_lt _ _ r f h]
    unfold top
    by_cases c5 : k0_cond5 n = 1#1
    · rw [if_pos c5, if_pos (hl.mpr ((cond5_iff n).mp c5)), half_apply]
      simp only [rowsTop_apply]
    · rw [if_neg c5, if_neg (fun h' => c5 ((cond5_iff n).mpr (hl.mp h'))), pay3_apply]
  · have hl : live n r.val ↔ 256 < n.toInt := by unfold live; rw [if_neg (show ¬ r.val % 512 < 256 by omega)]
    rw [tile_ge _ _ r f h (by omega)]
    unfold bottom
    by_cases c7 : k0_cond7 n = 1#1
    · rw [if_pos c7, if_pos (hl.mpr ((cond7_iff n).mp c7)), pay4_eq, half_apply]
      have e : (⟨256 + (r.val - 256), by omega⟩ : Fin 512) = r := Fin.ext (by show 256 + (r.val - 256) = r.val; omega)
      simp only [rowsBottom_apply, e]
    · rw [if_neg c7, if_neg (fun h' => c7 ((cond7_iff n).mpr (hl.mp h'))), pay5_apply]

/-- A block of the weights, entry by entry. -/
theorem blockOf_apply (l : Fin 2) (c : Dev nD) (M : Memref sig .tc .hbm S2x8x5632x2048 .f32) (e b : ℕ) (he : e < 8) (hb : b < 4)
    (g : Cont (F := Ideal) c M) (d : Fin 5632) (f : Fin 512) :
    blockOf c M (off l e b) (off_inb l e b) g (ix2 d f) = M.view.read (Elt Ideal) g (ix4 l ⟨e, he⟩ d ⟨b * 512 + f.val, by omega⟩) := by
  refine (congrFun (Memref.read_squeeze_slice M _ (fun _ => rfl) squeezes_S1x1x5632x512_S5632x512 (by decide : S1x1x5632x512.ShapeCasts S5632x512) g) (ix2 d f)).trans ?_
  refine (shapeCast_apply _ _ _ (ix4 0 0 d f) ?_).trans ?_
  · refine (rowMajor_val4 _ 2883584 2883584 512 rfl rfl rfl).trans (Eq.trans ?_ (rowMajor_val2 _ 512 rfl).symm)
    show 0 * 2883584 + 0 * 2883584 + d.val * 512 + f.val = d.val * 512 + f.val
    omega
  · refine congrArg (M.view.read (Elt Ideal) g) (funext fun a => Fin.ext ?_)
    match a with
    | ⟨0, _⟩ => rfl
    | ⟨1, _⟩ => show e % 8 + 1 * 0 = e; omega
    | ⟨2, _⟩ => show 0 + 1 * d.val = d.val; omega
    | ⟨3, _⟩ => show (b % 4) * 512 + 1 * f.val = b * 512 + f.val; omega

/-- A cast block, entry by entry. -/
theorem blockAt_apply (l : Fin 2) (c : Dev nD) (g : Cont (F := Ideal) c downM) (e b : ℕ) (he : e < 8) (hb : b < 4) (d : Fin 5632) (f : Fin 512) :
    blockAt l c g e b (ix2 d f) = wAt l g e d.val (b * 512 + f.val) := by
  have h1 : blockAt l c g e b (ix2 d f) = blockOf c downM (off l e b) (off_inb l e b) g (ix2 d f) := by
    unfold blockAt k0_pay1; rw [shapeCast_self]; rfl
  rw [h1, blockOf_apply l c downM e b he hb g d f]
  exact w_eq l g ⟨e, he⟩ d ⟨b * 512 + f.val, by omega⟩

section Final
variable (m : (ℓ : Loc nD τ sig) → Buf (Elt Ideal) ℓ)

/-- Where the tile of inputs lies. -/
theorem index0 : ∀ t : Fin grid0.N, ((cfgM m).win 0).index t = ![t.val % 40, 0] :=
  (by decide +kernel : ∀ t : Fin grid0.N, cc0_transform_0 (grid0.coords t) = ![t.val % 40, 0])
/-- Where the tile of the result lies. -/
theorem index1 : ∀ t : Fin grid0.N, ((cfgM m).win 1).index t = ![t.val % 40, t.val / 40] :=
  (by decide +kernel : ∀ t : Fin grid0.N, cc0_transform_2 (grid0.coords t) = ![t.val % 40, t.val / 40])

/-- The tiles make up the whole result. -/
theorem covers : ((cfgM m).win 1).Covers := by
  have h : ((cfg0 (F := Ideal) ⟨fun | 0 => fun _ => (0#32 : BitVec 32), trivial⟩).win 1).Covers := by decide +kernel
  exact h

/-- The tile of inputs at a grid point. -/
theorem iblk_apply (c : Dev nD) (t : Fin grid0.N) (r : Fin 512) (d : Fin 5632) :
    iblk m c t (ix2 r d) = hAt (V m c main_arg1) (t.val % 40 * 512 + r.val) d.val := by
  have h0 : ((cfgM m).win 0).index t (0 : Fin 2) = t.val % 40 := congrFun (index0 m t) (0 : Fin 2)
  have h1 : ((cfgM m).win 0).index t (1 : Fin 2) = 0 := congrFun (index0 m t) (1 : Fin 2)
  blk_simp [iblk]
  refine (h_eq (V m c main_arg1) _).trans (congrArg₂ (hAt (V m c main_arg1)) ?_ ?_)
  · blk_simp; rw [h0]
  · blk_simp; rw [h1]; show 0 * 5632 + d.val = d.val; omega

/-- What a grid point leaves in its tile. -/
theorem outAt_apply (l : Fin 2) (c : Dev nD) (P : Planned (V m c main_arg0)) (t : Fin grid0.N) (r : Fin 512) (f : Fin 512) :
    outAt l m c t (ix2 r f) = projectedAt l (V m c main_arg0) (V m c main_arg1) (V m c main_arg2)
      (t.val % 40 * 512 + r.val) (t.val / 40 * 512 + f.val) := by
  have ht : t.val < 160 := t.isLt
  have hr := r.isLt
  have hk := P.known (t.val % 40) (by omega)
  have e1 : (t.val % 40 * 512 + r.val) / 512 = t.val % 40 := by omega
  have e2 : ∀ n, live n (t.val % 40 * 512 + r.val) = live n r.val := fun n => by
    unfold live; rw [show (t.val % 40 * 512 + r.val) % 512 = r.val % 512 by omega]
  unfold outAt
  rw [made_apply]
  unfold projectedAt dot
  rw [e1]
  simp only [e2, iblk_apply, blockAt_apply l c _ _ _ hk (show t.val / 40 < 4 by omega)]

/-- THE KERNEL'S RESULT is the experts' output. -/
theorem array (l : Fin 2) (c : Dev nD) (P : Planned (V m c main_arg0)) :
    (dats l m 0 c).arrAt 1 (cfgM m).N = projected l (V m c main_arg0) (V m c main_arg1) (V m c main_arg2) := by
  refine (dats l m 0 c).arrAt_eq_of_covers 1 _ (covers m) fun t hf y => ?_
  have h0 : ((cfgM m).win 1).index t (0 : Fin 2) = t.val % 40 := congrFun (index1 m t) (0 : Fin 2)
  have h1 : ((cfgM m).win 1).index t (1 : Fin 2) = t.val / 40 := congrFun (index1 m t) (1 : Fin 2)
  blk_simp
  rw [after0_1]
  refine (congrArg (outAt l m c t) (eq_ix2 (y : S512x512.Idx))).trans ((outAt_apply m l c P t _ _).trans ?_)
  unfold projected
  refine congrArg₂ (projectedAt _ _ _ _) ?_ ?_
  · blk_simp; rw [h0]
  · blk_simp; rw [h1]
end Final
end Cert.Proof.Down
end
-- ==== Proof.DownRun.lean ====
module

public import proofs.«01_k».proof.Proof.DownArray

/-! # The run of an expert layer's output projection

What the call ends with, for a layer `l` of the weights: at any float values what the pipeline's
array holds, over the extended reals the experts' output. -/

@[expose] public section
noncomputable section
namespace Cert.Proof.Down
open Cert.Down Cert.Down.Gen
open Cert.Proof.Moe (Planned)
open Idealize.ShloMosaic Idealize.ShloMosaic.TcCoe Idealize.SL.Sem
open Idealize.ShloMosaic.Pipeline (Dat)

/-- The kernel's run at any float values: the arguments end unchanged, the result is what the pipeline's array holds, and
every counter reads zero. -/
theorem run_ends {F : FTy → Type} [FloatOps F] (l : Fin 2) (m : (ℓ : Loc nD τ sig) → Buf (Elt F) ℓ) (ρ : Dev nD → PrngReg)
    (P : ∀ c, Planned (V m c main_arg0)) :
    θ_run (Pipeline.defs pcfgs (bodies l)) (onTc (τ := τ) (main (F := F))) ⟨m, fun _ => 0, ρ⟩ (fun r => (∀ c : Dev nD,
      r.2.mem ((c.tc : Thread nD τ).loc main_v0) = (dats l m 0 c).arrAt 1 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (Pipeline.defs pcfgs (bodies l)) _ _).mono (fun _ h => ⟨fun c => ⟨(h.1 c).1 1,
      (h.1 c).2 main_arg0 (Pipeline.mem_restRefs_of main_arg0 (by decide) (show ∀ w : Fin 2, (spec0 w).arr.view.ref ≠ main_arg0 by decide)),
      ((h.1 c).1 0).trans (((dats l m 0 c).arrAt_in (0 : Fin 2) rfl _).trans (A_eq l m c 0)),
      (h.1 c).2 main_arg2 (Pipeline.mem_restRefs_of main_arg2 (by decide) (show ∀ w : Fin 2, (spec0 w).arr.view.ref ≠ main_arg2 by decide))⟩, h.2⟩) (run_main l m ρ P)

/-- Over the extended reals the result is the experts' output. -/
theorem run_projected (l : Fin 2) (m : (ℓ : Loc nD τ sig) → Buf (Elt Ideal) ℓ) (ρ : Dev nD → PrngReg) (P : ∀ c, Planned (V m c main_arg0)) :
    θ_run (Pipeline.defs pcfgs (bodies l)) (onTc (τ := τ) (main (F := Ideal))) ⟨m, fun _ => 0, ρ⟩ (fun r => (∀ c : Dev nD,
      r.2.mem ((c.tc : Thread nD τ).loc main_v0) = projected l (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (Pipeline.defs pcfgs (bodies l)) _ _).mono
    (fun _ h => ⟨fun c => ⟨(h.1 c).1.trans (array m l c (P c)), (h.1 c).2⟩, h.2⟩) (run_ends l m ρ P)
end Cert.Proof.Down
end
-- ==== Proof.DownRef.lean ====
/-
  The reference of the experts' output projection over the extended reals, step by step, each step read at an index.
-/
module

public import proofs.«01_k».proof.Proof.Gen.DownReferenceIdeal.Run
public import proofs.«01_k».proof.Proof.DownLayer
public import proofs.«01_k».proof.Proof.ExpertRef

@[expose] public section

set_option maxRecDepth 16384

noncomputable section

namespace Cert.DownReferenceIdeal.Steps

open Cert.DownReferenceIdeal Cert.DownReferenceIdeal.Gen Idealize.ShloMosaic.TcCoe Idealize.SL.Sem
open Cert.Proof.Moe (live at_ Planned)
open Cert.Proof.Down (hAt wAt dot projected projectedAt h_eq w_eq)
open Cert.ExpertReferenceIdeal.Steps (pick pick_apply)
open Idealize.ShloMosaic hiding ix0 ix1 ix2 ix3 ix4 ix5 eq_ix1 eq_ix2 eq_ix3 eq_ix4
open Idealize.ShloMosaic.ValueIdx

section Defs

variable {F : FTy → Type} [FloatOps F]

/-- A layer's weights are a slice of all weights. -/
theorem slices (l : Fin 2) : S2x8x5632x2048.Slices ![l.val, 0, 0, 0] S1x8x5632x2048 := by revert l; decide

/-- The weights of expert layer `l`. -/
def layer (l : Fin 2) (w : FVec F S2x8x5632x2048 .f32) : FVec F S8x5632x2048 .f32 :=
  shapeCast _ (extractStridedSlice S1x8x5632x2048 ![l.val, 0, 0, 0] w (slices l)) shapeCasts_S1x8x5632x2048_S8x5632x2048

/-- Every row times every expert's output weights. -/
def product (l : Fin 2) (x : FVec F S20480x5632 .bf16) (w : FVec F S2x8x5632x2048 .f32) : FVec F S20480x8x2048 .f32 :=
  Host.dotGeneral dot_S20480x5632_S8x5632x2048_S20480x8x2048_1_1_0_02_n_n none (extf .f32 x bitsLt_bf16_f32) (layer l w)

/-- The number zero everywhere. -/
def zero : FVec F S20480x8x2048 .f32 := broadcastInDim S20480x8x2048 ![] bcast_S_S20480x8x2048 (id (constant S_ .f32 0x00000000#32))

/-- What is picked at every column. -/
def picked (te : IVec S120 32) : IVec S20480x8x2048 1 :=
  broadcastInDim S20480x8x2048 ![0, 1, 2] bcast_S20480x8x1_S20480x8x2048_0_1_2
    (broadcastInDim S20480x8x1 ![0, 1] bcast_S20480x8_S20480x8x1_0_1 (pick te))

/-- The reference's result by its steps: the sum over the experts of what is picked. -/
def result (l : Fin 2) (te : IVec S120 32) (x : FVec F S20480x5632 .bf16) (w : FVec F S2x8x5632x2048 .f32) : FVec F S20480x2048 .f32 :=
  Host.reduceAdd (select (picked te) (product l x w) zero) (constant S_ .f32 0x00000000#32) reducesTo_S20480x8x2048_S20480x2048_d1 h_S_

end Defs

/-- A weight of an expert layer. -/
theorem layer_apply (l : Fin 2) (w : FVec Ideal S2x8x5632x2048 .f32) (e : Fin 8) (d : Fin 5632) (f : Fin 2048) : layer l w (ix3 e d f) = wAt l w e.val d.val f.val := by
  refine (shapeCast_apply _ _ _ (ix4 0 e d f) ?_).trans ?_
  · refine (rowMajor_val4 _ 92274688 11534336 2048 rfl rfl rfl).trans (Eq.trans ?_ (rowMajor_val3 _ 11534336 2048 rfl rfl).symm)
    show 0 * 92274688 + e.val * 11534336 + d.val * 2048 + f.val = e.val * 11534336 + d.val * 2048 + f.val
    omega
  · refine (congrArg w (funext fun a => Fin.ext ?_)).trans (w_eq l w e d f)
    match a with
    | ⟨0, _⟩ => exact Nat.add_zero _
    | ⟨1, _⟩ => exact Nat.zero_add _
    | ⟨2, _⟩ => exact Nat.zero_add _
    | ⟨3, _⟩ => exact Nat.zero_add _

/-- A row times a column of an expert's weights. -/
theorem product_apply (l : Fin 2) (x : FVec Ideal S20480x5632 .bf16) (w : FVec Ideal S2x8x5632x2048 .f32) (r : Fin 20480) (e : Fin 8) (f : Fin 2048) :
    product l x w (ix3 r e f) = dot l x w r.val e.val f.val := by
  unfold product
  show FloatOps.dotGeneral _ none _ _ _ (ix3 r e f) = _
  rw [Ideal.dotGeneral_apply,
    ← Equiv.sum_comp (contrEquiv1 dot_S20480x5632_S8x5632x2048_S20480x8x2048_1_1_0_02_n_n 5632 rfl rfl).symm]
  unfold dot
  refine Finset.sum_congr rfl fun d _ => ?_
  have c3 := contrEquiv1_symm_val dot_S20480x5632_S8x5632x2048_S20480x8x2048_1_1_0_02_n_n 5632 rfl rfl d
  refine congrArg₂ (· * ·) ((congrArg x ?_).trans (h_eq x (ix2 r d))) ((congrArg (layer l w) ?_).trans (layer_apply l w e d f)) <;>
    funext ax <;> apply Fin.ext
  · match ax with
    | ⟨0, _⟩ => rfl
    | ⟨1, _⟩ => exact c3
  · match ax with
    | ⟨0, _⟩ => rfl
    | ⟨1, _⟩ => exact c3
    | ⟨2, _⟩ => rfl

/-- THE REFERENCE'S RESULT is the experts' output. -/
theorem result_eq (l : Fin 2) (te : IVec S120 32) (x : FVec Ideal S20480x5632 .bf16) (w : FVec Ideal S2x8x5632x2048 .f32) (P : Planned te) :
    result l te x w = projected l te x w := by
  funext j
  obtain ⟨r, hr⟩ : ∃ r : Fin 20480, r = j 0 := ⟨_, rfl⟩
  obtain ⟨f, hf⟩ : ∃ f : Fin 2048, f = j 1 := ⟨_, rfl⟩
  have hk := P.known (r.val / 512) (by omega)
  have h0 : (constant (F := Ideal) S_ .f32 0x00000000#32) (Shape.Idx.first h_S_) = 0 := Ideal.ofBits_zero_f32
  have hz : ∀ i, zero (F := Ideal) i = 0 := fun _ => Ideal.ofBits_zero_f32
  have hs : ∀ e : Fin 8, select (picked te) (product l x w) (zero (F := Ideal)) (ix3 r e f)
      = if pick te (ix2 r e) = 1#1 then dot l x w r.val e.val f.val else 0 := fun e => by
    have hp : picked te (ix3 r e f) = pick te (ix2 r e) :=
      congrArg (pick te) (funext fun i => Fin.ext (by match i with | ⟨0, _⟩ => rfl | ⟨1, _⟩ => rfl))
    rw [select_apply, hp, product_apply, hz]
    rfl
  have hsum : result l te x w j = 0 + ∑ e : Fin 8, (if pick te (ix2 r e) = 1#1 then dot l x w r.val e.val f.val else 0) := by
    refine (hostReduceAdd_apply _ _ reducesTo_S20480x8x2048_S20480x2048_d1 h_S_ j).trans ?_
    rw [h0, Ideal.hostReduceAdd_r3_a1]
    refine congrArg (0 + ·) (Finset.sum_congr rfl fun e _ => Eq.trans ?_ (hs e))
    rw [hr, hf]
    rfl
  rw [hsum, zero_add]
  unfold projected
  rw [← hr, ← hf]
  unfold projectedAt
  by_cases hl : live (at_ te (40 + r.val / 512)) r.val
  · rw [if_pos hl, Finset.sum_eq_single (⟨_, hk⟩ : Fin 8), if_pos ((pick_apply te r _).mpr ⟨hl, rfl⟩)]
    · exact fun e _ he => if_neg fun h => he (Fin.ext ((pick_apply te r e).mp h).2.symm)
    · exact fun h => absurd (Finset.mem_univ _) h
  · rw [if_neg hl]
    exact Finset.sum_eq_zero fun e _ => if_neg fun h => hl ((pick_apply te r e).mp h).1

end Cert.DownReferenceIdeal.Steps

end
-- ==== Proof.DownPlan.lean ====
module
public import proofs.«01_k».proof.Proof.Gen.Pre_tiles_planned_down
public import proofs.«01_k».proof.Proof.ExpertPlan

/-! # The precondition of the output projection

It says of the table what the expert products' precondition says, and nothing of the other arguments. -/

@[expose] public section
noncomputable section
namespace Cert.Pre_tiles_planned_down.Read
open Cert.Pre_tiles_planned_down
open Idealize.ShloMosaic
variable {F : FTy → Type} [FloatOps F]

/-- A table that meets the precondition is planned. -/
theorem planned (te : IVec S120 32) (h : FVec F S20480x5632 .bf16) (w : FVec F S2x8x5632x2048 .f32) (e : fn (F := F) te h w = fun _ => 1#1) :
    Cert.Proof.Moe.Planned te :=
  Cert.Pre_tiles_planned.Read.planned (F := F) te (constant _ .bf16 0) (constant _ .f32 0) (constant _ .f32 0) e
end Cert.Pre_tiles_planned_down.Read
end
-- ==== Proof.DownClaims.lean ====
/-
  The claims about the output projection of the first expert layer: the kernel and its idealization run without a fault and
  come to rest, the reference too, and kernel and reference compute one array.
-/
module

public import proofs.«01_k».proof.Defs
public import proofs.«01_k».proof.Proof.Gen.Down.Launch
public import proofs.«01_k».proof.Proof.Gen.DownIdeal.Launch
public import proofs.«01_k».proof.Proof.DownRun
public import proofs.«01_k».proof.Proof.DownRef
public import proofs.«01_k».proof.Proof.DownPlan
public import Idealize.ShloMosaic.Lib.Quiescent

@[expose] public section

noncomputable section

open Idealize.ShloMosaic Idealize.ShloMosaic.TcCoe Idealize.SL.Sem

namespace Cert.Proof.Down.First

open Cert.Proof.Down

variable {F : FTy → Type} [FloatOps F]

/-- The program's main function is the layers' common one. -/
theorem main_kernel : Cert.Down.main (F := F) = Cert.Down.main (F := F) := rfl
/-- So is its idealization's. -/
theorem main_ideal : Cert.DownIdeal.main (F := F) = Cert.Down.main (F := F) := rfl

set_option maxRecDepth 65536 in
/-- The program's bodies are those at its layer. -/
theorem bodies_kernel : Cert.Down.defs₀ (F := F) = bodies (F := F) 0 := by
  unfold Cert.Down.defs₀ bodies
  refine congrArg Defs.onTc ?_
  funext k x
  match k, x with
  | 0, (t, s) => rfl
set_option maxRecDepth 65536 in
/-- So are its idealization's. -/
theorem bodies_ideal : Cert.DownIdeal.defs₀ (F := F) = bodies (F := F) 0 := by
  unfold Cert.DownIdeal.defs₀ bodies
  refine congrArg Defs.onTc ?_
  funext k x
  match k, x with
  | 0, (t, s) => rfl

/-- The program's functions are those at its layer. -/
theorem defs_kernel : Cert.Down.defs (F := F) = Pipeline.defs Cert.Down.pcfgs (bodies (F := F) 0) := by
  show Pipeline.defs Cert.Down.pcfgs Cert.Down.defs₀ = _
  exact congrArg (Pipeline.defs Cert.Down.pcfgs) bodies_kernel
/-- So are its idealization's. -/
theorem defs_ideal : Cert.DownIdeal.defs (F := F) = Pipeline.defs Cert.Down.pcfgs (bodies (F := F) 0) := by
  show Pipeline.defs Cert.DownIdeal.pcfgs Cert.DownIdeal.defs₀ = _
  exact congrArg (Pipeline.defs Cert.Down.pcfgs) bodies_ideal

/-- The kernel runs and comes to rest. -/
theorem frame_kernel : Cert.quiescent_Down := fun m ρ hp => by
  rw [main_kernel, defs_kernel]
  exact (θ_run (nD := Cert.Down.nD) (τ := Cert.Down.τ) (sig := Cert.Down.sig) _ _ _).mono (fun _ h => ⟨fun c => (h.1 c).2, h.2⟩)
    (run_ends 0 m ρ fun c => Cert.Pre_tiles_planned_down.Read.planned _ _ _ (hp c))

/-- The idealization runs and comes to rest. -/
theorem frame_ideal : Cert.quiescent_DownIdeal := fun m ρ hp => by
  rw [main_ideal, defs_ideal]
  exact (θ_run (nD := Cert.Down.nD) (τ := Cert.Down.τ) (sig := Cert.Down.sig) _ _ _).mono (fun _ h => ⟨fun c => (h.1 c).2, h.2⟩)
    (run_ends 0 m ρ fun c => Cert.Pre_tiles_planned_down.Read.planned _ _ _ (hp c))

/-- So does the reference, which has no semaphores. -/
theorem frame_reference : Cert.quiescent_DownReferenceIdeal := fun m ρ _ =>
  (θ_run Cert.DownReferenceIdeal.defs _ _).mono (fun r h => ⟨fun c => (h c).2,
      Idealize.ShloMosaic.sem_eq_zero_of_no_sems (by decide) r.2⟩)
    (Cert.DownReferenceIdeal.Value.run (F := Ideal) m ρ)

/-- The idealization rewrites no operation. -/
theorem preserves : Cert.preserves_Down_DownIdeal := trivial

/-- KERNEL AND REFERENCE COMPUTE ONE ARRAY, the output of the experts. -/
theorem algebraic : Cert.algebraic_DownIdeal_DownReferenceIdeal := by
  intro m ρ m' ρ' hp hagree
  have P := fun c => Cert.Pre_tiles_planned_down.Read.planned _ _ _ (hp c)
  rw [main_ideal, defs_ideal]
  refine ⟨_, (θ_run (nD := Cert.Down.nD) (τ := Cert.Down.τ) (sig := Cert.Down.sig) _ _ _).mono (fun _ h => h.1) (run_projected 0 m ρ P), ?_⟩
  refine (θ_run Cert.DownReferenceIdeal.defs _ _).mono (fun _ h c => ⟨(h c).1.trans ?_, (h c).2⟩)
    (Cert.DownReferenceIdeal.Value.run (F := Ideal) m' ρ')
  obtain ⟨h0, h1, h2⟩ := hagree c
  rw [h0, h1, h2]
  exact Cert.DownReferenceIdeal.Steps.result_eq 0 _ _ _ (P c)

end Cert.Proof.Down.First

end
-- ==== Proof.DownNextClaims.lean ====
/-
  The claims about the output projection of the second expert layer: the kernel and its idealization run without a fault and
  come to rest, the reference too, and kernel and reference compute one array.
-/
module

public import proofs.«01_k».proof.Defs
public import proofs.«01_k».proof.Proof.Gen.DownNext.Launch
public import proofs.«01_k».proof.Proof.Gen.DownNextIdeal.Launch
public import proofs.«01_k».proof.Proof.DownRun
public import proofs.«01_k».proof.Proof.DownRef
public import proofs.«01_k».proof.Proof.DownPlan
public import proofs.«01_k».proof.Proof.Gen.DownNextReferenceIdeal.Run
public import Idealize.ShloMosaic.Lib.Quiescent

@[expose] public section

noncomputable section

open Idealize.ShloMosaic Idealize.ShloMosaic.TcCoe Idealize.SL.Sem

namespace Cert.Proof.Down.Second

open Cert.Proof.Down

variable {F : FTy → Type} [FloatOps F]

/-- The program's main function is the layers' common one. -/
theorem main_kernel : Cert.DownNext.main (F := F) = Cert.Down.main (F := F) := rfl
/-- So is its idealization's. -/
theorem main_ideal : Cert.DownNextIdeal.main (F := F) = Cert.Down.main (F := F) := rfl

set_option maxRecDepth 65536 in
/-- The program's bodies are those at its layer. -/
theorem bodies_kernel : Cert.DownNext.defs₀ (F := F) = bodies (F := F) 1 := by
  unfold Cert.DownNext.defs₀ bodies
  refine congrArg Defs.onTc ?_
  funext k x
  match k, x with
  | 0, (t, s) => rfl
set_option maxRecDepth 65536 in
/-- So are its idealization's. -/
theorem bodies_ideal : Cert.DownNextIdeal.defs₀ (F := F) = bodies (F := F) 1 := by
  unfold Cert.DownNextIdeal.defs₀ bodies
  refine congrArg Defs.onTc ?_
  funext k x
  match k, x with
  | 0, (t, s) => rfl

/-- The program's functions are those at its layer. -/
theorem defs_kernel : Cert.DownNext.defs (F := F) = Pipeline.defs Cert.Down.pcfgs (bodies (F := F) 1) := by
  show Pipeline.defs Cert.DownNext.pcfgs Cert.DownNext.defs₀ = _
  exact congrArg (Pipeline.defs Cert.Down.pcfgs) bodies_kernel
/-- So are its idealization's. -/
theorem defs_ideal : Cert.DownNextIdeal.defs (F := F) = Pipeline.defs Cert.Down.pcfgs (bodies (F := F) 1) := by
  show Pipeline.defs Cert.DownNextIdeal.pcfgs Cert.DownNextIdeal.defs₀ = _
  exact congrArg (Pipeline.defs Cert.Down.pcfgs) bodies_ideal

/-- The kernel runs and comes to rest. -/
theorem frame_kernel : Cert.quiescent_DownNext := fun m ρ hp => by
  rw [main_kernel, defs_kernel]
  exact (θ_run (nD := Cert.Down.nD) (τ := Cert.Down.τ) (sig := Cert.Down.sig) _ _ _).mono (fun _ h => ⟨fun c => (h.1 c).2, h.2⟩)
    (run_ends 1 m ρ fun c => Cert.Pre_tiles_planned_down.Read.planned _ _ _ (hp c))

/-- The idealization runs and comes to rest. -/
theorem frame_ideal : Cert.quiescent_DownNextIdeal := fun m ρ hp => by
  rw [main_ideal, defs_ideal]
  exact (θ_run (nD := Cert.Down.nD) (τ := Cert.Down.τ) (sig := Cert.Down.sig) _ _ _).mono (fun _ h => ⟨fun c => (h.1 c).2, h.2⟩)
    (run_ends 1 m ρ fun c => Cert.Pre_tiles_planned_down.Read.planned _ _ _ (hp c))

/-- So does the reference, which has no semaphores. -/
theorem frame_reference : Cert.quiescent_DownNextReferenceIdeal := fun m ρ _ =>
  (θ_run Cert.DownNextReferenceIdeal.defs _ _).mono (fun r h => ⟨fun c => (h c).2,
      Idealize.ShloMosaic.sem_eq_zero_of_no_sems (by decide) r.2⟩)
    (Cert.DownNextReferenceIdeal.Value.run (F := Ideal) m ρ)

/-- The idealization rewrites no operation. -/
theorem preserves : Cert.preserves_DownNext_DownNextIdeal := trivial

/-- KERNEL AND REFERENCE COMPUTE ONE ARRAY, the output of the experts. -/
theorem algebraic : Cert.algebraic_DownNextIdeal_DownNextReferenceIdeal := by
  intro m ρ m' ρ' hp hagree
  have P := fun c => Cert.Pre_tiles_planned_down.Read.planned _ _ _ (hp c)
  rw [main_ideal, defs_ideal]
  refine ⟨_, (θ_run (nD := Cert.Down.nD) (τ := Cert.Down.τ) (sig := Cert.Down.sig) _ _ _).mono (fun _ h => h.1) (run_projected 1 m ρ P), ?_⟩
  refine (θ_run Cert.DownNextReferenceIdeal.defs _ _).mono (fun _ h c => ⟨(h c).1.trans ?_, (h c).2⟩)
    (Cert.DownNextReferenceIdeal.Value.run (F := Ideal) m' ρ')
  obtain ⟨h0, h1, h2⟩ := hagree c
  rw [h0, h1, h2]
  exact Cert.DownReferenceIdeal.Steps.result_eq 1 _ _ _ (P c)

end Cert.Proof.Down.Second

end
-- ==== Proof.DenseLayer.lean ====
module
public import proofs.«01_k».proof.Proof.ExpertLayer

/-! # The dense feed-forward layers, as mathematics

Each row of the input goes through the gate and the up weights of the layer, and each row of the hidden
layer through its output weights. -/

@[expose] public section
noncomputable section
namespace Cert.Proof.Dense
open Cert.Proof.Moe (gated)
open Idealize.ShloMosaic hiding ix1 ix2 ix3 eq_ix1 eq_ix2 eq_ix3
open Idealize.ShloMosaic.ValueIdx

/-- A matrix. -/
abbrev Matrix (A B : ℕ) : Type := (⟨2, ![A, B]⟩ : Shape).Idx → EReal
/-- The matrices of all layers. -/
abbrev Stack (L A B : ℕ) : Type := (⟨3, ![L, A, B]⟩ : Shape).Idx → EReal

variable {L A B C : ℕ}

/-- An entry of a matrix, zero outside. -/
def at2 (x : Matrix A B) (r d : ℕ) : EReal := if h : r < A ∧ d < B then x (ix2 ⟨r, h.1⟩ ⟨d, h.2⟩) else 0
/-- An entry of the matrix of layer `l`, zero outside. -/
def at3 (l : Fin L) (w : Stack L A B) (d f : ℕ) : EReal := if h : d < A ∧ f < B then w (ix3 l ⟨d, h.1⟩ ⟨f, h.2⟩) else 0
/-- A row times a column of the weights of layer `l`. -/
def dot (l : Fin L) (x : Matrix A B) (w : Stack L B C) (r f : ℕ) : EReal := ∑ d : Fin B, at2 x r d.val * at3 l w d.val f

/-- The hidden layer of dense layer `l`. -/
def hidden (l : Fin L) (x : Matrix A B) (wg wu : Stack L B C) : Matrix A C :=
  fun j => gated (dot l x wg (j 0).val (j 1).val) (dot l x wu (j 0).val (j 1).val)
/-- The output of dense layer `l`. -/
def projected (l : Fin L) (x : Matrix A B) (w : Stack L B C) : Matrix A C := fun j => dot l x w (j 0).val (j 1).val

/-- An entry of a matrix by its place. -/
theorem at2_eq (x : Matrix A B) (j : (⟨2, ![A, B]⟩ : Shape).Idx) : x j = at2 x (j 0).val (j 1).val := by
  rw [at2, dif_pos ⟨(j 0).isLt, (j 1).isLt⟩]
  exact congrArg x (eq_ix2 j)
/-- An entry of the matrix of a layer by its place. -/
theorem at3_eq (l : Fin L) (w : Stack L A B) (d : Fin A) (f : Fin B) : w (ix3 l d f) = at3 l w d.val f.val := by
  rw [at3, dif_pos ⟨d.isLt, f.isLt⟩]
/-- The same, by the places of the index. -/
theorem at3_idx (l : Fin L) (w : Stack L A B) (j : (⟨3, ![L, A, B]⟩ : Shape).Idx) (h : (j 0).val = l.val) :
    w j = at3 l w (j 1).val (j 2).val := by
  refine Eq.trans (congrArg w ?_) (at3_eq l w (j 1) (j 2))
  refine (eq_ix3 j).trans ?_
  rw [show (j 0 : Fin L) = l from Fin.ext h]
  rfl

/-- Column group `k` of the matrix of layer `l`. -/
def columns (l : Fin L) (w : Stack L A B) (C k : ℕ) : Matrix A C := fun j => at3 l w (j 0).val (k * C + (j 1).val)

/-- A row times a column of a column group. -/
theorem dot_columns {M N : ℕ} (l : Fin L) (x : Matrix A B) (w : Stack L B C) (y : Matrix M B) (k o : ℕ)
    (r : Fin M) (f : Fin N) (h : ∀ d : Fin B, y (ix2 r d) = at2 x (o + r.val) d.val) :
    ∑ d : Fin B, y (ix2 r d) * columns l w N k (ix2 d f) = dot l x w (o + r.val) (k * N + f.val) :=
  Finset.sum_congr rfl fun d _ => congrArg (· * _) (h d)

/-- What is renewed at each multiple of `p` and kept at the other points is the same over each `p` points. -/
theorem held {α : Type} {N p : ℕ} (s : ∀ n, n < N → α) (w : ℕ → α) (first : ∀ n h, n % p = 0 → s n h = w (n / p))
    (later : ∀ n h, ¬(n + 1) % p = 0 → s (n + 1) h = s n (Nat.lt_of_succ_lt h)) : ∀ n h, s n h = w (n / p) := by
  intro n
  induction n with
  | zero => exact fun h => first 0 h (Nat.zero_mod p)
  | succ n ih =>
    intro h
    by_cases h0 : (n + 1) % p = 0
    · exact first (n + 1) h h0
    · rw [later n h h0, ih, Nat.succ_div_of_not_dvd fun hd => h0 (Nat.mod_eq_zero_of_dvd hd)]
end Cert.Proof.Dense
end
-- ==== Proof.DenseState.lean ====
module
public import proofs.«01_k».proof.Proof.DenseLayer
public import proofs.«01_k».proof.Proof.Gen.DenseIdeal.Frame
public import Idealize.ShloMosaic.Lib.MatmulPlain
public import Idealize.ShloMosaic.Lib.Pipeline.ValueKit
public import Idealize.ShloMosaic.Lib.Tactic

/-! # The dense hidden layer: what a grid point leaves

The first point of a column group casts the group's weights into the scratch and every point multiplies its
rows with what the scratch holds. -/

@[expose] public section
set_option maxRecDepth 16384
noncomputable section
namespace Cert.Proof.Dense.Up
open Cert.DenseIdeal Cert.DenseIdeal.Gen
open Cert.Proof.Moe (gated)
open Idealize.ShloMosaic hiding ix1 ix2 ix3 eq_ix1 eq_ix2 eq_ix3
open Idealize.ShloMosaic.TcCoe Idealize.ShloMosaic.ValueIdx Idealize.SL.Sem Idealize.ShloMosaic.Tactic
open Idealize.ShloMosaic.Pipeline (Dat)

/-- Two zero offsets. -/
theorem zero2 : (![0, 0] : Fin 2 → Nat) = fun _ => 0 := funext fun a => by fin_cases a <;> rfl
/-- Three zero offsets. -/
theorem zero3 : (![0, 0, 0] : Fin 3 → Nat) = fun _ => 0 := funext fun a => by fin_cases a <;> rfl

variable {F : FTy → Type} [FloatOps F]

section Cases
variable (c : Dev nD) (i : grid0.Coords) (a2 : Memref sig .tc .vmem S1024x2048 .bf16) (h2 : a2.IsWhole)
    (a3 : Memref sig .tc .vmem S1x2048x512 .f32) (h3 : a3.IsWhole) (a4 : Memref sig .tc .vmem S1x2048x512 .f32) (h4 : a4.IsWhole)
    (a5 : Memref sig .tc .vmem S1024x512 .bf16) (h5 : a5.IsWhole) (a6 : Memref sig .tc .vmem S2048x512 .bf16) (h6 : a6.IsWhole)
    (a7 : Memref sig .tc .vmem S2048x512 .bf16) (h7 : a7.IsWhole) (x : Vec F S1024x2048 .bf16) (g u : Vec F S1x2048x512 .f32)

/-- The first point of a group leaves the cast gate weights, -/
theorem gate_first (hc : cond0_0 i) : sout0_A_0 c i a2 h2 a3 h3 a4 h4 a5 h5 a6 h6 a7 h7 hc x g u = k0_pay1 g := by
  unfold sout0_A_0
  rw [View.read_writes_eq_canon _ _ _ (scover0_A_0 c i a2 h2 a3 h3 a4 h4 a5 h5 a6 h6 a7 h7 hc x g u)]
  unfold kernelRun0_A
  dsimp only
  sl_unfold_words
  rw [View.canon_unit_zero zero2]
  simp only [View.readAt_eq_ld, h3.read_unread, View.ld_unit_zero (S := S1x2048x512) zero3]

/-- and the cast up weights, -/
theorem up_first (hc : cond0_0 i) : sout0_A_1 c i a2 h2 a3 h3 a4 h4 a5 h5 a6 h6 a7 h7 hc x g u = k0_pay2 u := by
  unfold sout0_A_1
  rw [View.read_writes_eq_canon _ _ _ (scover0_A_1 c i a2 h2 a3 h3 a4 h4 a5 h5 a6 h6 a7 h7 hc x g u)]
  unfold kernelRun0_A
  dsimp only
  sl_unfold_words
  rw [View.canon_unit_zero zero2]
  simp only [View.readAt_eq_ld, h4.read_unread, View.ld_unit_zero (S := S1x2048x512) zero3]

/-- and the gated product with them. -/
theorem out_first (hc : cond0_0 i) :
    out0_A_3 c i a2 h2 a3 h3 a4 h4 a5 h5 a6 h6 a7 h7 hc x g u = k0_pay3 x (k0_pay1 g) (k0_pay2 u) := by
  unfold out0_A_3
  rw [View.read_writes_eq_canon _ _ _ (cover0_A_3 c i a2 h2 a3 h3 a4 h4 a5 h5 a6 h6 a7 h7 hc x g u)]
  unfold kernelRun0_A
  dsimp only
  sl_unfold_words
  rw [View.canon_unit_zero zero2]
  simp only [View.readAt_eq_ld, h2.read_unread, h3.read_unread, h4.read_unread, View.ld_unit_zero (S := S1x2048x512) zero3,
    View.ld_unit_zero (S := S1024x2048) zero2, View.readCov_unit_zero (S := S2048x512) _ zero2]

/-- A later point leaves the gated product with what the scratch holds. -/
theorem out_later (hc : ¬cond0_0 i) (s t : Vec F S2048x512 .bf16) :
    out0_B_3 c i a2 h2 a3 h3 a4 h4 a5 h5 a6 h6 a7 h7 hc x g u s t = k0_pay3 x s t := by
  unfold out0_B_3
  rw [View.read_writes_eq_canon _ _ _ (cover0_B_3 c i a2 h2 a3 h3 a4 h4 a5 h5 a6 h6 a7 h7 hc x g u s t)]
  unfold kernelRun0_B
  dsimp only
  rw [View.canon_unit_zero zero2]
  simp only [View.readAt_eq_ld, h2.read_unread, h6.read_unread, h7.read_unread,
    View.ld_unit_zero (S := S1024x2048) zero2, View.ld_unit_zero (S := S2048x512) zero2]

/-- What the first point of a group leaves. -/
theorem first_point (hc : cond0_0 i) :
    (out0_A_3 c i a2 h2 a3 h3 a4 h4 a5 h5 a6 h6 a7 h7 hc x g u, sout0_A_0 c i a2 h2 a3 h3 a4 h4 a5 h5 a6 h6 a7 h7 hc x g u,
      sout0_A_1 c i a2 h2 a3 h3 a4 h4 a5 h5 a6 h6 a7 h7 hc x g u) = (k0_pay3 x (k0_pay1 g) (k0_pay2 u), k0_pay1 g, k0_pay2 u) := by
  rw [out_first, gate_first, up_first]

/-- What a later point leaves: the scratch as it was. -/
theorem later_point (hc : ¬cond0_0 i) (s t : Vec F S2048x512 .bf16) :
    (out0_B_3 c i a2 h2 a3 h3 a4 h4 a5 h5 a6 h6 a7 h7 hc x g u s t, sout0_B_0 c i a2 h2 a3 h3 a4 h4 a5 h5 a6 h6 a7 h7 hc x g u s t,
      sout0_B_1 c i a2 h2 a3 h3 a4 h4 a5 h5 a6 h6 a7 h7 hc x g u s t) = (k0_pay3 x s t, s, t) := by
  rw [out_later]
  rfl
end Cases

/-- A cast block of weights, entry by entry. -/
theorem cast_apply (w : FVec Ideal S1x2048x512 .f32) (d : Fin 2048) (f : Fin 512) : k0_pay1 (F := Ideal) w (ix2 d f) = w (ix3 0 d f) := by
  unfold k0_pay1
  rw [shapeCast_self]
  refine (shapeCast_apply _ _ _ (ix3 0 d f) ?_)
  refine (rowMajor_val3 _ 1048576 512 rfl rfl).trans (Eq.trans ?_ (rowMajor_val2 _ 512 rfl).symm)
  show 0 * 1048576 + d.val * 512 + f.val = d.val * 512 + f.val
  omega

/-- The up weights are cast as the gate weights. -/
theorem cast_eq (w : FVec F S1x2048x512 .f32) : k0_pay2 w = k0_pay1 w := rfl

/-- THE TILE: the gated product, entry by entry. -/
theorem tile_apply (x : FVec Ideal S1024x2048 .bf16) (G U : FVec Ideal S2048x512 .bf16) (r : Fin 1024) (f : Fin 512) :
    k0_pay3 (F := Ideal) x G U (ix2 r f) = gated (∑ d : Fin 2048, x (ix2 r d) * G (ix2 d f)) (∑ d : Fin 2048, x (ix2 r d) * U (ix2 d f)) := by
  have hm : ∀ W : FVec Ideal S2048x512 .bf16,
      matmul (F := Ideal) dot_S1024x2048_S2048x512_S1024x512_1_0_0_1_n_n none x W (constant S1024x512 .f32 0x00000000#32) (ix2 r f)
        = ∑ d : Fin 2048, x (ix2 r d) * W (ix2 d f) := fun W =>
    (Ideal.matmul_plain_apply (M := 1024) (K := 2048) (N := 512) none x W _ r f).trans
      (by rw [constant_apply, Ideal.ofBits_zero_f32, zero_add])
  unfold gated
  rw [← hm G, ← hm U]
  rfl

/-- What the points leave: the tile and the two scratches after each point of a sequence of points. -/
abbrev States (F : FTy → Type) (N : ℕ) : Type := ∀ n, n < N → Vec F S1024x512 .bf16 × Vec F S2048x512 .bf16 × Vec F S2048x512 .bf16

/-- THE TILES of a layer: where the first point of each column group casts its weights and the others keep them,
    and each point multiplies its rows with the weights held, each point leaves its tile of the hidden layer. -/
theorem tiles {N : ℕ} (l : Fin 2) (X : Matrix 8192 2048) (G U : Stack 2 2048 5632) (s : States Ideal N)
    (x : Fin N → Vec Ideal S1024x2048 .bf16) (g u : Fin N → Vec Ideal S1x2048x512 .f32)
    (hx : ∀ t r d, x t (ix2 r d) = at2 X (t.val % 8 * 1024 + r.val) d.val)
    (hg : ∀ t d f, g t (ix3 0 d f) = at3 l G d.val (t.val / 8 * 512 + f.val))
    (hu : ∀ t d f, u t (ix3 0 d f) = at3 l U d.val (t.val / 8 * 512 + f.val))
    (first : ∀ t : Fin N, t.val % 8 = 0 → s t.val t.isLt = (k0_pay3 (x t) (k0_pay1 (g t)) (k0_pay2 (u t)), k0_pay1 (g t), k0_pay2 (u t)))
    (later : ∀ n h, ¬(n + 1) % 8 = 0 → s (n + 1) h = (k0_pay3 (x ⟨n + 1, h⟩) (s n (Nat.lt_of_succ_lt h)).2.1 (s n (Nat.lt_of_succ_lt h)).2.2, (s n (Nat.lt_of_succ_lt h)).2))
    (t : Fin N) (r : Fin 1024) (f : Fin 512) :
    (s t.val t.isLt).1 (ix2 r f) = gated (dot l X G (t.val % 8 * 1024 + r.val) (t.val / 8 * 512 + f.val)) (dot l X U (t.val % 8 * 1024 + r.val) (t.val / 8 * 512 + f.val)) := by
  have casts : ∀ (w : Vec Ideal S1x2048x512 .f32) (W : Stack 2 2048 5632) (k : ℕ), (∀ d f, w (ix3 0 d f) = at3 l W d.val (k * 512 + f.val)) →
      k0_pay1 (F := Ideal) w = columns l W 512 k := fun w W k h => funext fun j =>
    (congrArg (k0_pay1 (F := Ideal) w) (eq_ix2 (j : S2048x512.Idx))).trans ((cast_apply w _ _).trans (h _ _))
  have keep : ∀ n h, (s n h).2 = (columns l G 512 (n / 8), columns l U 512 (n / 8)) :=
    held (fun n h => (s n h).2) (fun k => (columns l G 512 k, columns l U 512 k))
      (fun n h h0 => by
        show (s n h).2 = _
        rw [first ⟨n, h⟩ h0]
        exact congrArg₂ Prod.mk (casts (g ⟨n, h⟩) G (n / 8) (hg ⟨n, h⟩)) ((cast_eq (F := Ideal) (u ⟨n, h⟩)).trans (casts (u ⟨n, h⟩) U (n / 8) (hu ⟨n, h⟩))))
      (fun n h h0 => by
        show (s (n + 1) h).2 = _
        rw [later n h h0])
  have made : (s t.val t.isLt).1 = k0_pay3 (x t) (s t.val t.isLt).2.1 (s t.val t.isLt).2.2 := by
    obtain ⟨n, h⟩ := t
    by_cases h0 : n % 8 = 0
    · show (s n h).1 = k0_pay3 _ (s n h).2.1 (s n h).2.2
      rw [first ⟨n, h⟩ h0]
    · cases n with
      | zero => exact absurd (Nat.zero_mod 8) h0
      | succ n =>
        show (s (n + 1) h).1 = k0_pay3 _ (s (n + 1) h).2.1 (s (n + 1) h).2.2
        rw [later n h h0]
  rw [made, keep, tile_apply]
  exact congrArg₂ gated (dot_columns l X G _ _ _ r f (hx t r)) (dot_columns l X U _ _ _ r f (hx t r))
end Cert.Proof.Dense.Up
end
-- ==== Proof.DenseArray.lean ====
module
public import proofs.«01_k».proof.Proof.DenseState
public import proofs.«01_k».proof.Proof.Gen.DenseIdeal.Value

/-! # The dense hidden layer's array, first layer

What the scratch and a grid point's tile hold over the extended reals, and the array that the tiles make up. -/

@[expose] public section
set_option maxRecDepth 16384
noncomputable section
namespace Cert.Proof.Dense.Up.First
open Cert.DenseIdeal Cert.DenseIdeal.Gen
open Cert.Proof.Moe (gated)
open Cert.Proof.Dense
open Idealize.ShloMosaic hiding ix1 ix2 ix3 eq_ix1 eq_ix2 eq_ix3
open Idealize.ShloMosaic.TcCoe Idealize.ShloMosaic.ValueIdx Idealize.SL.Sem
open Idealize.ShloMosaic.Pipeline (Dat)

variable (m : (ℓ : Loc nD τ sig) → Buf (Elt Ideal) ℓ)

/-- Where the rows lie. -/
theorem index0 : ∀ t : Fin cfg0.N, (cfg0.win 0).index t = ![t.val % 8, 0] :=
  (by decide +kernel : ∀ t : Fin grid0.N, cc0_transform_0 (grid0.coords t) = ![t.val % 8, 0])
/-- Where the gate weights lie. -/
theorem index1 : ∀ t : Fin cfg0.N, (cfg0.win 1).index t = ![0, 0, t.val / 8] :=
  (by decide +kernel : ∀ t : Fin grid0.N, cc0_transform_1 (grid0.coords t) = ![0, 0, t.val / 8])
/-- Where the up weights lie. -/
theorem index2 : ∀ t : Fin cfg0.N, (cfg0.win 2).index t = ![0, 0, t.val / 8] :=
  (by decide +kernel : ∀ t : Fin grid0.N, cc0_transform_2 (grid0.coords t) = ![0, 0, t.val / 8])
/-- Where the tile of the result lies. -/
theorem index3 : ∀ t : Fin cfg0.N, (cfg0.win 3).index t = ![t.val % 8, t.val / 8] :=
  (by decide +kernel : ∀ t : Fin grid0.N, cc0_transform_3 (grid0.coords t) = ![t.val % 8, t.val / 8])

/-- The tiles make up the whole result. -/
theorem covers : (cfg0.win 3).Covers := by decide +kernel

/-- The rows at a grid point. -/
theorem rows_apply (c : Dev nD) (t : Fin cfg0.N) (r : Fin 1024) (d : Fin 2048) :
    iblk m c 0 t (ix2 r d) = at2 (V m c main_arg0) (t.val % 8 * 1024 + r.val) d.val := by
  have h0 : (cfg0.win 0).index t (0 : Fin 2) = t.val % 8 := congrFun (index0 t) (0 : Fin 2)
  have h1 : (cfg0.win 0).index t (1 : Fin 2) = 0 := congrFun (index0 t) (1 : Fin 2)
  blk_simp [iblk]
  refine (at2_eq (V m c main_arg0) _).trans (congrArg₂ (at2 (V m c main_arg0)) ?_ ?_)
  · blk_simp; rw [h0]
  · blk_simp; rw [h1]; show 0 * 2048 + d.val = d.val; omega

/-- The gate weights at a grid point. -/
theorem gate_apply (c : Dev nD) (t : Fin cfg0.N) (d : Fin 2048) (f : Fin 512) :
    iblk m c 1 t (ix3 0 d f) = at3 0 (V m c main_arg1) d.val (t.val / 8 * 512 + f.val) := by
  have h0 : (cfg0.win 1).index t (0 : Fin 3) = 0 := congrFun (index1 t) (0 : Fin 3)
  have h1 : (cfg0.win 1).index t (1 : Fin 3) = 0 := congrFun (index1 t) (1 : Fin 3)
  have h2 : (cfg0.win 1).index t (2 : Fin 3) = t.val / 8 := congrFun (index1 t) (2 : Fin 3)
  blk_simp [iblk]
  refine (at3_idx 0 (V m c main_arg1) _ ?_).trans (congrArg₂ (at3 0 (V m c main_arg1)) ?_ ?_)
  · blk_simp; rw [h0]; rfl
  · blk_simp; rw [h1]; show 0 * 2048 + d.val = d.val; omega
  · blk_simp; rw [h2]

/-- The up weights at a grid point. -/
theorem up_apply (c : Dev nD) (t : Fin cfg0.N) (d : Fin 2048) (f : Fin 512) :
    iblk m c 2 t (ix3 0 d f) = at3 0 (V m c main_arg2) d.val (t.val / 8 * 512 + f.val) := by
  have h0 : (cfg0.win 2).index t (0 : Fin 3) = 0 := congrFun (index2 t) (0 : Fin 3)
  have h1 : (cfg0.win 2).index t (1 : Fin 3) = 0 := congrFun (index2 t) (1 : Fin 3)
  have h2 : (cfg0.win 2).index t (2 : Fin 3) = t.val / 8 := congrFun (index2 t) (2 : Fin 3)
  blk_simp [iblk]
  refine (at3_idx 0 (V m c main_arg2) _ ?_).trans (congrArg₂ (at3 0 (V m c main_arg2)) ?_ ?_)
  · blk_simp; rw [h0]; rfl
  · blk_simp; rw [h1]; show 0 * 2048 + d.val = d.val; omega
  · blk_simp; rw [h2]

/-- What a grid point leaves in its tile. -/
theorem out_apply (c : Dev nD) (t : Fin cfg0.N) (r : Fin 1024) (f : Fin 512) :
    (outsAt0 m c t.val t.isLt).1 (ix2 r f)
      = gated (dot 0 (V m c main_arg0) (V m c main_arg1) (t.val % 8 * 1024 + r.val) (t.val / 8 * 512 + f.val))
          (dot 0 (V m c main_arg0) (V m c main_arg2) (t.val % 8 * 1024 + r.val) (t.val / 8 * 512 + f.val)) :=
  tiles 0 _ _ _ (outsAt0 m c) (iblk m c 0) (iblk m c 1) (iblk m c 2) (rows_apply m c) (gate_apply m c) (up_apply m c)
    (fun t h0 => (outsAt0_A m c t h0).trans <| first_point c (grid0.coords t) (ms0_0 t) (hs0_0 t) (ms0_1 t) (hs0_1 t) (ms0_2 t) (hs0_2 t) (ms0_3 t) (hs0_3 t) scM0_0 (Memref.isWhole_whole _) scM0_1 (Memref.isWhole_whole _)
      (iblk m c 0 t) (iblk m c 1 t) (iblk m c 2 t) ((hcond0_0 t).mpr h0))
    (fun n h h0 => (outsAt0_B m c ⟨n + 1, h⟩ h0).trans <| later_point c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _)
      (iblk m c 0 ⟨n + 1, h⟩) (iblk m c 1 ⟨n + 1, h⟩) (iblk m c 2 ⟨n + 1, h⟩) (fun h' => h0 ((hcond0_0 ⟨n + 1, h⟩).mp h'))
      (outsAt0 m c n (Nat.lt_of_succ_lt h)).2.1 (outsAt0 m c n (Nat.lt_of_succ_lt h)).2.2) t r f

/-- THE KERNEL'S RESULT is the hidden layer. -/
theorem array (c : Dev nD) :
    (dats m 0 c).arrAt 3 cfg0.N = hidden 0 (V m c main_arg0) (V m c main_arg1) (V m c main_arg2) := by
  refine (dats m 0 c).arrAt_eq_of_covers 3 _ covers fun t hf y => ?_
  have h0 : (cfg0.win 3).index t (0 : Fin 2) = t.val % 8 := congrFun (index3 t) (0 : Fin 2)
  have h1 : (cfg0.win 3).index t (1 : Fin 2) = t.val / 8 := congrFun (index3 t) (1 : Fin 2)
  blk_simp
  rw [after0_3]
  refine (congrArg (outsAt0 m c t.val t.isLt).1 (eq_ix2 (y : S1024x512.Idx))).trans ((out_apply m c t _ _).trans ?_)
  unfold hidden
  refine congrArg₂ gated (congrArg₂ (dot _ _ _) ?_ ?_) (congrArg₂ (dot _ _ _) ?_ ?_)
  all_goals blk_simp
  all_goals first | rw [h0] | rw [h1]
end Cert.Proof.Dense.Up.First
end
-- ==== Proof.DenseNextArray.lean ====
module
public import proofs.«01_k».proof.Proof.DenseArray
public import proofs.«01_k».proof.Proof.Gen.DenseNextIdeal.Value

/-! # The dense hidden layer's array, second layer

What the scratch and a grid point's tile hold over the extended reals, and the array that the tiles make up. -/

@[expose] public section
set_option maxRecDepth 16384
noncomputable section
namespace Cert.Proof.Dense.Up.Second
open Cert.DenseNextIdeal Cert.DenseNextIdeal.Gen
open Cert.Proof.Moe (gated)
open Cert.Proof.Dense
open Idealize.ShloMosaic hiding ix1 ix2 ix3 eq_ix1 eq_ix2 eq_ix3
open Idealize.ShloMosaic.TcCoe Idealize.ShloMosaic.ValueIdx Idealize.SL.Sem
open Idealize.ShloMosaic.Pipeline (Dat)

variable (m : (ℓ : Loc nD τ sig) → Buf (Elt Ideal) ℓ)

/-- Where the rows lie. -/
theorem index0 : ∀ t : Fin cfg0.N, (cfg0.win 0).index t = ![t.val % 8, 0] := First.index0
/-- Where the gate weights lie. -/
theorem index1 : ∀ t : Fin cfg0.N, (cfg0.win 1).index t = ![1, 0, t.val / 8] :=
  (by decide +kernel : ∀ t : Fin grid0.N, cc0_transform_1 (grid0.coords t) = ![1, 0, t.val / 8])
/-- Where the up weights lie. -/
theorem index2 : ∀ t : Fin cfg0.N, (cfg0.win 2).index t = ![1, 0, t.val / 8] :=
  (by decide +kernel : ∀ t : Fin grid0.N, cc0_transform_2 (grid0.coords t) = ![1, 0, t.val / 8])
/-- Where the tile of the result lies. -/
theorem index3 : ∀ t : Fin cfg0.N, (cfg0.win 3).index t = ![t.val % 8, t.val / 8] := First.index3

/-- The tiles make up the whole result. -/
theorem covers : (cfg0.win 3).Covers := First.covers

/-- The rows at a grid point. -/
theorem rows_apply (c : Dev nD) (t : Fin cfg0.N) (r : Fin 1024) (d : Fin 2048) :
    iblk m c 0 t (ix2 r d) = at2 (V m c main_arg0) (t.val % 8 * 1024 + r.val) d.val :=
  First.rows_apply m c t r d

/-- The gate weights at a grid point. -/
theorem gate_apply (c : Dev nD) (t : Fin cfg0.N) (d : Fin 2048) (f : Fin 512) :
    iblk m c 1 t (ix3 0 d f) = at3 1 (V m c main_arg1) d.val (t.val / 8 * 512 + f.val) := by
  have h0 : (cfg0.win 1).index t (0 : Fin 3) = 1 := congrFun (index1 t) (0 : Fin 3)
  have h1 : (cfg0.win 1).index t (1 : Fin 3) = 0 := congrFun (index1 t) (1 : Fin 3)
  have h2 : (cfg0.win 1).index t (2 : Fin 3) = t.val / 8 := congrFun (index1 t) (2 : Fin 3)
  blk_simp [iblk]
  refine (at3_idx 1 (V m c main_arg1) _ ?_).trans (congrArg₂ (at3 1 (V m c main_arg1)) ?_ ?_)
  · blk_simp; rw [h0]; rfl
  · blk_simp; rw [h1]; show 0 * 2048 + d.val = d.val; omega
  · blk_simp; rw [h2]

/-- The up weights at a grid point. -/
theorem up_apply (c : Dev nD) (t : Fin cfg0.N) (d : Fin 2048) (f : Fin 512) :
    iblk m c 2 t (ix3 0 d f) = at3 1 (V m c main_arg2) d.val (t.val / 8 * 512 + f.val) := by
  have h0 : (cfg0.win 2).index t (0 : Fin 3) = 1 := congrFun (index2 t) (0 : Fin 3)
  have h1 : (cfg0.win 2).index t (1 : Fin 3) = 0 := congrFun (index2 t) (1 : Fin 3)
  have h2 : (cfg0.win 2).index t (2 : Fin 3) = t.val / 8 := congrFun (index2 t) (2 : Fin 3)
  blk_simp [iblk]
  refine (at3_idx 1 (V m c main_arg2) _ ?_).trans (congrArg₂ (at3 1 (V m c main_arg2)) ?_ ?_)
  · blk_simp; rw [h0]; rfl
  · blk_simp; rw [h1]; show 0 * 2048 + d.val = d.val; omega
  · blk_simp; rw [h2]

/-- What a grid point leaves in its tile. -/
theorem out_apply (c : Dev nD) (t : Fin cfg0.N) (r : Fin 1024) (f : Fin 512) :
    (outsAt0 m c t.val t.isLt).1 (ix2 r f)
      = gated (dot 1 (V m c main_arg0) (V m c main_arg1) (t.val % 8 * 1024 + r.val) (t.val / 8 * 512 + f.val))
          (dot 1 (V m c main_arg0) (V m c main_arg2) (t.val % 8 * 1024 + r.val) (t.val / 8 * 512 + f.val)) :=
  tiles 1 _ _ _ (outsAt0 m c) (iblk m c 0) (iblk m c 1) (iblk m c 2) (rows_apply m c) (gate_apply m c) (up_apply m c)
    (fun t h0 => (outsAt0_A m c t h0).trans <| first_point c (grid0.coords t) (ms0_0 t) (hs0_0 t) (ms0_1 t) (hs0_1 t) (ms0_2 t) (hs0_2 t) (ms0_3 t) (hs0_3 t) scM0_0 (Memref.isWhole_whole _) scM0_1 (Memref.isWhole_whole _)
      (iblk m c 0 t) (iblk m c 1 t) (iblk m c 2 t) ((hcond0_0 t).mpr h0))
    (fun n h h0 => (outsAt0_B m c ⟨n + 1, h⟩ h0).trans <| later_point c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _)
      (iblk m c 0 ⟨n + 1, h⟩) (iblk m c 1 ⟨n + 1, h⟩) (iblk m c 2 ⟨n + 1, h⟩) (fun h' => h0 ((hcond0_0 ⟨n + 1, h⟩).mp h'))
      (outsAt0 m c n (Nat.lt_of_succ_lt h)).2.1 (outsAt0 m c n (Nat.lt_of_succ_lt h)).2.2) t r f

/-- THE KERNEL'S RESULT is the hidden layer. -/
theorem array (c : Dev nD) :
    (dats m 0 c).arrAt 3 cfg0.N = hidden 1 (V m c main_arg0) (V m c main_arg1) (V m c main_arg2) := by
  refine (dats m 0 c).arrAt_eq_of_covers 3 _ covers fun t hf y => ?_
  have h0 : (cfg0.win 3).index t (0 : Fin 2) = t.val % 8 := congrFun (index3 t) (0 : Fin 2)
  have h1 : (cfg0.win 3).index t (1 : Fin 2) = t.val / 8 := congrFun (index3 t) (1 : Fin 2)
  blk_simp
  rw [after0_3]
  refine (congrArg (outsAt0 m c t.val t.isLt).1 (eq_ix2 (y : S1024x512.Idx))).trans ((out_apply m c t _ _).trans ?_)
  unfold hidden
  refine congrArg₂ gated (congrArg₂ (dot _ _ _) ?_ ?_) (congrArg₂ (dot _ _ _) ?_ ?_)
  all_goals blk_simp
  all_goals first | rw [h0] | rw [h1]
end Cert.Proof.Dense.Up.Second
end
-- ==== Proof.DenseRef.lean ====
/-
  The dense hidden layer's reference over the extended reals, step by step, each step read at an index.
-/
module

public import proofs.«01_k».proof.Proof.Gen.DenseReferenceIdeal.Run
public import proofs.«01_k».proof.Proof.DenseLayer
public import Idealize.ShloMosaic.Lib.ValueIdx
public import Idealize.ShloMosaic.Lib.IdealHost
public import Idealize.ShloMosaic.Lib.Pipeline.Value
public import Idealize.ShloMosaic.Lib.Pointwise

@[expose] public section

set_option maxRecDepth 16384

noncomputable section

namespace Cert.DenseReferenceIdeal.Steps

open Cert.DenseReferenceIdeal Cert.DenseReferenceIdeal.Gen Idealize.ShloMosaic.TcCoe Idealize.SL.Sem
open Cert.Proof.Moe (gated)
open Cert.Proof.Dense (at2 at3 dot at2_eq at3_eq)
open Idealize.ShloMosaic hiding ix0 ix1 ix2 ix3 ix4 ix5 eq_ix1 eq_ix2 eq_ix3 eq_ix4
open Idealize.ShloMosaic.ValueIdx

section Defs

variable {F : FTy → Type} [FloatOps F]

/-- A layer's weights are a slice of all weights. -/
theorem slices (l : Fin 2) : S2x2048x5632.Slices ![l.val, 0, 0] S1x2048x5632 := by revert l; decide

/-- The weights of dense layer `l`. -/
def layer (l : Fin 2) (w : FVec F S2x2048x5632 .f32) : FVec F S2048x5632 .f32 :=
  shapeCast _ (extractStridedSlice S1x2048x5632 ![l.val, 0, 0] w (slices l)) shapeCasts_S1x2048x5632_S2048x5632

/-- Every row times the layer's weights. -/
def product (l : Fin 2) (x : FVec F S8192x2048 .bf16) (w : FVec F S2x2048x5632 .f32) : FVec F S8192x5632 .f32 :=
  Host.dotGeneral dot_S8192x2048_S2048x5632_S8192x5632_1_0_0_1_n_n none (extf .f32 x bitsLt_bf16_f32) (layer l w)

/-- The number one everywhere. -/
def one : FVec F S8192x5632 .f32 := broadcastInDim S8192x5632 ![] bcast_S_S8192x5632 (constant S_ .f32 0x3F800000#32)

/-- The gate times its logistic times the up product. -/
def gate (g u : FVec F S8192x5632 .f32) : FVec F S8192x5632 .f32 :=
  mulf (mulf g (Host.divf one (addf one (Host.exp (Host.negf g))))) u

/-- The reference's result by its steps. -/
def result (l : Fin 2) (x : FVec F S8192x2048 .bf16) (wg wu : FVec F S2x2048x5632 .f32) : FVec F S8192x5632 .bf16 :=
  truncf .bf16 (gate (product l x wg) (product l x wu)) bitsLt_bf16_f32

end Defs

/-- A weight of a dense layer. -/
theorem layer_apply (l : Fin 2) (w : FVec Ideal S2x2048x5632 .f32) (d : Fin 2048) (f : Fin 5632) : layer l w (ix2 d f) = at3 l w d.val f.val := by
  refine (shapeCast_apply _ _ _ (ix3 0 d f) ?_).trans ?_
  · refine (rowMajor_val3 _ 11534336 5632 rfl rfl).trans (Eq.trans ?_ (rowMajor_val2 _ 5632 rfl).symm)
    show 0 * 11534336 + d.val * 5632 + f.val = d.val * 5632 + f.val
    omega
  · refine (congrArg w (funext fun a => Fin.ext ?_)).trans (at3_eq l w d f)
    match a with
    | ⟨0, _⟩ => exact Nat.add_zero _
    | ⟨1, _⟩ => exact Nat.zero_add _
    | ⟨2, _⟩ => exact Nat.zero_add _

/-- A row times a column of the weights. -/
theorem product_apply (l : Fin 2) (x : FVec Ideal S8192x2048 .bf16) (w : FVec Ideal S2x2048x5632 .f32) (r : Fin 8192) (f : Fin 5632) :
    product l x w (ix2 r f) = dot l x w r.val f.val := by
  unfold product
  show FloatOps.dotGeneral _ none _ _ _ (ix2 r f) = _
  rw [Ideal.dotGeneral_apply,
    ← Equiv.sum_comp (contrEquiv1 dot_S8192x2048_S2048x5632_S8192x5632_1_0_0_1_n_n 2048 rfl rfl).symm]
  unfold dot
  refine Finset.sum_congr rfl fun d _ => ?_
  have c3 := contrEquiv1_symm_val dot_S8192x2048_S2048x5632_S8192x5632_1_0_0_1_n_n 2048 rfl rfl d
  refine congrArg₂ (· * ·) ((congrArg x ?_).trans (at2_eq x (ix2 r d))) ((congrArg (layer l w) ?_).trans (layer_apply l w d f)) <;>
    funext ax <;> apply Fin.ext
  · match ax with
    | ⟨0, _⟩ => rfl
    | ⟨1, _⟩ => exact c3
  · match ax with
    | ⟨0, _⟩ => exact c3
    | ⟨1, _⟩ => rfl

/-- The gated product, entry by entry. -/
theorem gate_apply (g u : FVec Ideal S8192x5632 .f32) (j : S8192x5632.Idx) : gate g u j = gated (g j) (u j) := by
  have h1 : one (F := Ideal) j = 1 := Ideal.ofBits_one_f32
  show g j * Ideal.div (one (F := Ideal) j) (one (F := Ideal) j + Ideal.exp (-(g j))) * u j = _
  rw [h1]
  rfl

/-- THE REFERENCE'S RESULT is the hidden layer. -/
theorem result_eq (l : Fin 2) (x : FVec Ideal S8192x2048 .bf16) (wg wu : FVec Ideal S2x2048x5632 .f32) : result l x wg wu = Cert.Proof.Dense.hidden l x wg wu := by
  funext j
  show gate (product l x wg) (product l x wu) j = _
  rw [gate_apply]
  unfold Cert.Proof.Dense.hidden
  exact congrArg₂ gated ((congrArg (product l x wg) (eq_ix2 j)).trans (product_apply l x wg _ _)) ((congrArg (product l x wu) (eq_ix2 j)).trans (product_apply l x wu _ _))

end Cert.DenseReferenceIdeal.Steps

end
-- ==== Proof.DenseClaims.lean ====
/-
  The claims about the hidden layer of both dense layers: the kernel and its idealization run without a fault and
  come to rest, the reference too, and kernel and reference compute one array.
-/
module

public import proofs.«01_k».proof.Defs
public import proofs.«01_k».proof.Proof.Gen.Dense.Frame
public import proofs.«01_k».proof.Proof.Gen.DenseIdeal.Value
public import proofs.«01_k».proof.Proof.Gen.DenseReferenceIdeal.Run
public import proofs.«01_k».proof.Proof.Gen.DenseNext.Frame
public import proofs.«01_k».proof.Proof.Gen.DenseNextIdeal.Value
public import proofs.«01_k».proof.Proof.Gen.DenseNextReferenceIdeal.Run
public import proofs.«01_k».proof.Proof.DenseArray
public import proofs.«01_k».proof.Proof.DenseNextArray
public import proofs.«01_k».proof.Proof.DenseRef
public import Idealize.ShloMosaic.Lib.Quiescent

@[expose] public section

noncomputable section

open Idealize.ShloMosaic Idealize.ShloMosaic.TcCoe Idealize.SL.Sem

namespace Cert.Proof.Dense.Up.First

/-- The kernel runs and comes to rest. -/
theorem frame_kernel : Cert.quiescent_Dense := fun m ρ _ => Cert.Dense.Gen.frame m ρ
/-- So does its idealization. -/
theorem frame_ideal : Cert.quiescent_DenseIdeal := fun m ρ _ => Cert.DenseIdeal.Gen.frame m ρ
/-- So does the reference, which has no semaphores. -/
theorem frame_reference : Cert.quiescent_DenseReferenceIdeal := fun m ρ _ =>
  (θ_run Cert.DenseReferenceIdeal.defs _ _).mono (fun r h => ⟨fun c => (h c).2,
      Idealize.ShloMosaic.sem_eq_zero_of_no_sems (by decide) r.2⟩)
    (Cert.DenseReferenceIdeal.Value.run (F := Ideal) m ρ)

/-- The idealization rewrites no operation. -/
theorem preserves : Cert.preserves_Dense_DenseIdeal := trivial

/-- KERNEL AND REFERENCE COMPUTE ONE ARRAY, the hidden layer of the layer. -/
theorem algebraic : Cert.algebraic_DenseIdeal_DenseReferenceIdeal := by
  intro m ρ m' ρ' _ hagree
  refine ⟨_, (θ_run Cert.DenseIdeal.defs _ _).mono (fun _ h c => ⟨(h c).1.trans (array m c), (h c).2⟩)
    (Cert.DenseIdeal.Value.run_blocks (F := Ideal) m ρ), ?_⟩
  refine (θ_run Cert.DenseReferenceIdeal.defs _ _).mono (fun _ h c => ⟨(h c).1.trans ?_, (h c).2⟩)
    (Cert.DenseReferenceIdeal.Value.run (F := Ideal) m' ρ')
  obtain ⟨h0, h1, h2⟩ := hagree c
  rw [h0, h1, h2]
  exact Cert.DenseReferenceIdeal.Steps.result_eq 0 _ _ _

end Cert.Proof.Dense.Up.First

namespace Cert.Proof.Dense.Up.Second

/-- The kernel runs and comes to rest. -/
theorem frame_kernel : Cert.quiescent_DenseNext := fun m ρ _ => Cert.DenseNext.Gen.frame m ρ
/-- So does its idealization. -/
theorem frame_ideal : Cert.quiescent_DenseNextIdeal := fun m ρ _ => Cert.DenseNextIdeal.Gen.frame m ρ
/-- So does the reference, which has no semaphores. -/
theorem frame_reference : Cert.quiescent_DenseNextReferenceIdeal := fun m ρ _ =>
  (θ_run Cert.DenseNextReferenceIdeal.defs _ _).mono (fun r h => ⟨fun c => (h c).2,
      Idealize.ShloMosaic.sem_eq_zero_of_no_sems (by decide) r.2⟩)
    (Cert.DenseNextReferenceIdeal.Value.run (F := Ideal) m ρ)

/-- The idealization rewrites no operation. -/
theorem preserves : Cert.preserves_DenseNext_DenseNextIdeal := trivial

/-- KERNEL AND REFERENCE COMPUTE ONE ARRAY, the hidden layer of the layer. -/
theorem algebraic : Cert.algebraic_DenseNextIdeal_DenseNextReferenceIdeal := by
  intro m ρ m' ρ' _ hagree
  refine ⟨_, (θ_run Cert.DenseNextIdeal.defs _ _).mono (fun _ h c => ⟨(h c).1.trans (array m c), (h c).2⟩)
    (Cert.DenseNextIdeal.Value.run_blocks (F := Ideal) m ρ), ?_⟩
  refine (θ_run Cert.DenseNextReferenceIdeal.defs _ _).mono (fun _ h c => ⟨(h c).1.trans ?_, (h c).2⟩)
    (Cert.DenseNextReferenceIdeal.Value.run (F := Ideal) m' ρ')
  obtain ⟨h0, h1, h2⟩ := hagree c
  rw [h0, h1, h2]
  exact Cert.DenseReferenceIdeal.Steps.result_eq 1 _ _ _

end Cert.Proof.Dense.Up.Second

end
-- ==== Proof.DenseOutState.lean ====
module
public import proofs.«01_k».proof.Proof.DenseState
public import proofs.«01_k».proof.Proof.Gen.DenseOutIdeal.Frame

/-! # The dense output projection: what a grid point leaves

The first point of a column group casts the group's weights into the scratch and every point multiplies its
rows with what the scratch holds. -/

@[expose] public section
set_option maxRecDepth 16384
noncomputable section
namespace Cert.Proof.Dense.Out
open Cert.DenseOutIdeal Cert.DenseOutIdeal.Gen
open Cert.Proof.Dense.Up (zero2 zero3)
open Idealize.ShloMosaic hiding ix1 ix2 ix3 eq_ix1 eq_ix2 eq_ix3
open Idealize.ShloMosaic.TcCoe Idealize.ShloMosaic.ValueIdx Idealize.SL.Sem Idealize.ShloMosaic.Tactic
open Idealize.ShloMosaic.Pipeline (Dat)

variable {F : FTy → Type} [FloatOps F]

section Cases
variable (c : Dev nD) (i : grid0.Coords) (a2 : Memref sig .tc .vmem S512x5632 .bf16) (h2 : a2.IsWhole)
    (a3 : Memref sig .tc .vmem S1x5632x512 .f32) (h3 : a3.IsWhole) (a4 : Memref sig .tc .vmem S512x512 .f32) (h4 : a4.IsWhole)
    (a5 : Memref sig .tc .vmem S5632x512 .bf16) (h5 : a5.IsWhole) (x : Vec F S512x5632 .bf16) (w : Vec F S1x5632x512 .f32)

/-- The first point of a group leaves the cast weights and the product with them. -/
theorem first_point (hc : cond0_0 i) :
    (out0_A_2 c i a2 h2 a3 h3 a4 h4 a5 h5 hc x w, sout0_A_0 c i a2 h2 a3 h3 a4 h4 a5 h5 hc x w) = (k0_pay2 x (k0_pay1 w), k0_pay1 w) := by
  refine congrArg₂ Prod.mk ?_ ?_
  · unfold out0_A_2
    rw [View.read_writes_eq_canon _ _ _ (cover0_A_2 c i a2 h2 a3 h3 a4 h4 a5 h5 hc x w)]
    unfold kernelRun0_A
    dsimp only
    sl_unfold_words
    rw [View.canon_unit_zero zero2]
    simp only [View.readAt_eq_ld, h2.read_unread, h3.read_unread, View.ld_unit_zero (S := S1x5632x512) zero3,
      View.ld_unit_zero (S := S512x5632) zero2, View.readCov_unit_zero (S := S5632x512) _ zero2]
  · unfold sout0_A_0
    rw [View.read_writes_eq_canon _ _ _ (scover0_A_0 c i a2 h2 a3 h3 a4 h4 a5 h5 hc x w)]
    unfold kernelRun0_A
    dsimp only
    sl_unfold_words
    rw [View.canon_unit_zero zero2]
    simp only [View.readAt_eq_ld, h3.read_unread, View.ld_unit_zero (S := S1x5632x512) zero3]

/-- A later point leaves the product with what the scratch holds, and the scratch as it was. -/
theorem later_point (hc : ¬cond0_0 i) (s : Vec F S5632x512 .bf16) :
    (out0_B_2 c i a2 h2 a3 h3 a4 h4 a5 h5 hc x w s, sout0_B_0 c i a2 h2 a3 h3 a4 h4 a5 h5 hc x w s) = (k0_pay2 x s, s) := by
  refine congrArg₂ Prod.mk ?_ rfl
  unfold out0_B_2
  rw [View.read_writes_eq_canon _ _ _ (cover0_B_2 c i a2 h2 a3 h3 a4 h4 a5 h5 hc x w s)]
  unfold kernelRun0_B
  dsimp only
  rw [View.canon_unit_zero zero2]
  simp only [View.readAt_eq_ld, h2.read_unread, h5.read_unread,
    View.ld_unit_zero (S := S512x5632) zero2, View.ld_unit_zero (S := S5632x512) zero2]
end Cases

/-- A cast block of weights, entry by entry. -/
theorem cast_apply (w : FVec Ideal S1x5632x512 .f32) (d : Fin 5632) (f : Fin 512) : k0_pay1 (F := Ideal) w (ix2 d f) = w (ix3 0 d f) := by
  unfold k0_pay1
  rw [shapeCast_self]
  refine (shapeCast_apply _ _ _ (ix3 0 d f) ?_)
  refine (rowMajor_val3 _ 2883584 512 rfl rfl).trans (Eq.trans ?_ (rowMajor_val2 _ 512 rfl).symm)
  show 0 * 2883584 + d.val * 512 + f.val = d.val * 512 + f.val
  omega

/-- THE TILE: the product, entry by entry. -/
theorem tile_apply (x : FVec Ideal S512x5632 .bf16) (W : FVec Ideal S5632x512 .bf16) (r : Fin 512) (f : Fin 512) :
    k0_pay2 (F := Ideal) x W (ix2 r f) = ∑ d : Fin 5632, x (ix2 r d) * W (ix2 d f) :=
  (Ideal.matmul_plain_apply (M := 512) (K := 5632) (N := 512) none x W _ r f).trans
    (by rw [constant_apply, Ideal.ofBits_zero_f32, zero_add])

/-- What the points leave: the tile and the scratch after each point of a sequence of points. -/
abbrev States (F : FTy → Type) (N : ℕ) : Type := ∀ n, n < N → Vec F S512x512 .f32 × Vec F S5632x512 .bf16

/-- THE TILES of a layer: where the first point of each column group casts its weights and the others keep them,
    and each point multiplies its rows with the weights held, each point leaves its tile of the layer's output. -/
theorem tiles {N : ℕ} (l : Fin 2) (X : Matrix 8192 5632) (W : Stack 2 5632 2048) (s : States Ideal N)
    (x : Fin N → Vec Ideal S512x5632 .bf16) (w : Fin N → Vec Ideal S1x5632x512 .f32)
    (hx : ∀ t r d, x t (ix2 r d) = at2 X (t.val % 16 * 512 + r.val) d.val)
    (hw : ∀ t d f, w t (ix3 0 d f) = at3 l W d.val (t.val / 16 * 512 + f.val))
    (first : ∀ t : Fin N, t.val % 16 = 0 → s t.val t.isLt = (k0_pay2 (x t) (k0_pay1 (w t)), k0_pay1 (w t)))
    (later : ∀ n h, ¬(n + 1) % 16 = 0 → s (n + 1) h = (k0_pay2 (x ⟨n + 1, h⟩) (s n (Nat.lt_of_succ_lt h)).2, (s n (Nat.lt_of_succ_lt h)).2))
    (t : Fin N) (r : Fin 512) (f : Fin 512) :
    (s t.val t.isLt).1 (ix2 r f) = dot l X W (t.val % 16 * 512 + r.val) (t.val / 16 * 512 + f.val) := by
  have keep : ∀ n h, (s n h).2 = columns l W 512 (n / 16) :=
    held (fun n h => (s n h).2) (columns l W 512)
      (fun n h h0 => by
        show (s n h).2 = _
        rw [first ⟨n, h⟩ h0]
        exact funext fun j => (congrArg (k0_pay1 (F := Ideal) (w ⟨n, h⟩)) (eq_ix2 (j : S5632x512.Idx))).trans
          ((cast_apply (w ⟨n, h⟩) _ _).trans (hw ⟨n, h⟩ _ _)))
      (fun n h h0 => by
        show (s (n + 1) h).2 = _
        rw [later n h h0])
  have made : (s t.val t.isLt).1 = k0_pay2 (x t) (s t.val t.isLt).2 := by
    obtain ⟨n, h⟩ := t
    by_cases h0 : n % 16 = 0
    · show (s n h).1 = k0_pay2 _ (s n h).2
      rw [first ⟨n, h⟩ h0]
    · cases n with
      | zero => exact absurd (Nat.zero_mod 16) h0
      | succ n =>
        show (s (n + 1) h).1 = k0_pay2 _ (s (n + 1) h).2
        rw [later n h h0]
  rw [made, keep, tile_apply]
  exact dot_columns l X W _ _ _ r f (hx t r)
end Cert.Proof.Dense.Out
end
-- ==== Proof.DenseOutArray.lean ====
module
public import proofs.«01_k».proof.Proof.DenseOutState
public import proofs.«01_k».proof.Proof.Gen.DenseOutIdeal.Value

/-! # The dense output projection's array, first layer

What the scratch and a grid point's tile hold over the extended reals, and the array that the tiles make up. -/

@[expose] public section
set_option maxRecDepth 16384
noncomputable section
namespace Cert.Proof.Dense.Out.First
open Cert.DenseOutIdeal Cert.DenseOutIdeal.Gen
open Cert.Proof.Dense
open Idealize.ShloMosaic hiding ix1 ix2 ix3 eq_ix1 eq_ix2 eq_ix3
open Idealize.ShloMosaic.TcCoe Idealize.ShloMosaic.ValueIdx Idealize.SL.Sem
open Idealize.ShloMosaic.Pipeline (Dat)

variable (m : (ℓ : Loc nD τ sig) → Buf (Elt Ideal) ℓ)

/-- Where the rows lie. -/
theorem index0 : ∀ t : Fin cfg0.N, (cfg0.win 0).index t = ![t.val % 16, 0] :=
  (by decide +kernel : ∀ t : Fin grid0.N, cc0_transform_0 (grid0.coords t) = ![t.val % 16, 0])
/-- Where the weights lie. -/
theorem index1 : ∀ t : Fin cfg0.N, (cfg0.win 1).index t = ![0, 0, t.val / 16] :=
  (by decide +kernel : ∀ t : Fin grid0.N, cc0_transform_1 (grid0.coords t) = ![0, 0, t.val / 16])
/-- Where the tile of the result lies. -/
theorem index2 : ∀ t : Fin cfg0.N, (cfg0.win 2).index t = ![t.val % 16, t.val / 16] :=
  (by decide +kernel : ∀ t : Fin grid0.N, cc0_transform_2 (grid0.coords t) = ![t.val % 16, t.val / 16])

/-- The tiles make up the whole result. -/
theorem covers : (cfg0.win 2).Covers := by decide +kernel

/-- The rows at a grid point. -/
theorem rows_apply (c : Dev nD) (t : Fin cfg0.N) (r : Fin 512) (d : Fin 5632) :
    iblk m c 0 t (ix2 r d) = at2 (V m c main_arg0) (t.val % 16 * 512 + r.val) d.val := by
  have h0 : (cfg0.win 0).index t (0 : Fin 2) = t.val % 16 := congrFun (index0 t) (0 : Fin 2)
  have h1 : (cfg0.win 0).index t (1 : Fin 2) = 0 := congrFun (index0 t) (1 : Fin 2)
  blk_simp [iblk]
  refine (at2_eq (V m c main_arg0) _).trans (congrArg₂ (at2 (V m c main_arg0)) ?_ ?_)
  · blk_simp; rw [h0]
  · blk_simp; rw [h1]; show 0 * 5632 + d.val = d.val; omega

/-- The weights at a grid point. -/
theorem weights_apply (c : Dev nD) (t : Fin cfg0.N) (d : Fin 5632) (f : Fin 512) :
    iblk m c 1 t (ix3 0 d f) = at3 0 (V m c main_arg1) d.val (t.val / 16 * 512 + f.val) := by
  have h0 : (cfg0.win 1).index t (0 : Fin 3) = 0 := congrFun (index1 t) (0 : Fin 3)
  have h1 : (cfg0.win 1).index t (1 : Fin 3) = 0 := congrFun (index1 t) (1 : Fin 3)
  have h2 : (cfg0.win 1).index t (2 : Fin 3) = t.val / 16 := congrFun (index1 t) (2 : Fin 3)
  blk_simp [iblk]
  refine (at3_idx 0 (V m c main_arg1) _ ?_).trans (congrArg₂ (at3 0 (V m c main_arg1)) ?_ ?_)
  · blk_simp; rw [h0]; rfl
  · blk_simp; rw [h1]; show 0 * 5632 + d.val = d.val; omega
  · blk_simp; rw [h2]

/-- What a grid point leaves in its tile. -/
theorem out_apply (c : Dev nD) (t : Fin cfg0.N) (r : Fin 512) (f : Fin 512) :
    (outsAt0 m c t.val t.isLt).1 (ix2 r f) = dot 0 (V m c main_arg0) (V m c main_arg1) (t.val % 16 * 512 + r.val) (t.val / 16 * 512 + f.val) :=
  tiles 0 _ _ (outsAt0 m c) (iblk m c 0) (iblk m c 1) (rows_apply m c) (weights_apply m c)
    (fun t h0 => (outsAt0_A m c t h0).trans <| first_point c (grid0.coords t) (ms0_0 t) (hs0_0 t) (ms0_1 t) (hs0_1 t) (ms0_2 t) (hs0_2 t) scM0_0 (Memref.isWhole_whole _)
      (iblk m c 0 t) (iblk m c 1 t) ((hcond0_0 t).mpr h0))
    (fun n h h0 => (outsAt0_B m c ⟨n + 1, h⟩ h0).trans <| later_point c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
      (iblk m c 0 ⟨n + 1, h⟩) (iblk m c 1 ⟨n + 1, h⟩) (fun h' => h0 ((hcond0_0 ⟨n + 1, h⟩).mp h')) (outsAt0 m c n (Nat.lt_of_succ_lt h)).2) t r f

/-- THE KERNEL'S RESULT is the layer's output. -/
theorem array (c : Dev nD) : (dats m 0 c).arrAt 2 cfg0.N = projected 0 (V m c main_arg0) (V m c main_arg1) := by
  refine (dats m 0 c).arrAt_eq_of_covers 2 _ covers fun t hf y => ?_
  have h0 : (cfg0.win 2).index t (0 : Fin 2) = t.val % 16 := congrFun (index2 t) (0 : Fin 2)
  have h1 : (cfg0.win 2).index t (1 : Fin 2) = t.val / 16 := congrFun (index2 t) (1 : Fin 2)
  blk_simp
  rw [after0_2]
  refine (congrArg (outsAt0 m c t.val t.isLt).1 (eq_ix2 (y : S512x512.Idx))).trans ((out_apply m c t _ _).trans ?_)
  unfold projected
  refine congrArg₂ (dot _ _ _) ?_ ?_
  · blk_simp; rw [h0]
  · blk_simp; rw [h1]
end Cert.Proof.Dense.Out.First
end
-- ==== Proof.DenseOutNextArray.lean ====
module
public import proofs.«01_k».proof.Proof.DenseOutArray
public import proofs.«01_k».proof.Proof.Gen.DenseOutNextIdeal.Value

/-! # The dense output projection's array, second layer

What the scratch and a grid point's tile hold over the extended reals, and the array that the tiles make up. -/

@[expose] public section
set_option maxRecDepth 16384
noncomputable section
namespace Cert.Proof.Dense.Out.Second
open Cert.DenseOutNextIdeal Cert.DenseOutNextIdeal.Gen
open Cert.Proof.Dense
open Idealize.ShloMosaic hiding ix1 ix2 ix3 eq_ix1 eq_ix2 eq_ix3
open Idealize.ShloMosaic.TcCoe Idealize.ShloMosaic.ValueIdx Idealize.SL.Sem
open Idealize.ShloMosaic.Pipeline (Dat)

variable (m : (ℓ : Loc nD τ sig) → Buf (Elt Ideal) ℓ)

/-- Where the rows lie. -/
theorem index0 : ∀ t : Fin cfg0.N, (cfg0.win 0).index t = ![t.val % 16, 0] := First.index0
/-- Where the weights lie. -/
theorem index1 : ∀ t : Fin cfg0.N, (cfg0.win 1).index t = ![1, 0, t.val / 16] :=
  (by decide +kernel : ∀ t : Fin grid0.N, cc0_transform_1 (grid0.coords t) = ![1, 0, t.val / 16])
/-- Where the tile of the result lies. -/
theorem index2 : ∀ t : Fin cfg0.N, (cfg0.win 2).index t = ![t.val % 16, t.val / 16] := First.index2

/-- The tiles make up the whole result. -/
theorem covers : (cfg0.win 2).Covers := First.covers

/-- The rows at a grid point. -/
theorem rows_apply (c : Dev nD) (t : Fin cfg0.N) (r : Fin 512) (d : Fin 5632) :
    iblk m c 0 t (ix2 r d) = at2 (V m c main_arg0) (t.val % 16 * 512 + r.val) d.val :=
  First.rows_apply m c t r d

/-- The weights at a grid point. -/
theorem weights_apply (c : Dev nD) (t : Fin cfg0.N) (d : Fin 5632) (f : Fin 512) :
    iblk m c 1 t (ix3 0 d f) = at3 1 (V m c main_arg1) d.val (t.val / 16 * 512 + f.val) := by
  have h0 : (cfg0.win 1).index t (0 : Fin 3) = 1 := congrFun (index1 t) (0 : Fin 3)
  have h1 : (cfg0.win 1).index t (1 : Fin 3) = 0 := congrFun (index1 t) (1 : Fin 3)
  have h2 : (cfg0.win 1).index t (2 : Fin 3) = t.val / 16 := congrFun (index1 t) (2 : Fin 3)
  blk_simp [iblk]
  refine (at3_idx 1 (V m c main_arg1) _ ?_).trans (congrArg₂ (at3 1 (V m c main_arg1)) ?_ ?_)
  · blk_simp; rw [h0]; rfl
  · blk_simp; rw [h1]; show 0 * 5632 + d.val = d.val; omega
  · blk_simp; rw [h2]

/-- What a grid point leaves in its tile. -/
theorem out_apply (c : Dev nD) (t : Fin cfg0.N) (r : Fin 512) (f : Fin 512) :
    (outsAt0 m c t.val t.isLt).1 (ix2 r f) = dot 1 (V m c main_arg0) (V m c main_arg1) (t.val % 16 * 512 + r.val) (t.val / 16 * 512 + f.val) :=
  tiles 1 _ _ (outsAt0 m c) (iblk m c 0) (iblk m c 1) (rows_apply m c) (weights_apply m c)
    (fun t h0 => (outsAt0_A m c t h0).trans <| first_point c (grid0.coords t) (ms0_0 t) (hs0_0 t) (ms0_1 t) (hs0_1 t) (ms0_2 t) (hs0_2 t) scM0_0 (Memref.isWhole_whole _)
      (iblk m c 0 t) (iblk m c 1 t) ((hcond0_0 t).mpr h0))
    (fun n h h0 => (outsAt0_B m c ⟨n + 1, h⟩ h0).trans <| later_point c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
      (iblk m c 0 ⟨n + 1, h⟩) (iblk m c 1 ⟨n + 1, h⟩) (fun h' => h0 ((hcond0_0 ⟨n + 1, h⟩).mp h')) (outsAt0 m c n (Nat.lt_of_succ_lt h)).2) t r f

/-- THE KERNEL'S RESULT is the layer's output. -/
theorem array (c : Dev nD) : (dats m 0 c).arrAt 2 cfg0.N = projected 1 (V m c main_arg0) (V m c main_arg1) := by
  refine (dats m 0 c).arrAt_eq_of_covers 2 _ covers fun t hf y => ?_
  have h0 : (cfg0.win 2).index t (0 : Fin 2) = t.val % 16 := congrFun (index2 t) (0 : Fin 2)
  have h1 : (cfg0.win 2).index t (1 : Fin 2) = t.val / 16 := congrFun (index2 t) (1 : Fin 2)
  blk_simp
  rw [after0_2]
  refine (congrArg (outsAt0 m c t.val t.isLt).1 (eq_ix2 (y : S512x512.Idx))).trans ((out_apply m c t _ _).trans ?_)
  unfold projected
  refine congrArg₂ (dot _ _ _) ?_ ?_
  · blk_simp; rw [h0]
  · blk_simp; rw [h1]
end Cert.Proof.Dense.Out.Second
end
-- ==== Proof.DenseOutRef.lean ====
/-
  The dense output projection's reference over the extended reals, step by step, each step read at an index.
-/
module

public import proofs.«01_k».proof.Proof.Gen.DenseOutReferenceIdeal.Run
public import proofs.«01_k».proof.Proof.DenseLayer
public import Idealize.ShloMosaic.Lib.ValueIdx
public import Idealize.ShloMosaic.Lib.IdealHost
public import Idealize.ShloMosaic.Lib.Pipeline.Value
public import Idealize.ShloMosaic.Lib.Pointwise

@[expose] public section

set_option maxRecDepth 16384

noncomputable section

namespace Cert.DenseOutReferenceIdeal.Steps

open Cert.DenseOutReferenceIdeal Cert.DenseOutReferenceIdeal.Gen Idealize.ShloMosaic.TcCoe Idealize.SL.Sem
open Cert.Proof.Dense (at2 at3 dot at2_eq at3_eq)
open Idealize.ShloMosaic hiding ix0 ix1 ix2 ix3 ix4 ix5 eq_ix1 eq_ix2 eq_ix3 eq_ix4
open Idealize.ShloMosaic.ValueIdx

section Defs

variable {F : FTy → Type} [FloatOps F]

/-- A layer's weights are a slice of all weights. -/
theorem slices (l : Fin 2) : S2x5632x2048.Slices ![l.val, 0, 0] S1x5632x2048 := by revert l; decide

/-- The weights of dense layer `l`. -/
def layer (l : Fin 2) (w : FVec F S2x5632x2048 .f32) : FVec F S5632x2048 .f32 :=
  shapeCast _ (extractStridedSlice S1x5632x2048 ![l.val, 0, 0] w (slices l)) shapeCasts_S1x5632x2048_S5632x2048

/-- Every row times the layer's weights. -/
def product (l : Fin 2) (x : FVec F S8192x5632 .bf16) (w : FVec F S2x5632x2048 .f32) : FVec F S8192x2048 .f32 :=
  Host.dotGeneral dot_S8192x5632_S5632x2048_S8192x2048_1_0_0_1_n_n none (extf .f32 x bitsLt_bf16_f32) (layer l w)

end Defs

/-- A weight of a dense layer. -/
theorem layer_apply (l : Fin 2) (w : FVec Ideal S2x5632x2048 .f32) (d : Fin 5632) (f : Fin 2048) : layer l w (ix2 d f) = at3 l w d.val f.val := by
  refine (shapeCast_apply _ _ _ (ix3 0 d f) ?_).trans ?_
  · refine (rowMajor_val3 _ 11534336 2048 rfl rfl).trans (Eq.trans ?_ (rowMajor_val2 _ 2048 rfl).symm)
    show 0 * 11534336 + d.val * 2048 + f.val = d.val * 2048 + f.val
    omega
  · refine (congrArg w (funext fun a => Fin.ext ?_)).trans (at3_eq l w d f)
    match a with
    | ⟨0, _⟩ => exact Nat.add_zero _
    | ⟨1, _⟩ => exact Nat.zero_add _
    | ⟨2, _⟩ => exact Nat.zero_add _

/-- A row times a column of the weights. -/
theorem product_apply (l : Fin 2) (x : FVec Ideal S8192x5632 .bf16) (w : FVec Ideal S2x5632x2048 .f32) (r : Fin 8192) (f : Fin 2048) :
    product l x w (ix2 r f) = dot l x w r.val f.val := by
  unfold product
  show FloatOps.dotGeneral _ none _ _ _ (ix2 r f) = _
  rw [Ideal.dotGeneral_apply,
    ← Equiv.sum_comp (contrEquiv1 dot_S8192x5632_S5632x2048_S8192x2048_1_0_0_1_n_n 5632 rfl rfl).symm]
  unfold dot
  refine Finset.sum_congr rfl fun d _ => ?_
  have c3 := contrEquiv1_symm_val dot_S8192x5632_S5632x2048_S8192x2048_1_0_0_1_n_n 5632 rfl rfl d
  refine congrArg₂ (· * ·) ((congrArg x ?_).trans (at2_eq x (ix2 r d))) ((congrArg (layer l w) ?_).trans (layer_apply l w d f)) <;>
    funext ax <;> apply Fin.ext
  · match ax with
    | ⟨0, _⟩ => rfl
    | ⟨1, _⟩ => exact c3
  · match ax with
    | ⟨0, _⟩ => exact c3
    | ⟨1, _⟩ => rfl

/-- THE REFERENCE'S RESULT is the layer's output. -/
theorem result_eq (l : Fin 2) (x : FVec Ideal S8192x5632 .bf16) (w : FVec Ideal S2x5632x2048 .f32) : product l x w = Cert.Proof.Dense.projected l x w :=
  funext fun j => (congrArg (product l x w) (eq_ix2 j)).trans (product_apply l x w _ _)

end Cert.DenseOutReferenceIdeal.Steps

end
-- ==== Proof.DenseOutClaims.lean ====
/-
  The claims about the output projection of both dense layers: the kernel and its idealization run without a fault
  and come to rest, the reference too, and kernel and reference compute one array.
-/
module

public import proofs.«01_k».proof.Defs
public import proofs.«01_k».proof.Proof.Gen.DenseOut.Frame
public import proofs.«01_k».proof.Proof.Gen.DenseOutIdeal.Value
public import proofs.«01_k».proof.Proof.Gen.DenseOutReferenceIdeal.Run
public import proofs.«01_k».proof.Proof.Gen.DenseOutNext.Frame
public import proofs.«01_k».proof.Proof.Gen.DenseOutNextIdeal.Value
public import proofs.«01_k».proof.Proof.Gen.DenseOutNextReferenceIdeal.Run
public import proofs.«01_k».proof.Proof.DenseOutArray
public import proofs.«01_k».proof.Proof.DenseOutNextArray
public import proofs.«01_k».proof.Proof.DenseOutRef
public import Idealize.ShloMosaic.Lib.Quiescent

@[expose] public section

noncomputable section

open Idealize.ShloMosaic Idealize.ShloMosaic.TcCoe Idealize.SL.Sem

namespace Cert.Proof.Dense.Out.First

/-- The kernel runs and comes to rest. -/
theorem frame_kernel : Cert.quiescent_DenseOut := fun m ρ _ => Cert.DenseOut.Gen.frame m ρ
/-- So does its idealization. -/
theorem frame_ideal : Cert.quiescent_DenseOutIdeal := fun m ρ _ => Cert.DenseOutIdeal.Gen.frame m ρ
/-- So does the reference, which has no semaphores. -/
theorem frame_reference : Cert.quiescent_DenseOutReferenceIdeal := fun m ρ _ =>
  (θ_run Cert.DenseOutReferenceIdeal.defs _ _).mono (fun r h => ⟨fun c => (h c).2,
      Idealize.ShloMosaic.sem_eq_zero_of_no_sems (by decide) r.2⟩)
    (Cert.DenseOutReferenceIdeal.Value.run (F := Ideal) m ρ)

/-- The idealization rewrites no operation. -/
theorem preserves : Cert.preserves_DenseOut_DenseOutIdeal := trivial

/-- KERNEL AND REFERENCE COMPUTE ONE ARRAY, the output of the layer. -/
theorem algebraic : Cert.algebraic_DenseOutIdeal_DenseOutReferenceIdeal := by
  intro m ρ m' ρ' _ hagree
  refine ⟨_, (θ_run Cert.DenseOutIdeal.defs _ _).mono (fun _ h c => ⟨(h c).1.trans (array m c), (h c).2⟩)
    (Cert.DenseOutIdeal.Value.run_blocks (F := Ideal) m ρ), ?_⟩
  refine (θ_run Cert.DenseOutReferenceIdeal.defs _ _).mono (fun _ h c => ⟨(h c).1.trans ?_, (h c).2⟩)
    (Cert.DenseOutReferenceIdeal.Value.run (F := Ideal) m' ρ')
  obtain ⟨h0, h1⟩ := hagree c
  rw [h0, h1]
  exact Cert.DenseOutReferenceIdeal.Steps.result_eq 0 _ _

end Cert.Proof.Dense.Out.First

namespace Cert.Proof.Dense.Out.Second

/-- The kernel runs and comes to rest. -/
theorem frame_kernel : Cert.quiescent_DenseOutNext := fun m ρ _ => Cert.DenseOutNext.Gen.frame m ρ
/-- So does its idealization. -/
theorem frame_ideal : Cert.quiescent_DenseOutNextIdeal := fun m ρ _ => Cert.DenseOutNextIdeal.Gen.frame m ρ
/-- So does the reference, which has no semaphores. -/
theorem frame_reference : Cert.quiescent_DenseOutNextReferenceIdeal := fun m ρ _ =>
  (θ_run Cert.DenseOutNextReferenceIdeal.defs _ _).mono (fun r h => ⟨fun c => (h c).2,
      Idealize.ShloMosaic.sem_eq_zero_of_no_sems (by decide) r.2⟩)
    (Cert.DenseOutNextReferenceIdeal.Value.run (F := Ideal) m ρ)

/-- The idealization rewrites no operation. -/
theorem preserves : Cert.preserves_DenseOutNext_DenseOutNextIdeal := trivial

/-- KERNEL AND REFERENCE COMPUTE ONE ARRAY, the output of the layer. -/
theorem algebraic : Cert.algebraic_DenseOutNextIdeal_DenseOutNextReferenceIdeal := by
  intro m ρ m' ρ' _ hagree
  refine ⟨_, (θ_run Cert.DenseOutNextIdeal.defs _ _).mono (fun _ h c => ⟨(h c).1.trans (array m c), (h c).2⟩)
    (Cert.DenseOutNextIdeal.Value.run_blocks (F := Ideal) m ρ), ?_⟩
  refine (θ_run Cert.DenseOutNextReferenceIdeal.defs _ _).mono (fun _ h c => ⟨(h c).1.trans ?_, (h c).2⟩)
    (Cert.DenseOutNextReferenceIdeal.Value.run (F := Ideal) m' ρ')
  obtain ⟨h0, h1⟩ := hagree c
  rw [h0, h1]
  exact Cert.DenseOutReferenceIdeal.Steps.result_eq 1 _ _

end Cert.Proof.Dense.Out.Second

end
-- ==== Proof.InQkvState.lean ====
module
public import proofs.«01_k».proof.Proof.DenseLayer
public import proofs.«01_k».proof.Proof.Gen.InQkvIdeal.Frame
public import Idealize.ShloMosaic.Lib.MatmulPlain
public import Idealize.ShloMosaic.Lib.WordCmp
public import Idealize.ShloMosaic.Lib.Pipeline.ValueKit
public import Idealize.ShloMosaic.Lib.Tactic

/-! # Queries, keys and values: what they are and what a grid point leaves

Each row of the input times each row of the layer's weights, the queries' times the factor of the scores. The
first point of a column group casts the group's weights into the scratch and every point multiplies its rows
with what the scratch holds. -/

@[expose] public section
set_option maxRecDepth 16384
noncomputable section
namespace Cert.Proof.InQkv
open Cert.InQkvIdeal Cert.InQkvIdeal.Gen
open Cert.Proof.Dense (Matrix Stack at2 at3 held)
open Idealize.ShloMosaic hiding ix1 ix2 ix3 eq_ix1 eq_ix2 eq_ix3
open Idealize.ShloMosaic.TcCoe Idealize.ShloMosaic.ValueIdx Idealize.SL.Sem Idealize.ShloMosaic.Tactic
open Idealize.ShloMosaic.Pipeline (Dat)

/-- A row times a row of the weights of layer `l`. -/
def rowDot {L A B C : ℕ} (l : Fin L) (x : Matrix A B) (w : Stack L C B) (r f : ℕ) : EReal := ∑ d : Fin B, at2 x r d.val * at3 l w f d.val
/-- What a column is multiplied with: the queries' factor, or one. -/
def factor (f : ℕ) : EReal := if f < 1024 then Ideal.ofBits .f32 0x3E0293EE#32 else Ideal.ofBits .f32 0x3F800000#32
/-- Queries, keys and values of layer `l`. -/
def projected (l : Fin 4) (x : Matrix 8192 2048) (w : Stack 4 8256 2048) : Matrix 8192 3072 :=
  fun j => rowDot l x w (j 0).val (j 1).val * factor (j 1).val
/-- Group `k` of the rows of the weights of layer `l`. -/
def rowsOf {L A B : ℕ} (l : Fin L) (w : Stack L A B) (C k : ℕ) : Matrix C B := fun j => at3 l w (k * C + (j 0).val) (j 1).val

/-- Two zero offsets. -/
theorem zero2 : (![0, 0] : Fin 2 → Nat) = fun _ => 0 := funext fun a => by fin_cases a <;> rfl
/-- Three zero offsets. -/
theorem zero3 : (![0, 0, 0] : Fin 3 → Nat) = fun _ => 0 := funext fun a => by fin_cases a <;> rfl

variable {F : FTy → Type} [FloatOps F]

section Cases
variable (c : Dev nD) (i : grid0.Coords) (a2 : Memref sig .tc .vmem S1024x2048 .bf16) (h2 : a2.IsWhole)
    (a3 : Memref sig .tc .vmem S1x1024x2048 .f32) (h3 : a3.IsWhole) (a4 : Memref sig .tc .vmem S1024x1024 .bf16) (h4 : a4.IsWhole)
    (a5 : Memref sig .tc .vmem S1024x2048 .bf16) (h5 : a5.IsWhole) (x : Vec F S1024x2048 .bf16) (w : Vec F S1x1024x2048 .f32)

/-- The first point of a group leaves the cast weights and the product with them. -/
theorem first_point (hc : cond0_0 i) :
    (out0_A_2 c i a2 h2 a3 h3 a4 h4 a5 h5 hc x w, sout0_A_0 c i a2 h2 a3 h3 a4 h4 a5 h5 hc x w) = (k0_pay2 i x (k0_pay1 w), k0_pay1 w) := by
  refine congrArg₂ Prod.mk ?_ ?_
  · unfold out0_A_2
    rw [View.read_writes_eq_canon _ _ _ (cover0_A_2 c i a2 h2 a3 h3 a4 h4 a5 h5 hc x w)]
    unfold kernelRun0_A
    dsimp only
    sl_unfold_words
    rw [View.canon_unit_zero zero2]
    simp only [View.readAt_eq_ld, h2.read_unread, h3.read_unread, View.ld_unit_zero (S := S1x1024x2048) zero3,
      View.ld_unit_zero (S := S1024x2048) zero2, View.readCov_unit_zero (S := S1024x2048) _ zero2]
  · unfold sout0_A_0
    rw [View.read_writes_eq_canon _ _ _ (scover0_A_0 c i a2 h2 a3 h3 a4 h4 a5 h5 hc x w)]
    unfold kernelRun0_A
    dsimp only
    sl_unfold_words
    rw [View.canon_unit_zero zero2]
    simp only [View.readAt_eq_ld, h3.read_unread, View.ld_unit_zero (S := S1x1024x2048) zero3]

/-- A later point leaves the product with what the scratch holds, and the scratch as it was. -/
theorem later_point (hc : ¬cond0_0 i) (s : Vec F S1024x2048 .bf16) :
    (out0_B_2 c i a2 h2 a3 h3 a4 h4 a5 h5 hc x w s, sout0_B_0 c i a2 h2 a3 h3 a4 h4 a5 h5 hc x w s) = (k0_pay2 i x s, s) := by
  refine congrArg₂ Prod.mk ?_ rfl
  unfold out0_B_2
  rw [View.read_writes_eq_canon _ _ _ (cover0_B_2 c i a2 h2 a3 h3 a4 h4 a5 h5 hc x w s)]
  unfold kernelRun0_B
  dsimp only
  rw [View.canon_unit_zero zero2]
  simp only [View.readAt_eq_ld, h2.read_unread, h5.read_unread, View.ld_unit_zero (S := S1024x2048) zero2]
end Cases

/-- A cast block of weights, entry by entry. -/
theorem cast_apply (w : FVec Ideal S1x1024x2048 .f32) (f : Fin 1024) (d : Fin 2048) : k0_pay1 (F := Ideal) w (ix2 f d) = w (ix3 0 f d) := by
  unfold k0_pay1
  rw [shapeCast_self]
  refine (shapeCast_apply _ _ _ (ix3 0 f d) ?_)
  refine (rowMajor_val3 _ 2097152 2048 rfl rfl).trans (Eq.trans ?_ (rowMajor_val2 _ 2048 rfl).symm)
  show 0 * 2097152 + f.val * 2048 + d.val = f.val * 2048 + d.val
  omega

/-- The factor as the kernel and the reference choose it, by comparing words. -/
theorem factor_eq (n k : ℕ) (hn : n < 2 ^ 31) (hk : k < 2 ^ 31) :
    Scalar.select (IntOp.cmpi .slt (BitVec.ofNat 32 n) (BitVec.ofNat 32 k)) (Ideal.ofBits .f32 0x3E0293EE#32) (Ideal.ofBits .f32 0x3F800000#32)
      = if n < k then Ideal.ofBits .f32 0x3E0293EE#32 else Ideal.ofBits .f32 0x3F800000#32 := by
  rw [WordCmp.cmpi_slt_ofNat hn hk, WordCmp.ofBool_decide_eq_ite]
  by_cases h : n < k
  · rw [if_pos h, if_pos h]; rfl
  · rw [if_neg h, if_neg h]; rfl

/-- THE TILE: the product times the factor, entry by entry. -/
theorem tile_apply (i : grid0.Coords) (x W : FVec Ideal S1024x2048 .bf16) (r f : Fin 1024) :
    k0_pay2 (F := Ideal) i x W (ix2 r f) = (∑ d : Fin 2048, x (ix2 r d) * W (ix2 f d)) * factor ((i 0).val * 1024 + f.val) := by
  have hi : (i 0).val < 3 := (i 0).isLt
  have hm : matmul (F := Ideal) dot_S1024x2048_S1024x2048_S1024x1024_1_1_0_0_n_n none x W (constant S1024x1024 .f32 0x00000000#32) (ix2 r f)
        = ∑ d : Fin 2048, x (ix2 r d) * W (ix2 f d) :=
    (Ideal.matmul_transposedRhs_apply (M := 1024) (K := 2048) (N := 1024) none x W _ r f).trans
      (by rw [constant_apply, Ideal.ofBits_zero_f32, zero_add])
  have hf : factor ((i 0).val * 1024 + f.val) = Scalar.select (IntOp.cmpi .slt (BitVec.ofNat 32 (i 0).val) (BitVec.ofNat 32 1)) (Ideal.ofBits .f32 0x3E0293EE#32) (Ideal.ofBits .f32 0x3F800000#32) := by
    rw [factor_eq _ _ (by omega) (by omega), factor]
    by_cases h : (i 0).val < 1
    · rw [if_pos h, if_pos (by omega)]
    · rw [if_neg h, if_neg (by omega)]
  rw [← hm, hf]
  rfl

/-- What the points leave: the tile and the scratch after each point of a sequence of points. -/
abbrev States (F : FTy → Type) (N : ℕ) : Type := ∀ n, n < N → Vec F S1024x1024 .bf16 × Vec F S1024x2048 .bf16

/-- THE TILES of a layer: where the first point of each column group casts its weights and the others keep them,
    and each point multiplies its rows with the weights held, each point leaves its tile. -/
theorem tiles {N : ℕ} (l : Fin 4) (X : Matrix 8192 2048) (W : Stack 4 8256 2048) (s : States Ideal N) (i : Fin N → grid0.Coords)
    (x : Fin N → Vec Ideal S1024x2048 .bf16) (w : Fin N → Vec Ideal S1x1024x2048 .f32)
    (hi : ∀ t, (i t 0).val = t.val / 8)
    (hx : ∀ t r d, x t (ix2 r d) = at2 X (t.val % 8 * 1024 + r.val) d.val)
    (hw : ∀ t f d, w t (ix3 0 f d) = at3 l W (t.val / 8 * 1024 + f.val) d.val)
    (first : ∀ t : Fin N, t.val % 8 = 0 → s t.val t.isLt = (k0_pay2 (i t) (x t) (k0_pay1 (w t)), k0_pay1 (w t)))
    (later : ∀ n h, ¬(n + 1) % 8 = 0 → s (n + 1) h = (k0_pay2 (i ⟨n + 1, h⟩) (x ⟨n + 1, h⟩) (s n (Nat.lt_of_succ_lt h)).2, (s n (Nat.lt_of_succ_lt h)).2))
    (t : Fin N) (r f : Fin 1024) :
    (s t.val t.isLt).1 (ix2 r f) = rowDot l X W (t.val % 8 * 1024 + r.val) (t.val / 8 * 1024 + f.val) * factor (t.val / 8 * 1024 + f.val) := by
  have keep : ∀ n h, (s n h).2 = rowsOf l W 1024 (n / 8) :=
    held (fun n h => (s n h).2) (rowsOf l W 1024)
      (fun n h h0 => by
        show (s n h).2 = _
        rw [first ⟨n, h⟩ h0]
        exact funext fun j => (congrArg (k0_pay1 (F := Ideal) (w ⟨n, h⟩)) (eq_ix2 (j : S1024x2048.Idx))).trans
          ((cast_apply (w ⟨n, h⟩) _ _).trans (hw ⟨n, h⟩ _ _)))
      (fun n h h0 => by
        show (s (n + 1) h).2 = _
        rw [later n h h0])
  have made : (s t.val t.isLt).1 = k0_pay2 (i t) (x t) (s t.val t.isLt).2 := by
    obtain ⟨n, h⟩ := t
    by_cases h0 : n % 8 = 0
    · show (s n h).1 = k0_pay2 _ _ (s n h).2
      rw [first ⟨n, h⟩ h0]
    · cases n with
      | zero => exact absurd (Nat.zero_mod 8) h0
      | succ n =>
        show (s (n + 1) h).1 = k0_pay2 _ _ (s (n + 1) h).2
        rw [later n h h0]
  rw [made, keep, tile_apply, hi]
  exact congrArg (· * _) (Finset.sum_congr rfl fun d _ => congrArg (· * _) (hx t r d))
end Cert.Proof.InQkv
end
-- ==== Proof.InQkvArray.lean ====
module
public import proofs.«01_k».proof.Proof.InQkvState
public import proofs.«01_k».proof.Proof.Gen.InQkvIdeal.Value

/-! # The array of queries, keys and values, first layer

What a grid point's tile holds over the extended reals, and the array that the tiles make up. -/

@[expose] public section
set_option maxRecDepth 16384
noncomputable section
namespace Cert.Proof.InQkv.First
open Cert.InQkvIdeal Cert.InQkvIdeal.Gen
open Cert.Proof.InQkv
open Cert.Proof.Dense (Matrix Stack at2 at3 at2_eq at3_idx)
open Idealize.ShloMosaic hiding ix1 ix2 ix3 eq_ix1 eq_ix2 eq_ix3
open Idealize.ShloMosaic.TcCoe Idealize.ShloMosaic.ValueIdx Idealize.SL.Sem
open Idealize.ShloMosaic.Pipeline (Dat)

variable (m : (ℓ : Loc nD τ sig) → Buf (Elt Ideal) ℓ)

/-- The column group of a grid point. -/
theorem group : ∀ t : Fin cfg0.N, (grid0.coords t 0).val = t.val / 8 :=
  (by decide +kernel : ∀ t : Fin grid0.N, (grid0.coords t 0).val = t.val / 8)
/-- Where the rows lie. -/
theorem index0 : ∀ t : Fin cfg0.N, (cfg0.win 0).index t = ![t.val % 8, 0] :=
  (by decide +kernel : ∀ t : Fin grid0.N, cc0_transform_0 (grid0.coords t) = ![t.val % 8, 0])
/-- Where the weights lie. -/
theorem index1 : ∀ t : Fin cfg0.N, (cfg0.win 1).index t = ![0, t.val / 8, 0] :=
  (by decide +kernel : ∀ t : Fin grid0.N, cc0_transform_1 (grid0.coords t) = ![0, t.val / 8, 0])
/-- Where the tile of the result lies. -/
theorem index2 : ∀ t : Fin cfg0.N, (cfg0.win 2).index t = ![t.val % 8, t.val / 8] :=
  (by decide +kernel : ∀ t : Fin grid0.N, cc0_transform_2 (grid0.coords t) = ![t.val % 8, t.val / 8])

/-- The tiles make up the whole result. -/
theorem covers : (cfg0.win 2).Covers := by decide +kernel

/-- The rows at a grid point. -/
theorem rows_apply (c : Dev nD) (t : Fin cfg0.N) (r : Fin 1024) (d : Fin 2048) :
    iblk m c 0 t (ix2 r d) = at2 (V m c main_arg0) (t.val % 8 * 1024 + r.val) d.val := by
  have h0 : (cfg0.win 0).index t (0 : Fin 2) = t.val % 8 := congrFun (index0 t) (0 : Fin 2)
  have h1 : (cfg0.win 0).index t (1 : Fin 2) = 0 := congrFun (index0 t) (1 : Fin 2)
  blk_simp [iblk]
  refine (at2_eq (V m c main_arg0) _).trans (congrArg₂ (at2 (V m c main_arg0)) ?_ ?_)
  · blk_simp; rw [h0]
  · blk_simp; rw [h1]; show 0 * 2048 + d.val = d.val; omega

/-- A window of the weights that reads where `ix` says; the layers' windows differ only in that. -/
abbrev window (ix : grid0.Coords → Fin 3 → Nat) (hr : ∀ i i' : grid0.Coords, (∀ a, reads0_1 a = true → i a = i' a) → ix i = ix i')
    (hs : ∀ (i : grid0.Coords) a, ix i a * S1x1024x2048.size a < S4x8256x2048.size a) : Pipeline.Window sig grid0 :=
  Pipeline.Window.ofSpecClip (Memref.whole main_arg1) S1x1024x2048.size ix reads0_1 false false 2 stage0_1 sem0_1
    Facts₀.hrank0 hr hs Facts₀.nbuf0_1 (Memref.isWhole_whole _) (fun _ => Or.inl rfl) (fun _ => Or.inl rfl) Facts₀.hstage0_1

/-- What such a window holds of weights `W`, where it reads column group `t / 8` of layer `l` and nothing is cut. -/
theorem weights_of (l : Fin 4) (W : Stack 4 8256 2048) (ix : grid0.Coords → Fin 3 → Nat) (hr) (hs) (t : Fin grid0.N)
    (hi : ix (grid0.coords t) = ![l.val, t.val / 8, 0]) (hm : ∀ j, (window ix hr hs).moved (grid0.coords t) j = true)
    (other : (window ix hr hs).block.Idx → Elt Ideal (window ix hr hs).elt) (f : Fin 1024) (d : Fin 2048) :
    (window ix hr hs).fill (grid0.coords t) other (((window ix hr hs).blk t).view.read (Elt Ideal) W) (ix3 0 f d)
      = at3 l W (t.val / 8 * 1024 + f.val) d.val := by
  have h0 : (window ix hr hs).index t (0 : Fin 3) = l.val := congrFun hi (0 : Fin 3)
  have h1 : (window ix hr hs).index t (1 : Fin 3) = t.val / 8 := congrFun hi (1 : Fin 3)
  have h2 : (window ix hr hs).index t (2 : Fin 3) = 0 := congrFun hi (2 : Fin 3)
  unfold Pipeline.Window.fill
  rw [dif_pos (hm _)]
  blk_simp
  refine (at3_idx l W _ ?_).trans (congrArg₂ (at3 l W) ?_ ?_)
  · blk_simp; rw [h0]; exact Nat.add_zero _
  · blk_simp; rw [h1]
  · blk_simp; rw [h2]; show 0 * 2048 + d.val = d.val; omega

/-- The weights at a grid point. -/
theorem weights_apply (c : Dev nD) (t : Fin cfg0.N) (f : Fin 1024) (d : Fin 2048) :
    X0_1 m c t (ix3 0 f d) = at3 0 (V m c main_arg1) (t.val / 8 * 1024 + f.val) d.val :=
  weights_of 0 (V m c main_arg1) cc0_transform_1 Facts₀.hreads0_1 Facts₀.hstart0_1 t (index1 t) (moved0_1 t) dflt0_1 f d

/-- What a grid point leaves in its tile. -/
theorem out_apply (c : Dev nD) (t : Fin cfg0.N) (r f : Fin 1024) :
    (outsAt0 m c t.val t.isLt).1 (ix2 r f) = rowDot 0 (V m c main_arg0) (V m c main_arg1) (t.val % 8 * 1024 + r.val) (t.val / 8 * 1024 + f.val)
      * factor (t.val / 8 * 1024 + f.val) :=
  tiles 0 _ _ (outsAt0 m c) (fun t => grid0.coords t) (iblk m c 0) (X0_1 m c) group (rows_apply m c) (weights_apply m c)
    (fun t h0 => (outsAt0_A m c t h0).trans <| first_point c (grid0.coords t) (ms0_0 t) (hs0_0 t) (ms0_1 t) (hs0_1 t) (ms0_2 t) (hs0_2 t) scM0_0 (Memref.isWhole_whole _)
      (iblk m c 0 t) (X0_1 m c t) ((hcond0_0 t).mpr h0))
    (fun n h h0 => (outsAt0_B m c ⟨n + 1, h⟩ h0).trans <| later_point c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
      (iblk m c 0 ⟨n + 1, h⟩) (X0_1 m c ⟨n + 1, h⟩) (fun h' => h0 ((hcond0_0 ⟨n + 1, h⟩).mp h')) (outsAt0 m c n (Nat.lt_of_succ_lt h)).2) t r f

/-- A tile that holds its part of the queries, keys and values of layer `l` holds it where the tile lies in the result. -/
theorem place (l : Fin 4) (X : Matrix 8192 2048) (W : Stack 4 8256 2048) (t : Fin cfg0.N) (tile : Vec Ideal S1024x1024 .bf16)
    (h : ∀ r f : Fin 1024, tile (ix2 r f) = rowDot l X W (t.val % 8 * 1024 + r.val) (t.val / 8 * 1024 + f.val) * factor (t.val / 8 * 1024 + f.val))
    (y : ((cfg0.win 2).xblock (cfg0.grid.coords t)).Idx) :
    _root_.cast (congrArg (Elt Ideal) ((cfg0.win 2).blk t).view.elt_eq.symm) (tile ((cfg0.win 2).xinj (cfg0.grid.coords t) y))
      = projected l X W (((cfg0.win 2).blk t).view.emb y) := by
  have h0 : (cfg0.win 2).index t (0 : Fin 2) = t.val % 8 := congrFun (index2 t) (0 : Fin 2)
  have h1 : (cfg0.win 2).index t (1 : Fin 2) = t.val / 8 := congrFun (index2 t) (1 : Fin 2)
  blk_simp
  refine (congrArg tile (eq_ix2 (y : S1024x1024.Idx))).trans ((h _ _).trans ?_)
  unfold projected
  refine congrArg₂ (· * ·) (congrArg₂ (rowDot _ _ _) ?_ ?_) (congrArg factor ?_)
  · blk_simp; rw [h0]
  · blk_simp; rw [h1]
  · blk_simp; rw [h1]

/-- THE KERNEL'S RESULT is the queries, keys and values of the layer. -/
theorem array (c : Dev nD) : (dats m 0 c).arrAt 2 cfg0.N = projected 0 (V m c main_arg0) (V m c main_arg1) := by
  refine (dats m 0 c).arrAt_eq_of_covers 2 _ covers fun t hf y => ?_
  rw [after0_2]
  exact place 0 (V m c main_arg0) (V m c main_arg1) t _ (out_apply m c t) y
end Cert.Proof.InQkv.First
end
-- ==== Proof.InQkvNextArray.lean ====
module
public import proofs.«01_k».proof.Proof.InQkvArray
public import proofs.«01_k».proof.Proof.Gen.InQkvNextIdeal.Value

/-! # The array of queries, keys and values, second layer

Only the place of the weights differs from the first layer. -/

@[expose] public section
set_option maxRecDepth 16384
noncomputable section
namespace Cert.Proof.InQkv.Second
open Cert.InQkvNextIdeal Cert.InQkvNextIdeal.Gen
open Cert.Proof.InQkv
open Cert.Proof.Dense (at3)
open Idealize.ShloMosaic hiding ix1 ix2 ix3 eq_ix1 eq_ix2 eq_ix3
open Idealize.ShloMosaic.TcCoe Idealize.ShloMosaic.ValueIdx Idealize.SL.Sem
open Idealize.ShloMosaic.Pipeline (Dat)

variable (m : (ℓ : Loc nD τ sig) → Buf (Elt Ideal) ℓ)

/-- Where the weights lie. -/
theorem index1 : ∀ t : Fin cfg0.N, (cfg0.win 1).index t = ![1, t.val / 8, 0] :=
  (by decide +kernel : ∀ t : Fin grid0.N, cc0_transform_1 (grid0.coords t) = ![1, t.val / 8, 0])

/-- The tiles make up the whole result. -/
theorem covers : (cfg0.win 2).Covers := First.covers

/-- The weights at a grid point. -/
theorem weights_apply (c : Dev nD) (t : Fin cfg0.N) (f : Fin 1024) (d : Fin 2048) :
    X0_1 m c t (ix3 0 f d) = at3 1 (V m c main_arg1) (t.val / 8 * 1024 + f.val) d.val :=
  First.weights_of 1 (V m c main_arg1) cc0_transform_1 Facts₀.hreads0_1 Facts₀.hstart0_1 t (index1 t) (moved0_1 t) dflt0_1 f d

/-- What a grid point leaves in its tile. -/
theorem out_apply (c : Dev nD) (t : Fin cfg0.N) (r f : Fin 1024) :
    (outsAt0 m c t.val t.isLt).1 (ix2 r f) = rowDot 1 (V m c main_arg0) (V m c main_arg1) (t.val % 8 * 1024 + r.val) (t.val / 8 * 1024 + f.val)
      * factor (t.val / 8 * 1024 + f.val) :=
  tiles 1 _ _ (outsAt0 m c) (fun t => grid0.coords t) (iblk m c 0) (X0_1 m c) First.group (First.rows_apply m c) (weights_apply m c)
    (fun t h0 => (outsAt0_A m c t h0).trans <| first_point c (grid0.coords t) (ms0_0 t) (hs0_0 t) (ms0_1 t) (hs0_1 t) (ms0_2 t) (hs0_2 t) scM0_0 (Memref.isWhole_whole _)
      (iblk m c 0 t) (X0_1 m c t) ((hcond0_0 t).mpr h0))
    (fun n h h0 => (outsAt0_B m c ⟨n + 1, h⟩ h0).trans <| later_point c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
      (iblk m c 0 ⟨n + 1, h⟩) (X0_1 m c ⟨n + 1, h⟩) (fun h' => h0 ((hcond0_0 ⟨n + 1, h⟩).mp h')) (outsAt0 m c n (Nat.lt_of_succ_lt h)).2) t r f

/-- THE KERNEL'S RESULT is the queries, keys and values of the layer. -/
theorem array (c : Dev nD) : (dats m 0 c).arrAt 2 cfg0.N = projected 1 (V m c main_arg0) (V m c main_arg1) := by
  refine (dats m 0 c).arrAt_eq_of_covers 2 _ covers fun t hf y => ?_
  rw [after0_2]
  exact First.place 1 (V m c main_arg0) (V m c main_arg1) t _ (out_apply m c t) y
end Cert.Proof.InQkv.Second
end
-- ==== Proof.InQkvThirdArray.lean ====
module
public import proofs.«01_k».proof.Proof.InQkvArray
public import proofs.«01_k».proof.Proof.Gen.InQkvThirdIdeal.Value

/-! # The array of queries, keys and values, third layer

Only the place of the weights differs from the first layer. -/

@[expose] public section
set_option maxRecDepth 16384
noncomputable section
namespace Cert.Proof.InQkv.Third
open Cert.InQkvThirdIdeal Cert.InQkvThirdIdeal.Gen
open Cert.Proof.InQkv
open Cert.Proof.Dense (at3)
open Idealize.ShloMosaic hiding ix1 ix2 ix3 eq_ix1 eq_ix2 eq_ix3
open Idealize.ShloMosaic.TcCoe Idealize.ShloMosaic.ValueIdx Idealize.SL.Sem
open Idealize.ShloMosaic.Pipeline (Dat)

variable (m : (ℓ : Loc nD τ sig) → Buf (Elt Ideal) ℓ)

/-- Where the weights lie. -/
theorem index1 : ∀ t : Fin cfg0.N, (cfg0.win 1).index t = ![2, t.val / 8, 0] :=
  (by decide +kernel : ∀ t : Fin grid0.N, cc0_transform_1 (grid0.coords t) = ![2, t.val / 8, 0])

/-- The tiles make up the whole result. -/
theorem covers : (cfg0.win 2).Covers := First.covers

/-- The weights at a grid point. -/
theorem weights_apply (c : Dev nD) (t : Fin cfg0.N) (f : Fin 1024) (d : Fin 2048) :
    X0_1 m c t (ix3 0 f d) = at3 2 (V m c main_arg1) (t.val / 8 * 1024 + f.val) d.val :=
  First.weights_of 2 (V m c main_arg1) cc0_transform_1 Facts₀.hreads0_1 Facts₀.hstart0_1 t (index1 t) (moved0_1 t) dflt0_1 f d

/-- What a grid point leaves in its tile. -/
theorem out_apply (c : Dev nD) (t : Fin cfg0.N) (r f : Fin 1024) :
    (outsAt0 m c t.val t.isLt).1 (ix2 r f) = rowDot 2 (V m c main_arg0) (V m c main_arg1) (t.val % 8 * 1024 + r.val) (t.val / 8 * 1024 + f.val)
      * factor (t.val / 8 * 1024 + f.val) :=
  tiles 2 _ _ (outsAt0 m c) (fun t => grid0.coords t) (iblk m c 0) (X0_1 m c) First.group (First.rows_apply m c) (weights_apply m c)
    (fun t h0 => (outsAt0_A m c t h0).trans <| first_point c (grid0.coords t) (ms0_0 t) (hs0_0 t) (ms0_1 t) (hs0_1 t) (ms0_2 t) (hs0_2 t) scM0_0 (Memref.isWhole_whole _)
      (iblk m c 0 t) (X0_1 m c t) ((hcond0_0 t).mpr h0))
    (fun n h h0 => (outsAt0_B m c ⟨n + 1, h⟩ h0).trans <| later_point c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
      (iblk m c 0 ⟨n + 1, h⟩) (X0_1 m c ⟨n + 1, h⟩) (fun h' => h0 ((hcond0_0 ⟨n + 1, h⟩).mp h')) (outsAt0 m c n (Nat.lt_of_succ_lt h)).2) t r f

/-- THE KERNEL'S RESULT is the queries, keys and values of the layer. -/
theorem array (c : Dev nD) : (dats m 0 c).arrAt 2 cfg0.N = projected 2 (V m c main_arg0) (V m c main_arg1) := by
  refine (dats m 0 c).arrAt_eq_of_covers 2 _ covers fun t hf y => ?_
  rw [after0_2]
  exact First.place 2 (V m c main_arg0) (V m c main_arg1) t _ (out_apply m c t) y
end Cert.Proof.InQkv.Third
end
-- ==== Proof.InQkvLastArray.lean ====
module
public import proofs.«01_k».proof.Proof.InQkvArray
public import proofs.«01_k».proof.Proof.Gen.InQkvLastIdeal.Value

/-! # The array of queries, keys and values, last layer

Only the place of the weights differs from the first layer. -/

@[expose] public section
set_option maxRecDepth 16384
noncomputable section
namespace Cert.Proof.InQkv.Last
open Cert.InQkvLastIdeal Cert.InQkvLastIdeal.Gen
open Cert.Proof.InQkv
open Cert.Proof.Dense (at3)
open Idealize.ShloMosaic hiding ix1 ix2 ix3 eq_ix1 eq_ix2 eq_ix3
open Idealize.ShloMosaic.TcCoe Idealize.ShloMosaic.ValueIdx Idealize.SL.Sem
open Idealize.ShloMosaic.Pipeline (Dat)

variable (m : (ℓ : Loc nD τ sig) → Buf (Elt Ideal) ℓ)

/-- Where the weights lie. -/
theorem index1 : ∀ t : Fin cfg0.N, (cfg0.win 1).index t = ![3, t.val / 8, 0] :=
  (by decide +kernel : ∀ t : Fin grid0.N, cc0_transform_1 (grid0.coords t) = ![3, t.val / 8, 0])

/-- The tiles make up the whole result. -/
theorem covers : (cfg0.win 2).Covers := First.covers

/-- The weights at a grid point. -/
theorem weights_apply (c : Dev nD) (t : Fin cfg0.N) (f : Fin 1024) (d : Fin 2048) :
    X0_1 m c t (ix3 0 f d) = at3 3 (V m c main_arg1) (t.val / 8 * 1024 + f.val) d.val :=
  First.weights_of 3 (V m c main_arg1) cc0_transform_1 Facts₀.hreads0_1 Facts₀.hstart0_1 t (index1 t) (moved0_1 t) dflt0_1 f d

/-- What a grid point leaves in its tile. -/
theorem out_apply (c : Dev nD) (t : Fin cfg0.N) (r f : Fin 1024) :
    (outsAt0 m c t.val t.isLt).1 (ix2 r f) = rowDot 3 (V m c main_arg0) (V m c main_arg1) (t.val % 8 * 1024 + r.val) (t.val / 8 * 1024 + f.val)
      * factor (t.val / 8 * 1024 + f.val) :=
  tiles 3 _ _ (outsAt0 m c) (fun t => grid0.coords t) (iblk m c 0) (X0_1 m c) First.group (First.rows_apply m c) (weights_apply m c)
    (fun t h0 => (outsAt0_A m c t h0).trans <| first_point c (grid0.coords t) (ms0_0 t) (hs0_0 t) (ms0_1 t) (hs0_1 t) (ms0_2 t) (hs0_2 t) scM0_0 (Memref.isWhole_whole _)
      (iblk m c 0 t) (X0_1 m c t) ((hcond0_0 t).mpr h0))
    (fun n h h0 => (outsAt0_B m c ⟨n + 1, h⟩ h0).trans <| later_point c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
      (iblk m c 0 ⟨n + 1, h⟩) (X0_1 m c ⟨n + 1, h⟩) (fun h' => h0 ((hcond0_0 ⟨n + 1, h⟩).mp h')) (outsAt0 m c n (Nat.lt_of_succ_lt h)).2) t r f

/-- THE KERNEL'S RESULT is the queries, keys and values of the layer. -/
theorem array (c : Dev nD) : (dats m 0 c).arrAt 2 cfg0.N = projected 3 (V m c main_arg0) (V m c main_arg1) := by
  refine (dats m 0 c).arrAt_eq_of_covers 2 _ covers fun t hf y => ?_
  rw [after0_2]
  exact First.place 3 (V m c main_arg0) (V m c main_arg1) t _ (out_apply m c t) y
end Cert.Proof.InQkv.Last
end
-- ==== Proof.InQkvRef.lean ====
/-
  The reference of the queries, keys and values over the extended reals, step by step, each step read at an index.
-/
module

public import proofs.«01_k».proof.Proof.Gen.InQkvReferenceIdeal.Run
public import proofs.«01_k».proof.Proof.InQkvState
public import Idealize.ShloMosaic.Lib.ValueIdx
public import Idealize.ShloMosaic.Lib.IdealHost
public import Idealize.ShloMosaic.Lib.Pipeline.Value
public import Idealize.ShloMosaic.Lib.Pointwise

@[expose] public section

set_option maxRecDepth 16384

noncomputable section

namespace Cert.InQkvReferenceIdeal.Steps

open Cert.InQkvReferenceIdeal Cert.InQkvReferenceIdeal.Gen Idealize.ShloMosaic.TcCoe Idealize.SL.Sem
open Cert.Proof.Dense (at2 at3 at2_eq at3_idx)
open Cert.Proof.InQkv (rowDot factor factor_eq)
open Idealize.ShloMosaic hiding ix0 ix1 ix2 ix3 ix4 ix5 eq_ix1 eq_ix2 eq_ix3 eq_ix4
open Idealize.ShloMosaic.ValueIdx

section Defs

variable {F : FTy → Type} [FloatOps F]

/-- A layer's weights for queries, keys and values are a slice of all weights. -/
theorem slices (l : Fin 4) : S4x8256x2048.Slices ![l.val, 0, 0] S1x3072x2048 := by revert l; decide

/-- The weights of layer `l`, an output's weights in a row. -/
def layer (l : Fin 4) (w : FVec F S4x8256x2048 .f32) : FVec F S3072x2048 .f32 :=
  shapeCast _ (extractStridedSlice S1x3072x2048 ![l.val, 0, 0] w (slices l)) shapeCasts_S1x3072x2048_S3072x2048

/-- The same, an output's weights in a column. -/
def turned (l : Fin 4) (w : FVec F S4x8256x2048 .f32) : FVec F S2048x3072 .f32 :=
  transpose S2048x3072 [1, 0] (layer l w) transposes_S3072x2048_S2048x3072_1_0

/-- Every row times the layer's weights. -/
def product (l : Fin 4) (x : FVec F S8192x2048 .bf16) (w : FVec F S4x8256x2048 .f32) : FVec F S8192x3072 .f32 :=
  Host.dotGeneral dot_S8192x2048_S2048x3072_S8192x3072_1_0_0_1_n_n none (extf .f32 x bitsLt_bf16_f32) (turned l w)

/-- The factor of every column. -/
def factors : FVec F S3072 .f32 :=
  id (select (cmpi .slt (iotaInDim S3072 32 0) (broadcastInDim S3072 ![] bcast_S_S3072 (constantI S_ 32 1024#32)))
    (broadcastInDim S3072 ![] bcast_S_S3072 (constant S_ .f32 0x3E0293EE#32)) (broadcastInDim S3072 ![] bcast_S_S3072 (constant S_ .f32 0x3F800000#32)))

/-- The product, every column times its factor. -/
def scaled (l : Fin 4) (x : FVec F S8192x2048 .bf16) (w : FVec F S4x8256x2048 .f32) : FVec F S8192x3072 .bf16 :=
  truncf .bf16 (mulf (product l x w) (broadcastInDim S8192x3072 ![0, 1] bcast_S1x3072_S8192x3072_0_1 (broadcastInDim S1x3072 ![1] bcast_S3072_S1x3072_1 factors))) bitsLt_bf16_f32

end Defs

/-- A weight of a layer. -/
theorem layer_apply (l : Fin 4) (w : FVec Ideal S4x8256x2048 .f32) (f : Fin 3072) (d : Fin 2048) : layer l w (ix2 f d) = at3 l w f.val d.val := by
  refine (shapeCast_apply _ _ _ (ix3 0 f d) ?_).trans ?_
  · refine (rowMajor_val3 _ 6291456 2048 rfl rfl).trans (Eq.trans ?_ (rowMajor_val2 _ 2048 rfl).symm)
    show 0 * 6291456 + f.val * 2048 + d.val = f.val * 2048 + d.val
    omega
  · refine (at3_idx l w _ ?_).trans (congrArg₂ (at3 l w) ?_ ?_)
    · exact Nat.add_zero _
    · exact Nat.zero_add _
    · exact Nat.zero_add _

/-- The same weight after the transpose. -/
theorem turned_apply (l : Fin 4) (w : FVec Ideal S4x8256x2048 .f32) (d : Fin 2048) (f : Fin 3072) : turned l w (ix2 d f) = at3 l w f.val d.val :=
  (transpose_apply _ _ _ _ (ix2 f d) (fun a => by
    match a with
    | ⟨0, _⟩ => rfl
    | ⟨1, _⟩ => rfl)).trans (layer_apply l w f d)

/-- A row times an output's weights. -/
theorem product_apply (l : Fin 4) (x : FVec Ideal S8192x2048 .bf16) (w : FVec Ideal S4x8256x2048 .f32) (r : Fin 8192) (f : Fin 3072) :
    product l x w (ix2 r f) = rowDot l x w r.val f.val := by
  unfold product
  show FloatOps.dotGeneral _ none _ _ _ (ix2 r f) = _
  rw [Ideal.dotGeneral_apply,
    ← Equiv.sum_comp (contrEquiv1 dot_S8192x2048_S2048x3072_S8192x3072_1_0_0_1_n_n 2048 rfl rfl).symm]
  unfold rowDot
  refine Finset.sum_congr rfl fun d _ => ?_
  have c3 := contrEquiv1_symm_val dot_S8192x2048_S2048x3072_S8192x3072_1_0_0_1_n_n 2048 rfl rfl d
  refine congrArg₂ (· * ·) ((congrArg x ?_).trans (at2_eq x (ix2 r d))) ((congrArg (turned l w) ?_).trans (turned_apply l w d f)) <;>
    funext ax <;> apply Fin.ext
  · match ax with
    | ⟨0, _⟩ => rfl
    | ⟨1, _⟩ => exact c3
  · match ax with
    | ⟨0, _⟩ => exact c3
    | ⟨1, _⟩ => rfl

/-- The factor of a column. -/
theorem factors_apply (f : Fin 3072) : factors (F := Ideal) (ix1 f) = factor f.val :=
  (show factors (F := Ideal) (ix1 f) = Scalar.select (IntOp.cmpi .slt (BitVec.ofNat 32 f.val) (BitVec.ofNat 32 1024))
      (Ideal.ofBits .f32 0x3E0293EE#32) (Ideal.ofBits .f32 0x3F800000#32) from rfl).trans
    (factor_eq f.val 1024 (by omega) (by omega))

/-- An entry of the result. -/
theorem scaled_apply (l : Fin 4) (x : FVec Ideal S8192x2048 .bf16) (w : FVec Ideal S4x8256x2048 .f32) (r : Fin 8192) (f : Fin 3072) :
    scaled l x w (ix2 r f) = rowDot l x w r.val f.val * factor f.val :=
  (show scaled l x w (ix2 r f) = product l x w (ix2 r f) * factors (F := Ideal) _ from rfl).trans
    (congrArg₂ (· * ·) (product_apply l x w r f)
      ((congrArg (factors (F := Ideal)) (funext fun a => Fin.ext (by match a with | ⟨0, _⟩ => rfl))).trans (factors_apply f)))

/-- THE REFERENCE'S RESULT is the queries, keys and values of the layer. -/
theorem result_eq (l : Fin 4) (x : FVec Ideal S8192x2048 .bf16) (w : FVec Ideal S4x8256x2048 .f32) : scaled l x w = Cert.Proof.InQkv.projected l x w :=
  funext fun j => (congrArg (scaled l x w) (eq_ix2 j)).trans (scaled_apply l x w _ _)

end Cert.InQkvReferenceIdeal.Steps

end
-- ==== Proof.InQkvClaims.lean ====
/-
  The claims about the queries, keys and values of all four layers: the kernel and its idealization run without a fault
  and come to rest, the reference too, and kernel and reference compute one array.
-/
module

public import proofs.«01_k».proof.Defs
public import proofs.«01_k».proof.Proof.Gen.InQkv.Frame
public import proofs.«01_k».proof.Proof.Gen.InQkvReferenceIdeal.Run
public import proofs.«01_k».proof.Proof.InQkvArray
public import proofs.«01_k».proof.Proof.Gen.InQkvNext.Frame
public import proofs.«01_k».proof.Proof.Gen.InQkvNextReferenceIdeal.Run
public import proofs.«01_k».proof.Proof.InQkvNextArray
public import proofs.«01_k».proof.Proof.Gen.InQkvThird.Frame
public import proofs.«01_k».proof.Proof.Gen.InQkvThirdReferenceIdeal.Run
public import proofs.«01_k».proof.Proof.InQkvThirdArray
public import proofs.«01_k».proof.Proof.Gen.InQkvLast.Frame
public import proofs.«01_k».proof.Proof.Gen.InQkvLastReferenceIdeal.Run
public import proofs.«01_k».proof.Proof.InQkvLastArray
public import proofs.«01_k».proof.Proof.InQkvRef
public import Idealize.ShloMosaic.Lib.Quiescent

@[expose] public section

noncomputable section

open Idealize.ShloMosaic Idealize.ShloMosaic.TcCoe Idealize.SL.Sem

namespace Cert.Proof.InQkv.First

/-- The kernel runs and comes to rest. -/
theorem frame_kernel : Cert.quiescent_InQkv := fun m ρ _ => Cert.InQkv.Gen.frame m ρ
/-- So does its idealization. -/
theorem frame_ideal : Cert.quiescent_InQkvIdeal := fun m ρ _ => Cert.InQkvIdeal.Gen.frame m ρ
/-- So does the reference, which has no semaphores. -/
theorem frame_reference : Cert.quiescent_InQkvReferenceIdeal := fun m ρ _ =>
  (θ_run Cert.InQkvReferenceIdeal.defs _ _).mono (fun r h => ⟨fun c => (h c).2,
      Idealize.ShloMosaic.sem_eq_zero_of_no_sems (by decide) r.2⟩)
    (Cert.InQkvReferenceIdeal.Value.run (F := Ideal) m ρ)

/-- The idealization rewrites no operation. -/
theorem preserves : Cert.preserves_InQkv_InQkvIdeal := trivial

/-- KERNEL AND REFERENCE COMPUTE ONE ARRAY, the queries, keys and values of the layer. -/
theorem algebraic : Cert.algebraic_InQkvIdeal_InQkvReferenceIdeal := by
  intro m ρ m' ρ' _ hagree
  refine ⟨_, (θ_run Cert.InQkvIdeal.defs _ _).mono (fun _ h c => ⟨(h c).1.trans (array m c), (h c).2⟩)
    (Cert.InQkvIdeal.Value.run_blocks (F := Ideal) m ρ), ?_⟩
  refine (θ_run Cert.InQkvReferenceIdeal.defs _ _).mono (fun _ h c => ⟨(h c).1.trans ?_, (h c).2⟩)
    (Cert.InQkvReferenceIdeal.Value.run (F := Ideal) m' ρ')
  obtain ⟨h0, h1⟩ := hagree c
  rw [h0, h1]
  exact Cert.InQkvReferenceIdeal.Steps.result_eq 0 _ _

end Cert.Proof.InQkv.First

namespace Cert.Proof.InQkv.Second

/-- The kernel runs and comes to rest. -/
theorem frame_kernel : Cert.quiescent_InQkvNext := fun m ρ _ => Cert.InQkvNext.Gen.frame m ρ
/-- So does its idealization. -/
theorem frame_ideal : Cert.quiescent_InQkvNextIdeal := fun m ρ _ => Cert.InQkvNextIdeal.Gen.frame m ρ
/-- So does the reference, which has no semaphores. -/
theorem frame_reference : Cert.quiescent_InQkvNextReferenceIdeal := fun m ρ _ =>
  (θ_run Cert.InQkvNextReferenceIdeal.defs _ _).mono (fun r h => ⟨fun c => (h c).2,
      Idealize.ShloMosaic.sem_eq_zero_of_no_sems (by decide) r.2⟩)
    (Cert.InQkvNextReferenceIdeal.Value.run (F := Ideal) m ρ)

/-- The idealization rewrites no operation. -/
theorem preserves : Cert.preserves_InQkvNext_InQkvNextIdeal := trivial

/-- KERNEL AND REFERENCE COMPUTE ONE ARRAY, the queries, keys and values of the layer. -/
theorem algebraic : Cert.algebraic_InQkvNextIdeal_InQkvNextReferenceIdeal := by
  intro m ρ m' ρ' _ hagree
  refine ⟨_, (θ_run Cert.InQkvNextIdeal.defs _ _).mono (fun _ h c => ⟨(h c).1.trans (array m c), (h c).2⟩)
    (Cert.InQkvNextIdeal.Value.run_blocks (F := Ideal) m ρ), ?_⟩
  refine (θ_run Cert.InQkvNextReferenceIdeal.defs _ _).mono (fun _ h c => ⟨(h c).1.trans ?_, (h c).2⟩)
    (Cert.InQkvNextReferenceIdeal.Value.run (F := Ideal) m' ρ')
  obtain ⟨h0, h1⟩ := hagree c
  rw [h0, h1]
  exact Cert.InQkvReferenceIdeal.Steps.result_eq 1 _ _

end Cert.Proof.InQkv.Second

namespace Cert.Proof.InQkv.Third

/-- The kernel runs and comes to rest. -/
theorem frame_kernel : Cert.quiescent_InQkvThird := fun m ρ _ => Cert.InQkvThird.Gen.frame m ρ
/-- So does its idealization. -/
theorem frame_ideal : Cert.quiescent_InQkvThirdIdeal := fun m ρ _ => Cert.InQkvThirdIdeal.Gen.frame m ρ
/-- So does the reference, which has no semaphores. -/
theorem frame_reference : Cert.quiescent_InQkvThirdReferenceIdeal := fun m ρ _ =>
  (θ_run Cert.InQkvThirdReferenceIdeal.defs _ _).mono (fun r h => ⟨fun c => (h c).2,
      Idealize.ShloMosaic.sem_eq_zero_of_no_sems (by decide) r.2⟩)
    (Cert.InQkvThirdReferenceIdeal.Value.run (F := Ideal) m ρ)

/-- The idealization rewrites no operation. -/
theorem preserves : Cert.preserves_InQkvThird_InQkvThirdIdeal := trivial

/-- KERNEL AND REFERENCE COMPUTE ONE ARRAY, the queries, keys and values of the layer. -/
theorem algebraic : Cert.algebraic_InQkvThirdIdeal_InQkvThirdReferenceIdeal := by
  intro m ρ m' ρ' _ hagree
  refine ⟨_, (θ_run Cert.InQkvThirdIdeal.defs _ _).mono (fun _ h c => ⟨(h c).1.trans (array m c), (h c).2⟩)
    (Cert.InQkvThirdIdeal.Value.run_blocks (F := Ideal) m ρ), ?_⟩
  refine (θ_run Cert.InQkvThirdReferenceIdeal.defs _ _).mono (fun _ h c => ⟨(h c).1.trans ?_, (h c).2⟩)
    (Cert.InQkvThirdReferenceIdeal.Value.run (F := Ideal) m' ρ')
  obtain ⟨h0, h1⟩ := hagree c
  rw [h0, h1]
  exact Cert.InQkvReferenceIdeal.Steps.result_eq 2 _ _

end Cert.Proof.InQkv.Third

namespace Cert.Proof.InQkv.Last

/-- The kernel runs and comes to rest. -/
theorem frame_kernel : Cert.quiescent_InQkvLast := fun m ρ _ => Cert.InQkvLast.Gen.frame m ρ
/-- So does its idealization. -/
theorem frame_ideal : Cert.quiescent_InQkvLastIdeal := fun m ρ _ => Cert.InQkvLastIdeal.Gen.frame m ρ
/-- So does the reference, which has no semaphores. -/
theorem frame_reference : Cert.quiescent_InQkvLastReferenceIdeal := fun m ρ _ =>
  (θ_run Cert.InQkvLastReferenceIdeal.defs _ _).mono (fun r h => ⟨fun c => (h c).2,
      Idealize.ShloMosaic.sem_eq_zero_of_no_sems (by decide) r.2⟩)
    (Cert.InQkvLastReferenceIdeal.Value.run (F := Ideal) m ρ)

/-- The idealization rewrites no operation. -/
theorem preserves : Cert.preserves_InQkvLast_InQkvLastIdeal := trivial

/-- KERNEL AND REFERENCE COMPUTE ONE ARRAY, the queries, keys and values of the layer. -/
theorem algebraic : Cert.algebraic_InQkvLastIdeal_InQkvLastReferenceIdeal := by
  intro m ρ m' ρ' _ hagree
  refine ⟨_, (θ_run Cert.InQkvLastIdeal.defs _ _).mono (fun _ h c => ⟨(h c).1.trans (array m c), (h c).2⟩)
    (Cert.InQkvLastIdeal.Value.run_blocks (F := Ideal) m ρ), ?_⟩
  refine (θ_run Cert.InQkvLastReferenceIdeal.defs _ _).mono (fun _ h c => ⟨(h c).1.trans ?_, (h c).2⟩)
    (Cert.InQkvLastReferenceIdeal.Value.run (F := Ideal) m' ρ')
  obtain ⟨h0, h1⟩ := hagree c
  rw [h0, h1]
  exact Cert.InQkvReferenceIdeal.Steps.result_eq 3 _ _

end Cert.Proof.InQkv.Last

end
-- ==== Proof.lean ====
module

public import proofs.«01_k».proof.Defs
public import proofs.«01_k».proof.Proof.StickClaims
public import proofs.«01_k».proof.Proof.ExpertClaims
public import proofs.«01_k».proof.Proof.ExpertNextClaims
public import proofs.«01_k».proof.Proof.DownClaims
public import proofs.«01_k».proof.Proof.DownNextClaims
public import proofs.«01_k».proof.Proof.DenseClaims
public import proofs.«01_k».proof.Proof.DenseOutClaims
public import proofs.«01_k».proof.Proof.InQkvClaims
public import proofs.«01_k».proof.Proof.Gen.Kernel
public import proofs.«01_k».proof.Proof.Gen.KernelIdeal
public import proofs.«01_k».proof.Proof.Gen.ReferenceIdeal
public import proofs.«01_k».proof.Proof.Gen.Expert
public import proofs.«01_k».proof.Proof.Gen.ExpertIdeal
public import proofs.«01_k».proof.Proof.Gen.ExpertReferenceIdeal
public import proofs.«01_k».proof.Proof.Gen.ExpertNext
public import proofs.«01_k».proof.Proof.Gen.ExpertNextIdeal
public import proofs.«01_k».proof.Proof.Gen.ExpertNextReferenceIdeal
public import proofs.«01_k».proof.Proof.Gen.Pre_tiles_planned
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Expert.Gen.facts, Cert.ExpertIdeal.Gen.facts, Cert.ExpertReferenceIdeal.Gen.facts,
    Cert.ExpertNext.Gen.facts, Cert.ExpertNextIdeal.Gen.facts, Cert.ExpertNextReferenceIdeal.Gen.facts,
    Cert.Down.Gen.facts, Cert.DownIdeal.Gen.facts, Cert.DownReferenceIdeal.Gen.facts,
    Cert.DownNext.Gen.facts, Cert.DownNextIdeal.Gen.facts, Cert.DownNextReferenceIdeal.Gen.facts,
    Cert.Dense.Gen.facts, Cert.DenseIdeal.Gen.facts, Cert.DenseReferenceIdeal.Gen.facts,
    Cert.DenseNext.Gen.facts, Cert.DenseNextIdeal.Gen.facts, Cert.DenseNextReferenceIdeal.Gen.facts,
    Cert.DenseOut.Gen.facts, Cert.DenseOutIdeal.Gen.facts, Cert.DenseOutReferenceIdeal.Gen.facts,
    Cert.DenseOutNext.Gen.facts, Cert.DenseOutNextIdeal.Gen.facts, Cert.DenseOutNextReferenceIdeal.Gen.facts,
    Cert.InQkv.Gen.facts, Cert.InQkvIdeal.Gen.facts, Cert.InQkvReferenceIdeal.Gen.facts,
    Cert.InQkvNext.Gen.facts, Cert.InQkvNextIdeal.Gen.facts, Cert.InQkvNextReferenceIdeal.Gen.facts,
    Cert.InQkvThird.Gen.facts, Cert.InQkvThirdIdeal.Gen.facts, Cert.InQkvThirdReferenceIdeal.Gen.facts,
    Cert.InQkvLast.Gen.facts, Cert.InQkvLastIdeal.Gen.facts, Cert.InQkvLastReferenceIdeal.Gen.facts,
    Cert.Pre_tiles_planned.Gen.facts, Cert.Pre_tiles_planned_down.Gen.facts,
    Stick.frame_kernel, Stick.frame_ideal, Stick.frame_reference,
    Moe.First.frame_kernel, Moe.First.frame_ideal, Moe.First.frame_reference,
    Moe.Second.frame_kernel, Moe.Second.frame_ideal, Moe.Second.frame_reference,
    Down.First.frame_kernel, Down.First.frame_ideal, Down.First.frame_reference,
    Down.Second.frame_kernel, Down.Second.frame_ideal, Down.Second.frame_reference,
    Dense.Up.First.frame_kernel, Dense.Up.First.frame_ideal, Dense.Up.First.frame_reference,
    Dense.Up.Second.frame_kernel, Dense.Up.Second.frame_ideal, Dense.Up.Second.frame_reference,
    Dense.Out.First.frame_kernel, Dense.Out.First.frame_ideal, Dense.Out.First.frame_reference,
    Dense.Out.Second.frame_kernel, Dense.Out.Second.frame_ideal, Dense.Out.Second.frame_reference,
    InQkv.First.frame_kernel, InQkv.First.frame_ideal, InQkv.First.frame_reference,
    InQkv.Second.frame_kernel, InQkv.Second.frame_ideal, InQkv.Second.frame_reference,
    InQkv.Third.frame_kernel, InQkv.Third.frame_ideal, InQkv.Third.frame_reference,
    InQkv.Last.frame_kernel, InQkv.Last.frame_ideal, InQkv.Last.frame_reference,
    Stick.preserves, Stick.algebraic, Moe.First.preserves, Moe.First.algebraic, Moe.Second.preserves, Moe.Second.algebraic,
    Down.First.preserves, Down.First.algebraic, Down.Second.preserves, Down.Second.algebraic,
    Dense.Up.First.preserves, Dense.Up.First.algebraic, Dense.Up.Second.preserves, Dense.Up.Second.algebraic,
    Dense.Out.First.preserves, Dense.Out.First.algebraic, Dense.Out.Second.preserves, Dense.Out.Second.algebraic,
    InQkv.First.preserves, InQkv.First.algebraic, InQkv.Second.preserves, InQkv.Second.algebraic,
    InQkv.Third.preserves, InQkv.Third.algebraic, InQkv.Last.preserves, InQkv.Last.algebraic⟩

end Cert.Proof

end
